-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def preserves_Kernel_KernelIdeal : Prop :=
  IdealRules.named_const.Statement Cert.KernelIdeal.κ "q_scale" .f32 0x3E0293EE#32 (((11863283 / 134217728) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "idle" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v19) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v15) = v0 c
          ∧ r.2.mem ((c.tc : Thread Cert.Reference11Ideal.nD Cert.Reference11Ideal.τ).loc Cert.Reference11Ideal.main_v13) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v5)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v16) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S8192x7168 : Shape := ⟨2, ![8192, 7168]⟩
abbrev S8 : Shape := ⟨1, ![8]⟩
abbrev S1024 : Shape := ⟨1, ![1024]⟩
abbrev S_ : Shape := ⟨0, ![]⟩

class Facts : Prop where
  bcast_S_S8192x7168 : S_.BroadcastsInDim S8192x7168 (![] : Fin 0 → Fin S8192x7168.rank)
  bcast_S_S8 : S_.BroadcastsInDim S8 (![] : Fin 0 → Fin S8.rank)

variable [Facts]

def fn {F : FTy → Type} [FloatOps F] (main_arg0 : FVec F S8192x7168 .f32) (main_arg1 : FVec F S8 .f32) (main_arg2 : FVec F S1024 .f32) : IVec S8192x7168 1 × IVec S8 1 :=
  let main_v0 : FVec F S8192x7168 .f32 := Host.absf main_arg0
  let main_cst : FVec F S_ .f32 := constant S_ .f32 0x7F800000#32
  let main_v1 : FVec F S8192x7168 .f32 := broadcastInDim S8192x7168 ![] bcast_S_S8192x7168 main_cst
  let main_v2 : IVec S8192x7168 1 := cmpf .olt main_v0 main_v1
  let main_v3 : FVec F S8 .f32 := Host.absf main_arg1
  let main_cst_0 : FVec F S_ .f32 := constant S_ .f32 0x7F800000#32
  let main_v4 : FVec F S8 .f32 := broadcastInDim S8 ![] bcast_S_S8 main_cst_0
  let main_v5 : IVec S8 1 := cmpf .olt main_v3 main_v4
  (main_v2, main_v5)
-- ==== Kernel.lean ====
abbrev S8192x7168 : Shape := ⟨2, ![8192, 7168]⟩
abbrev S8 : Shape := ⟨1, ![8]⟩
abbrev S1024 : Shape := ⟨1, ![1024]⟩
abbrev S1x1024 : Shape := ⟨2, ![1, 1024]⟩
abbrev S8192x1024 : Shape := ⟨2, ![8192, 1024]⟩
abbrev S512x128 : Shape := ⟨2, ![512, 128]⟩
abbrev S8192x128 : Shape := ⟨2, ![8192, 128]⟩
abbrev S1x128 : Shape := ⟨2, ![1, 128]⟩
abbrev S256x256 : Shape := ⟨2, ![256, 256]⟩
abbrev S1 : Shape := ⟨1, ![1]⟩
abbrev S512x256 : Shape := ⟨2, ![512, 256]⟩
abbrev S512x1 : Shape := ⟨2, ![512, 1]⟩
abbrev S256x128 : Shape := ⟨2, ![256, 128]⟩
abbrev S128x256 : Shape := ⟨2, ![128, 256]⟩
abbrev S128 : Shape := ⟨1, ![128]⟩
abbrev S128x1 : Shape := ⟨2, ![128, 1]⟩
abbrev S512 : Shape := ⟨1, ![512]⟩

abbrev nBuf : Space → Nat
  | .hbm => 7
  | .vmem => 17
  | .smem => 1
  | _ => 0

abbrev bufTy : (tb : Table) → Fin (tcTables nBuf tb) → BufTy
  | .hbm, ⟨0, _⟩ => ⟨S8192x7168, .f32⟩
  | .hbm, ⟨1, _⟩ => ⟨S8, .f32⟩
  | .hbm, ⟨2, _⟩ => ⟨S1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .local _ .vmem, ⟨0, _⟩ => ⟨S512x128, .f32⟩
  | .local _ .vmem, ⟨1, _⟩ => ⟨S512x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S1x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | .local _ .vmem, ⟨13, _⟩ => ⟨S8192x128, .f32⟩
  | .local _ .vmem, ⟨14, _⟩ => ⟨S8192x128, .bf16⟩
  | .local _ .vmem, ⟨15, _⟩ => ⟨S8192x128, .bf16⟩
  | .local _ .vmem, ⟨16, _⟩ => ⟨S256x256, .bf16⟩
  | .local _ .smem, ⟨0, _⟩ => ⟨S8, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 16], ![false, false]⟩

def k0_off1 (i : grid0.Coords) : Fin 1 → Nat :=
  let arg0 : BitVec 32 := BitVec.ofNat 32 (i 0).val
  let v7 : Index := Scalar.indexCast arg0
  ![v7.toNat]
def k0_mult1 (i : grid0.Coords) : BitVec 32 :=
  let arg1 : BitVec 32 := BitVec.ofNat 32 (i 1).val
  let c2_i32 : BitVec 32 := 2#32
  let v18 : BitVec 32 := Scalar.muli arg1 c2_i32
  let c1_i32 : BitVec 32 := 1#32
  let v19 : BitVec 32 := Scalar.addi v18 c1_i32
  let c256_i32_7 : BitVec 32 := 256#32
  let v20 : BitVec 32 := Scalar.muli v19 c256_i32_7
  v20
def k0_off2 (i : grid0.Coords) (c1_i32 : BitVec 32) : Fin 2 → Nat :=
  let arg1 : BitVec 32 := BitVec.ofNat 32 (i 1).val
  let c2_i32 : BitVec 32 := 2#32
  let v18 : BitVec 32 := Scalar.muli arg1 c2_i32
  let v19 : BitVec 32 := Scalar.addi v18 c1_i32
  let c256_i32_7 : BitVec 32 := 256#32
  let v20 : BitVec 32 := Scalar.muli v19 c256_i32_7
  let v21 : BitVec 32 := v20
  let v22 : Index := Scalar.indexCast v21
  let c0_8 : Index := 0#32
  ![v22.toNat, 0]
def k0_mult2 (i : grid0.Coords) : BitVec 32 :=
  let arg1 : BitVec 32 := BitVec.ofNat 32 (i 1).val
  let c2_i32_38 : BitVec 32 := 2#32
  let v119 : BitVec 32 := Scalar.muli arg1 c2_i32_38
  let c1_i32_39 : BitVec 32 := 1#32
  let v120 : BitVec 32 := Scalar.addi v119 c1_i32_39
  let c256_i32_41 : BitVec 32 := 256#32
  let v125 : BitVec 32 := Scalar.muli v120 c256_i32_41
  v125
def k0_mult3 (i : grid0.Coords) : BitVec 32 :=
  let arg1 : BitVec 32 := BitVec.ofNat 32 (i 1).val
  let c2_i32_45 : BitVec 32 := 2#32
  let v135 : BitVec 32 := Scalar.muli arg1 c2_i32_45
  let c0_i32_46 : BitVec 32 := 0#32
  let v136 : BitVec 32 := Scalar.addi v135 c0_i32_46
  let c256_i32_47 : BitVec 32 := 256#32
  let v137 : BitVec 32 := Scalar.muli v136 c256_i32_47
  v137
def k0_mult4 (i : grid0.Coords) : BitVec 32 :=
  let arg1 : BitVec 32 := BitVec.ofNat 32 (i 1).val
  let c2_i32_78 : BitVec 32 := 2#32
  let v236 : BitVec 32 := Scalar.muli arg1 c2_i32_78
  let c0_i32_79 : BitVec 32 := 0#32
  let v237 : BitVec 32 := Scalar.addi v236 c0_i32_79
  let c256_i32_81 : BitVec 32 := 256#32
  let v242 : BitVec 32 := Scalar.muli v237 c256_i32_81
  v242
def k0_mult5 (i : grid0.Coords) : BitVec 32 :=
  let arg1 : BitVec 32 := BitVec.ofNat 32 (i 1).val
  let c2_i32_84 : BitVec 32 := 2#32
  let v249 : BitVec 32 := Scalar.muli arg1 c2_i32_84
  let c1_i32_86 : BitVec 32 := 1#32
  let v251 : BitVec 32 := Scalar.subi v249 c1_i32_86
  let c0_i32_87 : BitVec 32 := 0#32
  let v252 : BitVec 32 := Scalar.maxsi v251 c0_i32_87
  let c256_i32_88 : BitVec 32 := 256#32
  let v253 : BitVec 32 := Scalar.muli v252 c256_i32_88
  v253
def k0_off3 (i : grid0.Coords) : Fin 2 → Nat :=
  let arg1 : BitVec 32 := BitVec.ofNat 32 (i 1).val
  let c2_i32_84 : BitVec 32 := 2#32
  let v249 : BitVec 32 := Scalar.muli arg1 c2_i32_84
  let c1_i32_86 : BitVec 32 := 1#32
  let v251 : BitVec 32 := Scalar.subi v249 c1_i32_86
  let c0_i32_87 : BitVec 32 := 0#32
  let v252 : BitVec 32 := Scalar.maxsi v251 c0_i32_87
  let c256_i32_88 : BitVec 32 := 256#32
  let v253 : BitVec 32 := Scalar.muli v252 c256_i32_88
  let v254 : BitVec 32 := v253
  let v255 : Index := Scalar.indexCast v254
  let c0_89 : Index := 0#32
  ![v255.toNat, 0]
@[reducible] def k0_t1_loop (i : grid0.Coords) : Scf.Loop 32 :=
  let c1_i32_92 : BitVec 32 := 1#32
  let arg1 : BitVec 32 := BitVec.ofNat 32 (i 1).val
  let c2_i32_84 : BitVec 32 := 2#32
  let v249 : BitVec 32 := Scalar.muli arg1 c2_i32_84
  let c1_i32_91 : BitVec 32 := 1#32
  let v260 : BitVec 32 := Scalar.addi v249 c1_i32_91
  let v261 : BitVec 32 := Scalar.subi v260 c1_i32_92
  let c1_i32_93 : BitVec 32 := 1#32
  let v263 : BitVec 32 := Scalar.divsi v261 c1_i32_93
  let v264 : BitVec 32 := Scalar.muli v263 c1_i32_93
  let v265 : BitVec 32 := Scalar.addi c1_i32_92 v264
  let c1_i32_94 : BitVec 32 := 1#32
  ⟨c1_i32_92, v265, c1_i32_94⟩
def k0_mult6 (i : grid0.Coords) (k0_t1 : Fin (k0_t1_loop i).trips) : BitVec 32 :=
  let arg1 : BitVec 32 := BitVec.ofNat 32 (i 1).val
  let c2_i32_84 : BitVec 32 := 2#32
  let v249 : BitVec 32 := Scalar.muli arg1 c2_i32_84
  let c1_i32_106 : BitVec 32 := 1#32
  let v288 : BitVec 32 := Scalar.subi v249 c1_i32_106
  let c1_i32_92 : BitVec 32 := 1#32
  let c1_i32_94 : BitVec 32 := 1#32
  let arg13 : BitVec 32 := Scf.iv c1_i32_92 c1_i32_94 k0_t1
  let v289 : BitVec 32 := Scalar.subi v288 arg13
  let c0_i32_107 : BitVec 32 := 0#32
  let v290 : BitVec 32 := Scalar.maxsi v289 c0_i32_107
  let c256_i32_108 : BitVec 32 := 256#32
  let v291 : BitVec 32 := Scalar.muli v290 c256_i32_108
  v291
def k0_off4 (i : grid0.Coords) (k0_t1 : Fin (k0_t1_loop i).trips) : Fin 2 → Nat :=
  let arg1 : BitVec 32 := BitVec.ofNat 32 (i 1).val
  let c2_i32_84 : BitVec 32 := 2#32
  let v249 : BitVec 32 := Scalar.muli arg1 c2_i32_84
  let c1_i32_106 : BitVec 32 := 1#32
  let v288 : BitVec 32 := Scalar.subi v249 c1_i32_106
  let c1_i32_92 : BitVec 32 := 1#32
  let c1_i32_94 : BitVec 32 := 1#32
  let arg13 : BitVec 32 := Scf.iv c1_i32_92 c1_i32_94 k0_t1
  let v289 : BitVec 32 := Scalar.subi v288 arg13
  let c0_i32_107 : BitVec 32 := 0#32
  let v290 : BitVec 32 := Scalar.maxsi v289 c0_i32_107
  let c256_i32_108 : BitVec 32 := 256#32
  let v291 : BitVec 32 := Scalar.muli v290 c256_i32_108
  let v292 : BitVec 32 := v291
  let v293 : Index := Scalar.indexCast v292
  let c0_109 : Index := 0#32
  ![v293.toNat, 0]
def k0_mult7 (i : grid0.Coords) (k0_t1 : Fin (k0_t1_loop i).trips) : BitVec 32 :=
  let arg1 : BitVec 32 := BitVec.ofNat 32 (i 1).val
  let c2_i32_84 : BitVec 32 := 2#32
  let v249 : BitVec 32 := Scalar.muli arg1 c2_i32_84
  let c0_i32_136 : BitVec 32 := 0#32
  let c1_i32_135 : BitVec 32 := 1#32
  let v376 : BitVec 32 := Scalar.addi v249 c1_i32_135
  let c1_i32_92 : BitVec 32 := 1#32
  let c1_i32_94 : BitVec 32 := 1#32
  let arg13 : BitVec 32 := Scf.iv c1_i32_92 c1_i32_94 k0_t1
  let v377 : BitVec 32 := Scalar.subi v376 arg13
  let v378 : BitVec 32 := Scalar.maxsi c0_i32_136 v377
  let v379 : BitVec 32 := Scalar.minsi v249 v378
  let c256_i32_137 : BitVec 32 := 256#32
  let v382 : BitVec 32 := Scalar.muli v379 c256_i32_137
  v382
def k0_off5 (i : grid0.Coords) (k0_t1 : Fin (k0_t1_loop i).trips) : Fin 2 → Nat :=
  let arg1 : BitVec 32 := BitVec.ofNat 32 (i 1).val
  let c2_i32_84 : BitVec 32 := 2#32
  let v249 : BitVec 32 := Scalar.muli arg1 c2_i32_84
  let c0_i32_136 : BitVec 32 := 0#32
  let c1_i32_135 : BitVec 32 := 1#32
  let v376 : BitVec 32 := Scalar.addi v249 c1_i32_135
  let c1_i32_92 : BitVec 32 := 1#32
  let c1_i32_94 : BitVec 32 := 1#32
  let arg13 : BitVec 32 := Scf.iv c1_i32_92 c1_i32_94 k0_t1
  let v377 : BitVec 32 := Scalar.subi v376 arg13
  let v378 : BitVec 32 := Scalar.maxsi c0_i32_136 v377
  let v379 : BitVec 32 := Scalar.minsi v249 v378
  let c256_i32_137 : BitVec 32 := 256#32
  let v382 : BitVec 32 := Scalar.muli v379 c256_i32_137
  let v383 : BitVec 32 := v382
  let v384 : Index := Scalar.indexCast v383
  let c0_138 : Index := 0#32
  ![v384.toNat, 0]
@[reducible] def k0_t2_loop (i : grid0.Coords) : Scf.Loop 32 :=
  let c1_i32_92 : BitVec 32 := 1#32
  let arg1 : BitVec 32 := BitVec.ofNat 32 (i 1).val
  let c2_i32_84 : BitVec 32 := 2#32
  let v249 : BitVec 32 := Scalar.muli arg1 c2_i32_84
  let c1_i32_91 : BitVec 32 := 1#32
  let v260 : BitVec 32 := Scalar.addi v249 c1_i32_91
  let v261 : BitVec 32 := Scalar.subi v260 c1_i32_92
  let c1_i32_93 : BitVec 32 := 1#32
  let v263 : BitVec 32 := Scalar.divsi v261 c1_i32_93
  let v264 : BitVec 32 := Scalar.muli v263 c1_i32_93
  let v265 : BitVec 32 := Scalar.addi c1_i32_92 v264
  let v262 : BitVec 32 := Scalar.addi c1_i32_92 v261
  let c1_i32_95 : BitVec 32 := 1#32
  ⟨v265, v262, c1_i32_95⟩
def k0_mult8 (i : grid0.Coords) (k0_t2 : Fin (k0_t2_loop i).trips) : BitVec 32 :=
  let arg1 : BitVec 32 := BitVec.ofNat 32 (i 1).val
  let c2_i32_84 : BitVec 32 := 2#32
  let v249 : BitVec 32 := Scalar.muli arg1 c2_i32_84
  let c1_i32_106 : BitVec 32 := 1#32
  let v288 : BitVec 32 := Scalar.subi v249 c1_i32_106
  let c1_i32_92 : BitVec 32 := 1#32
  let c1_i32_91 : BitVec 32 := 1#32
  let v260 : BitVec 32 := Scalar.addi v249 c1_i32_91
  let v261 : BitVec 32 := Scalar.subi v260 c1_i32_92
  let c1_i32_93 : BitVec 32 := 1#32
  let v263 : BitVec 32 := Scalar.divsi v261 c1_i32_93
  let v264 : BitVec 32 := Scalar.muli v263 c1_i32_93
  let v265 : BitVec 32 := Scalar.addi c1_i32_92 v264
  let c1_i32_95 : BitVec 32 := 1#32
  let arg13 : BitVec 32 := Scf.iv v265 c1_i32_95 k0_t2
  let v289 : BitVec 32 := Scalar.subi v288 arg13
  let c0_i32_107 : BitVec 32 := 0#32
  let v290 : BitVec 32 := Scalar.maxsi v289 c0_i32_107
  let c256_i32_108 : BitVec 32 := 256#32
  let v291 : BitVec 32 := Scalar.muli v290 c256_i32_108
  v291
def k0_off6 (i : grid0.Coords) (k0_t2 : Fin (k0_t2_loop i).trips) : Fin 2 → Nat :=
  let arg1 : BitVec 32 := BitVec.ofNat 32 (i 1).val
  let c2_i32_84 : BitVec 32 := 2#32
  let v249 : BitVec 32 := Scalar.muli arg1 c2_i32_84
  let c1_i32_106 : BitVec 32 := 1#32
  let v288 : BitVec 32 := Scalar.subi v249 c1_i32_106
  let c1_i32_92 : BitVec 32 := 1#32
  let c1_i32_91 : BitVec 32 := 1#32
  let v260 : BitVec 32 := Scalar.addi v249 c1_i32_91
  let v261 : BitVec 32 := Scalar.subi v260 c1_i32_92
  let c1_i32_93 : BitVec 32 := 1#32
  let v263 : BitVec 32 := Scalar.divsi v261 c1_i32_93
  let v264 : BitVec 32 := Scalar.muli v263 c1_i32_93
  let v265 : BitVec 32 := Scalar.addi c1_i32_92 v264
  let c1_i32_95 : BitVec 32 := 1#32
  let arg13 : BitVec 32 := Scf.iv v265 c1_i32_95 k0_t2
  let v289 : BitVec 32 := Scalar.subi v288 arg13
  let c0_i32_107 : BitVec 32 := 0#32
  let v290 : BitVec 32 := Scalar.maxsi v289 c0_i32_107
  let c256_i32_108 : BitVec 32 := 256#32
  let v291 : BitVec 32 := Scalar.muli v290 c256_i32_108
  let v292 : BitVec 32 := v291
  let v293 : Index := Scalar.indexCast v292
  let c0_109 : Index := 0#32
  ![v293.toNat, 0]
def k0_mult9 (i : grid0.Coords) (k0_t2 : Fin (k0_t2_loop i).trips) : BitVec 32 :=
  let arg1 : BitVec 32 := BitVec.ofNat 32 (i 1).val
  let c2_i32_84 : BitVec 32 := 2#32
  let v249 : BitVec 32 := Scalar.muli arg1 c2_i32_84
  let c0_i32_136 : BitVec 32 := 0#32
  let c1_i32_135 : BitVec 32 := 1#32
  let v376 : BitVec 32 := Scalar.addi v249 c1_i32_135
  let c1_i32_92 : BitVec 32 := 1#32
  let c1_i32_91 : BitVec 32 := 1#32
  let v260 : BitVec 32 := Scalar.addi v249 c1_i32_91
  let v261 : BitVec 32 := Scalar.subi v260 c1_i32_92
  let c1_i32_93 : BitVec 32 := 1#32
  let v263 : BitVec 32 := Scalar.divsi v261 c1_i32_93
  let v264 : BitVec 32 := Scalar.muli v263 c1_i32_93
  let v265 : BitVec 32 := Scalar.addi c1_i32_92 v264
  let c1_i32_95 : BitVec 32 := 1#32
  let arg13 : BitVec 32 := Scf.iv v265 c1_i32_95 k0_t2
  let v377 : BitVec 32 := Scalar.subi v376 arg13
  let v378 : BitVec 32 := Scalar.maxsi c0_i32_136 v377
  let v379 : BitVec 32 := Scalar.minsi v249 v378
  let c256_i32_137 : BitVec 32 := 256#32
  let v382 : BitVec 32 := Scalar.muli v379 c256_i32_137
  v382
def k0_off7 (i : grid0.Coords) (k0_t2 : Fin (k0_t2_loop i).trips) : Fin 2 → Nat :=
  let arg1 : BitVec 32 := BitVec.ofNat 32 (i 1).val
  let c2_i32_84 : BitVec 32 := 2#32
  let v249 : BitVec 32 := Scalar.muli arg1 c2_i32_84
  let c0_i32_136 : BitVec 32 := 0#32
  let c1_i32_135 : BitVec 32 := 1#32
  let v376 : BitVec 32 := Scalar.addi v249 c1_i32_135
  let c1_i32_92 : BitVec 32 := 1#32
  let c1_i32_91 : BitVec 32 := 1#32
  let v260 : BitVec 32 := Scalar.addi v249 c1_i32_91
  let v261 : BitVec 32 := Scalar.subi v260 c1_i32_92
  let c1_i32_93 : BitVec 32 := 1#32
  let v263 : BitVec 32 := Scalar.divsi v261 c1_i32_93
  let v264 : BitVec 32 := Scalar.muli v263 c1_i32_93
  let v265 : BitVec 32 := Scalar.addi c1_i32_92 v264
  let c1_i32_95 : BitVec 32 := 1#32
  let arg13 : BitVec 32 := Scf.iv v265 c1_i32_95 k0_t2
  let v377 : BitVec 32 := Scalar.subi v376 arg13
  let v378 : BitVec 32 := Scalar.maxsi c0_i32_136 v377
  let v379 : BitVec 32 := Scalar.minsi v249 v378
  let c256_i32_137 : BitVec 32 := 256#32
  let v382 : BitVec 32 := Scalar.muli v379 c256_i32_137
  let v383 : BitVec 32 := v382
  let v384 : Index := Scalar.indexCast v383
  let c0_138 : Index := 0#32
  ![v384.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "idle" => some ⊥
  | "log2e" => some (((Real.log 2)⁻¹ : ℝ) : EReal)
  | "q_scale" => some (((11863283 / 134217728) * (Real.log 2)⁻¹ : ℝ) : EReal)
  | _ => none
-- ==== ReferenceIdeal.lean ====
abbrev S8192x7168 : Shape := ⟨2, ![8192, 7168]⟩
abbrev S8 : Shape := ⟨1, ![8]⟩
abbrev S1024 : Shape := ⟨1, ![1024]⟩
abbrev S8192x3072 : Shape := ⟨2, ![8192, 3072]⟩
abbrev S8192x1024 : Shape := ⟨2, ![8192, 1024]⟩
abbrev S8192x8x128 : Shape := ⟨3, ![8192, 8, 128]⟩
abbrev S8x8192x8192 : Shape := ⟨3, ![8, 8192, 8192]⟩
abbrev S_ : Shape := ⟨0, ![]⟩
abbrev S8x1x1 : Shape := ⟨3, ![8, 1, 1]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩
abbrev S8192x8 : Shape := ⟨2, ![8192, 8]⟩
abbrev S8192x8x1 : Shape := ⟨3, ![8192, 8, 1]⟩
abbrev S8x128 : Shape := ⟨2, ![8, 128]⟩
abbrev S1x8x128 : Shape := ⟨3, ![1, 8, 128]⟩

abbrev nBuf : Space → Nat
  | .hbm => 92
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S8, .f32⟩
  | .hbm, ⟨2, _⟩ => ⟨S1024, .f32⟩
  | .hbm, ⟨3, _⟩ => ⟨S8192x3072, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x8x128, .f32⟩
  | .hbm, ⟨8, _⟩ => ⟨S8192x8x128, .f32⟩
  | .hbm, ⟨9, _⟩ => ⟨S8192x8x128, .f32⟩
  | .hbm, ⟨10, _⟩ => ⟨S8x8192x8192, .f32⟩
  | .hbm, ⟨11, _⟩ => ⟨S_, .f32⟩
  | .hbm, ⟨12, _⟩ => ⟨S8x8192x8192, .f32⟩
  | .hbm, ⟨13, _⟩ => ⟨S8x8192x8192, .f32⟩
  | .hbm, ⟨14, _⟩ => ⟨S8x1x1, .f32⟩
  | .hbm, ⟨15, _⟩ => ⟨S8x8192x8192, .f32⟩
  | .hbm, ⟨16, _⟩ => ⟨S8x8192x8192, .f32⟩
  | .hbm, ⟨17, _⟩ => ⟨S8192, .i32⟩
  | .hbm, ⟨18, _⟩ => ⟨S1x8192, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S8x8192x8192, .f32⟩
  | .hbm, ⟨24, _⟩ => ⟨S_, .f32⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S8x8192x8192, .i1⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S8x8192x8192, .f32⟩
  | .hbm, ⟨39, _⟩ => ⟨S8x8192x8192, .f32⟩
  | .hbm, ⟨40, _⟩ => ⟨S8x8192x8192, .f32⟩
  | .hbm, ⟨41, _⟩ => ⟨S_, .f32⟩
  | .hbm, ⟨42, _⟩ => ⟨S8x8192x8192, .f32⟩
  | .hbm, ⟨43, _⟩ => ⟨S8x8192x8192, .f32⟩
  | .hbm, ⟨44, _⟩ => ⟨S8x8192x8192, .f32⟩
  | .hbm, ⟨45, _⟩ => ⟨S8x8192x8192, .f32⟩
  | .hbm, ⟨46, _⟩ => ⟨S8x8192x8192, .i1⟩
  | .hbm, ⟨47, _⟩ => ⟨S8x8192x8192, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S8x8192x8192, .f32⟩
  | .hbm, ⟨52, _⟩ => ⟨S8x8192x8192, .f32⟩
  | .hbm, ⟨53, _⟩ => ⟨S8x8192x8192, .f32⟩
  | .hbm, ⟨54, _⟩ => ⟨S8x8192x8192, .f32⟩
  | .hbm, ⟨55, _⟩ => ⟨S8x8192x8192, .f32⟩
  | .hbm, ⟨56, _⟩ => ⟨S_, .f32⟩
  | .hbm, ⟨57, _⟩ => ⟨S_, .f32⟩
  | .hbm, ⟨58, _⟩ => ⟨S8x8192x8192, .i1⟩
  | .hbm, ⟨59, _⟩ => ⟨S8x8192x8192, .f32⟩
  | .hbm, ⟨60, _⟩ => ⟨S8x8192x8192, .f32⟩
  | .hbm, ⟨61, _⟩ => ⟨S_, .f32⟩
  | .hbm, ⟨62, _⟩ => ⟨S_, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S8x8192x8192, .f32⟩
  | .hbm, ⟨67, _⟩ => ⟨S_, .f32⟩
  | .hbm, ⟨68, _⟩ => ⟨S_, .f32⟩
  | .hbm, ⟨69, _⟩ => ⟨S8x8192x8192, .i1⟩
  | .hbm, ⟨70, _⟩ => ⟨S8x8192x8192, .f32⟩
  | .hbm, ⟨71, _⟩ => ⟨S8x8192x8192, .f32⟩
  | .hbm, ⟨72, _⟩ => ⟨S8x128x8192, .f32⟩
  | .hbm, ⟨73, _⟩ => ⟨S8192x8x128, .f32⟩
  | .hbm, ⟨74, _⟩ => ⟨S8192x8x128, .f32⟩
  | .hbm, ⟨75, _⟩ => ⟨S_, .f32⟩
  | .hbm, ⟨76, _⟩ => ⟨S8192x8, .f32⟩
  | .hbm, ⟨77, _⟩ => ⟨S8192x8x1, .f32⟩
  | .hbm, ⟨78, _⟩ => ⟨S_, .f32⟩
  | .hbm, ⟨79, _⟩ => ⟨S8192x8x1, .f32⟩
  | .hbm, ⟨80, _⟩ => ⟨S8192x8x1, .f32⟩
  | .hbm, ⟨81, _⟩ => ⟨S_, .f32⟩
  | .hbm, ⟨82, _⟩ => ⟨S8192x8x1, .f32⟩
  | .hbm, ⟨83, _⟩ => ⟨S8192x8x1, .f32⟩
  | .hbm, ⟨84, _⟩ => ⟨S8192x8x1, .f32⟩
  | .hbm, ⟨85, _⟩ => ⟨S8192x8x128, .f32⟩
  | .hbm, ⟨86, _⟩ => ⟨S8192x8x128, .f32⟩
  | .hbm, ⟨87, _⟩ => ⟨S8x128, .f32⟩
  | .hbm, ⟨88, _⟩ => ⟨S1x8x128, .f32⟩
  | .hbm, ⟨89, _⟩ => ⟨S8192x8x128, .f32⟩
  | .hbm, ⟨90, _⟩ => ⟨S8192x8x128, .f32⟩
  | .hbm, ⟨91, _⟩ => ⟨S8192x1024, .f32⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v19 : Ref sig .tc := ⟨.hbm, 38, rfl⟩
abbrev main_v20 : Ref sig .tc := ⟨.hbm, 39, rfl⟩
abbrev main_call1_v0 : Ref sig .tc := ⟨.hbm, 40, rfl⟩
abbrev main_call1_call0_cst : Ref sig .tc := ⟨.hbm, 41, rfl⟩
abbrev main_call1_call0_v0 : Ref sig .tc := ⟨.hbm, 42, rfl⟩
abbrev main_call1_call0_v1 : Ref sig .tc := ⟨.hbm, 43, rfl⟩
abbrev main_call1_call0_v2 : Ref sig .tc := ⟨.hbm, 44, rfl⟩
abbrev main_call1_call0_v3 : Ref sig .tc := ⟨.hbm, 45, rfl⟩
abbrev main_call1_call0_v4 : Ref sig .tc := ⟨.hbm, 46, rfl⟩
abbrev main_call1_call0_v5 : Ref sig .tc := ⟨.hbm, 47, rfl⟩
abbrev main_call1_call0_v6 : Ref sig .tc := ⟨.hbm, 48, rfl⟩
abbrev main_call1_call0_v7 : Ref sig .tc := ⟨.hbm, 49, rfl⟩
abbrev main_call1_call0_v8 : Ref sig .tc := ⟨.hbm, 50, rfl⟩
abbrev main_call1_call0_v9 : Ref sig .tc := ⟨.hbm, 51, rfl⟩
abbrev main_call1_call0_v10 : Ref sig .tc := ⟨.hbm, 52, rfl⟩
abbrev main_call1_call0_v11 : Ref sig .tc := ⟨.hbm, 53, rfl⟩
abbrev main_call1_v1 : Ref sig .tc := ⟨.hbm, 54, rfl⟩
abbrev main_v21 : Ref sig .tc := ⟨.hbm, 55, rfl⟩
abbrev main_cst_0 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v22 : Ref sig .tc := ⟨.hbm, 60, rfl⟩
abbrev main_call3_cst : Ref sig .tc := ⟨.hbm, 61, rfl⟩
abbrev main_call3_v0 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_cst_2 : Ref sig .tc := ⟨.hbm, 75, rfl⟩
abbrev main_v31 : Ref sig .tc := ⟨.hbm, 76, rfl⟩
abbrev main_v32 : Ref sig .tc := ⟨.hbm, 77, rfl⟩
abbrev main_cst_3 : Ref sig .tc := ⟨.hbm, 78, rfl⟩
abbrev main_v33 : Ref sig .tc := ⟨.hbm, 79, rfl⟩
abbrev main_v34 : Ref sig .tc := ⟨.hbm, 80, rfl⟩
abbrev main_cst_4 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩

abbrev nD : Nat := 1
abbrev τ : Topo := Topo.v7x

variable {F : FTy → Type} [FloatOps F]
-- ==== Kernel2.lean ====
abbrev S1x8192x2048 : Shape := ⟨3, ![1, 8192, 2048]⟩
abbrev S1x2048 : Shape := ⟨2, ![1, 2048]⟩
abbrev S1x2048x7168 : Shape := ⟨3, ![1, 2048, 7168]⟩
abbrev S8192x2048 : Shape := ⟨2, ![8192, 2048]⟩
abbrev S2048x7168 : Shape := ⟨2, ![2048, 7168]⟩
abbrev S2048 : Shape := ⟨1, ![2048]⟩
abbrev S8192x7168 : Shape := ⟨2, ![8192, 7168]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x7168, .f32⟩
  | .hbm, ⟨3, _⟩ => ⟨S8192x2048, .f32⟩
  | .hbm, ⟨4, _⟩ => ⟨S2048x7168, .f32⟩
  | .hbm, ⟨5, _⟩ => ⟨S2048x7168, .bf16⟩
  | .hbm, ⟨6, _⟩ => ⟨S2048, .f32⟩
  | .hbm, ⟨7, _⟩ => ⟨S1x2048, .f32⟩
  | .hbm, ⟨8, _⟩ => ⟨S8192x7168, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 7], ![false, false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond3 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S1x8192x2048 : Shape := ⟨3, ![1, 8192, 2048]⟩
abbrev S1x2048 : Shape := ⟨2, ![1, 2048]⟩
abbrev S1x2048x7168 : Shape := ⟨3, ![1, 2048, 7168]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x7168 : Shape := ⟨2, ![2048, 7168]⟩
abbrev S8192x7168 : Shape := ⟨2, ![8192, 7168]⟩

abbrev nBuf : Space → Nat
  | .hbm => 23
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x7168, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S2048x7168, .f32⟩
  | .hbm, ⟨22, _⟩ => ⟨S8192x7168, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel3.lean ====
abbrev S1x256x2048 : Shape := ⟨3, ![1, 256, 2048]⟩
abbrev S1x2048 : Shape := ⟨2, ![1, 2048]⟩
abbrev S1x2048x512 : Shape := ⟨3, ![1, 2048, 512]⟩
abbrev S256x2048 : Shape := ⟨2, ![256, 2048]⟩
abbrev S2048x512 : Shape := ⟨2, ![2048, 512]⟩
abbrev S2048x1024 : Shape := ⟨2, ![2048, 1024]⟩
abbrev S2048 : Shape := ⟨1, ![2048]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 5
  | .smem => 0
  | _ => 0

abbrev bufTy : (tb : Table) → Fin (tcTables nBuf tb) → BufTy
  | .hbm, ⟨0, _⟩ => ⟨S1x256x2048, .f32⟩
  | .hbm, ⟨1, _⟩ => ⟨S1x2048, .f32⟩
  | .hbm, ⟨2, _⟩ => ⟨S1x2048x512, .f32⟩
  | .hbm, ⟨3, _⟩ => ⟨S1x2048x512, .f32⟩
  | .hbm, ⟨4, _⟩ => ⟨S256x2048, .f32⟩
  | .hbm, ⟨5, _⟩ => ⟨S2048x512, .f32⟩
  | .hbm, ⟨6, _⟩ => ⟨S2048x512, .f32⟩
  | .hbm, ⟨7, _⟩ => ⟨S2048x1024, .f32⟩
  | .hbm, ⟨8, _⟩ => ⟨S2048x1024, .bf16⟩
  | .hbm, ⟨9, _⟩ => ⟨S2048, .f32⟩
  | .hbm, ⟨10, _⟩ => ⟨S1x2048, .f32⟩
  | .hbm, ⟨11, _⟩ => ⟨S256x1024, .f32⟩
  | .local _ .vmem, ⟨0, _⟩ => ⟨S256x2048, .f32⟩
  | .local _ .vmem, ⟨1, _⟩ => ⟨S1x2048, .f32⟩
  | .local _ .vmem, ⟨2, _⟩ => ⟨S2048x1024, .bf16⟩
  | .local _ .vmem, ⟨3, _⟩ => ⟨S256x1024, .f32⟩
  | .local _ .vmem, ⟨4, _⟩ => ⟨S256x2048, .bf16⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c1_i32 : BitVec 32 := 1#32
  let v0 : BitVec 1 := Scalar.cmpi .slt arg0 c1_i32
  let v1 : BitVec 32 := Scalar.extui v0
  let c0_i32 : BitVec 32 := 0#32
  let v2 : BitVec 1 := Scalar.cmpi .ne v1 c0_i32
  v2

def k0_cond3 (i : grid0.Coords) : BitVec 1 :=
  let arg0 : BitVec 32 := BitVec.ofNat 32 (i 0).val
  let c1_i32_0 : BitVec 32 := 1#32
  let v3 : BitVec 1 := Scalar.cmpi .sge arg0 c1_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== Reference3Ideal.lean ====
abbrev S1x256x2048 : Shape := ⟨3, ![1, 256, 2048]⟩
abbrev S1x2048 : Shape := ⟨2, ![1, 2048]⟩
abbrev S1x2048x512 : Shape := ⟨3, ![1, 2048, 512]⟩
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S256x1024 : Shape := ⟨2, ![256, 1024]⟩

abbrev nBuf : Space → Nat
  | .hbm => 27
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S1x2048, .f32⟩
  | .hbm, ⟨2, _⟩ => ⟨S1x2048x512, .f32⟩
  | .hbm, ⟨3, _⟩ => ⟨S1x2048x512, .f32⟩
  | .hbm, ⟨4, _⟩ => ⟨S256x2048, .f32⟩
  | .hbm, ⟨5, _⟩ => ⟨S2048, .f32⟩
  | .hbm, ⟨6, _⟩ => ⟨S256x2048, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x2048, .f32⟩
  | .hbm, ⟨18, _⟩ => ⟨S256x2048, .f32⟩
  | .hbm, ⟨19, _⟩ => ⟨S1x2048, .f32⟩
  | .hbm, ⟨20, _⟩ => ⟨S256x2048, .f32⟩
  | .hbm, ⟨21, _⟩ => ⟨S256x2048, .f32⟩
  | .hbm, ⟨22, _⟩ => ⟨S2048x512, .f32⟩
  | .hbm, ⟨23, _⟩ => ⟨S256x512, .f32⟩
  | .hbm, ⟨24, _⟩ => ⟨S2048x512, .f32⟩
  | .hbm, ⟨25, _⟩ => ⟨S256x512, .f32⟩
  | .hbm, ⟨26, _⟩ => ⟨S256x1024, .f32⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel4.lean ====
abbrev S128x8x2048 : Shape := ⟨3, ![128, 8, 2048]⟩
abbrev S1x2048 : Shape := ⟨2, ![1, 2048]⟩
abbrev S1x2048x7168 : Shape := ⟨3, ![1, 2048, 7168]⟩
abbrev S1024x2048 : Shape := ⟨2, ![1024, 2048]⟩
abbrev S2048x7168 : Shape := ⟨2, ![2048, 7168]⟩
abbrev S2048 : Shape := ⟨1, ![2048]⟩
abbrev S1024x7168 : Shape := ⟨2, ![1024, 7168]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 7
  | .smem => 0
  | _ => 0

abbrev bufTy : (tb : Table) → Fin (tcTables nBuf tb) → BufTy
  | .hbm, ⟨0, _⟩ => ⟨S128x8x2048, .f32⟩
  | .hbm, ⟨1, _⟩ => ⟨S1x2048, .f32⟩
  | .hbm, ⟨2, _⟩ => ⟨S1x2048x7168, .f32⟩
  | .hbm, ⟨3, _⟩ => ⟨S1024x2048, .f32⟩
  | .hbm, ⟨4, _⟩ => ⟨S2048x7168, .f32⟩
  | .hbm, ⟨5, _⟩ => ⟨S2048x7168, .bf16⟩
  | .hbm, ⟨6, _⟩ => ⟨S2048, .f32⟩
  | .hbm, ⟨7, _⟩ => ⟨S1x2048, .f32⟩
  | .hbm, ⟨8, _⟩ => ⟨S1024x7168, .f32⟩
  | .local _ .vmem, ⟨0, _⟩ => ⟨S1024x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 7], ![false, false]⟩

def k0_cond1 (i : grid0.Coords) : BitVec 1 :=
  let arg0 : BitVec 32 := BitVec.ofNat 32 (i 0).val
  let c1_i32 : BitVec 32 := 1#32
  let v0 : BitVec 1 := Scalar.cmpi .slt arg0 c1_i32
  let v1 : BitVec 32 := Scalar.extui v0
  let c0_i32 : BitVec 32 := 0#32
  let v2 : BitVec 1 := Scalar.cmpi .ne v1 c0_i32
  v2

def k0_cond3 (i : grid0.Coords) : BitVec 1 :=
  let arg0 : BitVec 32 := BitVec.ofNat 32 (i 0).val
  let c1_i32_0 : BitVec 32 := 1#32
  let v3 : BitVec 1 := Scalar.cmpi .sge arg0 c1_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S128x8x2048 : Shape := ⟨3, ![128, 8, 2048]⟩
abbrev S1x2048 : Shape := ⟨2, ![1, 2048]⟩
abbrev S1x2048x7168 : Shape := ⟨3, ![1, 2048, 7168]⟩
abbrev S1024x2048 : Shape := ⟨2, ![1024, 2048]⟩
abbrev S2048 : Shape := ⟨1, ![2048]⟩
abbrev S_ : Shape := ⟨0, ![]⟩
abbrev S1024 : Shape := ⟨1, ![1024]⟩
abbrev S1024x1 : Shape := ⟨2, ![1024, 1]⟩
abbrev S2048x7168 : Shape := ⟨2, ![2048, 7168]⟩
abbrev S1024x7168 : Shape := ⟨2, ![1024, 7168]⟩

abbrev nBuf : Space → Nat
  | .hbm => 23
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S1x2048, .f32⟩
  | .hbm, ⟨2, _⟩ => ⟨S1x2048x7168, .f32⟩
  | .hbm, ⟨3, _⟩ => ⟨S1024x2048, .f32⟩
  | .hbm, ⟨4, _⟩ => ⟨S2048, .f32⟩
  | .hbm, ⟨5, _⟩ => ⟨S1024x2048, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024x2048, .f32⟩
  | .hbm, ⟨17, _⟩ => ⟨S1024x2048, .f32⟩
  | .hbm, ⟨18, _⟩ => ⟨S1x2048, .f32⟩
  | .hbm, ⟨19, _⟩ => ⟨S1024x2048, .f32⟩
  | .hbm, ⟨20, _⟩ => ⟨S1024x2048, .f32⟩
  | .hbm, ⟨21, _⟩ => ⟨S2048x7168, .f32⟩
  | .hbm, ⟨22, _⟩ => ⟨S1024x7168, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel5.lean ====
abbrev S8192x1024 : Shape := ⟨2, ![8192, 1024]⟩
abbrev S1x2048x2048 : Shape := ⟨3, ![1, 2048, 2048]⟩
abbrev S1x8192x2048 : Shape := ⟨3, ![1, 8192, 2048]⟩
abbrev S8192x2048 : Shape := ⟨2, ![8192, 2048]⟩
abbrev S2048x2048 : Shape := ⟨2, ![2048, 2048]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x2048x2048, .f32⟩
  | .hbm, ⟨3, _⟩ => ⟨S1x8192x2048, .f32⟩
  | .hbm, ⟨4, _⟩ => ⟨S8192x2048, .f32⟩
  | .hbm, ⟨5, _⟩ => ⟨S2048x2048, .f32⟩
  | .hbm, ⟨6, _⟩ => ⟨S2048x2048, .bf16⟩
  | .hbm, ⟨7, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S2048x1024, .bf16⟩
  | .local _ .vmem, ⟨5, _⟩ => ⟨S2048x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond3 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8192x1024 : Shape := ⟨2, ![8192, 1024]⟩
abbrev S1x2048x2048 : Shape := ⟨3, ![1, 2048, 2048]⟩
abbrev S1x8192x2048 : Shape := ⟨3, ![1, 8192, 2048]⟩
abbrev S8192x2048 : Shape := ⟨2, ![8192, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x2048x2048, .f32⟩
  | .hbm, ⟨3, _⟩ => ⟨S1x8192x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel6.lean ====
abbrev S9216x2048 : Shape := ⟨2, ![9216, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x2048 : Shape := ⟨2, ![512, 2048]⟩
abbrev S256x2048 : Shape := ⟨2, ![256, 2048]⟩
abbrev S256x512 : Shape := ⟨2, ![256, 512]⟩

abbrev nBuf : Space → Nat
  | .hbm => 11
  | .vmem => 10
  | .smem => 0
  | _ => 0

abbrev bufTy : (tb : Table) → Fin (tcTables nBuf tb) → BufTy
  | .hbm, ⟨0, _⟩ => ⟨S9216x2048, .f32⟩
  | .hbm, ⟨1, _⟩ => ⟨S1x2048x512, .f32⟩
  | .hbm, ⟨2, _⟩ => ⟨S1x2048x512, .f32⟩
  | .hbm, ⟨3, _⟩ => ⟨S1x512x2048, .f32⟩
  | .hbm, ⟨4, _⟩ => ⟨S2048x512, .f32⟩
  | .hbm, ⟨5, _⟩ => ⟨S2048x512, .f32⟩
  | .hbm, ⟨6, _⟩ => ⟨S512x2048, .f32⟩
  | .hbm, ⟨7, _⟩ => ⟨S1x2048x512, .f32⟩
  | .hbm, ⟨8, _⟩ => ⟨S1x2048x512, .f32⟩
  | .hbm, ⟨9, _⟩ => ⟨S1x512x2048, .f32⟩
  | .hbm, ⟨10, _⟩ => ⟨S9216x2048, .f32⟩
  | .local _ .vmem, ⟨0, _⟩ => ⟨S256x2048, .f32⟩
  | .local _ .vmem, ⟨1, _⟩ => ⟨S256x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x512x2048, .f32⟩
  | .local _ .vmem, ⟨5, _⟩ => ⟨S256x2048, .f32⟩
  | .local _ .vmem, ⟨6, _⟩ => ⟨S256x2048, .f32⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S9216x2048 : Shape := ⟨2, ![9216, 2048]⟩
abbrev S1x2048x512 : Shape := ⟨3, ![1, 2048, 512]⟩
abbrev S1x512x2048 : Shape := ⟨3, ![1, 512, 2048]⟩
abbrev S2048x512 : Shape := ⟨2, ![2048, 512]⟩
abbrev S9216x512 : Shape := ⟨2, ![9216, 512]⟩
abbrev S_ : Shape := ⟨0, ![]⟩
abbrev S512x2048 : Shape := ⟨2, ![512, 2048]⟩

abbrev nBuf : Space → Nat
  | .hbm => 20
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S1x2048x512, .f32⟩
  | .hbm, ⟨2, _⟩ => ⟨S1x2048x512, .f32⟩
  | .hbm, ⟨3, _⟩ => ⟨S1x512x2048, .f32⟩
  | .hbm, ⟨4, _⟩ => ⟨S2048x512, .f32⟩
  | .hbm, ⟨5, _⟩ => ⟨S9216x512, .f32⟩
  | .hbm, ⟨6, _⟩ => ⟨S9216x512, .f32⟩
  | .hbm, ⟨7, _⟩ => ⟨S9216x512, .f32⟩
  | .hbm, ⟨8, _⟩ => ⟨S_, .f32⟩
  | .hbm, ⟨9, _⟩ => ⟨S9216x512, .f32⟩
  | .hbm, ⟨10, _⟩ => ⟨S9216x512, .f32⟩
  | .hbm, ⟨11, _⟩ => ⟨S_, .f32⟩
  | .hbm, ⟨12, _⟩ => ⟨S9216x512, .f32⟩
  | .hbm, ⟨13, _⟩ => ⟨S9216x512, .f32⟩
  | .hbm, ⟨14, _⟩ => ⟨S9216x512, .f32⟩
  | .hbm, ⟨15, _⟩ => ⟨S2048x512, .f32⟩
  | .hbm, ⟨16, _⟩ => ⟨S9216x512, .f32⟩
  | .hbm, ⟨17, _⟩ => ⟨S9216x512, .f32⟩
  | .hbm, ⟨18, _⟩ => ⟨S512x2048, .f32⟩
  | .hbm, ⟨19, _⟩ => ⟨S9216x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]
-- ==== Kernel7.lean ====
abbrev S1x8192x2048 : Shape := ⟨3, ![1, 8192, 2048]⟩
abbrev S1x2048 : Shape := ⟨2, ![1, 2048]⟩
abbrev S1x2048x512 : Shape := ⟨3, ![1, 2048, 512]⟩
abbrev S8192x2048 : Shape := ⟨2, ![8192, 2048]⟩
abbrev S2048x512 : Shape := ⟨2, ![2048, 512]⟩
abbrev S2048 : Shape := ⟨1, ![2048]⟩
abbrev S8192x512 : Shape := ⟨2, ![8192, 512]⟩
abbrev S1024x2048 : Shape := ⟨2, ![1024, 2048]⟩
abbrev S1024x512 : Shape := ⟨2, ![1024, 512]⟩
abbrev S1024 : Shape := ⟨1, ![1024]⟩
abbrev S1024x1 : Shape := ⟨2, ![1024, 1]⟩

abbrev nBuf : Space → Nat
  | .hbm => 9
  | .vmem => 7
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x512, .f32⟩
  | .hbm, ⟨3, _⟩ => ⟨S8192x2048, .f32⟩
  | .hbm, ⟨4, _⟩ => ⟨S2048x512, .f32⟩
  | .hbm, ⟨5, _⟩ => ⟨S2048x512, .bf16⟩
  | .hbm, ⟨6, _⟩ => ⟨S2048, .f32⟩
  | .hbm, ⟨7, _⟩ => ⟨S1x2048, .f32⟩
  | .hbm, ⟨8, _⟩ => ⟨S8192x512, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond3 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S1x8192x2048 : Shape := ⟨3, ![1, 8192, 2048]⟩
abbrev S1x2048 : Shape := ⟨2, ![1, 2048]⟩
abbrev S1x2048x512 : Shape := ⟨3, ![1, 2048, 512]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x512 : Shape := ⟨2, ![2048, 512]⟩
abbrev S8192x512 : Shape := ⟨2, ![8192, 512]⟩

abbrev nBuf : Space → Nat
  | .hbm => 23
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x512, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S2048x512, .f32⟩
  | .hbm, ⟨22, _⟩ => ⟨S8192x512, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel8.lean ====
abbrev S8192x512 : Shape := ⟨2, ![8192, 512]⟩
abbrev S256x512 : Shape := ⟨2, ![256, 512]⟩
abbrev S1x8192x512 : Shape := ⟨3, ![1, 8192, 512]⟩
abbrev S1x1024x128 : Shape := ⟨3, ![1, 1024, 128]⟩
abbrev S1x512x512 : Shape := ⟨3, ![1, 512, 512]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S2048x256 : Shape := ⟨2, ![2048, 256]⟩
abbrev S2048 : Shape := ⟨1, ![2048]⟩
abbrev S2048x1 : Shape := ⟨2, ![2048, 1]⟩

abbrev nBuf : Space → Nat
  | .hbm => 7
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S256x512, .f32⟩
  | .hbm, ⟨2, _⟩ => ⟨S256x512, .f32⟩
  | .hbm, ⟨3, _⟩ => ⟨S1x8192x512, .f32⟩
  | .hbm, ⟨4, _⟩ => ⟨S1x1024x128, .f32⟩
  | .hbm, ⟨5, _⟩ => ⟨S1x1024x128, .f32⟩
  | .hbm, ⟨6, _⟩ => ⟨S1x8192x512, .f32⟩
  | .local _ .vmem, ⟨0, _⟩ => ⟨S1x512x512, .f32⟩
  | .local _ .vmem, ⟨1, _⟩ => ⟨S1x512x512, .f32⟩
  | .local _ .vmem, ⟨2, _⟩ => ⟨S1x1024x128, .f32⟩
  | .local _ .vmem, ⟨3, _⟩ => ⟨S1x1024x128, .f32⟩
  | .local _ .vmem, ⟨4, _⟩ => ⟨S1x512x512, .f32⟩
  | .local _ .vmem, ⟨5, _⟩ => ⟨S1x512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8192x512 : Shape := ⟨2, ![8192, 512]⟩
abbrev S256x512 : Shape := ⟨2, ![256, 512]⟩
abbrev S1x8192x4x128 : Shape := ⟨4, ![1, 8192, 4, 128]⟩
abbrev S1x256x4x128 : Shape := ⟨4, ![1, 256, 4, 128]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩
abbrev S1x8192x512 : Shape := ⟨3, ![1, 8192, 512]⟩

abbrev nBuf : Space → Nat
  | .hbm => 27
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S256x512, .f32⟩
  | .hbm, ⟨2, _⟩ => ⟨S256x512, .f32⟩
  | .hbm, ⟨3, _⟩ => ⟨S1x8192x4x128, .f32⟩
  | .hbm, ⟨4, _⟩ => ⟨S1x256x4x128, .f32⟩
  | .hbm, ⟨5, _⟩ => ⟨S1x256x4x128, .f32⟩
  | .hbm, ⟨6, _⟩ => ⟨S1x4x8192x256, .f32⟩
  | .hbm, ⟨7, _⟩ => ⟨S_, .f32⟩
  | .hbm, ⟨8, _⟩ => ⟨S1x4x8192x256, .f32⟩
  | .hbm, ⟨9, _⟩ => ⟨S1x4x8192x256, .f32⟩
  | .hbm, ⟨10, _⟩ => ⟨S_, .f32⟩
  | .hbm, ⟨11, _⟩ => ⟨S1x4x8192, .f32⟩
  | .hbm, ⟨12, _⟩ => ⟨S_, .f32⟩
  | .hbm, ⟨13, _⟩ => ⟨S1x4x8192, .f32⟩
  | .hbm, ⟨14, _⟩ => ⟨S1x4x8192, .f32⟩
  | .hbm, ⟨15, _⟩ => ⟨S1x4x8192x1, .f32⟩
  | .hbm, ⟨16, _⟩ => ⟨S1x4x8192x256, .f32⟩
  | .hbm, ⟨17, _⟩ => ⟨S1x4x8192x256, .f32⟩
  | .hbm, ⟨18, _⟩ => ⟨S1x4x8192x256, .f32⟩
  | .hbm, ⟨19, _⟩ => ⟨S_, .f32⟩
  | .hbm, ⟨20, _⟩ => ⟨S1x4x8192, .f32⟩
  | .hbm, ⟨21, _⟩ => ⟨S1x4x8192x1, .f32⟩
  | .hbm, ⟨22, _⟩ => ⟨S1x4x8192x256, .f32⟩
  | .hbm, ⟨23, _⟩ => ⟨S1x4x8192x256, .f32⟩
  | .hbm, ⟨24, _⟩ => ⟨S1x4x128x8192, .f32⟩
  | .hbm, ⟨25, _⟩ => ⟨S1x8192x4x128, .f32⟩
  | .hbm, ⟨26, _⟩ => ⟨S1x8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel9.lean ====
abbrev S1x8192x512 : Shape := ⟨3, ![1, 8192, 512]⟩
abbrev S1x512x2048 : Shape := ⟨3, ![1, 512, 2048]⟩
abbrev S1x8192x2048 : Shape := ⟨3, ![1, 8192, 2048]⟩
abbrev S128x8x2048 : Shape := ⟨3, ![128, 8, 2048]⟩
abbrev S8192x2048 : Shape := ⟨2, ![8192, 2048]⟩
abbrev S512x2048 : Shape := ⟨2, ![512, 2048]⟩
abbrev S8192x512 : Shape := ⟨2, ![8192, 512]⟩
abbrev S9216x2048 : Shape := ⟨2, ![9216, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S1x8192x512, .f32⟩
  | .hbm, ⟨1, _⟩ => ⟨S1x512x2048, .f32⟩
  | .hbm, ⟨2, _⟩ => ⟨S1x8192x2048, .f32⟩
  | .hbm, ⟨3, _⟩ => ⟨S128x8x2048, .f32⟩
  | .hbm, ⟨4, _⟩ => ⟨S8192x2048, .f32⟩
  | .hbm, ⟨5, _⟩ => ⟨S512x2048, .f32⟩
  | .hbm, ⟨6, _⟩ => ⟨S512x2048, .bf16⟩
  | .hbm, ⟨7, _⟩ => ⟨S8192x512, .f32⟩
  | .hbm, ⟨8, _⟩ => ⟨S9216x2048, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x512, .bf16⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 2], ![false, false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond3 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S1x8192x512 : Shape := ⟨3, ![1, 8192, 512]⟩
abbrev S1x512x2048 : Shape := ⟨3, ![1, 512, 2048]⟩
abbrev S1x8192x2048 : Shape := ⟨3, ![1, 8192, 2048]⟩
abbrev S128x8x2048 : Shape := ⟨3, ![128, 8, 2048]⟩
abbrev S8192x2048 : Shape := ⟨2, ![8192, 2048]⟩
abbrev S8192x512 : Shape := ⟨2, ![8192, 512]⟩
abbrev S512x2048 : Shape := ⟨2, ![512, 2048]⟩
abbrev S1024x2048 : Shape := ⟨2, ![1024, 2048]⟩
abbrev S_ : Shape := ⟨0, ![]⟩
abbrev S9216x2048 : Shape := ⟨2, ![9216, 2048]⟩

abbrev nBuf : Space → Nat
  | .hbm => 13
  | .vmem => 0
  | .smem => 0
  | _ => 0

abbrev bufTy : (tb : Table) → Fin (tcTables nBuf tb) → BufTy
  | .hbm, ⟨0, _⟩ => ⟨S1x8192x512, .f32⟩
  | .hbm, ⟨1, _⟩ => ⟨S1x512x2048, .f32⟩
  | .hbm, ⟨2, _⟩ => ⟨S1x8192x2048, .f32⟩
  | .hbm, ⟨3, _⟩ => ⟨S128x8x2048, .f32⟩
  | .hbm, ⟨4, _⟩ => ⟨S8192x2048, .f32⟩
  | .hbm, ⟨5, _⟩ => ⟨S8192x512, .f32⟩
  | .hbm, ⟨6, _⟩ => ⟨S512x2048, .f32⟩
  | .hbm, ⟨7, _⟩ => ⟨S8192x2048, .f32⟩
  | .hbm, ⟨8, _⟩ => ⟨S8192x2048, .f32⟩
  | .hbm, ⟨9, _⟩ => ⟨S1024x2048, .f32⟩
  | .hbm, ⟨10, _⟩ => ⟨S_, .f32⟩
  | .hbm, ⟨11, _⟩ => ⟨S1024x2048, .f32⟩
  | .hbm, ⟨12, _⟩ => ⟨S9216x2048, .f32⟩
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel10.lean ====
abbrev S128x8x512 : Shape := ⟨3, ![128, 8, 512]⟩
abbrev S1x512x2048 : Shape := ⟨3, ![1, 512, 2048]⟩
abbrev S128x8x2048 : Shape := ⟨3, ![128, 8, 2048]⟩
abbrev S9216x2048 : Shape := ⟨2, ![9216, 2048]⟩
abbrev S1024x2048 : Shape := ⟨2, ![1024, 2048]⟩
abbrev S512x2048 : Shape := ⟨2, ![512, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S128x8x512, .f32⟩
  | .hbm, ⟨1, _⟩ => ⟨S1x512x2048, .f32⟩
  | .hbm, ⟨2, _⟩ => ⟨S128x8x2048, .f32⟩
  | .hbm, ⟨3, _⟩ => ⟨S9216x2048, .f32⟩
  | .hbm, ⟨4, _⟩ => ⟨S1024x2048, .f32⟩
  | .hbm, ⟨5, _⟩ => ⟨S512x2048, .f32⟩
  | .hbm, ⟨6, _⟩ => ⟨S512x2048, .bf16⟩
  | .hbm, ⟨7, _⟩ => ⟨S1024x512, .f32⟩
  | .hbm, ⟨8, _⟩ => ⟨S9216x2048, .f32⟩
  | .local _ .vmem, ⟨0, _⟩ => ⟨S1024x512, .f32⟩
  | .local _ .vmem, ⟨1, _⟩ => ⟨S512x1024, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x512, .bf16⟩
  | _, _ => ⟨S128x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg0 : BitVec 32 := BitVec.ofNat 32 (i 0).val
  let c1_i32 : BitVec 32 := 1#32
  let v0 : BitVec 1 := Scalar.cmpi .slt arg0 c1_i32
  let v1 : BitVec 32 := Scalar.extui v0
  let c0_i32 : BitVec 32 := 0#32
  let v2 : BitVec 1 := Scalar.cmpi .ne v1 c0_i32
  v2

def k0_cond3 (i : grid0.Coords) : BitVec 1 :=
  let arg0 : BitVec 32 := BitVec.ofNat 32 (i 0).val
  let c1_i32_0 : BitVec 32 := 1#32
  let v3 : BitVec 1 := Scalar.cmpi .sge arg0 c1_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.minsi arg0 c0_i32
  let c0_i32_0 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![v0.toNat, arg1.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S128x8x512 : Shape := ⟨3, ![128, 8, 512]⟩
abbrev S1x512x2048 : Shape := ⟨3, ![1, 512, 2048]⟩
abbrev S128x8x2048 : Shape := ⟨3, ![128, 8, 2048]⟩
abbrev S9216x2048 : Shape := ⟨2, ![9216, 2048]⟩
abbrev S8192x2048 : Shape := ⟨2, ![8192, 2048]⟩
abbrev S512x2048 : Shape := ⟨2, ![512, 2048]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S128x8x512, .f32⟩
  | .hbm, ⟨1, _⟩ => ⟨S1x512x2048, .f32⟩
  | .hbm, ⟨2, _⟩ => ⟨S128x8x2048, .f32⟩
  | .hbm, ⟨3, _⟩ => ⟨S9216x2048, .f32⟩
  | .hbm, ⟨4, _⟩ => ⟨S8192x2048, .f32⟩
  | .hbm, ⟨5, _⟩ => ⟨S512x2048, .f32⟩
  | .hbm, ⟨6, _⟩ => ⟨S128x8x2048, .f32⟩
  | .hbm, ⟨7, _⟩ => ⟨S128x8x2048, .f32⟩
  | .hbm, ⟨8, _⟩ => ⟨S1024x2048, .f32⟩
  | .hbm, ⟨9, _⟩ => ⟨S9216x2048, .f32⟩
  | _, _ => ⟨S128x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel11.lean ====
abbrev S9216x2048 : Shape := ⟨2, ![9216, 2048]⟩
abbrev S1x2048 : Shape := ⟨2, ![1, 2048]⟩
abbrev S1x2048x64 : Shape := ⟨3, ![1, 2048, 64]⟩
abbrev S2048x64 : Shape := ⟨2, ![2048, 64]⟩
abbrev S2048 : Shape := ⟨1, ![2048]⟩
abbrev S9216x64 : Shape := ⟨2, ![9216, 64]⟩
abbrev S1024x2048 : Shape := ⟨2, ![1024, 2048]⟩
abbrev S1024x64 : Shape := ⟨2, ![1024, 64]⟩
abbrev S1024 : Shape := ⟨1, ![1024]⟩
abbrev S1024x1 : Shape := ⟨2, ![1024, 1]⟩

abbrev nBuf : Space → Nat
  | .hbm => 9
  | .vmem => 9
  | .smem => 0
  | _ => 0

abbrev bufTy : (tb : Table) → Fin (tcTables nBuf tb) → BufTy
  | .hbm, ⟨0, _⟩ => ⟨S9216x2048, .f32⟩
  | .hbm, ⟨1, _⟩ => ⟨S1x2048, .f32⟩
  | .hbm, ⟨2, _⟩ => ⟨S1x2048x64, .f32⟩
  | .hbm, ⟨3, _⟩ => ⟨S2048x64, .f32⟩
  | .hbm, ⟨4, _⟩ => ⟨S2048x64, .bf16⟩
  | .hbm, ⟨5, _⟩ => ⟨S2048, .f32⟩
  | .hbm, ⟨6, _⟩ => ⟨S1x2048, .f32⟩
  | .hbm, ⟨7, _⟩ => ⟨S9216x64, .f32⟩
  | .hbm, ⟨8, _⟩ => ⟨S9216x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x64, .bf16⟩
  | .local _ .vmem, ⟨4, _⟩ => ⟨S1024x64, .f32⟩
  | .local _ .vmem, ⟨5, _⟩ => ⟨S1024x64, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![9, 1], ![false, false]⟩

def k0_cond1 (i : grid0.Coords) : BitVec 1 :=
  let arg0 : BitVec 32 := BitVec.ofNat 32 (i 0).val
  let c9_i32 : BitVec 32 := 9#32
  let v0 : BitVec 1 := Scalar.cmpi .slt arg0 c9_i32
  let v1 : BitVec 32 := Scalar.extui v0
  let c0_i32 : BitVec 32 := 0#32
  let v2 : BitVec 1 := Scalar.cmpi .ne v1 c0_i32
  v2

def k0_cond3 (i : grid0.Coords) : BitVec 1 :=
  let arg0 : BitVec 32 := BitVec.ofNat 32 (i 0).val
  let c9_i32_0 : BitVec 32 := 9#32
  let v3 : BitVec 1 := Scalar.cmpi .sge arg0 c9_i32_0
  let v4 : BitVec 32 := Scalar.extui v3
  let c0_i32_1 : BitVec 32 := 0#32
  let v5 : BitVec 1 := Scalar.cmpi .ne v4 c0_i32_1
  v5

def k0_cond2 (i : grid0.Coords) : BitVec 1 :=
  let arg1 : BitVec 32 := BitVec.ofNat 32 (i 1).val
  let c0_i32_2 : BitVec 32 := 0#32
  let v6 : BitVec 1 := Scalar.cmpi .eq arg1 c0_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.minsi arg0 c8_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference11Ideal.lean ====
abbrev S9216x2048 : Shape := ⟨2, ![9216, 2048]⟩
abbrev S1x2048 : Shape := ⟨2, ![1, 2048]⟩
abbrev S1x2048x64 : Shape := ⟨3, ![1, 2048, 64]⟩
abbrev S_ : Shape := ⟨0, ![]⟩
abbrev S9216 : Shape := ⟨1, ![9216]⟩
abbrev S9216x1 : Shape := ⟨2, ![9216, 1]⟩
abbrev S2048 : Shape := ⟨1, ![2048]⟩
abbrev S2048x64 : Shape := ⟨2, ![2048, 64]⟩
abbrev S9216x64 : Shape := ⟨2, ![9216, 64]⟩

abbrev nBuf : Space → Nat
  | .hbm => 22
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S1x2048, .f32⟩
  | .hbm, ⟨2, _⟩ => ⟨S1x2048x64, .f32⟩
  | .hbm, ⟨3, _⟩ => ⟨S9216x2048, .f32⟩
  | .hbm, ⟨4, _⟩ => ⟨S_, .f32⟩
  | .hbm, ⟨5, _⟩ => ⟨S9216, .f32⟩
  | .hbm, ⟨6, _⟩ => ⟨S9216x1, .f32⟩
  | .hbm, ⟨7, _⟩ => ⟨S_, .f32⟩
  | .hbm, ⟨8, _⟩ => ⟨S9216x1, .f32⟩
  | .hbm, ⟨9, _⟩ => ⟨S9216x1, .f32⟩
  | .hbm, ⟨10, _⟩ => ⟨S_, .f32⟩
  | .hbm, ⟨11, _⟩ => ⟨S9216x1, .f32⟩
  | .hbm, ⟨12, _⟩ => ⟨S9216x1, .f32⟩
  | .hbm, ⟨13, _⟩ => ⟨S9216x1, .f32⟩
  | .hbm, ⟨14, _⟩ => ⟨S9216x2048, .f32⟩
  | .hbm, ⟨15, _⟩ => ⟨S9216x2048, .f32⟩
  | .hbm, ⟨16, _⟩ => ⟨S2048, .f32⟩
  | .hbm, ⟨17, _⟩ => ⟨S1x2048, .f32⟩
  | .hbm, ⟨18, _⟩ => ⟨S9216x2048, .f32⟩
  | .hbm, ⟨19, _⟩ => ⟨S9216x2048, .f32⟩
  | .hbm, ⟨20, _⟩ => ⟨S2048x64, .f32⟩
  | .hbm, ⟨21, _⟩ => ⟨S9216x64, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel12.lean ====
abbrev S128x8x1024 : Shape := ⟨3, ![128, 8, 1024]⟩
abbrev S1x2048x2048 : Shape := ⟨3, ![1, 2048, 2048]⟩
abbrev S128x8x2048 : Shape := ⟨3, ![128, 8, 2048]⟩
abbrev S1024x2048 : Shape := ⟨2, ![1024, 2048]⟩
abbrev S2048x2048 : Shape := ⟨2, ![2048, 2048]⟩
abbrev S1024x1024 : Shape := ⟨2, ![1024, 1024]⟩
abbrev S2048x1024 : Shape := ⟨2, ![2048, 1024]⟩

abbrev nBuf : Space → Nat
  | .hbm => 10
  | .vmem => 9
  | .smem => 0
  | _ => 0

abbrev bufTy : (tb : Table) → Fin (tcTables nBuf tb) → BufTy
  | .hbm, ⟨0, _⟩ => ⟨S128x8x1024, .f32⟩
  | .hbm, ⟨1, _⟩ => ⟨S128x8x1024, .f32⟩
  | .hbm, ⟨2, _⟩ => ⟨S1x2048x2048, .f32⟩
  | .hbm, ⟨3, _⟩ => ⟨S128x8x2048, .f32⟩
  | .hbm, ⟨4, _⟩ => ⟨S1024x2048, .f32⟩
  | .hbm, ⟨5, _⟩ => ⟨S2048x2048, .f32⟩
  | .hbm, ⟨6, _⟩ => ⟨S2048x2048, .bf16⟩
  | .hbm, ⟨7, _⟩ => ⟨S1024x1024, .f32⟩
  | .hbm, ⟨8, _⟩ => ⟨S1024x1024, .f32⟩
  | .hbm, ⟨9, _⟩ => ⟨S1024x2048, .f32⟩
  | .local _ .vmem, ⟨0, _⟩ => ⟨S1024x1024, .f32⟩
  | .local _ .vmem, ⟨1, _⟩ => ⟨S1024x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2048, .bf16⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg0 : BitVec 32 := BitVec.ofNat 32 (i 0).val
  let c1_i32 : BitVec 32 := 1#32
  let v0 : BitVec 1 := Scalar.cmpi .slt arg0 c1_i32
  let v1 : BitVec 32 := Scalar.extui v0
  let c0_i32 : BitVec 32 := 0#32
  let v2 : BitVec 1 := Scalar.cmpi .ne v1 c0_i32
  v2

def k0_cond3 (i : grid0.Coords) : BitVec 1 :=
  let arg0 : BitVec 32 := BitVec.ofNat 32 (i 0).val
  let c1_i32_0 : BitVec 32 := 1#32
  let v3 : BitVec 1 := Scalar.cmpi .sge arg0 c1_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.minsi arg0 c0_i32
  let c0_i32_0 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference12Ideal.lean ====
abbrev S128x8x1024 : Shape := ⟨3, ![128, 8, 1024]⟩
abbrev S1x2048x2048 : Shape := ⟨3, ![1, 2048, 2048]⟩
abbrev S128x8x2048 : Shape := ⟨3, ![128, 8, 2048]⟩
abbrev S2048x2048 : Shape := ⟨2, ![2048, 2048]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x8x1024, .f32⟩
  | .hbm, ⟨2, _⟩ => ⟨S1x2048x2048, .f32⟩
  | .hbm, ⟨3, _⟩ => ⟨S128x8x2048, .f32⟩
  | .hbm, ⟨4, _⟩ => ⟨S128x8x2048, .f32⟩
  | .hbm, ⟨5, _⟩ => ⟨S2048x2048, .f32⟩
  | .hbm, ⟨6, _⟩ => ⟨S128x8x2048, .f32⟩
  | .hbm, ⟨7, _⟩ => ⟨S128x8x2048, .f32⟩
  | .hbm, ⟨8, _⟩ => ⟨S1024x2048, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel13.lean ====
abbrev S128x8x2048 : Shape := ⟨3, ![128, 8, 2048]⟩
abbrev S1x2048 : Shape := ⟨2, ![1, 2048]⟩
abbrev S1x2048x512 : Shape := ⟨3, ![1, 2048, 512]⟩
abbrev S1024x2048 : Shape := ⟨2, ![1024, 2048]⟩
abbrev S2048x512 : Shape := ⟨2, ![2048, 512]⟩
abbrev S2048 : Shape := ⟨1, ![2048]⟩
abbrev S1024x512 : Shape := ⟨2, ![1024, 512]⟩
abbrev S1024 : Shape := ⟨1, ![1024]⟩
abbrev S1024x1 : Shape := ⟨2, ![1024, 1]⟩

abbrev nBuf : Space → Nat
  | .hbm => 9
  | .vmem => 5
  | .smem => 0
  | _ => 0

abbrev bufTy : (tb : Table) → Fin (tcTables nBuf tb) → BufTy
  | .hbm, ⟨0, _⟩ => ⟨S128x8x2048, .f32⟩
  | .hbm, ⟨1, _⟩ => ⟨S1x2048, .f32⟩
  | .hbm, ⟨2, _⟩ => ⟨S1x2048x512, .f32⟩
  | .hbm, ⟨3, _⟩ => ⟨S1024x2048, .f32⟩
  | .hbm, ⟨4, _⟩ => ⟨S2048x512, .f32⟩
  | .hbm, ⟨5, _⟩ => ⟨S2048x512, .bf16⟩
  | .hbm, ⟨6, _⟩ => ⟨S2048, .f32⟩
  | .hbm, ⟨7, _⟩ => ⟨S1x2048, .f32⟩
  | .hbm, ⟨8, _⟩ => ⟨S1024x512, .f32⟩
  | .local _ .vmem, ⟨0, _⟩ => ⟨S1024x2048, .f32⟩
  | .local _ .vmem, ⟨1, _⟩ => ⟨S1x2048, .f32⟩
  | .local _ .vmem, ⟨2, _⟩ => ⟨S2048x512, .bf16⟩
  | .local _ .vmem, ⟨3, _⟩ => ⟨S1024x512, .f32⟩
  | .local _ .vmem, ⟨4, _⟩ => ⟨S1024x2048, .bf16⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c1_i32 : BitVec 32 := 1#32
  let v0 : BitVec 1 := Scalar.cmpi .slt arg0 c1_i32
  let v1 : BitVec 32 := Scalar.extui v0
  let c0_i32 : BitVec 32 := 0#32
  let v2 : BitVec 1 := Scalar.cmpi .ne v1 c0_i32
  v2

def k0_cond3 (i : grid0.Coords) : BitVec 1 :=
  let arg0 : BitVec 32 := BitVec.ofNat 32 (i 0).val
  let c1_i32_0 : BitVec 32 := 1#32
  let v3 : BitVec 1 := Scalar.cmpi .sge arg0 c1_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== Reference13Ideal.lean ====
abbrev S128x8x2048 : Shape := ⟨3, ![128, 8, 2048]⟩
abbrev S1x2048 : Shape := ⟨2, ![1, 2048]⟩
abbrev S1x2048x512 : Shape := ⟨3, ![1, 2048, 512]⟩
abbrev S1024x2048 : Shape := ⟨2, ![1024, 2048]⟩
abbrev S2048 : Shape := ⟨1, ![2048]⟩
abbrev S_ : Shape := ⟨0, ![]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩

abbrev nBuf : Space → Nat
  | .hbm => 23
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S1x2048, .f32⟩
  | .hbm, ⟨2, _⟩ => ⟨S1x2048x512, .f32⟩
  | .hbm, ⟨3, _⟩ => ⟨S1024x2048, .f32⟩
  | .hbm, ⟨4, _⟩ => ⟨S2048, .f32⟩
  | .hbm, ⟨5, _⟩ => ⟨S1024x2048, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024x2048, .f32⟩
  | .hbm, ⟨17, _⟩ => ⟨S1024x2048, .f32⟩
  | .hbm, ⟨18, _⟩ => ⟨S1x2048, .f32⟩
  | .hbm, ⟨19, _⟩ => ⟨S1024x2048, .f32⟩
  | .hbm, ⟨20, _⟩ => ⟨S1024x2048, .f32⟩
  | .hbm, ⟨21, _⟩ => ⟨S2048x512, .f32⟩
  | .hbm, ⟨22, _⟩ => ⟨S1024x512, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.KernelBody.lean ====
/- The kernel body in two pieces: filling the scratch buffers at a head's first query tile, and the part every tile runs. -/
module

public import proofs.«01_k».proof.Proof.Gen.Kernel.Skeleton
public import proofs.«01_k».proof.Proof.Gen.Kernel.Loops
public import proofs.«01_k».proof.Proof.Gen.Kernel.Frame
public import Idealize.ShloMosaic.Lib.VecWindow

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body does at a head's first query tile: it copies the head's keys and values to the two whole-head outputs,
    narrows them into the scratch buffers, and fills the triangular mask. -/
def guardProg (arg2 : Memref sig .tc .smem S8 .f32) (harg2 : arg2.IsWhole) (arg3 : Memref sig .tc .vmem S512x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S256x256 .bf16) (harg12 : arg12.IsWhole) :
    Prog (TpuEff nD τ sig (Elt F) Λ₀ .tc) PUnit := do
  let v288 : Vec F S8192x128 .f32 ← Prog.lift (.load arg4 (Rect.unit (s := S8192x128) ![0, 0] S8192x128.size inb_S8192x128_S8192x128_0_0).toLoadRect (View.loadsAt_vmem h_S8192x128))
  let v289 : Vec F S8192x128 .f32 ← Prog.lift (.load arg5 (Rect.unit (s := S8192x128) ![0, 0] S8192x128.size inb_S8192x128_S8192x128_0_0).toLoadRect (View.loadsAt_vmem h_S8192x128))
  let v290 : Vec F S8192x128 .f32 ← Prog.lift (.load arg8 (Rect.unit (s := S8192x128) ![0, 0] S8192x128.size inb_S8192x128_S8192x128_0_0).toLoadRect (View.loadsAt_vmem h_S8192x128))
  Prog.lift (.store arg8 (Rect.unit (s := S8192x128) ![0, 0] S8192x128.size inb_S8192x128_S8192x128_0_0) v288 Finset.univ (View.stores_vmem_bits_univ h_S8192x128 rfl) (.inl rfl))
  let v291 : Vec F S8192x128 .f32 ← Prog.lift (.load arg9 (Rect.unit (s := S8192x128) ![0, 0] S8192x128.size inb_S8192x128_S8192x128_0_0).toLoadRect (View.loadsAt_vmem h_S8192x128))
  Prog.lift (.store arg9 (Rect.unit (s := S8192x128) ![0, 0] S8192x128.size inb_S8192x128_S8192x128_0_0) v289 Finset.univ (View.stores_vmem_bits_univ h_S8192x128 rfl) (.inl rfl))
  let v293 : Vec F S8192x128 .bf16 ← Prog.lift (.load arg10 (Rect.unit (s := S8192x128) ![0, 0] S8192x128.size inb_S8192x128_S8192x128_0_0).toLoadRect (View.loadsAt_vmem h_S8192x128))
  Prog.lift (.store arg10 (Rect.unit (s := S8192x128) ![0, 0] S8192x128.size inb_S8192x128_S8192x128_0_0) (k0_pay38 v288) Finset.univ (View.stores_vmem h_S8192x128 (harg10.storeExact_slice rfl _ packedbf16_S8192x128_S8192x128_0_0) (fun _ => rfl)) (.inl rfl))
  let v297 : Vec F S8192x128 .bf16 ← Prog.lift (.load arg11 (Rect.unit (s := S8192x128) ![0, 0] S8192x128.size inb_S8192x128_S8192x128_0_0).toLoadRect (View.loadsAt_vmem h_S8192x128))
  Prog.lift (.store arg11 (Rect.unit (s := S8192x128) ![0, 0] S8192x128.size inb_S8192x128_S8192x128_0_0) (k0_pay39 v289) Finset.univ (View.stores_vmem h_S8192x128 (harg11.storeExact_slice rfl _ packedbf16_S8192x128_S8192x128_0_0) (fun _ => rfl)) (.inl rfl))
  let v307 : Vec F S256x256 .bf16 ← Prog.lift (.load arg12 (Rect.unit (s := S256x256) ![0, 0] S256x256.size inb_S256x256_S256x256_0_0).toLoadRect (View.loadsAt_vmem h_S256x256))
  Prog.lift (.store arg12 (Rect.unit (s := S256x256) ![0, 0] S256x256.size inb_S256x256_S256x256_0_0) (k0_pay40 (F := F)) Finset.univ (View.stores_vmem h_S256x256 (harg12.storeExact_slice rfl _ packedbf16_S256x256_S256x256_0_0) (fun _ => rfl)) (.inl rfl))
  pure ⟨⟩

/-- What the body does at every query tile, once the scratch buffers hold the head's keys, values and mask. -/
def restProg (i : grid0.Coords) (arg2 : Memref sig .tc .smem S8 .f32) (harg2 : arg2.IsWhole) (arg3 : Memref sig .tc .vmem S512x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S256x256 .bf16) (harg12 : arg12.IsWhole) :
    Prog (TpuEff nD τ sig (Elt F) Λ₀ .tc) PUnit := do
  let arg1 : BitVec 32 := BitVec.ofNat 32 (i 1).val
  let v3 : Vec F S512x128 .f32 ← Prog.lift (.load arg3 (Rect.unit (s := S512x128) ![0, 0] S512x128.size inb_S512x128_S512x128_0_0).toLoadRect (View.loadsAt_vmem h_S512x128))
  let v8 : Elt F .f32 ← smemLoad arg2 (Rect.unit (s := S8) (k0_off1 i) S1.size (k0_off1_inb i)) numel1_S1 rfl
  let v10 : Vec F S256x256 .bf16 ← Prog.lift (.load arg12 (Rect.unit (s := S256x256) ![0, 0] S256x256.size inb_S256x256_S256x256_0_0).toLoadRect (View.loadsAt_vmem h_S256x256))
  have v11 : IVec S512x256 32 := iota .tc S512x256 32 [0] iota_S512x256_d0_w32
  have v12 : IVec S512x256 32 := iota .tc S512x256 32 [1] iota_S512x256_d1_w32
  let v23 : Vec F S256x128 .bf16 ← Prog.lift (.load arg10 (Rect.unit (s := S8192x128) (k0_off2 i 1#32) S256x128.size (k0_off2_inb i 1)).toLoadRect (View.loadsAt_vmem h_S256x128))
  have cst_13 : F .f32 := Scalar.ofBits .f32 0x3FB8AA3B#32
  have v6 : FVec F S512x128 .bf16 := k0_pay41 v3
  have v9 : F .f32 := k0_pay42 v8
  have v13 : FVec F S512x128 .f32 := k0_pay43 (F := F)
  have v14 : FVec F S512x1 .f32 := k0_pay44 (F := F)
  have v17 : IVec S512x256 1 := k0_pay45
  have v26 : FVec F S512x256 .f32 := k0_pay46 v3 v8 v23
  have v27 : FVec F S128x256 .f32 := k0_pay47 v3 v8 v23
  have v29 : FVec F S128x256 .f32 := k0_pay48 v3 v8 v23
  have v36 : FVec F S128x256 .f32 := k0_pay49 v3 v8 v23
  let ⟨v47, v48, v69, v70, v71, v73, v82⟩ : Σ' (v47 : FVec F S128x1 .f32) (v48 : FVec F S128x256 .f32) (v69 : FVec F S128x1 .f32) (v70 : FVec F S128x256 .f32) (v71 : FVec F S128x256 .f32) (v73 : FVec F S128x256 .f32), FVec F S128x256 .f32 ← k0_part6 i arg2 harg2 arg3 harg3 arg4 harg4 arg5 harg5 arg6 harg6 arg7 harg7 arg8 harg8 arg9 harg9 arg10 harg10 arg11 harg11 arg12 harg12 v10 v17 v26 v27 v29 v36 cst_13
  let ⟨v116, v124⟩ : Σ' (v116 : FVec F S512x1 .f32), FVec F S512x256 .bf16 ← k0_part7 i arg2 harg2 arg3 harg3 arg4 harg4 arg5 harg5 arg6 harg6 arg7 harg7 arg8 harg8 arg9 harg9 arg10 harg10 arg11 harg11 arg12 harg12 arg1 v10 v14 v17 v26 v47 v48 v69 v70 v71 v73 v82
  let ⟨v130, v131, v134, v143, v164, v165, v166, v168, v171⟩ : Σ' (v130 : FVec F S512x128 .f32) (v131 : FVec F S512x1 .f32) (v134 : IVec S512x256 1) (v143 : FVec F S512x256 .f32) (v164 : FVec F S128x1 .f32) (v165 : FVec F S128x256 .f32) (v166 : FVec F S128x256 .f32) (v168 : FVec F S128x256 .f32), FVec F S128x256 .f32 ← k0_part8 i arg2 harg2 arg3 harg3 arg4 harg4 arg5 harg5 arg6 harg6 arg7 harg7 arg8 harg8 arg9 harg9 arg10 harg10 arg11 harg11 arg12 harg12 arg1 v6 v9 v10 v11 v12 v13 v14 v116 v124
  let ⟨v186, v187, v208, v209, v210, v212, v216, cst_73⟩ : Σ' (v186 : FVec F S128x1 .f32) (v187 : FVec F S128x256 .f32) (v208 : FVec F S128x1 .f32) (v209 : FVec F S128x256 .f32) (v210 : FVec F S128x256 .f32) (v212 : FVec F S128x256 .f32) (v216 : FVec F S128x256 .f32), F .f32 ← k0_part9 i arg2 harg2 arg3 harg3 arg4 harg4 arg5 harg5 arg6 harg6 arg7 harg7 arg8 harg8 arg9 harg9 arg10 harg10 arg11 harg11 arg12 harg12 v10 v134 v143 v166 v168 v171
  let ⟨v247, v248, v249, v250, v259⟩ : Σ' (v247 : FVec F S512x128 .f32) (v248 : FVec F S512x1 .f32) (v249 : BitVec 32) (v250 : FVec F S512x256 .f32), FVec F S512x256 .f32 ← k0_part10 i arg2 harg2 arg3 harg3 arg4 harg4 arg5 harg5 arg6 harg6 arg7 harg7 arg8 harg8 arg9 harg9 arg10 harg10 arg11 harg11 arg12 harg12 arg1 v6 v9 v10 v130 v131 v134 v164 v165 v186 v187 v208 v209 v210 v212 v216 cst_73
  let v260 : BitVec 32 := Scalar.addi v249 1#32
  let v261 : BitVec 32 := Scalar.subi v260 1#32
  let v263 : BitVec 32 := Scalar.divsi v261 1#32
  let v264 : BitVec 32 := Scalar.muli v263 1#32
  let v265 : BitVec 32 := Scalar.addi 1#32 v264
  let (v266_0, v266_1, v266_2, v266_3) ← Scf.Loop.for (k0_t1_loop i) (k0_t1_ok i) (v259, v250, v247, v248) (k0_t1_body i arg2 harg2 arg3 harg3 arg4 harg4 arg5 harg5 arg6 harg6 arg7 harg7 arg8 harg8 arg9 harg9 arg10 harg10 arg11 harg11 arg12 harg12 v6 v9 v10 v249)
  let (v267_0, v267_1, v267_2, v267_3) ← Scf.Loop.for (k0_t2_loop i) (k0_t2_ok i) (v266_0, v266_1, v266_2, v266_3) (k0_t2_body i arg2 harg2 arg3 harg3 arg4 harg4 arg5 harg5 arg6 harg6 arg7 harg7 arg8 harg8 arg9 harg9 arg10 harg10 arg11 harg11 arg12 harg12 v6 v9 v10 v249 v265)
  let v270 : Vec F S256x128 .bf16 ← Prog.lift (.load arg11 (Rect.unit (s := S8192x128) ![0, 0] S256x128.size inb_S8192x128_S256x128_0_0).toLoadRect (View.loadsAt_vmem h_S256x128))
  let v273 : Vec F S1x128 .f32 ← Prog.lift (.load arg6 (Rect.unit (s := S1x128) ![0, 0] S1x128.size inb_S1x128_S1x128_0_0).toLoadRect (View.loadsAt_vmem h_S1x128))
  let v287 : Vec F S512x128 .f32 ← Prog.lift (.load arg7 (Rect.unit (s := S512x128) ![0, 0] S512x128.size inb_S512x128_S512x128_0_0).toLoadRect (View.loadsAt_vmem h_S512x128))
  Prog.lift (.store arg7 (Rect.unit (s := S512x128) ![0, 0] S512x128.size inb_S512x128_S512x128_0_0) (k0_pay7 v267_1 v267_2 v270 v273) Finset.univ (View.stores_vmem_bits_univ h_S512x128 rfl) (.inl rfl))
  pure ⟨⟩

/-- At a head's first tile the body is the filling of the scratch buffers followed by the common part. -/
theorem body_eq_first (i : grid0.Coords) (arg2 : Memref sig .tc .smem S8 .f32) (harg2 : arg2.IsWhole) (arg3 : Memref sig .tc .vmem S512x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S256x256 .bf16) (harg12 : arg12.IsWhole) (hc : k0_cond1 i = 1#1) :
    cc0_stick_breaking_prompt_skel (F := F) i arg2 harg2 arg3 harg3 arg4 harg4 arg5 harg5 arg6 harg6 arg7 harg7 arg8 harg8 arg9 harg9 arg10 harg10 arg11 harg11 arg12 harg12
      = (guardProg arg2 harg2 arg3 harg3 arg4 harg4 arg5 harg5 arg6 harg6 arg7 harg7 arg8 harg8 arg9 harg9 arg10 harg10 arg11 harg11 arg12 harg12 >>= fun _ => restProg i arg2 harg2 arg3 harg3 arg4 harg4 arg5 harg5 arg6 harg6 arg7 harg7 arg8 harg8 arg9 harg9 arg10 harg10 arg11 harg11 arg12 harg12) := by
  unfold cc0_stick_breaking_prompt_skel guardProg restProg
  simp only [k0_part5_eq_skeleton]
  unfold k0_part5_skel
  rw [dif_pos hc]
  rfl

/-- At a head's other tiles the body is the common part. -/
theorem body_eq_later (i : grid0.Coords) (arg2 : Memref sig .tc .smem S8 .f32) (harg2 : arg2.IsWhole) (arg3 : Memref sig .tc .vmem S512x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S256x256 .bf16) (harg12 : arg12.IsWhole) (hc : ¬k0_cond1 i = 1#1) :
    cc0_stick_breaking_prompt_skel (F := F) i arg2 harg2 arg3 harg3 arg4 harg4 arg5 harg5 arg6 harg6 arg7 harg7 arg8 harg8 arg9 harg9 arg10 harg10 arg11 harg11 arg12 harg12
      = restProg i arg2 harg2 arg3 harg3 arg4 harg4 arg5 harg5 arg6 harg6 arg7 harg7 arg8 harg8 arg9 harg9 arg10 harg10 arg11 harg11 arg12 harg12 := by
  unfold cc0_stick_breaking_prompt_skel restProg
  simp only [k0_part5_eq_skeleton]
  unfold k0_part5_skel
  rw [dif_neg hc]
  rfl

/-- The first tile's filling, run: the whole-head outputs end at the head's keys and values, the scratch buffers at their
    narrowed copies and at the mask. -/
theorem guard_run (c : Dev nD) (arg2 : Memref sig .tc .smem S8 .f32) (harg2 : arg2.IsWhole) (arg3 : Memref sig .tc .vmem S512x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S256x256 .bf16) (harg12 : arg12.IsWhole)
    (x2 : Vec F S8192x128 .f32) (x3 : Vec F S8192x128 .f32) (E : Set ℕ) (K : PUnit → sProp 𝕄) :
    iprop(owns (c : Thread nD τ) arg4 fullShare x2 ∗ owns (c : Thread nD τ) arg5 fullShare x3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg4 fullShare x2 ∗ owns (c : Thread nD τ) arg5 fullShare x3 ∗ owns (c : Thread nD τ) arg8 fullShare x2 ∗ owns (c : Thread nD τ) arg9 fullShare x3 ∗ owns (c : Thread nD τ) arg10 fullShare (k0_pay38 x2) ∗ owns (c : Thread nD τ) arg11 fullShare (k0_pay39 x3) ∗ owns (c : Thread nD τ) arg12 fullShare (k0_pay40 (F := F))) -∗ K ⟨⟩))
      ⊢ wp frame (wpE (defs₀ (F := F)) Variants.none c none) E (guardProg arg2 harg2 arg3 harg3 arg4 harg4 arg5 harg5 arg6 harg6 arg7 harg7 arg8 harg8 arg9 harg9 arg10 harg10 arg11 harg11 arg12 harg12) K := by
  unfold guardProg
  unfold owns
  iintro ⟨⟨%f2, %hf2, H2⟩, ⟨%f3, %hf3, H3⟩, ⟨%d6, %f6, -, H6⟩, ⟨%d7, %f7, -, H7⟩, ⟨%ds0, %fs0, -, HS0⟩, ⟨%ds1, %fs1, -, HS1⟩, ⟨%ds2, %fs2, -, HS2⟩, Hk⟩
  obtain rfl := harg4.eq_unread hf2; obtain rfl := harg5.eq_unread hf3
  sl_exec
  sl_step
  iapply Hk
  isplitl [H2]
  · iexists _; isplitr; · ipureintro; exact harg4.read_unread _
    iexact H2
  isplitl [H3]
  · iexists _; isplitr; · ipureintro; exact harg5.read_unread _
    iexact H3
  isplitl [H6]
  · iexists _; isplitr; swap; · iexact H6
    ipureintro; rw [View.read_writes_full, View.readAt_full]; exact hf2
  isplitl [H7]
  · iexists _; isplitr; swap; · iexact H7
    ipureintro; rw [View.read_writes_full, View.readAt_full]; exact hf3
  isplitl [HS0]
  · iexists _; isplitr; swap; · iexact HS0
    ipureintro; rw [View.read_writes_full, View.readAt_full, hf2]
  isplitl [HS1]
  · iexists _; isplitr; swap; · iexact HS1
    ipureintro; rw [View.read_writes_full, View.readAt_full, hf3]
  · iexists _; isplitr; swap; · iexact HS2
    ipureintro; rw [View.read_writes_full]

/-- The part every tile runs, run: the scratch buffers and the inputs stay as they were. -/
theorem rest_run (c : Dev nD) (i : grid0.Coords) (arg2 : Memref sig .tc .smem S8 .f32) (harg2 : arg2.IsWhole) (arg3 : Memref sig .tc .vmem S512x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S256x256 .bf16) (harg12 : arg12.IsWhole)
    (x0 : Vec F S8 .f32) (x1 : Vec F S512x128 .f32) (x4 : Vec F S1x128 .f32) (kb vb : Vec F S8192x128 .bf16) (T : Vec F S256x256 .bf16)
    (E : Set ℕ) (K : PUnit → sProp 𝕄) :
    iprop(owns (c : Thread nD τ) arg2 fullShare x0 ∗ owns (c : Thread nD τ) arg3 fullShare x1 ∗ owns (c : Thread nD τ) arg6 fullShare x4 ∗ (∃ d, owns (c : Thread nD τ) arg7 fullShare d) ∗ owns (c : Thread nD τ) arg10 fullShare kb ∗ owns (c : Thread nD τ) arg11 fullShare vb ∗ owns (c : Thread nD τ) arg12 fullShare T
        ∗ (iprop(owns (c : Thread nD τ) arg2 fullShare x0 ∗ owns (c : Thread nD τ) arg3 fullShare x1 ∗ owns (c : Thread nD τ) arg6 fullShare x4 ∗ (∃ d, owns (c : Thread nD τ) arg7 fullShare d) ∗ owns (c : Thread nD τ) arg10 fullShare kb ∗ owns (c : Thread nD τ) arg11 fullShare vb ∗ owns (c : Thread nD τ) arg12 fullShare T) -∗ K ⟨⟩))
      ⊢ wp frame (wpE (defs₀ (F := F)) Variants.none c none) E (restProg i arg2 harg2 arg3 harg3 arg4 harg4 arg5 harg5 arg6 harg6 arg7 harg7 arg8 harg8 arg9 harg9 arg10 harg10 arg11 harg11 arg12 harg12) K := by
  unfold restProg
  simp only [k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f4, %hf4, H4⟩, ⟨%d5, %f5, -, H5⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg6.eq_unread hf4
  obtain rfl := harg10.eq_unread hfs0; obtain rfl := harg11.eq_unread hfs1; obtain rfl := harg12.eq_unread hfs2
  sl_exec
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  isplitl [H5]
  · iexists _, _; isplitr; swap; · iexact H5
    ipureintro; rfl
  isplitl [HS0]
  · iexists _; isplitr; · ipureintro; exact hfs0
    iexact HS0
  isplitl [HS1]
  · iexists _; isplitr; · ipureintro; exact hfs1
    iexact HS1
  · iexists _; isplitr; · ipureintro; exact hfs2
    iexact HS2

end Cert.Kernel.Hand

end
-- ==== Proof.KernelFrame.lean ====
/- The launch of the kernel: every run terminates, the arguments end as they began and every semaphore at zero. -/
module

public import proofs.«01_k».proof.Proof.KernelBody
public import Idealize.ShloMosaic.Lib.Pipeline.TableIdle
public import Idealize.ShloMosaic.Lib.Pipeline.Value
public import Idealize.ShloMosaic.Lib.Claim
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of the grid -/

/-- Point `t`'s first coordinate is its head, -/
theorem coords0 (t : Fin cfg0.N) : (grid0.coords t 0).val = t.val / 16 := by
  have ht : t.val < 128 := Nat.lt_of_lt_of_eq t.isLt N_0
  have e0 : (grid0.coords t 0).val = t.val / 16 % 8 := Pipeline.Grid.coords_val t 0 (by decide) rfl
  rw [e0]; omega

/-- and its second the query tile. -/
theorem coords1 (t : Fin cfg0.N) : (grid0.coords t 1).val = t.val % 16 := by
  have e1 : (grid0.coords t 1).val = t.val / 1 % 16 := Pipeline.Grid.coords_val t 1 (by decide) rfl
  rw [e1, Nat.div_one]

/-- The scratch buffers are filled at each head's first tile. -/
theorem hcond0_0 (t : Fin cfg0.N) : k0_cond1 (grid0.coords t) = 1#1 ↔ t.val % 16 = 0 := by
  have ht : t.val < 128 := Nat.lt_of_lt_of_eq t.isLt N_0
  have e1 : (grid0.coords t 1).val = t.val / 1 % 16 := Pipeline.Grid.coords_val t 1 (by decide) rfl
  simp only [k0_cond1, e1]
  word_cmp

/-! ## The staging and scratch buffers at a point -/

/-- Window 0 is an input: no point leaves it idle. -/
theorem liveAt0_0 : ∀ t : Fin cfg0.N, cfg0.idle 0 (grid0.coords t) = false := fun _ => rfl
/-- Window 1 is an input: no point leaves it idle. -/
theorem liveAt0_1 : ∀ t : Fin cfg0.N, cfg0.idle 1 (grid0.coords t) = false := fun _ => rfl
/-- Window 2 is an input: no point leaves it idle. -/
theorem liveAt0_2 : ∀ t : Fin cfg0.N, cfg0.idle 2 (grid0.coords t) = false := fun _ => rfl
/-- Window 3 is an input: no point leaves it idle. -/
theorem liveAt0_3 : ∀ t : Fin cfg0.N, cfg0.idle 3 (grid0.coords t) = false := fun _ => rfl
/-- Window 4 is an input: no point leaves it idle. -/
theorem liveAt0_4 : ∀ t : Fin cfg0.N, cfg0.idle 4 (grid0.coords t) = false := fun _ => rfl
/-- The tile of the output is written at every point. -/
theorem liveAt0_5 : ∀ t : Fin cfg0.N, cfg0.idle 5 (grid0.coords t) = false := fun _ => rfl
/-- Window 0's current buffer at point `t`, and that it is a whole buffer. -/
abbrev ms0_0 (t : Fin cfg0.N) : Memref sig .tc .smem S8 .f32 := win0_0.stage (cfg0.slots t 0)
abbrev hs0_0 (t : Fin cfg0.N) : (ms0_0 t).IsWhole := hstage0_0 ((cfg0.slots t 0).cast nbuf0_0)
/-- Window 1's current buffer at point `t`, and that it is a whole buffer. -/
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
/-- Window 2's current buffer at point `t`, and that it is a whole buffer. -/
abbrev ms0_2 (t : Fin cfg0.N) : Memref sig .tc .vmem S8192x128 .f32 := win0_2.stage (cfg0.slots t 2)
abbrev hs0_2 (t : Fin cfg0.N) : (ms0_2 t).IsWhole := hstage0_2 ((cfg0.slots t 2).cast nbuf0_2)
/-- Window 3's current buffer at point `t`, and that it is a whole buffer. -/
abbrev ms0_3 (t : Fin cfg0.N) : Memref sig .tc .vmem S8192x128 .f32 := win0_3.stage (cfg0.slots t 3)
abbrev hs0_3 (t : Fin cfg0.N) : (ms0_3 t).IsWhole := hstage0_3 ((cfg0.slots t 3).cast nbuf0_3)
/-- Window 4's current buffer at point `t`, and that it is a whole buffer. -/
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
/-- Window 5's current buffer at point `t`, and that it is a whole buffer. -/
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
/-- Window 6's current buffer at point `t`, and that it is a whole buffer. -/
abbrev ms0_6 (t : Fin cfg0.N) : Memref sig .tc .vmem S8192x128 .f32 := win0_6.stage (cfg0.slots t 6)
abbrev hs0_6 (t : Fin cfg0.N) : (ms0_6 t).IsWhole := hstage0_6 ((cfg0.slots t 6).cast nbuf0_6)
/-- Window 7's current buffer at point `t`, and that it is a whole buffer. -/
abbrev ms0_7 (t : Fin cfg0.N) : Memref sig .tc .vmem S8192x128 .f32 := win0_7.stage (cfg0.slots t 7)
abbrev hs0_7 (t : Fin cfg0.N) : (ms0_7 t).IsWhole := hstage0_7 ((cfg0.slots t 7).cast nbuf0_7)
/-- The scratch buffers: the narrowed keys, the narrowed values, the triangular mask. -/
abbrev scM0_0 : Memref sig .tc .vmem S8192x128 .bf16 := Memref.whole cc0_scratch0
abbrev scM0_1 : Memref sig .tc .vmem S8192x128 .bf16 := Memref.whole cc0_scratch1
abbrev scM0_2 : Memref sig .tc .vmem S256x256 .bf16 := Memref.whole cc0_scratch2

/-- What the launch hands the region: each scratch buffer at some contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The pipeline's proof data -/

/-- The three outputs are left unnamed: the claim says nothing of what they hold. -/
def forgets0 : Fin 8 → Bool := fun w => w.val == 5 || w.val == 6 || w.val == 7

/-- The proof data of the pipeline on core `c`: the arrays as the region finds them; after the body each input's buffer at
    its block; the scratch buffers at anything throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q w := Pipeline.shareOf spec0 w
  owed _ := 0

/-- The arrays of the proof data are those the region finds. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-! Each input's current buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body, at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 3200000 in
/-- The body at any point: at a head's first tile it fills the scratch buffers and then runs the common part, at the others
    the common part alone. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).Φ t.succ = Pipeline.ΦA spec0 c from rfl, show (dats m 0 c).Φ t.castSucc = Pipeline.ΦA spec0 c from rfl, PhiA0_eq]
  rw [cc0_stick_breaking_prompt_eq_skeleton]
  by_cases h0 : t.val % 16 = 0
  · rw [body_eq_first _ _ _ _ _ _ _ _ _ _ _ _ _ _ _ _ _ _ _ _ _ _ _ ((hcond0_0 t).mpr h0), wp_bind]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (guard_run c _ _ _ _ _ _ _ _ _ _ _ _ _ _ _ _ _ _ _ _ _ _ (iblk m c 2 t) (iblk m c 3 t) Set.univ _)
    isplitl [H2]; · iexact H2
    isplitl [H3]; · iexact H3
    isplitl [H6]; · iexists _; iexact H6
    isplitl [H7]; · iexists _; iexact H7
    isplitl [HS0]; · iexact HS0
    isplitl [HS1]; · iexact HS1
    isplitl [HS2]; · iexact HS2
    iintro ⟨H2, H3, H6, H7, HS0, HS1, HS2⟩
    iapply (rest_run c (grid0.coords t) _ _ _ _ _ _ _ _ _ _ _ _ _ _ _ _ _ _ _ _ _ _ (iblk m c 0 t) (iblk m c 1 t) (iblk m c 4 t) _ _ _ Set.univ _)
    isplitl [H0]; · iexact H0
    isplitl [H1]; · iexact H1
    isplitl [H4]; · iexact H4
    isplitl [H5]; · iexists _; iexact H5
    isplitl [HS0]; · iexact HS0
    isplitl [HS1]; · iexact HS1
    isplitl [HS2]; · iexact HS2
    iintro ⟨H0, H1, H4, H5, HS0, HS1, HS2⟩
    isplitl [HS0 HS1 HS2 Hg]
    · isplitl [HS0 HS1 HS2]
      · isplitl [HS0]; · iexists _; iexact HS0
        isplitl [HS1]; · iexists _; iexact HS1
        iexists _; iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · rw [body_eq_later _ _ _ _ _ _ _ _ _ _ _ _ _ _ _ _ _ _ _ _ _ _ _ (fun h => h0 ((hcond0_0 t).mp h))]
    iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩, H6, H7⟩
    iapply (rest_run c (grid0.coords t) _ _ _ _ _ _ _ _ _ _ _ _ _ _ _ _ _ _ _ _ _ _ (iblk m c 0 t) (iblk m c 1 t) (iblk m c 4 t) s0 s1 s2 Set.univ _)
    isplitl [H0]; · iexact H0
    isplitl [H1]; · iexact H1
    isplitl [H4]; · iexact H4
    isplitl [H5]; · iexists _; iexact H5
    isplitl [HS0]; · iexact HS0
    isplitl [HS1]; · iexact HS1
    isplitl [HS2]; · iexact HS2
    iintro ⟨H0, H1, H4, H5, HS0, HS1, HS2⟩
    isplitl [HS0 HS1 HS2 Hg]
    · isplitl [HS0 HS1 HS2]
      · isplitl [HS0]; · iexists _; iexact HS0
        isplitl [HS1]; · iexists _; iexact HS1
        iexists _; iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t` is the body as spelled above. -/
theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region is the invariant before the first point, -/
theorem hin (c : Dev nD) : Pipeline.ΦA spec0 c ⊢ (dats m 0 c).Φ 0 :=
  Idealize.SL.BI.Entails.refl _

/-- and what it takes back is the invariant after the last. -/
theorem hout (c : Dev nD) : (dats m 0 c).Φ (Fin.last cfg0.N) ⊢ Pipeline.ΦA spec0 c :=
  Idealize.SL.BI.Entails.refl _

/-! ## The run and the frame -/

-- the launch theorem's implicit arguments are found by unifying its conclusion with this one
set_option backward.isDefEq.respectTransparency.types false in
/-- The launch: the pipeline's arrays end as its proof data says, and every semaphore at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1.arr_in c 3 rfl).trans ((A_eq m c 3).trans (V_main_arg0 m c)),
      (h.1.arr_in c 0 rfl).trans ((A_eq m c 0).trans (V_main_arg1 m c)),
      ((h.1 c).2 main_arg2 (Pipeline.mem_restRefs_of main_arg2 (by decide) (by decide))).trans (V_main_arg2 m c)⟩) (run_main_quiescent m ρ)

/-- The frame: every run terminates, with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Hand

end
-- ==== Proof.KernelIdealBody.lean ====
/- The kernel body in two pieces: filling the scratch buffers at a head's first query tile, and the part every tile runs. -/
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the body does at a head's first query tile: it copies the head's keys and values to the two whole-head outputs,
    narrows them into the scratch buffers, and fills the triangular mask. -/
def guardProg (arg2 : Memref sig .tc .smem S8 .f32) (harg2 : arg2.IsWhole) (arg3 : Memref sig .tc .vmem S512x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S256x256 .bf16) (harg12 : arg12.IsWhole) :
    Prog (TpuEff nD τ sig (Elt F) Λ₀ .tc) PUnit := do
  let v288 : Vec F S8192x128 .f32 ← Prog.lift (.load arg4 (Rect.unit (s := S8192x128) ![0, 0] S8192x128.size inb_S8192x128_S8192x128_0_0).toLoadRect (View.loadsAt_vmem h_S8192x128))
  let v289 : Vec F S8192x128 .f32 ← Prog.lift (.load arg5 (Rect.unit (s := S8192x128) ![0, 0] S8192x128.size inb_S8192x128_S8192x128_0_0).toLoadRect (View.loadsAt_vmem h_S8192x128))
  let v290 : Vec F S8192x128 .f32 ← Prog.lift (.load arg8 (Rect.unit (s := S8192x128) ![0, 0] S8192x128.size inb_S8192x128_S8192x128_0_0).toLoadRect (View.loadsAt_vmem h_S8192x128))
  Prog.lift (.store arg8 (Rect.unit (s := S8192x128) ![0, 0] S8192x128.size inb_S8192x128_S8192x128_0_0) v288 Finset.univ (View.stores_vmem_bits_univ h_S8192x128 rfl) (.inl rfl))
  let v291 : Vec F S8192x128 .f32 ← Prog.lift (.load arg9 (Rect.unit (s := S8192x128) ![0, 0] S8192x128.size inb_S8192x128_S8192x128_0_0).toLoadRect (View.loadsAt_vmem h_S8192x128))
  Prog.lift (.store arg9 (Rect.unit (s := S8192x128) ![0, 0] S8192x128.size inb_S8192x128_S8192x128_0_0) v289 Finset.univ (View.stores_vmem_bits_univ h_S8192x128 rfl) (.inl rfl))
  let v293 : Vec F S8192x128 .bf16 ← Prog.lift (.load arg10 (Rect.unit (s := S8192x128) ![0, 0] S8192x128.size inb_S8192x128_S8192x128_0_0).toLoadRect (View.loadsAt_vmem h_S8192x128))
  Prog.lift (.store arg10 (Rect.unit (s := S8192x128) ![0, 0] S8192x128.size inb_S8192x128_S8192x128_0_0) (k0_pay38 v288) Finset.univ (View.stores_vmem h_S8192x128 (harg10.storeExact_slice rfl _ packedbf16_S8192x128_S8192x128_0_0) (fun _ => rfl)) (.inl rfl))
  let v297 : Vec F S8192x128 .bf16 ← Prog.lift (.load arg11 (Rect.unit (s := S8192x128) ![0, 0] S8192x128.size inb_S8192x128_S8192x128_0_0).toLoadRect (View.loadsAt_vmem h_S8192x128))
  Prog.lift (.store arg11 (Rect.unit (s := S8192x128) ![0, 0] S8192x128.size inb_S8192x128_S8192x128_0_0) (k0_pay39 v289) Finset.univ (View.stores_vmem h_S8192x128 (harg11.storeExact_slice rfl _ packedbf16_S8192x128_S8192x128_0_0) (fun _ => rfl)) (.inl rfl))
  let v307 : Vec F S256x256 .bf16 ← Prog.lift (.load arg12 (Rect.unit (s := S256x256) ![0, 0] S256x256.size inb_S256x256_S256x256_0_0).toLoadRect (View.loadsAt_vmem h_S256x256))
  Prog.lift (.store arg12 (Rect.unit (s := S256x256) ![0, 0] S256x256.size inb_S256x256_S256x256_0_0) (k0_pay40 (F := F)) Finset.univ (View.stores_vmem h_S256x256 (harg12.storeExact_slice rfl _ packedbf16_S256x256_S256x256_0_0) (fun _ => rfl)) (.inl rfl))
  pure ⟨⟩

/-- What the body does at every query tile, once the scratch buffers hold the head's keys, values and mask. -/
def restProg (i : grid0.Coords) (arg2 : Memref sig .tc .smem S8 .f32) (harg2 : arg2.IsWhole) (arg3 : Memref sig .tc .vmem S512x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S256x256 .bf16) (harg12 : arg12.IsWhole) :
    Prog (TpuEff nD τ sig (Elt F) Λ₀ .tc) PUnit := do
  let arg1 : BitVec 32 := BitVec.ofNat 32 (i 1).val
  let v3 : Vec F S512x128 .f32 ← Prog.lift (.load arg3 (Rect.unit (s := S512x128) ![0, 0] S512x128.size inb_S512x128_S512x128_0_0).toLoadRect (View.loadsAt_vmem h_S512x128))
  let v8 : Elt F .f32 ← smemLoad arg2 (Rect.unit (s := S8) (k0_off1 i) S1.size (k0_off1_inb i)) numel1_S1 rfl
  let v10 : Vec F S256x256 .bf16 ← Prog.lift (.load arg12 (Rect.unit (s := S256x256) ![0, 0] S256x256.size inb_S256x256_S256x256_0_0).toLoadRect (View.loadsAt_vmem h_S256x256))
  have v11 : IVec S512x256 32 := iota .tc S512x256 32 [0] iota_S512x256_d0_w32
  have v12 : IVec S512x256 32 := iota .tc S512x256 32 [1] iota_S512x256_d1_w32
  let v23 : Vec F S256x128 .bf16 ← Prog.lift (.load arg10 (Rect.unit (s := S8192x128) (k0_off2 i 1#32) S256x128.size (k0_off2_inb i 1)).toLoadRect (View.loadsAt_vmem h_S256x128))
  have cst_13 : F .f32 := Named.named κ "log2e" 0x3FB8AA3B#32
  have v6 : FVec F S512x128 .bf16 := k0_pay41 v3
  have v9 : F .f32 := k0_pay42 v8
  have v13 : FVec F S512x128 .f32 := k0_pay43 (F := F)
  have v14 : FVec F S512x1 .f32 := k0_pay44 (F := F)
  have v17 : IVec S512x256 1 := k0_pay45
  have v26 : FVec F S512x256 .f32 := k0_pay46 v3 v8 v23
  have v27 : FVec F S128x256 .f32 := k0_pay47 v3 v8 v23
  have v29 : FVec F S128x256 .f32 := k0_pay48 v3 v8 v23
  have v36 : FVec F S128x256 .f32 := k0_pay49 v3 v8 v23
  let ⟨v47, v48, v69, v70, v71, v73, v82⟩ : Σ' (v47 : FVec F S128x1 .f32) (v48 : FVec F S128x256 .f32) (v69 : FVec F S128x1 .f32) (v70 : FVec F S128x256 .f32) (v71 : FVec F S128x256 .f32) (v73 : FVec F S128x256 .f32), FVec F S128x256 .f32 ← k0_part6 i arg2 harg2 arg3 harg3 arg4 harg4 arg5 harg5 arg6 harg6 arg7 harg7 arg8 harg8 arg9 harg9 arg10 harg10 arg11 harg11 arg12 harg12 v10 v17 v26 v27 v29 v36 cst_13
  let ⟨v116, v124⟩ : Σ' (v116 : FVec F S512x1 .f32), FVec F S512x256 .bf16 ← k0_part7 i arg2 harg2 arg3 harg3 arg4 harg4 arg5 harg5 arg6 harg6 arg7 harg7 arg8 harg8 arg9 harg9 arg10 harg10 arg11 harg11 arg12 harg12 arg1 v10 v14 v17 v26 v47 v48 v69 v70 v71 v73 v82
  let ⟨v130, v131, v134, v143, v164, v165, v166, v168, v171⟩ : Σ' (v130 : FVec F S512x128 .f32) (v131 : FVec F S512x1 .f32) (v134 : IVec S512x256 1) (v143 : FVec F S512x256 .f32) (v164 : FVec F S128x1 .f32) (v165 : FVec F S128x256 .f32) (v166 : FVec F S128x256 .f32) (v168 : FVec F S128x256 .f32), FVec F S128x256 .f32 ← k0_part8 i arg2 harg2 arg3 harg3 arg4 harg4 arg5 harg5 arg6 harg6 arg7 harg7 arg8 harg8 arg9 harg9 arg10 harg10 arg11 harg11 arg12 harg12 arg1 v6 v9 v10 v11 v12 v13 v14 v116 v124
  let ⟨v186, v187, v208, v209, v210, v212, v216, cst_73⟩ : Σ' (v186 : FVec F S128x1 .f32) (v187 : FVec F S128x256 .f32) (v208 : FVec F S128x1 .f32) (v209 : FVec F S128x256 .f32) (v210 : FVec F S128x256 .f32) (v212 : FVec F S128x256 .f32) (v216 : FVec F S128x256 .f32), F .f32 ← k0_part9 i arg2 harg2 arg3 harg3 arg4 harg4 arg5 harg5 arg6 harg6 arg7 harg7 arg8 harg8 arg9 harg9 arg10 harg10 arg11 harg11 arg12 harg12 v10 v134 v143 v166 v168 v171
  let ⟨v247, v248, v249, v250, v259⟩ : Σ' (v247 : FVec F S512x128 .f32) (v248 : FVec F S512x1 .f32) (v249 : BitVec 32) (v250 : FVec F S512x256 .f32), FVec F S512x256 .f32 ← k0_part10 i arg2 harg2 arg3 harg3 arg4 harg4 arg5 harg5 arg6 harg6 arg7 harg7 arg8 harg8 arg9 harg9 arg10 harg10 arg11 harg11 arg12 harg12 arg1 v6 v9 v10 v130 v131 v134 v164 v165 v186 v187 v208 v209 v210 v212 v216 cst_73
  let v260 : BitVec 32 := Scalar.addi v249 1#32
  let v261 : BitVec 32 := Scalar.subi v260 1#32
  let v263 : BitVec 32 := Scalar.divsi v261 1#32
  let v264 : BitVec 32 := Scalar.muli v263 1#32
  let v265 : BitVec 32 := Scalar.addi 1#32 v264
  let (v266_0, v266_1, v266_2, v266_3) ← Scf.Loop.for (k0_t1_loop i) (k0_t1_ok i) (v259, v250, v247, v248) (k0_t1_body i arg2 harg2 arg3 harg3 arg4 harg4 arg5 harg5 arg6 harg6 arg7 harg7 arg8 harg8 arg9 harg9 arg10 harg10 arg11 harg11 arg12 harg12 v6 v9 v10 v249)
  let (v267_0, v267_1, v267_2, v267_3) ← Scf.Loop.for (k0_t2_loop i) (k0_t2_ok i) (v266_0, v266_1, v266_2, v266_3) (k0_t2_body i arg2 harg2 arg3 harg3 arg4 harg4 arg5 harg5 arg6 harg6 arg7 harg7 arg8 harg8 arg9 harg9 arg10 harg10 arg11 harg11 arg12 harg12 v6 v9 v10 v249 v265)
  let v270 : Vec F S256x128 .bf16 ← Prog.lift (.load arg11 (Rect.unit (s := S8192x128) ![0, 0] S256x128.size inb_S8192x128_S256x128_0_0).toLoadRect (View.loadsAt_vmem h_S256x128))
  let v273 : Vec F S1x128 .f32 ← Prog.lift (.load arg6 (Rect.unit (s := S1x128) ![0, 0] S1x128.size inb_S1x128_S1x128_0_0).toLoadRect (View.loadsAt_vmem h_S1x128))
  let v287 : Vec F S512x128 .f32 ← Prog.lift (.load arg7 (Rect.unit (s := S512x128) ![0, 0] S512x128.size inb_S512x128_S512x128_0_0).toLoadRect (View.loadsAt_vmem h_S512x128))
  Prog.lift (.store arg7 (Rect.unit (s := S512x128) ![0, 0] S512x128.size inb_S512x128_S512x128_0_0) (k0_pay7 v267_1 v267_2 v270 v273) Finset.univ (View.stores_vmem_bits_univ h_S512x128 rfl) (.inl rfl))
  pure ⟨⟩

/-- At a head's first tile the body is the filling of the scratch buffers followed by the common part. -/
theorem body_eq_first (i : grid0.Coords) (arg2 : Memref sig .tc .smem S8 .f32) (harg2 : arg2.IsWhole) (arg3 : Memref sig .tc .vmem S512x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S256x256 .bf16) (harg12 : arg12.IsWhole) (hc : k0_cond1 i = 1#1) :
    cc0_stick_breaking_prompt_skel (F := F) i arg2 harg2 arg3 harg3 arg4 harg4 arg5 harg5 arg6 harg6 arg7 harg7 arg8 harg8 arg9 harg9 arg10 harg10 arg11 harg11 arg12 harg12
      = (guardProg arg2 harg2 arg3 harg3 arg4 harg4 arg5 harg5 arg6 harg6 arg7 harg7 arg8 harg8 arg9 harg9 arg10 harg10 arg11 harg11 arg12 harg12 >>= fun _ => restProg i arg2 harg2 arg3 harg3 arg4 harg4 arg5 harg5 arg6 harg6 arg7 harg7 arg8 harg8 arg9 harg9 arg10 harg10 arg11 harg11 arg12 harg12) := by
  unfold cc0_stick_breaking_prompt_skel guardProg restProg
  simp only [k0_part5_eq_skeleton]
  unfold k0_part5_skel
  rw [dif_pos hc]
  rfl

/-- At a head's other tiles the body is the common part. -/
theorem body_eq_later (i : grid0.Coords) (arg2 : Memref sig .tc .smem S8 .f32) (harg2 : arg2.IsWhole) (arg3 : Memref sig .tc .vmem S512x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S256x256 .bf16) (harg12 : arg12.IsWhole) (hc : ¬k0_cond1 i = 1#1) :
    cc0_stick_breaking_prompt_skel (F := F) i arg2 harg2 arg3 harg3 arg4 harg4 arg5 harg5 arg6 harg6 arg7 harg7 arg8 harg8 arg9 harg9 arg10 harg10 arg11 harg11 arg12 harg12
      = restProg i arg2 harg2 arg3 harg3 arg4 harg4 arg5 harg5 arg6 harg6 arg7 harg7 arg8 harg8 arg9 harg9 arg10 harg10 arg11 harg11 arg12 harg12 := by
  unfold cc0_stick_breaking_prompt_skel restProg
  simp only [k0_part5_eq_skeleton]
  unfold k0_part5_skel
  rw [dif_neg hc]
  rfl

/-- The first tile's filling, run: the whole-head outputs end at the head's keys and values, the scratch buffers at their
    narrowed copies and at the mask. -/
theorem guard_run (c : Dev nD) (arg2 : Memref sig .tc .smem S8 .f32) (harg2 : arg2.IsWhole) (arg3 : Memref sig .tc .vmem S512x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S256x256 .bf16) (harg12 : arg12.IsWhole)
    (x2 : Vec F S8192x128 .f32) (x3 : Vec F S8192x128 .f32) (E : Set ℕ) (K : PUnit → sProp 𝕄) :
    iprop(owns (c : Thread nD τ) arg4 fullShare x2 ∗ owns (c : Thread nD τ) arg5 fullShare x3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg4 fullShare x2 ∗ owns (c : Thread nD τ) arg5 fullShare x3 ∗ owns (c : Thread nD τ) arg8 fullShare x2 ∗ owns (c : Thread nD τ) arg9 fullShare x3 ∗ owns (c : Thread nD τ) arg10 fullShare (k0_pay38 x2) ∗ owns (c : Thread nD τ) arg11 fullShare (k0_pay39 x3) ∗ owns (c : Thread nD τ) arg12 fullShare (k0_pay40 (F := F))) -∗ K ⟨⟩))
      ⊢ wp frame (wpE (defs₀ (F := F)) Variants.none c none) E (guardProg arg2 harg2 arg3 harg3 arg4 harg4 arg5 harg5 arg6 harg6 arg7 harg7 arg8 harg8 arg9 harg9 arg10 harg10 arg11 harg11 arg12 harg12) K := by
  unfold guardProg
  unfold owns
  iintro ⟨⟨%f2, %hf2, H2⟩, ⟨%f3, %hf3, H3⟩, ⟨%d6, %f6, -, H6⟩, ⟨%d7, %f7, -, H7⟩, ⟨%ds0, %fs0, -, HS0⟩, ⟨%ds1, %fs1, -, HS1⟩, ⟨%ds2, %fs2, -, HS2⟩, Hk⟩
  obtain rfl := harg4.eq_unread hf2; obtain rfl := harg5.eq_unread hf3
  sl_exec
  sl_step
  iapply Hk
  isplitl [H2]
  · iexists _; isplitr; · ipureintro; exact harg4.read_unread _
    iexact H2
  isplitl [H3]
  · iexists _; isplitr; · ipureintro; exact harg5.read_unread _
    iexact H3
  isplitl [H6]
  · iexists _; isplitr; swap; · iexact H6
    ipureintro; rw [View.read_writes_full, View.readAt_full]; exact hf2
  isplitl [H7]
  · iexists _; isplitr; swap; · iexact H7
    ipureintro; rw [View.read_writes_full, View.readAt_full]; exact hf3
  isplitl [HS0]
  · iexists _; isplitr; swap; · iexact HS0
    ipureintro; rw [View.read_writes_full, View.readAt_full, hf2]
  isplitl [HS1]
  · iexists _; isplitr; swap; · iexact HS1
    ipureintro; rw [View.read_writes_full, View.readAt_full, hf3]
  · iexists _; isplitr; swap; · iexact HS2
    ipureintro; rw [View.read_writes_full]

/-- What a tile's loop carries: the next block's scores, the weights' logarithms of the block before, the weighted sum
    so far, and the logarithm that the blocks behind have given up. -/
abbrev Carry (F : FTy → Type) := FVec F S512x256 .f32 × FVec F S512x256 .f32 × FVec F S512x128 .f32 × FVec F S512x1 .f32

/-- The 256 rows of a head's array at an offset. -/
abbrev blk (X : Vec F S8192x128 .bf16) (off : Fin 2 → Nat) (h : ∀ a, off a + S256x128.size a ≤ S8192x128.size a) : Vec F S256x128 .bf16 :=
  View.ld X (Rect.unit (s := S8192x128) off S256x128.size h)

/-- One trip of the loop over the blocks behind the diagonal. -/
def step1 (i : grid0.Coords) (v6 : FVec F S512x128 .bf16) (v9 : F .f32) (T : Vec F S256x256 .bf16) (kb vb : Vec F S8192x128 .bf16)
    (k : Fin (k0_t1_loop i).trips) (p : Carry F) : Carry F :=
  (k0_pay8 v6 v9 (blk kb (k0_off4 i k) (k0_off4_inb i k)),
   k0_pay1 p.2.2.2 (k0_pay21 T p.1 (k0_pay12 T p.1) (k0_pay15 p.1) (k0_pay16 p.1)),
   k0_pay2 p.2.1 p.2.2.1 (blk vb (k0_off5 i k) (k0_off5_inb i k)),
   k0_pay3 p.2.2.2 (k0_pay22 p.1 (k0_pay11 p.1) (k0_pay14 p.1)))

/-- What the loop carries before trip `n`. -/
def loop1 (i : grid0.Coords) (v6 : FVec F S512x128 .bf16) (v9 : F .f32) (T : Vec F S256x256 .bf16) (kb vb : Vec F S8192x128 .bf16)
    (init : Carry F) : ℕ → Carry F
  | 0 => init
  | n + 1 => if h : n < (k0_t1_loop i).trips then step1 i v6 v9 T kb vb ⟨n, h⟩ (loop1 i v6 v9 T kb vb init n) else loop1 i v6 v9 T kb vb init n

/-- The loop makes two trips for each query tile before this one. -/
theorem trips1 (i : grid0.Coords) : (k0_t1_loop i).trips = 2 * (i 1).val := by
  have h : ∀ a : Fin 16, Scf.Loop.trips (⟨1#32, Scalar.addi 1#32 (Scalar.muli (Scalar.divsi (Scalar.subi (Scalar.addi (Scalar.muli (BitVec.ofNat 32 a.val) 2#32) 1#32) 1#32) 1#32) 1#32), 1#32⟩ : Scf.Loop 32) = 2 * a.val := by decide +kernel
  exact h (i 1)

/-- The remainder loop makes no trip. -/
theorem trips2 (i : grid0.Coords) : (k0_t2_loop i).trips = 0 := by
  have h : ∀ a : Fin 16, Scf.Loop.trips (⟨Scalar.addi 1#32 (Scalar.muli (Scalar.divsi (Scalar.subi (Scalar.addi (Scalar.muli (BitVec.ofNat 32 a.val) 2#32) 1#32) 1#32) 1#32) 1#32), Scalar.addi 1#32 (Scalar.subi (Scalar.addi (Scalar.muli (BitVec.ofNat 32 a.val) 2#32) 1#32) 1#32), 1#32⟩ : Scf.Loop 32) = 0 := by decide +kernel
  exact h (i 1)

/-- The query tile as the products take it. -/
abbrev qTile (x1 : Vec F S512x128 .f32) : FVec F S512x128 .bf16 := k0_pay41 x1

/-- The head's bias, read from the table. -/
abbrev biasAt (i : grid0.Coords) (x0 : Vec F S8 .f32) : Elt F .f32 :=
  View.ld x0 (Rect.unit (s := S8) (k0_off1 i) S1.size (k0_off1_inb i)) (Shape.Idx.first (Nat.lt_of_lt_of_eq Nat.one_pos numel1_S1.symm))

/-- What the tile has after the diagonal's two blocks of keys: the loop's initial values. -/
def start (i : grid0.Coords) (x1 : Vec F S512x128 .f32) (v8 : Elt F .f32) (kb vb : Vec F S8192x128 .bf16) (T : Vec F S256x256 .bf16) : Carry F :=
  let cst_13 : F .f32 := Named.named κ "log2e" 0x3FB8AA3B#32
  let v23 := blk kb (k0_off2 i 1#32) (k0_off2_inb i 1)
  let v6 := k0_pay41 x1
  let v9 := k0_pay42 v8
  let v26 := k0_pay46 x1 v8 v23
  let v27 := k0_pay47 x1 v8 v23
  let v29 := k0_pay48 x1 v8 v23
  let v36 := k0_pay49 x1 v8 v23
  let v11 : IVec S512x256 32 := iota .tc S512x256 32 [0] iota_S512x256_d0_w32
  let v12 : IVec S512x256 32 := iota .tc S512x256 32 [1] iota_S512x256_d1_w32
  let v13 : FVec F S512x128 .f32 := k0_pay43 (F := F)
  let v14 : FVec F S512x1 .f32 := k0_pay44 (F := F)
  let v17 : IVec S512x256 1 := k0_pay45
  let v47 := k0_pay52 v17 v29 v36 cst_13
  let v48 := k0_pay53 T v17 v27 v29 v36 cst_13
  let v69 := k0_pay57 v17 v26
  let v70 := k0_pay58 T v17 v26
  let v71 := k0_pay59 v26
  let v73 := k0_pay60 v26
  let v82 := k0_pay61 v26
  let v116 := k0_pay67 v17 v26 v47 v69 v73 v82
  let v124 := k0_pay68 T v14 v17 v26 v48 v70 v71 v73 v82
  let v128 := blk vb (k0_off2 i 1#32) (k0_off2_inb i 1)
  let v140 := blk kb (k0_off2 i 0#32) (k0_off2_inb i 0)
  let v130 := k0_pay69 v13 v124 v128
  let v131 := k0_pay70 v14 v116
  let v134 := k0_pay71 v11 v12
  let v143 := k0_pay72 v6 v9 v140
  let v164 := k0_pay76 v6 v9 v11 v12 v140
  let v165 := k0_pay77 v6 v9 T v11 v12 v140
  let v166 := k0_pay78 v6 v9 v140
  let v168 := k0_pay79 v6 v9 v140
  let v171 := k0_pay80 v6 v9 v140
  let v186 := k0_pay83 v134 v168 v171
  let v187 := k0_pay84 T v134 v166 v168 v171
  let v208 := k0_pay88 v134 v143
  let v209 := k0_pay89 T v134 v143
  let v210 := k0_pay90 v143
  let v212 := k0_pay91 v143
  let v216 := k0_pay92 v143
  let cst_73 : F .f32 := Scalar.ofBits .f32 0x3F800000#32
  let v245 := blk vb (k0_off2 i 0#32) (k0_off2_inb i 0)
  let v256 := blk kb (k0_off3 i) (k0_off3_inb i)
  (k0_pay98 v6 v9 v256, k0_pay97 (F := F),
   k0_pay95 T v130 v131 v134 v165 v187 v209 v210 v212 v216 cst_73 v245,
   k0_pay96 v131 v134 v164 v186 v208 v212 v216 cst_73)

/-- THE TILE'S OUTPUT: the loop's last values, closed by the first block of values and the head's norm. -/
def outVal (i : grid0.Coords) (x0 : Vec F S8 .f32) (x1 : Vec F S512x128 .f32) (x4 : Vec F S1x128 .f32) (kb vb : Vec F S8192x128 .bf16) (T : Vec F S256x256 .bf16) :
    Vec F S512x128 .f32 :=
  let p := loop1 i (k0_pay41 x1) (k0_pay42 (biasAt i x0)) T kb vb (start i x1 (biasAt i x0) kb vb T) (k0_t1_loop i).trips
  k0_pay7 p.2.1 p.2.2.1 (blk vb ![0, 0] inb_S8192x128_S256x128_0_0) x4

/-- The printed loop's values are `loop1`'s: trip by trip, the loads reading the scratch buffers' contents. -/
theorem st1_eq (c : Dev nD) (i : grid0.Coords) (arg2 : Memref sig .tc .smem S8 .f32) (harg2 : arg2.IsWhole) (arg3 : Memref sig .tc .vmem S512x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S256x256 .bf16) (harg12 : arg12.IsWhole)
    (v6 : FVec F S512x128 .bf16) (v9 : F .f32) (T : Vec F S256x256 .bf16) (v249 : BitVec 32) (kb vb : Vec F S8192x128 .bf16) (init : Carry F) (n : ℕ) :
    st_k0_t1 (F := F) Variants.none c none i arg2 harg2 arg3 harg3 arg4 harg4 arg5 harg5 arg6 harg6 arg7 harg7 arg8 harg8 arg9 harg9 arg10 harg10 arg11 harg11 arg12 harg12 v6 v9 T v249 (harg10.unread kb) (harg11.unread vb) init n
      = loop1 i v6 v9 T kb vb init n := by
  induction n with
  | zero => rfl
  | succ n ih =>
    rw [st_k0_t1.eq_2, loop1, ih]
    unfold st_k0_t1Step
    split
    · rename_i h
      unfold tripR_k0_t1 trip_k0_t1 step1
      simp only [trip_k0_t1.sl.r, trip_k0_t1.sl.r_1, trip_k0_t1.sl.r_2, trip_k0_t1.sl.r_3, trip_k0_t1.sl.r_4, trip_k0_t1.sl.r_5,
        trip_k0_t1.sl.r_6, trip_k0_t1.sl.r_7, View.readAt_eq_ld, harg10.read_unread, harg11.read_unread]
    · rfl

/-- The part every tile runs, run: the scratch buffers and the inputs stay as they were. -/
theorem rest_run (c : Dev nD) (i : grid0.Coords) (arg2 : Memref sig .tc .smem S8 .f32) (harg2 : arg2.IsWhole) (arg3 : Memref sig .tc .vmem S512x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S256x256 .bf16) (harg12 : arg12.IsWhole)
    (x0 : Vec F S8 .f32) (x1 : Vec F S512x128 .f32) (x4 : Vec F S1x128 .f32) (kb vb : Vec F S8192x128 .bf16) (T : Vec F S256x256 .bf16)
    (E : Set ℕ) (K : PUnit → sProp 𝕄) :
    iprop(owns (c : Thread nD τ) arg2 fullShare x0 ∗ owns (c : Thread nD τ) arg3 fullShare x1 ∗ owns (c : Thread nD τ) arg6 fullShare x4 ∗ (∃ d, owns (c : Thread nD τ) arg7 fullShare d) ∗ owns (c : Thread nD τ) arg10 fullShare kb ∗ owns (c : Thread nD τ) arg11 fullShare vb ∗ owns (c : Thread nD τ) arg12 fullShare T
        ∗ (iprop(owns (c : Thread nD τ) arg2 fullShare x0 ∗ owns (c : Thread nD τ) arg3 fullShare x1 ∗ owns (c : Thread nD τ) arg6 fullShare x4 ∗ owns (c : Thread nD τ) arg7 fullShare (outVal i x0 x1 x4 kb vb T) ∗ owns (c : Thread nD τ) arg10 fullShare kb ∗ owns (c : Thread nD τ) arg11 fullShare vb ∗ owns (c : Thread nD τ) arg12 fullShare T) -∗ K ⟨⟩))
      ⊢ wp frame (wpE (defs₀ (F := F)) Variants.none c none) E (restProg i arg2 harg2 arg3 harg3 arg4 harg4 arg5 harg5 arg6 harg6 arg7 harg7 arg8 harg8 arg9 harg9 arg10 harg10 arg11 harg11 arg12 harg12) K := by
  unfold restProg
  simp only [k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f4, %hf4, H4⟩, ⟨%d5, %f5, -, H5⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg6.eq_unread hf4
  obtain rfl := harg10.eq_unread hfs0; obtain rfl := harg11.eq_unread hfs1; obtain rfl := harg12.eq_unread hfs2
  sl_exec
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  isplitl [H5]
  · iexists _; isplitr; swap; · iexact H5
    ipureintro
    have ht2 : Scf.trips (k0_t2_loop i).lb (k0_t2_loop i).ub (k0_t2_loop i).st = 0 := trips2 i
    rw [View.read_writes_full, ht2, st_k0_t2_zero, st1_eq]
    have e0 : ∀ x, View.readAt (Elt F) arg2.view (Rect.unit (s := S8) (k0_off1 i) S1.size (k0_off1_inb i)).toLoadRect (harg2.unread x0) x
        = View.ld x0 (Rect.unit (s := S8) (k0_off1 i) S1.size (k0_off1_inb i)) x := fun x => by rw [View.readAt_eq_ld, hf0]
    have e1 : View.readAt (Elt F) arg3.view (Rect.unit (s := S512x128) ![0, 0] S512x128.size inb_S512x128_S512x128_0_0).toLoadRect (harg3.unread x1) = x1 := by
      rw [View.readAt_full, hf1]
    have e4 : View.readAt (Elt F) arg6.view (Rect.unit (s := S1x128) ![0, 0] S1x128.size inb_S1x128_S1x128_0_0).toLoadRect (harg6.unread x4) = x4 := by
      rw [View.readAt_full, hf4]
    have eT : View.readAt (Elt F) arg12.view (Rect.unit (s := S256x256) ![0, 0] S256x256.size inb_S256x256_S256x256_0_0).toLoadRect (harg12.unread T) = T := by
      rw [View.readAt_full, hfs2]
    have ek : ∀ off h, View.readAt (Elt F) arg10.view (Rect.unit (s := S8192x128) off S256x128.size h).toLoadRect (harg10.unread kb) = blk kb off h :=
      fun off h => by rw [View.readAt_eq_ld, hfs0]
    have ev : ∀ off h, View.readAt (Elt F) arg11.view (Rect.unit (s := S8192x128) off S256x128.size h).toLoadRect (harg11.unread vb) = blk vb off h :=
      fun off h => by rw [View.readAt_eq_ld, hfs1]
    dsimp only [S512x128, S1x128, S256x256, S256x128, S1] at e0 e1 e4 eT ek ev
    unfold rest_run.sl.r_28 rest_run.sl.r_27 rest_run.sl.r_26 rest_run.sl.r_25 rest_run.sl.r_24 rest_run.sl.r_23 rest_run.sl.r_22 rest_run.sl.r_21 rest_run.sl.r_20 rest_run.sl.r_19 rest_run.sl.r_18 rest_run.sl.r_17 rest_run.sl.r_16 rest_run.sl.r_15 rest_run.sl.r_14 rest_run.sl.r_13 rest_run.sl.r_12 rest_run.sl.r_11 rest_run.sl.r_10 rest_run.sl.r_9 rest_run.sl.r_8 rest_run.sl.r_7 rest_run.sl.r_6 rest_run.sl.r_5 rest_run.sl.r_4 rest_run.sl.r_3 rest_run.sl.r_2 rest_run.sl.r_1 rest_run.sl.r
    simp only [e0, e1, e4, eT, ek, ev]
    unfold rest_run.sl.cst_73 outVal start biasAt
    dsimp only
  isplitl [HS0]
  · iexists _; isplitr; · ipureintro; exact hfs0
    iexact HS0
  isplitl [HS1]
  · iexists _; isplitr; · ipureintro; exact hfs1
    iexact HS1
  · iexists _; isplitr; · ipureintro; exact hfs2
    iexact HS2

end Cert.KernelIdeal.Hand

end
-- ==== Proof.KernelIdealFrame.lean ====
/- The launch of the kernel: every run terminates, the arguments end as they began and every semaphore at zero; and what the three result arrays hold. -/
module

public import proofs.«01_k».proof.Proof.KernelIdealBody
public import Idealize.ShloMosaic.Lib.Pipeline.TableIdle
public import Idealize.ShloMosaic.Lib.Pipeline.Value
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The points of the grid -/

/-- Point `t`'s first coordinate is its head, -/
theorem coords0 (t : Fin cfg0.N) : (grid0.coords t 0).val = t.val / 16 := by
  have ht : t.val < 128 := Nat.lt_of_lt_of_eq t.isLt N_0
  have e0 : (grid0.coords t 0).val = t.val / 16 % 8 := Pipeline.Grid.coords_val t 0 (by decide) rfl
  rw [e0]; omega

/-- and its second the query tile. -/
theorem coords1 (t : Fin cfg0.N) : (grid0.coords t 1).val = t.val % 16 := by
  have e1 : (grid0.coords t 1).val = t.val / 1 % 16 := Pipeline.Grid.coords_val t 1 (by decide) rfl
  rw [e1, Nat.div_one]

/-- The scratch buffers are filled at each head's first tile. -/
theorem hcond0_0 (t : Fin cfg0.N) : k0_cond1 (grid0.coords t) = 1#1 ↔ t.val % 16 = 0 := by
  have ht : t.val < 128 := Nat.lt_of_lt_of_eq t.isLt N_0
  have e1 : (grid0.coords t 1).val = t.val / 1 % 16 := Pipeline.Grid.coords_val t 1 (by decide) rfl
  simp only [k0_cond1, e1]
  word_cmp

/-! ## The staging and scratch buffers at a point -/

/-- Window 0 is an input: no point leaves it idle. -/
theorem liveAt0_0 : ∀ t : Fin cfg0.N, cfg0.idle 0 (grid0.coords t) = false := fun _ => rfl
/-- Window 1 is an input: no point leaves it idle. -/
theorem liveAt0_1 : ∀ t : Fin cfg0.N, cfg0.idle 1 (grid0.coords t) = false := fun _ => rfl
/-- Window 2 is an input: no point leaves it idle. -/
theorem liveAt0_2 : ∀ t : Fin cfg0.N, cfg0.idle 2 (grid0.coords t) = false := fun _ => rfl
/-- Window 3 is an input: no point leaves it idle. -/
theorem liveAt0_3 : ∀ t : Fin cfg0.N, cfg0.idle 3 (grid0.coords t) = false := fun _ => rfl
/-- Window 4 is an input: no point leaves it idle. -/
theorem liveAt0_4 : ∀ t : Fin cfg0.N, cfg0.idle 4 (grid0.coords t) = false := fun _ => rfl
/-- The tile of the output is written at every point. -/
theorem liveAt0_5 : ∀ t : Fin cfg0.N, cfg0.idle 5 (grid0.coords t) = false := fun _ => rfl
/-- Window 0's current buffer at point `t`, and that it is a whole buffer. -/
abbrev ms0_0 (t : Fin cfg0.N) : Memref sig .tc .smem S8 .f32 := win0_0.stage (cfg0.slots t 0)
abbrev hs0_0 (t : Fin cfg0.N) : (ms0_0 t).IsWhole := hstage0_0 ((cfg0.slots t 0).cast nbuf0_0)
/-- Window 1's current buffer at point `t`, and that it is a whole buffer. -/
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
/-- Window 2's current buffer at point `t`, and that it is a whole buffer. -/
abbrev ms0_2 (t : Fin cfg0.N) : Memref sig .tc .vmem S8192x128 .f32 := win0_2.stage (cfg0.slots t 2)
abbrev hs0_2 (t : Fin cfg0.N) : (ms0_2 t).IsWhole := hstage0_2 ((cfg0.slots t 2).cast nbuf0_2)
/-- Window 3's current buffer at point `t`, and that it is a whole buffer. -/
abbrev ms0_3 (t : Fin cfg0.N) : Memref sig .tc .vmem S8192x128 .f32 := win0_3.stage (cfg0.slots t 3)
abbrev hs0_3 (t : Fin cfg0.N) : (ms0_3 t).IsWhole := hstage0_3 ((cfg0.slots t 3).cast nbuf0_3)
/-- Window 4's current buffer at point `t`, and that it is a whole buffer. -/
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
/-- Window 5's current buffer at point `t`, and that it is a whole buffer. -/
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
/-- Window 6's current buffer at point `t`, and that it is a whole buffer. -/
abbrev ms0_6 (t : Fin cfg0.N) : Memref sig .tc .vmem S8192x128 .f32 := win0_6.stage (cfg0.slots t 6)
abbrev hs0_6 (t : Fin cfg0.N) : (ms0_6 t).IsWhole := hstage0_6 ((cfg0.slots t 6).cast nbuf0_6)
/-- Window 7's current buffer at point `t`, and that it is a whole buffer. -/
abbrev ms0_7 (t : Fin cfg0.N) : Memref sig .tc .vmem S8192x128 .f32 := win0_7.stage (cfg0.slots t 7)
abbrev hs0_7 (t : Fin cfg0.N) : (ms0_7 t).IsWhole := hstage0_7 ((cfg0.slots t 7).cast nbuf0_7)
/-- The scratch buffers: the narrowed keys, the narrowed values, the triangular mask. -/
abbrev scM0_0 : Memref sig .tc .vmem S8192x128 .bf16 := Memref.whole cc0_scratch0
abbrev scM0_1 : Memref sig .tc .vmem S8192x128 .bf16 := Memref.whole cc0_scratch1
abbrev scM0_2 : Memref sig .tc .vmem S256x256 .bf16 := Memref.whole cc0_scratch2

/-- What the launch hands the region: each scratch buffer at some contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The blocks of the keys and of the values stay through a head -/

/-- The keys' block at point `t`: the head's columns of the projection, past the 40 blocks before the keys'. -/
theorem iblk2_apply (c : Dev nD) (t : Fin cfg0.N) (y : S8192x128.Idx) (j : S8192x7168.Idx)
    (h0 : (j 0).val = (y 0).val) (h1 : (j 1).val = (40 + t.val / 16) * 128 + (y 1).val) :
    (iblk m c 2 t : Vec F S8192x128 .f32) y = m ((c : Thread nD τ).loc main_arg0) j := by
  have ht : t.val < 128 := Nat.lt_of_lt_of_eq t.isLt N_0
  have hi0 : win0_2.index t 0 = 0 := rfl
  have hi1 : win0_2.index t 1 = 40 + t.val / 16 := by
    show (Scalar.addi 40#32 (BitVec.ofNat 32 (grid0.coords t 0).val)).toNat = _
    rw [coords0]; simp only [Scalar.addi, IntOp.addi, BitVec.toNat_add, BitVec.toNat_ofNat]; omega
  unfold iblk
  rw [View.read_apply]
  refine (congrFun (V_main_arg0 m c) _).trans (congrArg _ ?_)
  funext a
  apply Fin.ext
  match a with
  | ⟨0, _⟩ => show win0_2.index t 0 * 8192 + 1 * (y 0).val = (j 0).val; rw [hi0, h0]; omega
  | ⟨1, _⟩ => show win0_2.index t 1 * 128 + 1 * (y 1).val = (j 1).val; rw [hi1, h1]; omega

/-- The values' block at point `t`: the head's columns of the projection, past the 48 blocks before the values'. -/
theorem iblk3_apply (c : Dev nD) (t : Fin cfg0.N) (y : S8192x128.Idx) (j : S8192x7168.Idx)
    (h0 : (j 0).val = (y 0).val) (h1 : (j 1).val = (48 + t.val / 16) * 128 + (y 1).val) :
    (iblk m c 3 t : Vec F S8192x128 .f32) y = m ((c : Thread nD τ).loc main_arg0) j := by
  have ht : t.val < 128 := Nat.lt_of_lt_of_eq t.isLt N_0
  have hi0 : win0_3.index t 0 = 0 := rfl
  have hi1 : win0_3.index t 1 = 48 + t.val / 16 := by
    show (Scalar.addi 48#32 (BitVec.ofNat 32 (grid0.coords t 0).val)).toNat = _
    rw [coords0]; simp only [Scalar.addi, IntOp.addi, BitVec.toNat_add, BitVec.toNat_ofNat]; omega
  unfold iblk
  rw [View.read_apply]
  refine (congrFun (V_main_arg0 m c) _).trans (congrArg _ ?_)
  funext a
  apply Fin.ext
  match a with
  | ⟨0, _⟩ => show win0_3.index t 0 * 8192 + 1 * (y 0).val = (j 0).val; rw [hi0, h0]; omega
  | ⟨1, _⟩ => show win0_3.index t 1 * 128 + 1 * (y 1).val = (j 1).val; rw [hi1, h1]; omega

/-- A place of the projection, from its row and its column. -/
def at0 (r : ℕ) (k : ℕ) (hr : r < 8192) (hk : k < 7168) : S8192x7168.Idx := fun
  | ⟨0, _⟩ => (⟨r, hr⟩ : Fin 8192)
  | ⟨1, _⟩ => (⟨k, hk⟩ : Fin 7168)

/-- Within a head the keys' block does not move. -/
theorem iblk2_kept (c : Dev nD) (t u : Fin cfg0.N) (h : t.val / 16 = u.val / 16) :
    (iblk m c 2 t : Vec F S8192x128 .f32) = iblk m c 2 u := by
  have ht : t.val < 128 := Nat.lt_of_lt_of_eq t.isLt N_0
  funext y
  have hy0 : (y 0).val < 8192 := (y 0).isLt
  have hy1 : (y 1).val < 128 := (y 1).isLt
  have hk : (40 + t.val / 16) * 128 + (y 1).val < 7168 := by omega
  rw [iblk2_apply m c t y (at0 (y 0).val _ hy0 hk) rfl rfl, iblk2_apply m c u y (at0 (y 0).val _ hy0 hk) rfl (by rw [← h]; rfl)]

/-- Nor does the values'. -/
theorem iblk3_kept (c : Dev nD) (t u : Fin cfg0.N) (h : t.val / 16 = u.val / 16) :
    (iblk m c 3 t : Vec F S8192x128 .f32) = iblk m c 3 u := by
  have ht : t.val < 128 := Nat.lt_of_lt_of_eq t.isLt N_0
  funext y
  have hy0 : (y 0).val < 8192 := (y 0).isLt
  have hy1 : (y 1).val < 128 := (y 1).isLt
  have hk : (48 + t.val / 16) * 128 + (y 1).val < 7168 := by omega
  rw [iblk3_apply m c t y (at0 (y 0).val _ hy0 hk) rfl rfl, iblk3_apply m c u y (at0 (y 0).val _ hy0 hk) rfl (by rw [← h]; rfl)]

/-! ## The pipeline's proof data -/

/-- What holds of the scratch buffers before position `n`: anything before the first point; afterwards the narrowed keys
    and values of the head the point before worked on, and the mask. -/
def PhiS (c : Dev nD) : (n : ℕ) → n ≤ cfg0.N → sProp 𝕄
  | 0, _ => Pipeline.ΦA spec0 c
  | n + 1, hn => iprop(iprop(owns (c : Thread nD τ) scM0_0 fullShare (k0_pay38 (iblk m c 2 ⟨n, hn⟩)) ∗ owns (c : Thread nD τ) scM0_1 fullShare (k0_pay39 (iblk m c 3 ⟨n, hn⟩)) ∗ owns (c : Thread nD τ) scM0_2 fullShare (k0_pay40 (F := F))) ∗ (∃ r, prngReg c r))

theorem PhiS_zero (c : Dev nD) (n : ℕ) (h : n ≤ cfg0.N) (hz : n = 0) : PhiS m c n h = Pipeline.ΦA spec0 c := by
  subst hz; rfl

/-- After point `n`. -/
theorem PhiS_succ (c : Dev nD) (n : ℕ) (hn : n < cfg0.N) :
    PhiS m c (n + 1) hn = iprop(iprop(owns (c : Thread nD τ) scM0_0 fullShare (k0_pay38 (iblk m c 2 ⟨n, hn⟩)) ∗ owns (c : Thread nD τ) scM0_1 fullShare (k0_pay39 (iblk m c 3 ⟨n, hn⟩)) ∗ owns (c : Thread nD τ) scM0_2 fullShare (k0_pay40 (F := F))) ∗ (∃ r, prngReg c r)) := rfl

/-- Before a point that is not the first. -/
theorem PhiS_pos (c : Dev nD) (n : ℕ) (h : n ≤ cfg0.N) (hz : n ≠ 0) :
    PhiS m c n h = iprop(iprop(owns (c : Thread nD τ) scM0_0 fullShare (k0_pay38 (iblk m c 2 ⟨n - 1, by omega⟩)) ∗ owns (c : Thread nD τ) scM0_1 fullShare (k0_pay39 (iblk m c 3 ⟨n - 1, by omega⟩)) ∗ owns (c : Thread nD τ) scM0_2 fullShare (k0_pay40 (F := F))) ∗ (∃ r, prngReg c r)) := by
  cases n with
  | zero => exact absurd rfl hz
  | succ n => rfl

/-- What the body leaves in the output tile at point `t`. -/
def outTile (c : Dev nD) (t : Fin cfg0.N) : Vec F S512x128 .f32 :=
  outVal (grid0.coords t) (iblk m c 0 t) (iblk m c 1 t) (iblk m c 4 t) (k0_pay38 (iblk m c 2 t)) (k0_pay39 (iblk m c 3 t)) (k0_pay40 (F := F))

/-- The proof data of the pipeline on core `c`: the arrays as the region finds them; after the body at point `t` each
    input's buffer at its block, the output tile at `outTile`, the two whole-head outputs at the head's keys and values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outTile m c t
    | ⟨6, _⟩ => (iblk m c 2 t : Vec F S8192x128 .f32)
    | ⟨7, _⟩ => (iblk m c 3 t : Vec F S8192x128 .f32)
  Φ t := PhiS m c t.val (Nat.le_of_lt_succ t.isLt)
  q w := Pipeline.shareOf spec0 w
  owed _ := 0

/-- The arrays of the proof data are those the region finds. -/
theorem A_eq (c : Dev nD) (w : Fin cfg0.W) : (dats m 0 c).A w = V m c (Pipeline.arrRef spec0 w) := by
  dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outTile m c t := by dsimp only [dats]
theorem after0_6 (c : Dev nD) (t : Fin cfg0.N) : (dats m 0 c).after 6 t = (iblk m c 2 t : Vec F S8192x128 .f32) := by dsimp only [dats]
theorem after0_7 (c : Dev nD) (t : Fin cfg0.N) : (dats m 0 c).after 7 t = (iblk m c 3 t : Vec F S8192x128 .f32) := by dsimp only [dats]

/-! Each input's current buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Window 6's buffer is fresh exactly at a head's first tile. -/
theorem fresh0_6 (n : ℕ) (hn : n ≤ cfg0.N) : cfg0.fresh 6 n = decide (n % 16 = 0) :=
  cfg0.fresh_tab 6 (fun n => decide (n % 16 = 0)) rfl (fun t => by
    have hi : cfg0.idle 6 (cfg0.grid.coords t) = !(k0_cond1 (grid0.coords t) == 1#1) := rfl
    rw [hi]
    by_cases h0 : t.val % 16 = 0
    · have hf : (cfg0.win 6).flush t = false := Bool.eq_false_iff.mpr fun h => by have := (flush0_6 t).mp h; omega
      rw [hf, (hcond0_0 t).mpr h0]
      have : ¬ (t.val + 1) % 16 = 0 := by omega
      simp [this]
    · have hc : ¬k0_cond1 (grid0.coords t) = 1#1 := fun h => h0 ((hcond0_0 t).mp h)
      by_cases h15 : t.val % 16 = 15
      · rw [(flush0_6 t).mpr h15]
        have : (t.val + 1) % 16 = 0 := by omega
        simp [this]
      · have hf : (cfg0.win 6).flush t = false := Bool.eq_false_iff.mpr fun h => h15 ((flush0_6 t).mp h)
        rw [hf]
        have : ¬ (t.val + 1) % 16 = 0 := by omega
        simp [this, h0]) n hn

/-- At a head's later tiles window 6's buffer still holds what the head's first tile put there. -/
theorem before0_6 (c : Dev nD) (t : Fin cfg0.N) (h0 : ¬ t.val % 16 = 0) (d) :
    (dats m 0 c).before 6 t d = (dats m 0 c).after 6 t := by
  rw [(dats m 0 c).before_out_traj 6 rfl (fun _ _ => rfl) (fun u hu hidle _ => by
    have hu0 : ¬ u.val % 16 = 0 := fun e => by
      have := (hcond0_0 u).mpr e
      have hi : cfg0.idle 6 (cfg0.grid.coords u) = !(k0_cond1 (grid0.coords u) == 1#1) := rfl
      rw [hi, this] at hidle; simp at hidle
    rw [after0_6, after0_6]; exact iblk2_kept m c u _ (by show u.val / 16 = (u.val - 1) / 16; omega)) t.val t rfl d,
    fresh0_6 t.val (Nat.le_of_lt t.isLt), decide_eq_false h0, if_neg Bool.false_ne_true, after0_6, after0_6]
  exact iblk2_kept m c _ t (by show (t.val - 1) / 16 = t.val / 16; omega)

/-- So what is found in it there may be left. -/
theorem leaves0_6 (c : Dev nD) (t : Fin cfg0.N) (h0 : ¬ t.val % 16 = 0) :
    iprop(∃ d, owns (c : Thread nD τ) (ms0_6 t) fullShare ((dats m 0 c).before 6 t d)) ⊢ (dats m 0 c).leavesExact 6 t := by
  have hi : cfg0.idle 6 (cfg0.grid.coords t) = true := by
    have hc : ¬k0_cond1 (grid0.coords t) = 1#1 := fun h => h0 ((hcond0_0 t).mp h)
    show (!(k0_cond1 (grid0.coords t) == 1#1)) = true
    simp [hc]
  by_cases hf : (cfg0.win 6).flush t = true
  · unfold Dat.leavesExact
    rw [hi, hf]
    iintro ⟨%d, H⟩
    rw [before0_6 m c t h0 d]
    iexact H
  · rw [Dat.leavesExact_idle _ _ _ hi (Bool.eq_false_iff.mpr hf)]
    try exact Idealize.SL.BI.Entails.refl _

/-- At a head's first tile what the body stores in it is left. -/
theorem leavesFirst0_6 (c : Dev nD) (t : Fin cfg0.N) (h0 : t.val % 16 = 0) :
    (dats m 0 c).leavesExact 6 t = owns (c : Thread nD τ) (ms0_6 t) fullShare (iblk m c 2 t : Vec F S8192x128 .f32) := by
  have hi : cfg0.idle 6 (cfg0.grid.coords t) = false := by
    show (!(k0_cond1 (grid0.coords t) == 1#1)) = false
    rw [(hcond0_0 t).mpr h0]; rfl
  unfold Dat.leavesExact; rw [hi]
  show owns _ _ _ ((dats m 0 c).after 6 t) = _
  rw [after0_6]

/-- Window 7's buffer is fresh exactly at a head's first tile. -/
theorem fresh0_7 (n : ℕ) (hn : n ≤ cfg0.N) : cfg0.fresh 7 n = decide (n % 16 = 0) :=
  cfg0.fresh_tab 7 (fun n => decide (n % 16 = 0)) rfl (fun t => by
    have hi : cfg0.idle 7 (cfg0.grid.coords t) = !(k0_cond1 (grid0.coords t) == 1#1) := rfl
    rw [hi]
    by_cases h0 : t.val % 16 = 0
    · have hf : (cfg0.win 7).flush t = false := Bool.eq_false_iff.mpr fun h => by have := (flush0_7 t).mp h; omega
      rw [hf, (hcond0_0 t).mpr h0]
      have : ¬ (t.val + 1) % 16 = 0 := by omega
      simp [this]
    · have hc : ¬k0_cond1 (grid0.coords t) = 1#1 := fun h => h0 ((hcond0_0 t).mp h)
      by_cases h15 : t.val % 16 = 15
      · rw [(flush0_7 t).mpr h15]
        have : (t.val + 1) % 16 = 0 := by omega
        simp [this]
      · have hf : (cfg0.win 7).flush t = false := Bool.eq_false_iff.mpr fun h => h15 ((flush0_7 t).mp h)
        rw [hf]
        have : ¬ (t.val + 1) % 16 = 0 := by omega
        simp [this, h0]) n hn

/-- At a head's later tiles window 7's buffer still holds what the head's first tile put there. -/
theorem before0_7 (c : Dev nD) (t : Fin cfg0.N) (h0 : ¬ t.val % 16 = 0) (d) :
    (dats m 0 c).before 7 t d = (dats m 0 c).after 7 t := by
  rw [(dats m 0 c).before_out_traj 7 rfl (fun _ _ => rfl) (fun u hu hidle _ => by
    have hu0 : ¬ u.val % 16 = 0 := fun e => by
      have := (hcond0_0 u).mpr e
      have hi : cfg0.idle 7 (cfg0.grid.coords u) = !(k0_cond1 (grid0.coords u) == 1#1) := rfl
      rw [hi, this] at hidle; simp at hidle
    rw [after0_7, after0_7]; exact iblk3_kept m c u _ (by show u.val / 16 = (u.val - 1) / 16; omega)) t.val t rfl d,
    fresh0_7 t.val (Nat.le_of_lt t.isLt), decide_eq_false h0, if_neg Bool.false_ne_true, after0_7, after0_7]
  exact iblk3_kept m c _ t (by show (t.val - 1) / 16 = t.val / 16; omega)

/-- So what is found in it there may be left. -/
theorem leaves0_7 (c : Dev nD) (t : Fin cfg0.N) (h0 : ¬ t.val % 16 = 0) :
    iprop(∃ d, owns (c : Thread nD τ) (ms0_7 t) fullShare ((dats m 0 c).before 7 t d)) ⊢ (dats m 0 c).leavesExact 7 t := by
  have hi : cfg0.idle 7 (cfg0.grid.coords t) = true := by
    have hc : ¬k0_cond1 (grid0.coords t) = 1#1 := fun h => h0 ((hcond0_0 t).mp h)
    show (!(k0_cond1 (grid0.coords t) == 1#1)) = true
    simp [hc]
  by_cases hf : (cfg0.win 7).flush t = true
  · unfold Dat.leavesExact
    rw [hi, hf]
    iintro ⟨%d, H⟩
    rw [before0_7 m c t h0 d]
    iexact H
  · rw [Dat.leavesExact_idle _ _ _ hi (Bool.eq_false_iff.mpr hf)]
    try exact Idealize.SL.BI.Entails.refl _

/-- At a head's first tile what the body stores in it is left. -/
theorem leavesFirst0_7 (c : Dev nD) (t : Fin cfg0.N) (h0 : t.val % 16 = 0) :
    (dats m 0 c).leavesExact 7 t = owns (c : Thread nD τ) (ms0_7 t) fullShare (iblk m c 3 t : Vec F S8192x128 .f32) := by
  have hi : cfg0.idle 7 (cfg0.grid.coords t) = false := by
    show (!(k0_cond1 (grid0.coords t) == 1#1)) = false
    rw [(hcond0_0 t).mpr h0]; rfl
  unfold Dat.leavesExact; rw [hi]
  show owns _ _ _ ((dats m 0 c).after 7 t) = _
  rw [after0_7]

/-! ## The body, at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 3200000 in
/-- The body at any point: at a head's first tile it fills the scratch buffers and then runs the common part, at the others
    the common part alone. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).Φ t.succ = PhiS m c (t.val + 1) t.isLt from rfl, PhiS_succ]
  rw [cc0_stick_breaking_prompt_eq_skeleton]
  by_cases h0 : t.val % 16 = 0
  · rw [leavesFirst0_6 m c t h0, leavesFirst0_7 m c t h0, body_eq_first _ _ _ _ _ _ _ _ _ _ _ _ _ _ _ _ _ _ _ _ _ _ _ ((hcond0_0 t).mpr h0), wp_bind]
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (guard_run c _ _ _ _ _ _ _ _ _ _ _ _ _ _ _ _ _ _ _ _ _ _ (iblk m c 2 t) (iblk m c 3 t) Set.univ _)
      isplitl [H2]; · iexact H2
      isplitl [H3]; · iexact H3
      isplitl [H6]; · iexists _; iexact H6
      isplitl [H7]; · iexists _; iexact H7
      isplitl [HS0]; · iexact HS0
      isplitl [HS1]; · iexact HS1
      isplitl [HS2]; · iexact HS2
      iintro ⟨H2, H3, H6, H7, HS0, HS1, HS2⟩
      iapply (rest_run c (grid0.coords t) _ _ _ _ _ _ _ _ _ _ _ _ _ _ _ _ _ _ _ _ _ _ (iblk m c 0 t) (iblk m c 1 t) (iblk m c 4 t) (k0_pay38 (iblk m c 2 t)) (k0_pay39 (iblk m c 3 t)) (k0_pay40 (F := F)) Set.univ _)
      isplitl [H0]; · iexact H0
      isplitl [H1]; · iexact H1
      isplitl [H4]; · iexact H4
      isplitl [H5]; · iexists _; iexact H5
      isplitl [HS0]; · iexact HS0
      isplitl [HS1]; · iexact HS1
      isplitl [HS2]; · iexact HS2
      iintro ⟨H0, H1, H4, H5, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (guard_run c _ _ _ _ _ _ _ _ _ _ _ _ _ _ _ _ _ _ _ _ _ _ (iblk m c 2 t) (iblk m c 3 t) Set.univ _)
      isplitl [H2]; · iexact H2
      isplitl [H3]; · iexact H3
      isplitl [H6]; · iexists _; iexact H6
      isplitl [H7]; · iexists _; iexact H7
      isplitl [HS0]; · iexists _; iexact HS0
      isplitl [HS1]; · iexists _; iexact HS1
      isplitl [HS2]; · iexists _; iexact HS2
      iintro ⟨H2, H3, H6, H7, HS0, HS1, HS2⟩
      iapply (rest_run c (grid0.coords t) _ _ _ _ _ _ _ _ _ _ _ _ _ _ _ _ _ _ _ _ _ _ (iblk m c 0 t) (iblk m c 1 t) (iblk m c 4 t) (k0_pay38 (iblk m c 2 t)) (k0_pay39 (iblk m c 3 t)) (k0_pay40 (F := F)) Set.univ _)
      isplitl [H0]; · iexact H0
      isplitl [H1]; · iexact H1
      isplitl [H4]; · iexact H4
      isplitl [H5]; · iexists _; iexact H5
      isplitl [HS0]; · iexact HS0
      isplitl [HS1]; · iexact HS1
      isplitl [HS2]; · iexact HS2
      iintro ⟨H0, H1, H4, H5, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hz : t.val ≠ 0 := fun e => h0 (by rw [e])
    rw [body_eq_later _ _ _ _ _ _ _ _ _ _ _ _ _ _ _ _ _ _ _ _ _ _ _ (fun h => h0 ((hcond0_0 t).mp h))]
    rw [PhiS_castSucc m c t, PhiS_pos m c _ _ hz]
    rw [iblk2_kept m c ⟨t.val - 1, by omega⟩ t (by show (t.val - 1) / 16 = t.val / 16; omega),
      iblk3_kept m c ⟨t.val - 1, by omega⟩ t (by show (t.val - 1) / 16 = t.val / 16; omega)]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, H6, H7⟩
    iapply (rest_run c (grid0.coords t) _ _ _ _ _ _ _ _ _ _ _ _ _ _ _ _ _ _ _ _ _ _ (iblk m c 0 t) (iblk m c 1 t) (iblk m c 4 t) (k0_pay38 (iblk m c 2 t)) (k0_pay39 (iblk m c 3 t)) (k0_pay40 (F := F)) Set.univ _)
    isplitl [H0]; · iexact H0
    isplitl [H1]; · iexact H1
    isplitl [H4]; · iexact H4
    isplitl [H5]; · iexists _; iexact H5
    isplitl [HS0]; · iexact HS0
    isplitl [HS1]; · iexact HS1
    isplitl [HS2]; · iexact HS2
    iintro ⟨H0, H1, H4, H5, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply (leaves0_6 m c t h0); iexact H6
    iapply (leaves0_7 m c t h0); iexact H7

/-- The body table's row at point `t` is the body as spelled above. -/
theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back, their contents forgotten. -/
theorem hout (c : Dev nD) : (dats m 0 c).Φ (Fin.last cfg0.N) ⊢ Pipeline.ΦA spec0 c := by
  have hne : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl,
    PhiS_pos m c _ _ hne, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-! ## The run and the frame -/

-- the launch theorem's implicit arguments are found by unifying its conclusion with this one
set_option backward.isDefEq.respectTransparency.types false in
/-- The launch: the pipeline's arrays end as its proof data says, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)
    (hQ' := fun _ h => h)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) ((θ_run defs _ _).mono (fun _ h => h.1) (run_main_quiescent m ρ))

/-- The frame: every run terminates, with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Hand

end
-- ==== Proof.Sticks.lean ====
/- Stick-breaking attention over the real numbers: the weights a row gives to the places before it, and how they are found
   block by block with logarithms to the base two. -/
module

public import Idealize.ShloMosaic.PureOps.Ideal.Laws

@[expose] public section

noncomputable section

namespace Sticks

open Finset

/-- The change of base from natural logarithms to logarithms to the base two. -/
def L : ℝ := (Real.log 2)⁻¹

theorem L_pos : 0 < L := inv_pos.mpr (Real.log_pos (by norm_num))

/-- The positive part of a score, smoothed: minus the logarithm of the share a place leaves over. -/
def softplus (x : ℝ) : ℝ := max x 0 + Real.log (1 + Real.exp (-|x|))

/-- What the places from `c` up to `t` take away from the logarithm of everything before them. -/
def tail (z : ℕ → ℝ) (c t : ℕ) : ℝ := ∑ j ∈ Ico c t, softplus (z j)

/-- The logarithm of the weight row `t` gives to place `s`. -/
def logw (z : ℕ → ℝ) (t s : ℕ) : ℝ := z s - softplus (z s) - tail z (s + 1) t

/-- The sum of the values `v`, weighted, over the places from `c` up to `t`. -/
def behind (z v : ℕ → ℝ) (t c : ℕ) : ℝ := ∑ s ∈ Ico c t, Real.exp (logw z t s) * v s

/-- A power of two of a rescaled number is the exponential. -/
theorem rpow_L (x : ℝ) : Real.rpow 2 (L * x) = Real.exp x := by
  show (2 : ℝ) ^ (L * x) = _
  have h2 : Real.log 2 ≠ 0 := (Real.log_pos (by norm_num)).ne'
  rw [Real.rpow_def_of_pos (by norm_num), L, ← mul_assoc, mul_inv_cancel₀ h2, one_mul]

/-- The smoothed positive part, found in base two. -/
theorem softplus_two (x : ℝ) :
    max (L * x) 0 + Real.log (1 + Real.rpow 2 (-|L * x|)) * L = L * softplus x := by
  have h1 : -|L * x| = L * (-|x|) := by rw [abs_mul, abs_of_pos L_pos]; ring
  have h2 : max (L * x) 0 = L * max x 0 := by rw [mul_max_of_nonneg _ _ L_pos.le, mul_zero]
  rw [h1, rpow_L, h2, softplus]; ring

/-- The smoothed positive part at minus the score. -/
theorem softplus_neg (x : ℝ) : softplus (-x) = softplus x - x := by
  unfold softplus
  rw [abs_neg]
  rcases le_total 0 x with h | h
  · rw [max_eq_left h, max_eq_right (by linarith)]; ring
  · rw [max_eq_right h, max_eq_left (by linarith)]; ring

/-! ## Blocks -/

/-- A block's sum. -/
theorem sum_block (f : ℕ → ℝ) (a n : ℕ) : ∑ x : Fin n, f (a + x.val) = ∑ j ∈ Ico a (a + n), f j := by
  rw [Fin.sum_univ_eq_sum_range (fun x => f (a + x)) n, Finset.sum_Ico_eq_sum_range]; simp

/-- A sum over a block cut off at `t` is the sum up to `t`. -/
theorem sum_cut (f : ℕ → ℝ) (c e t : ℕ) :
    (∑ j ∈ Ico c e, if j < t then f j else 0) = ∑ j ∈ Ico c (min t e), f j := by
  rw [← Finset.sum_filter]
  congr 1
  ext j; simp only [mem_filter, mem_Ico]; omega

/-- A block's sum cut off at `t`, with everything past the block up to `t`. -/
theorem sum_cut_add (f : ℕ → ℝ) (c e t : ℕ) (hc : c ≤ e) :
    (∑ j ∈ Ico c e, if j < t then f j else 0) + ∑ j ∈ Ico e t, f j = ∑ j ∈ Ico c t, f j := by
  rw [sum_cut]
  rcases le_total t e with h | h
  · rw [min_eq_left h, Ico_eq_empty_of_le h, sum_empty, add_zero]
  · rw [min_eq_right h, sum_Ico_consecutive f hc h]

/-- The part of a block past place `s`. -/
theorem sum_past (f : ℕ → ℝ) (a s n : ℕ) (hs : s < n) :
    (∑ x : Fin n, f (a + x.val) * (if s < x.val then 1 else 0)) = ∑ j ∈ Ico (a + s + 1) (a + n), f j := by
  have h : ∀ x : Fin n, f (a + x.val) * (if s < x.val then (1 : ℝ) else 0) = (fun j => if a + s < j then f j else 0) (a + x.val) := by
    intro x
    by_cases hx : s < x.val
    · simp [hx]
    · simp [hx]
  rw [Finset.sum_congr rfl (fun x _ => h x), sum_block (fun j => if a + s < j then f j else 0) a n, ← Finset.sum_filter]
  congr 1
  ext j; simp only [mem_filter, mem_Ico]; omega

/-- A weight's logarithm from its block: the block's part past the place, and what is past the block. -/
theorem logw_block (z : ℕ → ℝ) (a t s n : ℕ) (hs : s < n) :
    z (a + s) - softplus (z (a + s)) - (∑ x : Fin n, (if a + x.val < t then softplus (z (a + x.val)) else 0) * (if s < x.val then 1 else 0)) - tail z (a + n) t
      = logw z t (a + s) := by
  rw [sum_past (fun j => if j < t then softplus (z j) else 0) a s n hs]
  unfold logw tail
  rw [← sum_cut_add (fun j => softplus (z j)) (a + s + 1) (a + n) t (by omega)]
  ring

/-- What a block gives up, with what is past it. -/
theorem tail_block (z : ℕ → ℝ) (a t n : ℕ) :
    tail z (a + n) t + ∑ x : Fin n, (if a + x.val < t then softplus (z (a + x.val)) else 0) = tail z a t := by
  rw [sum_block (fun j => if j < t then softplus (z j) else 0) a n]
  unfold tail
  rw [← sum_cut_add (fun j => softplus (z j)) a (a + n) t (by omega)]
  ring

/-- The weighted sum with one more block. -/
theorem behind_block (z v : ℕ → ℝ) (a t n : ℕ) :
    behind z v t (a + n) + ∑ x : Fin n, (if a + x.val < t then Real.exp (logw z t (a + x.val)) else 0) * v (a + x.val) = behind z v t a := by
  have h : ∀ x : Fin n, (if a + x.val < t then Real.exp (logw z t (a + x.val)) else 0) * v (a + x.val)
      = (fun j => if j < t then Real.exp (logw z t j) * v j else 0) (a + x.val) := by
    intro x
    by_cases hx : a + x.val < t
    · simp [hx]
    · simp [hx]
  rw [Finset.sum_congr rfl (fun x _ => h x), sum_block (fun j => if j < t then Real.exp (logw z t j) * v j else 0) a n]
  unfold behind
  rw [← sum_cut_add (fun j => Real.exp (logw z t j) * v j) a (a + n) t (by omega)]
  ring

/-- Nothing is past the row itself. -/
theorem tail_self (z : ℕ → ℝ) (c t : ℕ) (h : t ≤ c) : tail z c t = 0 := by
  unfold tail; rw [Ico_eq_empty_of_le h, sum_empty]

/-- Nor is any weight. -/
theorem behind_self (z v : ℕ → ℝ) (c t : ℕ) (h : t ≤ c) : behind z v t c = 0 := by
  unfold behind; rw [Ico_eq_empty_of_le h, sum_empty]

/-! ## The same among the extended reals -/

open Idealize.ShloMosaic

/-- A sum of reals, read among the extended reals. -/
theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [sum_insert ha, sum_insert ha, EReal.coe_add, ih]

/-- The smoothed positive part of a score in base two, as the extended reals compute it. -/
def nlk (z : EReal) : EReal := max z 0 + Ideal.log (1 + Ideal.exp2 (0 - max z (-z))) * ((L : ℝ) : EReal)

/-- At a real score it is the real one. -/
theorem nlk_coe (x : ℝ) : nlk ((L * x : ℝ) : EReal) = ((L * softplus x : ℝ) : EReal) := by
  have hm : ∀ a b : ℝ, max (a : EReal) (b : EReal) = ((max a b : ℝ) : EReal) := fun a b => (EReal.coe_strictMono.monotone.map_max).symm
  have habs : max ((L * x : ℝ) : EReal) (-((L * x : ℝ) : EReal)) = ((|L * x| : ℝ) : EReal) := by
    rw [← EReal.coe_neg, hm]; rfl
  have hpos : ¬ (1 + Real.rpow 2 (-|L * x|) ≤ 0) := by
    have : 0 < Real.rpow 2 (-|L * x|) := Real.rpow_pos_of_pos (by norm_num) _
    linarith
  unfold nlk
  rw [habs, ← EReal.coe_zero, hm, ← EReal.coe_sub, zero_sub, Ideal.exp2_coe, ← EReal.coe_one, ← EReal.coe_add, Ideal.log_coe, if_neg hpos,
    ← EReal.coe_mul, ← EReal.coe_add, softplus_two]

/-- A power of two of a rescaled real. -/
theorem exp2_L (x : ℝ) : Ideal.exp2 ((L * x : ℝ) : EReal) = ((Real.exp x : ℝ) : EReal) := by
  rw [Ideal.exp2_coe, rpow_L]

/-- A weight's logarithm in base two from a block of scores in base two: the block's places up to the row count, and
    `D` is what is past the block. -/
theorem log_block (z : ℕ → ℝ) (a t : ℕ) (s : Fin 256) (y : Fin 256 → EReal) (T : Fin 256 → EReal) (D : EReal)
    (hy : ∀ x, y x = ((L * z (a + x.val) : ℝ) : EReal)) (hT : ∀ x, T x = if s.val < x.val then 1 else 0)
    (hD : D = ((L * tail z (a + 256) t : ℝ) : EReal)) :
    y s - nlk (y s) - (∑ x, if a + x.val < t then nlk (y x) * T x else 0) - D = ((L * logw z t (a + s.val) : ℝ) : EReal) := by
  have h : ∀ x, (if a + x.val < t then nlk (y x) * T x else 0)
      = (((L * ((if a + x.val < t then softplus (z (a + x.val)) else 0) * (if s.val < x.val then 1 else 0)) : ℝ)) : EReal) := by
    intro x
    rw [hy, hT, nlk_coe]
    split_ifs <;> simp
  rw [Finset.sum_congr rfl (fun x _ => h x), ← coe_sum, hy, nlk_coe, hD, ← EReal.coe_sub, ← EReal.coe_sub, ← EReal.coe_sub,
    ← Finset.mul_sum, ← logw_block z a t s.val 256 s.isLt]
  congr 1; ring

/-- What a block gives up in base two, with what is past it. -/
theorem drop_block (z : ℕ → ℝ) (a t : ℕ) (y : Fin 256 → EReal) (D : EReal)
    (hy : ∀ x, y x = ((L * z (a + x.val) : ℝ) : EReal)) (hD : D = ((L * tail z (a + 256) t : ℝ) : EReal)) :
    D + (∑ x, if a + x.val < t then nlk (y x) else 0) = ((L * tail z a t : ℝ) : EReal) := by
  have h : ∀ x, (if a + x.val < t then nlk (y x) else 0)
      = (((L * (if a + x.val < t then softplus (z (a + x.val)) else 0) : ℝ)) : EReal) := by
    intro x
    rw [hy, nlk_coe]
    split_ifs <;> simp
  rw [Finset.sum_congr rfl (fun x _ => h x), ← coe_sum, hD, ← EReal.coe_add, ← Finset.mul_sum, ← tail_block z a t 256]
  congr 1; ring

/-- The weighted sum with one more block of weights `w`. -/
theorem acc_block (z v : ℕ → ℝ) (a t : ℕ) (w u : Fin 256 → EReal) (A : EReal)
    (hw : ∀ x, w x = if a + x.val < t then ((Real.exp (logw z t (a + x.val)) : ℝ) : EReal) else 0)
    (hu : ∀ x, u x = ((v (a + x.val) : ℝ) : EReal)) (hA : A = ((behind z v t (a + 256) : ℝ) : EReal)) :
    A + (∑ x, w x * u x) = ((behind z v t a : ℝ) : EReal) := by
  have h : ∀ x, w x * u x = (((if a + x.val < t then Real.exp (logw z t (a + x.val)) else 0) * v (a + x.val) : ℝ) : EReal) := by
    intro x
    rw [hw, hu]
    split_ifs <;> simp
  rw [Finset.sum_congr rfl (fun x _ => h x), ← coe_sum, hA, ← EReal.coe_add, behind_block]

end Sticks
-- ==== Proof.Payloads.lean ====
/- The kernel's vector values read at one place: scores, the weights' logarithms and the weighted sums of a block. -/
module

public import proofs.«01_k».proof.Proof.KernelIdealBody
public import proofs.«01_k».proof.Proof.Sticks
public import Idealize.ShloMosaic.Lib.Pointwise
public import Idealize.ShloMosaic.Lib.WordCmp

@[expose] public section

set_option maxRecDepth 16384
set_option maxHeartbeats 1600000

noncomputable section

namespace Cert.KernelIdeal.Hand

open Cert.KernelIdeal Cert.KernelIdeal.Gen Idealize.ShloMosaic Idealize.ShloMosaic.TcCoe
open Sticks (nlk L)

/-! ## Constants, comparisons, scalar operations -/

/-- The change of base. -/
theorem named_log2e : (Named.named κ "log2e" 0x3FB8AA3B#32 : Ideal .f32) = ((L : ℝ) : EReal) :=
  IdealRules.named_const.ideal_named_scalar _ _ _ _ rfl

/-- The scores' scale in base two. -/
theorem named_q_scale : (Named.named κ "q_scale" 0x3E0293EE#32 : Ideal .f32) = (((11863283 / 134217728) * L : ℝ) : EReal) :=
  IdealRules.named_const.ideal_named_scalar _ _ _ _ rfl

/-- The logarithm of no weight. -/
theorem named_idle : (Named.named κ "idle" 0xF149F2CA#32 : Ideal .f32) = (⊥ : EReal) :=
  IdealRules.named_const.ideal_named_scalar _ _ _ _ rfl

/-- A choice by a comparison of small words. -/
theorem sel_lt {α : Type} (a b : ℕ) (x y : BitVec 32) (A B : α) (hx : x.toNat = a) (hy : y.toNat = b) (ha : a < 2 ^ 31) (hb : b < 2 ^ 31) :
    Scalar.select (IntOp.cmpi .slt x y) A B = if a < b then A else B := by
  rw [WordCmp.cmpi_slt_of_lt (by rw [hx]; exact ha) (by rw [hy]; exact hb), hx, hy]
  by_cases h : a < b <;> simp [Scalar.select, h]

/-- The same, a row against a column moved by a constant. -/
theorem sel_col {α : Type} (s r k : ℕ) (A B : α) (hs : s < 256) (hr : r < 512) (hk : k < 1024) :
    Scalar.select (IntOp.cmpi .slt (IntOp.addi (BitVec.ofNat 32 s) (BitVec.ofNat 32 k)) (BitVec.ofNat 32 r)) A B = if k + s < r then A else B := by
  refine sel_lt (k + s) r _ _ A B ?_ ?_ (by omega) (by omega)
  · simp only [IntOp.addi, BitVec.toNat_add, BitVec.toNat_ofNat]; omega
  · simp only [BitVec.toNat_ofNat]; omega

theorem sel256 {α : Type} (s : Fin 256) (r : Fin 512) (A B : α) :
    Scalar.select (IntOp.cmpi .slt (IntOp.addi (BitVec.ofNat 32 s.val) 256#32) (BitVec.ofNat 32 r.val)) A B = if 256 + s.val < r.val then A else B :=
  sel_col s.val r.val 256 A B s.isLt r.isLt (by omega)
theorem sel0 {α : Type} (s : Fin 256) (r : Fin 512) (A B : α) :
    Scalar.select (IntOp.cmpi .slt (IntOp.addi (BitVec.ofNat 32 s.val) 0#32) (BitVec.ofNat 32 r.val)) A B = if s.val < r.val then A else B :=
  (sel_col s.val r.val 0 A B s.isLt r.isLt (by omega)).trans (by rw [Nat.zero_add])

theorem exp2_read (x : Ideal .f32) : FloatOps.exp2 x = Ideal.exp2 x := rfl

/-! ## The mask and the scores -/

/-- The triangular mask. -/
theorem mask_apply (r s : Fin 256) : k0_pay40 (F := Ideal) (ix2 r s) = if s.val < r.val then (1 : EReal) else 0 := by
  pointwise [k0_pay40]
  have h : IntOp.cmpi .sgt (BitVec.ofNat 32 r.val) (BitVec.ofNat 32 s.val) = IntOp.cmpi .slt (BitVec.ofNat 32 s.val) (BitVec.ofNat 32 r.val) := rfl
  rw [h]
  exact sel_lt s.val r.val _ _ _ _ (by simp only [BitVec.toNat_ofNat]; omega) (by simp only [BitVec.toNat_ofNat]; omega) (by omega) (by omega)

/-- A score in base two, as the products give it. -/
theorem score_real (q k : Fin 128 → ℝ) (b : ℝ) :
    (∑ x, ((q x : ℝ) : EReal) * (((11863283 / 134217728) * L : ℝ) : EReal) * ((k x : ℝ) : EReal)) + ((b : ℝ) : EReal) * ((L : ℝ) : EReal)
      = ((L * ((∑ x, q x * k x) * (11863283 / 134217728) + b) : ℝ) : EReal) := by
  have h : ∀ x, ((q x : ℝ) : EReal) * (((11863283 / 134217728) * L : ℝ) : EReal) * ((k x : ℝ) : EReal) = ((L * (11863283 / 134217728) * (q x * k x) : ℝ) : EReal) := by
    intro x; rw [← EReal.coe_mul, ← EReal.coe_mul]; congr 1; ring
  rw [Finset.sum_congr rfl (fun x _ => h x), ← Sticks.coe_sum, ← EReal.coe_mul, ← EReal.coe_add, ← Finset.mul_sum]
  congr 1; ring

section
variable (x1 : Vec Ideal S512x128 .f32) (b : Elt Ideal .f32) (v : Vec Ideal S256x128 .bf16) (r : Fin 512) (s : Fin 256)
  (q k : Fin 128 → ℝ) (β : ℝ) (hq : ∀ x, x1 (ix2 r x) = ((q x : ℝ) : EReal)) (hk : ∀ x, v (ix2 s x) = ((k x : ℝ) : EReal)) (hb : b = ((β : ℝ) : EReal))
include hq hk hb

/-- The scores against the diagonal's upper block, -/
theorem score46 : k0_pay46 x1 b v (ix2 r s) = ((L * ((∑ x, q x * k x) * (11863283 / 134217728) + β) : ℝ) : EReal) := by
  pointwise [k0_pay46, k0_pay41, k0_pay42]
  simp only [named_log2e, named_q_scale, hq, hk, hb]
  exact score_real q k β
/-- against its lower block, -/
theorem score72 : k0_pay72 (k0_pay41 x1) (k0_pay42 b) v (ix2 r s) = ((L * ((∑ x, q x * k x) * (11863283 / 134217728) + β) : ℝ) : EReal) := by
  pointwise [k0_pay72, k0_pay41, k0_pay42]
  simp only [named_log2e, named_q_scale, hq, hk, hb]
  exact score_real q k β
/-- against the block before the diagonal, -/
theorem score98 : k0_pay98 (k0_pay41 x1) (k0_pay42 b) v (ix2 r s) = ((L * ((∑ x, q x * k x) * (11863283 / 134217728) + β) : ℝ) : EReal) := by
  pointwise [k0_pay98, k0_pay41, k0_pay42]
  simp only [named_log2e, named_q_scale, hq, hk, hb]
  exact score_real q k β
/-- and, in the loop, against the next block. -/
theorem score8 : k0_pay8 (k0_pay41 x1) (k0_pay42 b) v (ix2 r s) = ((L * ((∑ x, q x * k x) * (11863283 / 134217728) + β) : ℝ) : EReal) := by
  pointwise [k0_pay8, k0_pay41, k0_pay42]
  simp only [named_log2e, named_q_scale, hq, hk, hb]
  exact score_real q k β
end

/-! ## The loop's block -/

/-- The weights' logarithms of a block behind the diagonal. -/
theorem lw_apply (T : Vec Ideal S256x256 .bf16) (z : FVec Ideal S512x256 .f32) (D : FVec Ideal S512x1 .f32) (r : Fin 512) (s : Fin 256) :
    k0_pay1 D (k0_pay21 T z (k0_pay12 T z) (k0_pay15 z) (k0_pay16 z)) (ix2 r s)
      = z (ix2 r s) - nlk (z (ix2 r s)) - (∑ x, nlk (z (ix2 r x)) * T (ix2 x s)) - D (ix2 r 0) := by
  pointwise [k0_pay1, k0_pay21, k0_pay12, k0_pay15, k0_pay16, k0_pay9, k0_pay10, k0_pay13, k0_pay14, k0_pay17, k0_pay18, k0_pay19, k0_pay20]
  simp only [exp2_read, Ideal.absf_def, named_log2e, nlk]
  by_cases h1 : r.val < 128
  · simp only [h1, ↓reduceDIte]
  · by_cases h2 : r.val - 128 < 128
    · simp only [h1, h2, ↓reduceDIte, show 128 + (r.val - 128) = r.val by omega, Fin.eta]
    · by_cases h3 : r.val - 128 - 128 < 128
      · simp only [h1, h2, h3, ↓reduceDIte, show 256 + (r.val - 128 - 128) = r.val by omega, Fin.eta]
      · simp only [h1, h2, h3, ↓reduceDIte, show 384 + (r.val - 128 - 128 - 128) = r.val by omega, Fin.eta]

/-- What the block gives up, with what is past it. -/
theorem drop_apply (z : FVec Ideal S512x256 .f32) (D : FVec Ideal S512x1 .f32) (r : Fin 512) :
    k0_pay3 D (k0_pay22 z (k0_pay11 z) (k0_pay14 z)) (ix2 r 0) = D (ix2 r 0) + ∑ x, nlk (z (ix2 r x)) := by
  pointwise [k0_pay3, k0_pay22, k0_pay11, k0_pay9, k0_pay10, k0_pay13, k0_pay14, k0_pay17, k0_pay18, k0_pay19, k0_pay20]
  simp only [exp2_read, Ideal.absf_def, named_log2e, nlk]
  by_cases h1 : r.val < 128
  · simp only [h1, ↓reduceDIte]
  · by_cases h2 : r.val - 128 < 128
    · simp only [h1, h2, ↓reduceDIte, show 128 + (r.val - 128) = r.val by omega, Fin.eta]
    · by_cases h3 : r.val - 128 - 128 < 128
      · simp only [h1, h2, h3, ↓reduceDIte, show 256 + (r.val - 128 - 128) = r.val by omega, Fin.eta]
      · simp only [h1, h2, h3, ↓reduceDIte, show 384 + (r.val - 128 - 128 - 128) = r.val by omega, Fin.eta]

/-- The weighted sum with one more block. -/
theorem acc_apply (lw : FVec Ideal S512x256 .f32) (A : FVec Ideal S512x128 .f32) (v : Vec Ideal S256x128 .bf16) (r : Fin 512) (d : Fin 128) :
    k0_pay2 lw A v (ix2 r d) = A (ix2 r d) + ∑ x, Ideal.exp2 (lw (ix2 r x)) * v (ix2 x d) := by
  pointwise [k0_pay2]
  rfl

/-- Before the loop no block's weights wait. -/
theorem idle_apply (r : Fin 512) (s : Fin 256) : k0_pay97 (F := Ideal) (ix2 r s) = (⊥ : EReal) := by
  pointwise [k0_pay97]
  exact named_idle

/-! ## The diagonal -/

/-- The diagonal's upper block: its weights, -/
theorem upper_apply (T : Vec Ideal S256x256 .bf16) (x1 : Vec Ideal S512x128 .f32) (v8 : Elt Ideal .f32) (v23 : Vec Ideal S256x128 .bf16) (z : FVec Ideal S512x256 .f32)
    (hz : k0_pay46 x1 v8 v23 = z) (r : Fin 512) (s : Fin 256) :
    k0_pay68 T (k0_pay44 (F := Ideal)) k0_pay45 z (k0_pay53 T k0_pay45 (k0_pay47 x1 v8 v23) (k0_pay48 x1 v8 v23) (k0_pay49 x1 v8 v23) (Named.named κ "log2e" 0x3FB8AA3B#32))
      (k0_pay58 T k0_pay45 z) (k0_pay59 z) (k0_pay60 z) (k0_pay61 z) (ix2 r s)
      = if 256 + s.val < r.val then Ideal.exp2 (z (ix2 r s) - nlk (z (ix2 r s)) - (∑ x : Fin 256, if 256 + x.val < r.val then nlk (z (ix2 r x)) * T (ix2 x s) else 0)) else 0 := by
  pointwise [k0_pay68, k0_pay44, k0_pay45, k0_pay53, k0_pay47, k0_pay48, k0_pay49, k0_pay58, k0_pay59, k0_pay60, k0_pay61, k0_pay50, k0_pay51, k0_pay54, k0_pay55, k0_pay56, k0_pay62, k0_pay63, k0_pay64, k0_pay65, k0_pay66]
  simp only [exp2_read, Ideal.absf_def, named_log2e, nlk, hz]
  by_cases h1 : r.val < 128
  · simp only [h1, ↓reduceDIte, sel256]
  · by_cases h2 : r.val - 128 < 128
    · simp only [h1, h2, ↓reduceDIte, show 128 + (r.val - 128) = r.val by omega, Fin.eta, sel256]
    · by_cases h3 : r.val - 128 - 128 < 128
      · simp only [h1, h2, h3, ↓reduceDIte, show 256 + (r.val - 128 - 128) = r.val by omega, Fin.eta, sel256]
      · simp only [h1, h2, h3, ↓reduceDIte, show 384 + (r.val - 128 - 128 - 128) = r.val by omega, Fin.eta, sel256]

/-- what it gives up, -/
theorem upper_drop (x1 : Vec Ideal S512x128 .f32) (v8 : Elt Ideal .f32) (v23 : Vec Ideal S256x128 .bf16) (z : FVec Ideal S512x256 .f32)
    (hz : k0_pay46 x1 v8 v23 = z) (r : Fin 512) :
    k0_pay70 (k0_pay44 (F := Ideal)) (k0_pay67 k0_pay45 z (k0_pay52 k0_pay45 (k0_pay48 x1 v8 v23) (k0_pay49 x1 v8 v23) (Named.named κ "log2e" 0x3FB8AA3B#32))
      (k0_pay57 k0_pay45 z) (k0_pay60 z) (k0_pay61 z)) (ix2 r 0)
      = ∑ x : Fin 256, if 256 + x.val < r.val then nlk (z (ix2 r x)) else 0 := by
  pointwise [k0_pay70, k0_pay67, k0_pay44, k0_pay45, k0_pay52, k0_pay47, k0_pay48, k0_pay49, k0_pay57, k0_pay59, k0_pay60, k0_pay61, k0_pay50, k0_pay51, k0_pay54, k0_pay55, k0_pay56, k0_pay62, k0_pay63, k0_pay64, k0_pay65, k0_pay66]
  simp only [exp2_read, Ideal.absf_def, named_log2e, nlk, hz]
  by_cases h1 : r.val < 128
  · simp only [h1, ↓reduceDIte, sel256]
  · by_cases h2 : r.val - 128 < 128
    · simp only [h1, h2, ↓reduceDIte, show 128 + (r.val - 128) = r.val by omega, Fin.eta, sel256]
    · by_cases h3 : r.val - 128 - 128 < 128
      · simp only [h1, h2, h3, ↓reduceDIte, show 256 + (r.val - 128 - 128) = r.val by omega, Fin.eta, sel256]
      · simp only [h1, h2, h3, ↓reduceDIte, show 384 + (r.val - 128 - 128 - 128) = r.val by omega, Fin.eta, sel256]

/-- and its weighted sum. -/
theorem upper_acc (w : FVec Ideal S512x256 .bf16) (v : Vec Ideal S256x128 .bf16) (r : Fin 512) (d : Fin 128) :
    k0_pay69 (k0_pay43 (F := Ideal)) w v (ix2 r d) = ∑ x, w (ix2 r x) * v (ix2 x d) := by
  pointwise [k0_pay69, k0_pay43]

/-- The rows' and the columns' numbers in a block of scores. -/
abbrev rowsOf : IVec S512x256 32 := iota .tc S512x256 32 [0] iota_S512x256_d0_w32
abbrev colsOf : IVec S512x256 32 := iota .tc S512x256 32 [1] iota_S512x256_d1_w32

/-- The diagonal's lower block: the weighted sum with its weights, -/
theorem lower_acc (T : Vec Ideal S256x256 .bf16) (A : FVec Ideal S512x128 .f32) (D : FVec Ideal S512x1 .f32) (v6 : FVec Ideal S512x128 .bf16) (v9 : Ideal .f32)
    (v140 v245 : Vec Ideal S256x128 .bf16) (z : FVec Ideal S512x256 .f32) (hz : k0_pay72 v6 v9 v140 = z) (r : Fin 512) (d : Fin 128) :
    k0_pay95 T A D (k0_pay71 rowsOf colsOf) (k0_pay77 v6 v9 T rowsOf colsOf v140)
      (k0_pay84 T (k0_pay71 rowsOf colsOf) (k0_pay78 v6 v9 v140) (k0_pay79 v6 v9 v140) (k0_pay80 v6 v9 v140)) (k0_pay89 T (k0_pay71 rowsOf colsOf) z)
      (k0_pay90 z) (k0_pay91 z) (k0_pay92 z) (Scalar.ofBits .f32 0x3F800000#32) v245 (ix2 r d)
      = A (ix2 r d) + ∑ s, (if s.val < r.val then Ideal.exp2 (z (ix2 r s) - nlk (z (ix2 r s)) - (∑ x : Fin 256, if x.val < r.val then nlk (z (ix2 r x)) * T (ix2 x s) else 0) - D (ix2 r 0)) else 0) * v245 (ix2 s d) := by
  pointwise [k0_pay95, k0_pay71, k0_pay77, k0_pay84, k0_pay78, k0_pay79, k0_pay80, k0_pay89, k0_pay90, k0_pay91, k0_pay92, k0_pay93, k0_pay94, k0_pay85, k0_pay86, k0_pay87, k0_pay81, k0_pay82, k0_pay73, k0_pay74, k0_pay75]
  simp only [exp2_read, Ideal.absf_def, named_log2e, nlk, hz]
  by_cases h1 : r.val < 128
  · simp only [h1, ↓reduceDIte, sel0, ite_mul, zero_mul]
  · by_cases h2 : r.val - 128 < 128
    · simp only [h1, h2, ↓reduceDIte, show 128 + (r.val - 128) = r.val by omega, Fin.eta, sel0, ite_mul, zero_mul]
    · by_cases h3 : r.val - 128 - 128 < 128
      · simp only [h1, h2, h3, ↓reduceDIte, show 256 + (r.val - 128 - 128) = r.val by omega, Fin.eta, sel0, ite_mul, zero_mul]
      · simp only [h1, h2, h3, ↓reduceDIte, show 384 + (r.val - 128 - 128 - 128) = r.val by omega, Fin.eta, sel0, ite_mul, zero_mul]

/-- and what it gives up. -/
theorem lower_drop (D : FVec Ideal S512x1 .f32) (v6 : FVec Ideal S512x128 .bf16) (v9 : Ideal .f32)
    (v140 : Vec Ideal S256x128 .bf16) (z : FVec Ideal S512x256 .f32) (hz : k0_pay72 v6 v9 v140 = z) (r : Fin 512) :
    k0_pay96 D (k0_pay71 rowsOf colsOf) (k0_pay76 v6 v9 rowsOf colsOf v140)
      (k0_pay83 (k0_pay71 rowsOf colsOf) (k0_pay79 v6 v9 v140) (k0_pay80 v6 v9 v140)) (k0_pay88 (k0_pay71 rowsOf colsOf) z)
      (k0_pay91 z) (k0_pay92 z) (Scalar.ofBits .f32 0x3F800000#32) (ix2 r 0)
      = D (ix2 r 0) + ∑ x : Fin 256, if x.val < r.val then nlk (z (ix2 r x)) else 0 := by
  pointwise [k0_pay96, k0_pay71, k0_pay76, k0_pay83, k0_pay78, k0_pay79, k0_pay80, k0_pay88, k0_pay90, k0_pay91, k0_pay92, k0_pay93, k0_pay94, k0_pay85, k0_pay86, k0_pay87, k0_pay81, k0_pay82, k0_pay73, k0_pay74, k0_pay75]
  simp only [exp2_read, Ideal.absf_def, named_log2e, nlk, hz]
  by_cases h1 : r.val < 128
  · simp only [h1, ↓reduceDIte, sel0]
  · by_cases h2 : r.val - 128 < 128
    · simp only [h1, h2, ↓reduceDIte, show 128 + (r.val - 128) = r.val by omega, Fin.eta, sel0]
    · by_cases h3 : r.val - 128 - 128 < 128
      · simp only [h1, h2, h3, ↓reduceDIte, show 256 + (r.val - 128 - 128) = r.val by omega, Fin.eta, sel0]
      · simp only [h1, h2, h3, ↓reduceDIte, show 384 + (r.val - 128 - 128 - 128) = r.val by omega, Fin.eta, sel0]

/-! ## The tile's end -/

/-- The head's norm of a row, with the gain. -/
def normed (o g : Fin 128 → EReal) (d : Fin 128) : EReal :=
  o d * Ideal.rsqrt (Ideal.div (∑ x, o x * o x) (Ideal.ofBits FTy.f32 1124073472#32) + Ideal.ofBits FTy.f32 897988541#32) * g d

/-- The tile's output: the last block's weighted sum added, the head's norm taken. -/
theorem out_apply (lw : FVec Ideal S512x256 .f32) (A : FVec Ideal S512x128 .f32) (v : Vec Ideal S256x128 .bf16) (g : Vec Ideal S1x128 .f32) (r : Fin 512) (d : Fin 128) :
    k0_pay7 lw A v g (ix2 r d) = normed (fun d => A (ix2 r d) + ∑ x, Ideal.exp2 (lw (ix2 r x)) * v (ix2 x d)) (fun d => g (ix2 0 d)) d := by
  pointwise [k0_pay7]
  rfl

end Cert.KernelIdeal.Hand
-- ==== Proof.Tile.lean ====
/- One query tile of the kernel: the loop over the blocks of keys, trip by trip, and the tile's output. -/
module

public import proofs.«01_k».proof.Proof.Payloads

@[expose] public section

set_option maxRecDepth 16384
set_option maxHeartbeats 1600000

noncomputable section

namespace Cert.KernelIdeal.Hand

open Cert.KernelIdeal Cert.KernelIdeal.Gen Idealize.ShloMosaic Idealize.ShloMosaic.TcCoe
open Sticks (nlk L softplus tail logw behind)

/-! ## Where the blocks begin -/

/-- The diagonal's upper block of keys, -/
theorem off2_upper (i : grid0.Coords) : k0_off2 i 1#32 0 = 256 * (2 * (i 1).val + 1) := by
  have h : ∀ a : Fin 16, (Scalar.indexCast (Scalar.muli (Scalar.addi (Scalar.muli (BitVec.ofNat 32 a.val) 2#32) 1#32) 256#32) : Index).toNat = 256 * (2 * a.val + 1) := by decide +kernel
  exact h (i 1)
/-- its lower block, -/
theorem off2_lower (i : grid0.Coords) : k0_off2 i 0#32 0 = 256 * (2 * (i 1).val) := by
  have h : ∀ a : Fin 16, (Scalar.indexCast (Scalar.muli (Scalar.addi (Scalar.muli (BitVec.ofNat 32 a.val) 2#32) 0#32) 256#32) : Index).toNat = 256 * (2 * a.val) := by decide +kernel
  exact h (i 1)
/-- the block before it, -/
theorem off3_eq (i : grid0.Coords) : k0_off3 i 0 = 256 * (2 * (i 1).val - 1) := by
  have h : ∀ a : Fin 16, (Scalar.indexCast (Scalar.muli (Scalar.maxsi (Scalar.subi (Scalar.muli (BitVec.ofNat 32 a.val) 2#32) 1#32) 0#32) 256#32) : Index).toNat = 256 * (2 * a.val - 1) := by decide +kernel
  exact h (i 1)
/-- the next block at each trip, -/
theorem off4_eq (i : grid0.Coords) (k : Fin (k0_t1_loop i).trips) : k0_off4 i k 0 = 256 * (2 * (i 1).val - 1 - (k.val + 1)) := by
  have h : ∀ a : Fin 16, ∀ k : Fin 30, (Scalar.indexCast (Scalar.muli (Scalar.maxsi (Scalar.subi (Scalar.subi (Scalar.muli (BitVec.ofNat 32 a.val) 2#32) 1#32) (Scf.iv 1#32 1#32 k.val)) 0#32) 256#32) : Index).toNat = 256 * (2 * a.val - 1 - (k.val + 1)) := by decide +kernel
  have hk : k.val < 30 := by have h1 : k.val < 2 * (i 1).val := Nat.lt_of_lt_of_eq k.isLt (trips1 i); have h2 : (i 1).val < 16 := (i 1).isLt; omega
  exact h (i 1) ⟨k.val, hk⟩
/-- and the values' block at each trip. -/
theorem off5_eq (i : grid0.Coords) (k : Fin (k0_t1_loop i).trips) : k0_off5 i k 0 = 256 * (2 * (i 1).val - k.val) := by
  have h : ∀ a : Fin 16, ∀ k : Fin 30, k.val < 2 * a.val → (Scalar.indexCast (Scalar.muli (Scalar.minsi (Scalar.muli (BitVec.ofNat 32 a.val) 2#32) (Scalar.maxsi 0#32 (Scalar.subi (Scalar.addi (Scalar.muli (BitVec.ofNat 32 a.val) 2#32) 1#32) (Scf.iv 1#32 1#32 k.val)))) 256#32) : Index).toNat = 256 * (2 * a.val - k.val) := by decide +kernel
  have hk2 : k.val < 2 * (i 1).val := Nat.lt_of_lt_of_eq k.isLt (trips1 i)
  have hk : k.val < 30 := by have : (i 1).val < 16 := (i 1).isLt; omega
  exact h (i 1) ⟨k.val, hk⟩ hk2

/-- A block's entry is the array's, so many rows down. -/
theorem blk_real (X : Vec Ideal S8192x128 .bf16) (f : ℕ → Fin 128 → ℝ) (hX : ∀ (j : Fin 8192) (x : Fin 128), X (ix2 j x) = ((f j.val x : ℝ) : EReal))
    (off : Fin 2 → ℕ) (h : ∀ a, off a + S256x128.size a ≤ S8192x128.size a) (a : ℕ) (h0 : off 0 = a) (h1 : off 1 = 0) (s : Fin 256) (x : Fin 128) :
    blk X off h (ix2 s x) = ((f (a + s.val) x : ℝ) : EReal) := by
  pointwise [blk]
  rw [hX]
  have e : (⟨off 1 + x.val, by rw [h1]; omega⟩ : Fin 128) = x := Fin.ext (by show off 1 + x.val = x.val; omega)
  simp only [h0, h1, Nat.zero_add, Fin.eta]

/-! ## The tile -/

section
variable (i : grid0.Coords) (x0 : Vec Ideal S8 .f32) (x1 : Vec Ideal S512x128 .f32) (kb vb : Vec Ideal S8192x128 .bf16)
  (q : Fin 512 → Fin 128 → ℝ) (kk vv : ℕ → Fin 128 → ℝ) (β : ℝ)

/-- Row `r`'s scores. -/
def score (q : Fin 512 → Fin 128 → ℝ) (kk : ℕ → Fin 128 → ℝ) (β : ℝ) (r : Fin 512) (j : ℕ) : ℝ := (∑ x, q r x * kk j x) * (11863283 / 134217728) + β

variable (hq : ∀ r x, x1 (ix2 r x) = ((q r x : ℝ) : EReal)) (hk : ∀ (j : Fin 8192) x, kb (ix2 j x) = ((kk j.val x : ℝ) : EReal))
  (hv : ∀ (j : Fin 8192) x, vb (ix2 j x) = ((vv j.val x : ℝ) : EReal)) (b : Elt Ideal .f32) (hb : b = ((β : ℝ) : EReal))

/-- What the loop carries at row `r` before trip `n`. -/
structure Carried (p : Carry Ideal) (n : ℕ) (r : Fin 512) : Prop where
  /-- The next block's scores. -/
  z : ∀ s : Fin 256, p.1 (ix2 r s) = ((L * score q kk β r (256 * (2 * (i 1).val - 1 - n) + s.val) : ℝ) : EReal)
  /-- Before the first trip no weights wait, -/
  lw0 : n = 0 → ∀ s : Fin 256, p.2.1 (ix2 r s) = (⊥ : EReal)
  /-- afterwards those of the block before. -/
  lw : n ≠ 0 → ∀ s : Fin 256, p.2.1 (ix2 r s) = ((L * logw (score q kk β r) (512 * (i 1).val + r.val) (256 * (2 * (i 1).val - n) + s.val) : ℝ) : EReal)
  /-- The weighted sum so far. -/
  acc : ∀ d : Fin 128, p.2.2.1 (ix2 r d) = ((behind (score q kk β r) (fun j => vv j d) (512 * (i 1).val + r.val) (256 * (2 * (i 1).val - (n - 1))) : ℝ) : EReal)
  /-- What the blocks so far have given up. -/
  drop : p.2.2.2 (ix2 r 0) = ((L * tail (score q kk β r) (256 * (2 * (i 1).val - n)) (512 * (i 1).val + r.val) : ℝ) : EReal)

include hq hk hv hb

/-- The carry at the loop's start. -/
theorem start_carried (r : Fin 512) : Carried i q kk vv β (start i x1 b kb vb (k0_pay40 (F := Ideal))) 0 r := by
  have hr : r.val < 512 := r.isLt
  have hz1 : ∀ s : Fin 256, k0_pay46 x1 b (blk kb (k0_off2 i 1#32) (k0_off2_inb i 1)) (ix2 r s)
      = ((L * score q kk β r (256 * (2 * (i 1).val + 1) + s.val) : ℝ) : EReal) := fun s =>
    score46 x1 b _ r s (q r) (kk (256 * (2 * (i 1).val + 1) + s.val)) β (hq r)
      (fun x => blk_real kb kk hk _ _ _ (off2_upper i) rfl s x) hb
  have hz0 : ∀ s : Fin 256, k0_pay72 (k0_pay41 x1) (k0_pay42 b) (blk kb (k0_off2 i 0#32) (k0_off2_inb i 0)) (ix2 r s)
      = ((L * score q kk β r (256 * (2 * (i 1).val) + s.val) : ℝ) : EReal) := fun s =>
    score72 x1 b _ r s (q r) (kk (256 * (2 * (i 1).val) + s.val)) β (hq r)
      (fun x => blk_real kb kk hk _ _ _ (off2_lower i) rfl s x) hb
  have c1 : ∀ x : Fin 256, (256 + x.val < r.val) = (256 * (2 * (i 1).val + 1) + x.val < 512 * (i 1).val + r.val) := fun x => by
    apply propext; constructor <;> intro h <;> omega
  have c0 : ∀ x : Fin 256, (x.val < r.val) = (256 * (2 * (i 1).val) + x.val < 512 * (i 1).val + r.val) := fun x => by
    apply propext; constructor <;> intro h <;> omega
  -- the upper block
  have hw1 : ∀ s : Fin 256, (if 256 * (2 * (i 1).val + 1) + s.val < 512 * (i 1).val + r.val then
      Ideal.exp2 (k0_pay46 x1 b (blk kb (k0_off2 i 1#32) (k0_off2_inb i 1)) (ix2 r s) - nlk (k0_pay46 x1 b (blk kb (k0_off2 i 1#32) (k0_off2_inb i 1)) (ix2 r s))
        - (∑ x : Fin 256, if 256 * (2 * (i 1).val + 1) + x.val < 512 * (i 1).val + r.val then nlk (k0_pay46 x1 b (blk kb (k0_off2 i 1#32) (k0_off2_inb i 1)) (ix2 r x)) * (k0_pay40 (F := Ideal)) (ix2 x s) else 0)) else 0)
      = if 256 * (2 * (i 1).val + 1) + s.val < 512 * (i 1).val + r.val then
        ((Real.exp (logw (score q kk β r) (512 * (i 1).val + r.val) (256 * (2 * (i 1).val + 1) + s.val)) : ℝ) : EReal) else 0 := by
    intro s
    have h := Sticks.log_block (score q kk β r) (256 * (2 * (i 1).val + 1)) (512 * (i 1).val + r.val) s _ (fun x => k0_pay40 (F := Ideal) (ix2 x s)) 0 hz1
      (fun x => mask_apply x s) (by rw [Sticks.tail_self _ _ _ (by omega), mul_zero, EReal.coe_zero])
    rw [sub_eq_add_neg, neg_zero, add_zero] at h
    rw [h, Sticks.exp2_L]
  have hd1 : k0_pay70 (k0_pay44 (F := Ideal)) (k0_pay67 k0_pay45 (k0_pay46 x1 b (blk kb (k0_off2 i 1#32) (k0_off2_inb i 1))) (k0_pay52 k0_pay45 (k0_pay48 x1 b (blk kb (k0_off2 i 1#32) (k0_off2_inb i 1))) (k0_pay49 x1 b (blk kb (k0_off2 i 1#32) (k0_off2_inb i 1))) (Named.named κ "log2e" 0x3FB8AA3B#32))
      (k0_pay57 k0_pay45 (k0_pay46 x1 b (blk kb (k0_off2 i 1#32) (k0_off2_inb i 1)))) (k0_pay60 (k0_pay46 x1 b (blk kb (k0_off2 i 1#32) (k0_off2_inb i 1)))) (k0_pay61 (k0_pay46 x1 b (blk kb (k0_off2 i 1#32) (k0_off2_inb i 1))))) (ix2 r 0)
      = ((L * tail (score q kk β r) (256 * (2 * (i 1).val) + 256) (512 * (i 1).val + r.val) : ℝ) : EReal) := by
    rw [upper_drop x1 b _ _ rfl r]
    simp only [c1]
    have h := Sticks.drop_block (score q kk β r) (256 * (2 * (i 1).val + 1)) (512 * (i 1).val + r.val) _ 0 hz1
      (by rw [Sticks.tail_self _ _ _ (by omega), mul_zero, EReal.coe_zero])
    rw [zero_add] at h
    exact h
  refine ⟨fun s => ?_, fun _ s => ?_, fun h => absurd rfl h, fun d => ?_, ?_⟩
  · exact score98 x1 b _ r s (q r) (kk (256 * (2 * (i 1).val - 1 - 0) + s.val)) β (hq r)
      (fun x => blk_real kb kk hk _ _ _ (off3_eq i) rfl s x) hb
  · exact idle_apply r s
  · refine (lower_acc (k0_pay40 (F := Ideal)) _ _ _ _ _ _ _ rfl r d).trans ?_
    simp only [c0]
    refine Sticks.acc_block (score q kk β r) (fun j => vv j d) (256 * (2 * (i 1).val)) (512 * (i 1).val + r.val) _ _ _ (fun s => ?_)
      (fun s => blk_real vb vv hv _ _ _ (off2_lower i) rfl s d) ?_
    · rw [Sticks.log_block (score q kk β r) (256 * (2 * (i 1).val)) (512 * (i 1).val + r.val) s _ (fun x => k0_pay40 (F := Ideal) (ix2 x s)) _ hz0
        (fun x => mask_apply x s) hd1, Sticks.exp2_L]
    · rw [upper_acc]
      simp only [upper_apply (k0_pay40 (F := Ideal)) x1 b _ _ rfl r, c1]
      have h := Sticks.acc_block (score q kk β r) (fun j => vv j d) (256 * (2 * (i 1).val + 1)) (512 * (i 1).val + r.val) _ _ 0 hw1
        (fun s => blk_real vb vv hv _ (k0_off2_inb i 1) _ (off2_upper i) rfl s d) (by rw [Sticks.behind_self _ _ _ _ (by omega), EReal.coe_zero])
      rw [zero_add] at h
      exact h
  · refine (lower_drop _ _ _ _ _ rfl r).trans ?_
    simp only [c0]
    exact Sticks.drop_block (score q kk β r) (256 * (2 * (i 1).val)) (512 * (i 1).val + r.val) _ _ hz0 hd1

/-- One trip. -/
theorem step_carried (r : Fin 512) (k : Fin (k0_t1_loop i).trips) (p : Carry Ideal) (h : Carried i q kk vv β p k.val r) :
    Carried i q kk vv β (step1 i (k0_pay41 x1) (k0_pay42 b) (k0_pay40 (F := Ideal)) kb vb k p) (k.val + 1) r := by
  have hk2 : k.val < 2 * (i 1).val := Nat.lt_of_lt_of_eq k.isLt (trips1 i)
  have e1 : 256 * (2 * (i 1).val - k.val) = 256 * (2 * (i 1).val - 1 - k.val) + 256 := by omega
  have e2 : 2 * (i 1).val - (k.val + 1) = 2 * (i 1).val - 1 - k.val := by omega
  have hc : ∀ x : Fin 256, 256 * (2 * (i 1).val - 1 - k.val) + x.val < 512 * (i 1).val + r.val := fun x => by omega
  have hd := h.drop
  rw [e1] at hd
  refine ⟨fun s => ?_, fun h0 => absurd h0 (by omega), fun _ s => ?_, fun d => ?_, ?_⟩
  · exact score8 x1 b _ r s (q r) (kk (256 * (2 * (i 1).val - 1 - (k.val + 1)) + s.val)) β (hq r)
      (fun x => blk_real kb kk hk _ _ _ (off4_eq i k) rfl s x) hb
  · refine (lw_apply (k0_pay40 (F := Ideal)) p.1 p.2.2.2 r s).trans ?_
    have h' := Sticks.log_block (score q kk β r) (256 * (2 * (i 1).val - 1 - k.val)) (512 * (i 1).val + r.val) s _ (fun x => k0_pay40 (F := Ideal) (ix2 x s)) _ h.z
      (fun x => mask_apply x s) hd
    simp only [hc, if_true] at h'
    rw [e2]
    exact h'
  · refine (acc_apply p.2.1 p.2.2.1 _ r d).trans ?_
    have hu := fun s => blk_real vb vv hv (k0_off5 i k) (k0_off5_inb i k) _ (off5_eq i k) rfl s d
    by_cases h0 : k.val = 0
    · have ha := h.acc d
      simp only [h0] at ha ⊢
      rw [ha]
      refine (congrArg _ (Finset.sum_eq_zero fun x _ => ?_)).trans (add_zero _)
      rw [h.lw0 h0 x, Ideal.exp2_bot, zero_mul]
    · have ha := h.acc d
      have e3 : 256 * (2 * (i 1).val - (k.val - 1)) = 256 * (2 * (i 1).val - k.val) + 256 := by omega
      rw [e3] at ha
      have hx : ∀ x : Fin 256, 256 * (2 * (i 1).val - k.val) + x.val < 512 * (i 1).val + r.val := fun x => by omega
      refine Sticks.acc_block (score q kk β r) (fun j => vv j d) (256 * (2 * (i 1).val - k.val)) (512 * (i 1).val + r.val) _ _ _ (fun s => ?_) hu ha
      rw [if_pos (hx s), h.lw h0 s, Sticks.exp2_L]
  · refine (drop_apply p.1 p.2.2.2 r).trans ?_
    have h' := Sticks.drop_block (score q kk β r) (256 * (2 * (i 1).val - 1 - k.val)) (512 * (i 1).val + r.val) _ _ h.z hd
    simp only [hc, if_true] at h'
    rw [e2]
    exact h'

/-- The loop, to any trip. -/
theorem loop_carried (r : Fin 512) (n : ℕ) (hn : n ≤ (k0_t1_loop i).trips) :
    Carried i q kk vv β (loop1 i (k0_pay41 x1) (k0_pay42 b) (k0_pay40 (F := Ideal)) kb vb (start i x1 b kb vb (k0_pay40 (F := Ideal))) n) n r := by
  induction n with
  | zero => exact start_carried i x1 kb vb q kk vv β hq hk hv b hb r
  | succ n ih =>
    have h : n < (k0_t1_loop i).trips := hn
    have e : loop1 i (k0_pay41 x1) (k0_pay42 b) (k0_pay40 (F := Ideal)) kb vb (start i x1 b kb vb (k0_pay40 (F := Ideal))) (n + 1)
        = step1 i (k0_pay41 x1) (k0_pay42 b) (k0_pay40 (F := Ideal)) kb vb ⟨n, h⟩ (loop1 i (k0_pay41 x1) (k0_pay42 b) (k0_pay40 (F := Ideal)) kb vb (start i x1 b kb vb (k0_pay40 (F := Ideal))) n) := by
      show (if h : n < (k0_t1_loop i).trips then _ else _) = _
      rw [dif_pos h]
    rw [e]
    exact step_carried i x1 kb vb q kk vv β hq hk hv b hb r ⟨n, h⟩ _ (ih (Nat.le_of_lt h))

/-- THE TILE: row `r`'s output is the head's norm of the weighted sum of all the values before the row. -/
theorem tile_real (x4 : Vec Ideal S1x128 .f32) (hb' : b = biasAt i x0) (r : Fin 512) (d : Fin 128) :
    outVal i x0 x1 x4 kb vb (k0_pay40 (F := Ideal)) (ix2 r d)
      = normed (fun d => ((behind (score q kk β r) (fun j => vv j d) (512 * (i 1).val + r.val) 0 : ℝ) : EReal)) (fun d => x4 (ix2 0 d)) d := by
  subst hb'
  have h := loop_carried i x1 kb vb q kk vv β hq hk hv (biasAt i x0) hb r _ (Nat.le_refl _)
  refine (out_apply _ _ _ x4 r d).trans ?_
  congr 1
  funext d
  have ht : (k0_t1_loop i).trips = 2 * (i 1).val := trips1 i
  have hu := fun s => blk_real vb vv hv ![0, 0] inb_S8192x128_S256x128_0_0 0 rfl rfl s d
  have ha := h.acc d
  by_cases h0 : (i 1).val = 0
  · have hn : (k0_t1_loop i).trips = 0 := by omega
    rw [ha]
    refine (congrArg _ (Finset.sum_eq_zero fun x _ => ?_)).trans ((add_zero _).trans ?_)
    · rw [h.lw0 hn x, Ideal.exp2_bot, zero_mul]
    · simp only [h0, hn]
  · have e : 256 * (2 * (i 1).val - ((k0_t1_loop i).trips - 1)) = 0 + 256 := by omega
    rw [e] at ha
    refine Sticks.acc_block (score q kk β r) (fun j => vv j d) 0 (512 * (i 1).val + r.val) _ _ _ (fun s => ?_) hu ha
    have e' : 256 * (2 * (i 1).val - (k0_t1_loop i).trips) = 0 := by omega
    have hx : 0 + s.val < 512 * (i 1).val + r.val := by have := s.isLt; omega
    rw [if_pos hx, h.lw (by omega) s, e', Sticks.exp2_L]
end

end Cert.KernelIdeal.Hand
-- ==== Proof.RefValue.lean ====
/- The reference, read one stage at a time at real arguments: the scores, the weights, the weighted sums and their norm. -/
module

public import proofs.«01_k».proof.Proof.Payloads
public import proofs.«01_k».proof.Proof.Gen.ReferenceIdeal.Read

@[expose] public section

set_option maxRecDepth 16384
set_option maxHeartbeats 1600000

noncomputable section

namespace Cert.ReferenceIdeal.Hand

open Cert.ReferenceIdeal Cert.ReferenceIdeal.Gen Cert.ReferenceIdeal.Read Idealize.ShloMosaic
open Sticks (softplus tail logw behind)
open Finset (Ico)

/-! ## Two operations on their own -/

/-- A fold that adds is a sum. -/
theorem foldl_add (n : ℕ) (g : Fin n → EReal) (v : EReal) :
    (List.finRange n).foldl (fun r k => r + g k) v = v + ∑ k, g k := by
  have h : ∀ (l : List (Fin n)) (v : EReal), l.foldl (fun r k => r + g k) v = v + (l.map g).sum := by
    intro l
    induction l with
    | nil => intro v; simp
    | cons a l ih => intro v; simp only [List.foldl_cons, List.map_cons, List.sum_cons]; rw [ih, add_assoc]
  rw [h, Fin.sum_univ_def]

/-- The running sum from the far end: each place holds the sum of what is at it and past it. -/
theorem cumsum_apply (x : FVec Ideal S8x8192x8192 .f32) (init : FVec Ideal S_ .f32) (f : ℕ → ℕ → ℕ → ℝ)
    (hx : ∀ i : S8x8192x8192.Idx, x i = ((f (i 0).val (i 1).val (i 2).val : ℝ) : EReal)) (hi : ∀ i, init i = 0)
    (h : S8x8192x8192.ReduceWindows ![1, 1, 8192] ![1, 1, 1] ![0, 0, 0] ![0, 0, 8191] S8x8192x8192) (hu : 0 < S_.numel)
    (i : S8x8192x8192.Idx) :
    Host.reduceWindowAdd ![1, 1, 8192] ![1, 1, 1] ![0, 0, 0] ![0, 0, 8191] x init h hu i
      = ((∑ j ∈ Ico (i 2).val 8192, f (i 0).val (i 1).val j : ℝ) : EReal) := by
  unfold Host.reduceWindowAdd
  rw [Ideal.hostReduceWindowAdd_def]
  unfold Ideal.hostReduceWindowAdd Host.reduceWindow
  simp only [hi]
  rw [foldl_add, zero_add]
  have h2 : (i 2).val < 8192 := (i 2).isLt
  have h1 : (i 1).val < 8192 := (i 1).isLt
  have h0 : (i 0).val < 8 := (i 0).isLt
  refine (Finset.sum_congr rfl (g := fun n => (((if (i 2).val + n.val < 8192 then f (i 0).val (i 1).val ((i 2).val + n.val) else 0) : ℝ) : EReal)) fun n _ => ?_).trans ?_
  · have hr := Shape.rowMajor_val_three ((⟨3, ![1, 1, 8192]⟩ : Shape).rowMajor.symm n)
    rw [Equiv.apply_symm_apply] at hr
    have w0 : ((⟨3, ![1, 1, 8192]⟩ : Shape).rowMajor.symm n 0).val < 1 := ((⟨3, ![1, 1, 8192]⟩ : Shape).rowMajor.symm n 0).isLt
    have w1 : ((⟨3, ![1, 1, 8192]⟩ : Shape).rowMajor.symm n 1).val < 1 := ((⟨3, ![1, 1, 8192]⟩ : Shape).rowMajor.symm n 1).isLt
    have w2 : ((⟨3, ![1, 1, 8192]⟩ : Shape).rowMajor.symm n 2).val = n.val := by
      rw [hr]; show _ = (_ * 1 + _) * 8192 + _; omega
    split
    · next hin =>
      have hc := (hin 2).2
      change (i 2).val * 1 + ((⟨3, ![1, 1, 8192]⟩ : Shape).rowMajor.symm n 2).val - 0 < 8192 at hc
      rw [w2] at hc
      rw [if_pos (by omega), hx]
      have e0 : (i 0).val * 1 + ((⟨3, ![1, 1, 8192]⟩ : Shape).rowMajor.symm n 0).val - 0 = (i 0).val := by omega
      have e1 : (i 1).val * 1 + ((⟨3, ![1, 1, 8192]⟩ : Shape).rowMajor.symm n 1).val - 0 = (i 1).val := by omega
      have e2 : (i 2).val * 1 + ((⟨3, ![1, 1, 8192]⟩ : Shape).rowMajor.symm n 2).val - 0 = (i 2).val + n.val := by omega
      show ((f ((i 0).val * 1 + ((⟨3, ![1, 1, 8192]⟩ : Shape).rowMajor.symm n 0).val - 0) ((i 1).val * 1 + ((⟨3, ![1, 1, 8192]⟩ : Shape).rowMajor.symm n 1).val - 0) ((i 2).val * 1 + ((⟨3, ![1, 1, 8192]⟩ : Shape).rowMajor.symm n 2).val - 0) : ℝ) : EReal) = _
      rw [e0, e1, e2]
    · next hin =>
      rw [if_neg, EReal.coe_zero]
      intro hlt
      apply hin
      intro a
      match a with
      | ⟨0, _⟩ => exact ⟨Nat.zero_le _, show (i 0).val * 1 + ((⟨3, ![1, 1, 8192]⟩ : Shape).rowMajor.symm n 0).val - 0 < 8 by omega⟩
      | ⟨1, _⟩ => exact ⟨Nat.zero_le _, show (i 1).val * 1 + ((⟨3, ![1, 1, 8192]⟩ : Shape).rowMajor.symm n 1).val - 0 < 8192 by omega⟩
      | ⟨2, _⟩ => exact ⟨Nat.zero_le _, show (i 2).val * 1 + ((⟨3, ![1, 1, 8192]⟩ : Shape).rowMajor.symm n 2).val - 0 < 8192 by omega⟩
  · rw [← Sticks.coe_sum]
    congr 1
    have hn : (⟨3, ![1, 1, 8192]⟩ : Shape).numel = 8192 := by simp [Shape.numel, Fin.prod_univ_succ]
    rw [Fin.sum_univ_eq_sum_range (fun n => if (i 2).val + n < 8192 then f (i 0).val (i 1).val ((i 2).val + n) else 0), hn,
      ← Fin.sum_univ_eq_sum_range (fun n => if (i 2).val + n < 8192 then f (i 0).val (i 1).val ((i 2).val + n) else 0),
      Sticks.sum_block (fun n => if n < 8192 then f (i 0).val (i 1).val n else 0), Sticks.sum_cut,
      Nat.min_eq_left (by omega)]

/-- The smoothed positive part as the reference finds it, at a real number. -/
theorem softplus_apply (x : Ideal .f32) (y : ℝ) (h : x = ((y : ℝ) : EReal)) :
    Scalar.select (FloatOps.cmpf .une (FloatOps.subf x (FloatOps.ofBits .f32 0x00000000#32)) (FloatOps.subf x (FloatOps.ofBits .f32 0x00000000#32)))
      (FloatOps.addf x (FloatOps.ofBits .f32 0x00000000#32))
      (FloatOps.addf (FloatOps.maximumf x (FloatOps.ofBits .f32 0x00000000#32))
        (FloatOps.hostUnary .log1p (FloatOps.hostUnary .exp (FloatOps.hostNegf (FloatOps.hostAbsf (FloatOps.subf x (FloatOps.ofBits .f32 0x00000000#32)))))))
      = ((softplus y : ℝ) : EReal) := by
  subst h
  have hm : ∀ a b : ℝ, max (a : EReal) (b : EReal) = ((max a b : ℝ) : EReal) := fun a b => (EReal.coe_strictMono.monotone.map_max).symm
  have hz : (FloatOps.ofBits .f32 0x00000000#32 : Ideal .f32) = ((0 : ℝ) : EReal) := by
    rw [EReal.coe_zero]; exact Ideal.ofBits_zero_f32
  have hpos : ¬ (1 + Real.exp (-|y|) ≤ 0) := by have := Real.exp_pos (-|y|); linarith
  have hs : (FloatOps.subf ((y : ℝ) : EReal) ((0 : ℝ) : EReal) : Ideal .f32) = ((y : ℝ) : EReal) := by
    show ((y : ℝ) : EReal) - ((0 : ℝ) : EReal) = _
    rw [← EReal.coe_sub, sub_zero]
  have ha : (FloatOps.hostAbsf ((y : ℝ) : EReal) : Ideal .f32) = ((|y| : ℝ) : EReal) := by
    show max ((y : ℝ) : EReal) (-((y : ℝ) : EReal)) = _
    rw [← EReal.coe_neg, hm]; rfl
  have hn : (FloatOps.hostNegf ((|y| : ℝ) : EReal) : Ideal .f32) = ((-|y| : ℝ) : EReal) := rfl
  have hc : FloatOps.cmpf (F := Ideal) (φ := .f32) .une ((y : ℝ) : EReal) ((y : ℝ) : EReal) = 0#1 := by
    show Ideal.cmp .une ((y : ℝ) : EReal) ((y : ℝ) : EReal) = 0#1
    simp [Ideal.cmp]
  rw [hz, hs, hc, ha, hn, Ideal.hostUnary_exp_def, Ideal.exp_coe, Ideal.hostUnary_log1p_def]
  show max ((y : ℝ) : EReal) ((0 : ℝ) : EReal) + Ideal.log (1 + ((Real.exp (-|y|) : ℝ) : EReal)) = _
  rw [hm, ← EReal.coe_one, ← EReal.coe_add, Ideal.log_coe, if_neg hpos, ← EReal.coe_add]
  rfl

/-! ## The scores -/

section

variable (x0 : FVec Ideal S8192x7168 .f32) (x1 : FVec Ideal S8 .f32) (X : ℕ → ℕ → ℝ) (B : ℕ → ℝ)

/-- Head `h`'s score of place `s` at place `t`: the scaled product of the query and the key, and the head's bias. -/
def z (X : ℕ → ℕ → ℝ) (B : ℕ → ℝ) (h t s : ℕ) : ℝ :=
  (∑ x : Fin 128, X t (4096 + 128 * h + x.val) * X s (5120 + 128 * h + x.val)) * (11863283/134217728) + B h

variable (hX : ∀ i : S8192x7168.Idx, x0 i = ((X (i 0).val (i 1).val : ℝ) : EReal)) (hB : ∀ i : S8.Idx, x1 i = ((B (i 0).val : ℝ) : EReal))

include hX

/-- The queries by head. -/
theorem q_apply (i : S8192x8x128.Idx) :
    val_main_v4 (F := Ideal) x0 i = ((X (i 0).val (4096 + 128 * (i 1).val + (i 2).val) : ℝ) : EReal) := by
  have h0 : (i 0).val < 8192 := (i 0).isLt
  have h1 : (i 1).val < 8 := (i 1).isLt
  have h2 : (i 2).val < 128 := (i 2).isLt
  rw [val_main_v4_apply, val_main_v1_apply, val_main_v0_apply, hX]
  show ((X ((((i 0).val * 8 + (i 1).val) * 128 + (i 2).val) / 1024) (4096 + (((i 0).val * 8 + (i 1).val) * 128 + (i 2).val) % 1024) : ℝ) : EReal) = _
  rw [show (((i 0).val * 8 + (i 1).val) * 128 + (i 2).val) / 1024 = (i 0).val by omega,
    show 4096 + (((i 0).val * 8 + (i 1).val) * 128 + (i 2).val) % 1024 = 4096 + 128 * (i 1).val + (i 2).val by omega]

/-- The keys by head. -/
theorem k_apply (i : S8192x8x128.Idx) :
    val_main_v5 (F := Ideal) x0 i = ((X (i 0).val (5120 + 128 * (i 1).val + (i 2).val) : ℝ) : EReal) := by
  have h0 : (i 0).val < 8192 := (i 0).isLt
  have h1 : (i 1).val < 8 := (i 1).isLt
  have h2 : (i 2).val < 128 := (i 2).isLt
  rw [val_main_v5_apply, val_main_v2_apply, val_main_v0_apply, hX]
  show ((X ((((i 0).val * 8 + (i 1).val) * 128 + (i 2).val) / 1024) (4096 + (1024 + (((i 0).val * 8 + (i 1).val) * 128 + (i 2).val) % 1024)) : ℝ) : EReal) = _
  rw [show (((i 0).val * 8 + (i 1).val) * 128 + (i 2).val) / 1024 = (i 0).val by omega,
    show 4096 + (1024 + (((i 0).val * 8 + (i 1).val) * 128 + (i 2).val) % 1024) = 5120 + 128 * (i 1).val + (i 2).val by omega]

/-- The values by head. -/
theorem v_apply (i : S8192x8x128.Idx) :
    val_main_v6 (F := Ideal) x0 i = ((X (i 0).val (6144 + 128 * (i 1).val + (i 2).val) : ℝ) : EReal) := by
  have h0 : (i 0).val < 8192 := (i 0).isLt
  have h1 : (i 1).val < 8 := (i 1).isLt
  have h2 : (i 2).val < 128 := (i 2).isLt
  rw [val_main_v6_apply, val_main_v3_apply, val_main_v0_apply, hX]
  show ((X ((((i 0).val * 8 + (i 1).val) * 128 + (i 2).val) / 1024) (4096 + (2048 + (((i 0).val * 8 + (i 1).val) * 128 + (i 2).val) % 1024)) : ℝ) : EReal) = _
  rw [show (((i 0).val * 8 + (i 1).val) * 128 + (i 2).val) / 1024 = (i 0).val by omega,
    show 4096 + (2048 + (((i 0).val * 8 + (i 1).val) * 128 + (i 2).val) % 1024) = 6144 + 128 * (i 1).val + (i 2).val by omega]

include hB

/-- The scores. -/
theorem z_apply (i : S8x8192x8192.Idx) : val_main_v12 (F := Ideal) x0 x1 i = ((z X B (i 0).val (i 1).val (i 2).val : ℝ) : EReal) := by
  rw [val_main_v12_apply, val_main_v9_apply, val_main_v7_apply, val_main_v8_apply, val_main_cst_apply, val_main_v11_apply, val_main_v10_apply, hB]
  simp only [q_apply x0 X hX, k_apply x0 X hX]
  have hc : (FloatOps.ofBits .f32 0x3DB504F3#32 : Ideal .f32) = ((11863283/134217728 : ℝ) : EReal) := by
    show Ideal.ofBits .f32 0x3DB504F3#32 = _
    simp [Ideal.ofBits, Ideal.ieee, -EReal.coe_mul]; norm_num
  rw [hc]
  simp only [← EReal.coe_mul]
  rw [← Sticks.coe_sum]
  show ((_ : ℝ) : EReal) * ((_ : ℝ) : EReal) + ((_ : ℝ) : EReal) = _
  rw [← EReal.coe_mul, ← EReal.coe_add]
  rfl

/-- The logarithm of the share a place takes. -/
theorem logbeta_apply (i : S8x8192x8192.Idx) :
    val_main_v19 (F := Ideal) x0 x1 i = ((z X B (i 0).val (i 1).val (i 2).val - softplus (z X B (i 0).val (i 1).val (i 2).val) : ℝ) : EReal) := by
  have hn : (FloatOps.hostNegf (val_main_v12 (F := Ideal) x0 x1 i) : Ideal .f32) = ((-z X B (i 0).val (i 1).val (i 2).val : ℝ) : EReal) := by
    rw [z_apply x0 x1 X B hX hB]; rfl
  have hs := softplus_apply _ _ hn
  rw [val_main_v19_apply]
  refine (congrArg FloatOps.hostNegf (show val_main_call0_v1 (F := Ideal) x0 x1 i = _ from hs)).trans ?_
  rw [Sticks.softplus_neg]
  show -((_ : ℝ) : EReal) = _
  rw [← EReal.coe_neg, neg_sub]

/-- The logarithm of the share a place leaves. -/
theorem logkeep_apply (i : S8x8192x8192.Idx) :
    val_main_v21 (F := Ideal) x0 x1 i = ((-softplus (z X B (i 0).val (i 1).val (i 2).val) : ℝ) : EReal) := by
  have hn : (FloatOps.hostNegf (FloatOps.hostNegf (val_main_v12 (F := Ideal) x0 x1 i)) : Ideal .f32) = ((z X B (i 0).val (i 1).val (i 2).val : ℝ) : EReal) := by
    rw [z_apply x0 x1 X B hX hB]
    show -(-((_ : ℝ) : EReal)) = _
    rw [neg_neg]
  have hs := softplus_apply _ _ hn
  rw [val_main_v21_apply]
  refine (congrArg FloatOps.hostNegf (show val_main_call1_v1 (F := Ideal) x0 x1 i = _ from hs)).trans ?_
  rfl

omit hX hB in
/-- The mask: a place looks only at those before it. -/
theorem mask_apply (i : S8192x8192.Idx) : val_main_v18 (F := Ideal) i = if (i 1).val < (i 0).val then 1#1 else 0#1 := by
  have h0 : (i 0).val < 8192 := (i 0).isLt
  have h1 : (i 1).val < 8192 := (i 1).isLt
  rw [val_main_v18_apply, val_main_v16_apply, val_main_v14_apply, val_main_v17_apply, val_main_v15_apply]
  show IntOp.cmpi .slt (BitVec.ofNat 32 (i 1).val) (BitVec.ofNat 32 (i 0).val) = _
  rw [WordCmp.cmpi_slt_ofNat (by omega) (by omega)]
  by_cases h : (i 1).val < (i 0).val <;> simp [h]

/-- The logarithm of the share left, nothing at a place that is not looked at. -/
theorem kept_apply (i : S8x8192x8192.Idx) :
    val_main_v22 (F := Ideal) x0 x1 i = (((if (i 2).val < (i 1).val then -softplus (z X B (i 0).val (i 1).val (i 2).val) else 0) : ℝ) : EReal) := by
  have hz : (FloatOps.ofBits .f32 0x00000000#32 : Ideal .f32) = ((0 : ℝ) : EReal) := by
    rw [EReal.coe_zero]; exact Ideal.ofBits_zero_f32
  rw [val_main_v22_apply, val_main_call2_v1_apply, mask_apply, logkeep_apply x0 x1 X B hX hB, val_main_call2_v2_apply, val_main_call2_v0_apply, val_main_cst_0_apply, hz]
  show Scalar.select (if (i 2).val < (i 1).val then 1#1 else 0#1) _ _ = _
  by_cases h : (i 2).val < (i 1).val <;> simp only [h, ↓reduceIte] <;> rfl

/-- What the places past `s` leave. -/
theorem past_apply (i : S8x8192x8192.Idx) (hi : (i 2).val < (i 1).val) :
    val_main_v24 (F := Ideal) x0 x1 i = ((-tail (z X B (i 0).val (i 1).val) ((i 2).val + 1) (i 1).val : ℝ) : EReal) := by
  have h1 : (i 1).val < 8192 := (i 1).isLt
  rw [val_main_v24_apply, kept_apply x0 x1 X B hX hB]
  unfold val_main_v23
  rw [cumsum_apply (val_main_v22 (F := Ideal) x0 x1) _ (fun h t s => if s < t then -softplus (z X B h t s) else 0) (kept_apply x0 x1 X B hX hB)
    (fun j => by rw [val_main_call3_v0_apply, val_main_call3_cst_apply]; exact Ideal.ofBits_zero_f32)]
  show ((_ : ℝ) : EReal) - ((_ : ℝ) : EReal) = _
  rw [← EReal.coe_sub]
  congr 1
  rw [Sticks.sum_cut, Nat.min_eq_left (by omega), if_pos hi, Finset.sum_eq_sum_Ico_succ_bot hi, add_sub_cancel_left]
  unfold tail
  rw [Finset.sum_neg_distrib]

/-- The weights. -/
theorem weight_apply (i : S8x8192x8192.Idx) :
    val_main_v27 (F := Ideal) x0 x1 i = (((if (i 2).val < (i 1).val then Real.exp (logw (z X B (i 0).val (i 1).val) (i 1).val (i 2).val) else 0) : ℝ) : EReal) := by
  have hz : (FloatOps.ofBits .f32 0x00000000#32 : Ideal .f32) = ((0 : ℝ) : EReal) := by
    rw [EReal.coe_zero]; exact Ideal.ofBits_zero_f32
  rw [val_main_v27_apply, val_main_call4_v1_apply, mask_apply, val_main_call4_v2_apply, val_main_call4_v0_apply, val_main_cst_1_apply, hz]
  show Scalar.select (if (i 2).val < (i 1).val then 1#1 else 0#1) _ _ = _
  by_cases h : (i 2).val < (i 1).val
  · simp only [h, ↓reduceIte]
    show val_main_v26 (F := Ideal) x0 x1 i = _
    rw [val_main_v26_apply, val_main_v25_apply, logbeta_apply x0 x1 X B hX hB, past_apply x0 x1 X B hX hB i h, Ideal.hostUnary_exp_def]
    show Ideal.exp (((_ : ℝ) : EReal) + ((_ : ℝ) : EReal)) = _
    rw [← EReal.coe_add, Ideal.exp_coe, ← sub_eq_add_neg]
    rfl
  · simp only [h, ↓reduceIte]; rfl

/-! ## The weighted sums and their norm -/

/-- The weighted sums of the values. -/
theorem sum_apply (i : S8192x8x128.Idx) :
    val_main_v29 (F := Ideal) x0 x1 i
      = ((behind (z X B (i 1).val (i 0).val) (fun j => X j (6144 + 128 * (i 1).val + (i 2).val)) (i 0).val 0 : ℝ) : EReal) := by
  have h0 : (i 0).val < 8192 := (i 0).isLt
  rw [val_main_v29_apply, val_main_v28_apply]
  simp only [v_apply x0 X hX, weight_apply x0 x1 X B hX hB]
  simp only [← EReal.coe_mul]
  rw [← Sticks.coe_sum]
  congr 1
  have hb := Sticks.sum_block (fun j => if j < (i 0).val then Real.exp (logw (z X B (i 1).val (i 0).val) (i 0).val j) * X j (6144 + 128 * (i 1).val + (i 2).val) else 0) 0 8192
  rw [Sticks.sum_cut, Nat.min_eq_left (by omega)] at hb
  unfold behind
  rw [← hb]
  refine Finset.sum_congr rfl fun k _ => ?_
  show X k.val _ * (if k.val < (i 0).val then _ else 0) = if 0 + k.val < (i 0).val then _ else 0
  rw [Nat.zero_add]
  by_cases h : k.val < (i 0).val
  · rw [if_pos h, if_pos h, mul_comm]
  · rw [if_neg h, if_neg h, mul_zero]

/-- The reference's first result: each head's weighted sums, normed, times the gain. -/
theorem out_apply (x2 : FVec Ideal S1024 .f32) (i : S8192x1024.Idx) (t : ℕ) (ht : (i 0).val = t) (h : Fin 8) (d : Fin 128) (hi : (i 1).val = 128 * h.val + d.val)
    (g : Fin 128 → EReal) (hg : ∀ (j : S1024.Idx) (d : Fin 128), (j 0).val = 128 * h.val + d.val → x2 j = g d) :
    val_main_v44 (F := Ideal) x0 x1 x2 i
      = Cert.KernelIdeal.Hand.normed (fun d => ((behind (z X B h.val t) (fun j => X j (6144 + 128 * h.val + d.val)) t 0 : ℝ) : EReal)) g d := by
  subst ht
  have h0 : (i 0).val < 8192 := (i 0).isLt
  have e0 : ((i 0).val * 1024 + (i 1).val) / 1024 = (i 0).val := by omega
  have e1 : ((i 0).val * 1024 + (i 1).val) / 128 % 8 = h.val := by omega
  have e2 : ((i 0).val * 1024 + (i 1).val) % 128 = d.val := by omega
  have hz : (FloatOps.ofBits .f32 0x00000000#32 : Ideal .f32) = 0 := Ideal.ofBits_zero_f32
  rw [val_main_v44_apply, val_main_v43_apply, val_main_v39_apply, val_main_v38_apply, val_main_v37_apply, val_main_v36_apply, val_main_v34_apply, val_main_v32_apply,
    val_main_v31_apply, val_main_v33_apply, val_main_v35_apply, val_main_cst_2_apply, val_main_cst_3_apply, val_main_cst_4_apply, hz, zero_add,
    val_main_v42_apply, val_main_v41_apply, val_main_v40_apply]
  simp only [val_main_v30_apply, sum_apply x0 x1 X B hX hB]
  rw [hg _ d (by show (((i 0).val * 1024 + (i 1).val) / 128 % 8) * 128 + ((i 0).val * 1024 + (i 1).val) % 128 = _; omega)]
  show ((behind (z X B (((i 0).val * 1024 + (i 1).val) / 128 % 8) (((i 0).val * 1024 + (i 1).val) / 1024))
      (fun j => X j (6144 + 128 * (((i 0).val * 1024 + (i 1).val) / 128 % 8) + ((i 0).val * 1024 + (i 1).val) % 128)) (((i 0).val * 1024 + (i 1).val) / 1024) 0 : ℝ) : EReal)
    * Ideal.rsqrt (Ideal.div (∑ k : Fin 128, ((behind (z X B (((i 0).val * 1024 + (i 1).val) / 128 % 8) (((i 0).val * 1024 + (i 1).val) / 1024))
      (fun j => X j (6144 + 128 * (((i 0).val * 1024 + (i 1).val) / 128 % 8) + k.val)) (((i 0).val * 1024 + (i 1).val) / 1024) 0 : ℝ) : EReal)
        * ((behind (z X B (((i 0).val * 1024 + (i 1).val) / 128 % 8) (((i 0).val * 1024 + (i 1).val) / 1024))
      (fun j => X j (6144 + 128 * (((i 0).val * 1024 + (i 1).val) / 128 % 8) + k.val)) (((i 0).val * 1024 + (i 1).val) / 1024) 0 : ℝ) : EReal)) (Ideal.ofBits FTy.f32 1124073472#32) + Ideal.ofBits FTy.f32 897988541#32)
    * g d = _
  rw [e0, e1, e2]
  rfl

end

end Cert.ReferenceIdeal.Hand
-- ==== Proof.Results.lean ====
/- The kernel's three result arrays at finite arguments: the reference's, one tile and one head at a time. -/
module

public import proofs.«01_k».proof.Proof.Tile
public import proofs.«01_k».proof.Proof.RefValue
public import proofs.«01_k».proof.Proof.KernelIdealFrame
public import proofs.«01_k».proof.Defs
public import Idealize.ShloMosaic.Lib.Pipeline.ValueKit.Geometry

@[expose] public section

set_option maxRecDepth 16384
set_option maxHeartbeats 1600000

noncomputable section

namespace Cert.KernelIdeal.Hand

open Cert.KernelIdeal Cert.KernelIdeal.Gen Idealize.ShloMosaic Idealize.ShloMosaic.TcCoe Idealize.SL.Sem
open Idealize.ShloMosaic.Pipeline (Dat)

/-! ## Finite arguments are real numbers -/

/-- Below infinity in absolute value is a real number. -/
theorem real_of_abs (x : Ideal .f32) (h : FloatOps.cmpf .olt (FloatOps.hostAbsf x) (FloatOps.ofBits .f32 0x7F800000#32 : Ideal .f32) = 1#1) :
    x = (((x : EReal).toReal : ℝ) : EReal) := by
  have hi : (FloatOps.ofBits .f32 0x7F800000#32 : Ideal .f32) = (⊤ : EReal) := by
    show Ideal.ofBits .f32 0x7F800000#32 = _
    simp [Ideal.ofBits, Ideal.ieee]
  rw [hi] at h
  have hlt : max (x : EReal) (-x) < ⊤ := by
    change BitVec.ofBool (decide (max (x : EReal) (-x) < ⊤)) = 1#1 at h
    by_contra hc
    rw [decide_eq_false hc] at h
    exact absurd h (by decide)
  refine (EReal.coe_toReal (fun ht => ?_) (fun hb => ?_)).symm
  · rw [ht] at hlt; simp at hlt
  · rw [hb] at hlt; simp at hlt

section

variable (x0 : FVec Ideal S8192x7168 .f32) (x1 : FVec Ideal S8 .f32) (x2 : FVec Ideal S1024 .f32)

/-- The projection's real numbers, by row and column, nothing outside it. -/
def X (x0 : FVec Ideal S8192x7168 .f32) (a b : ℕ) : ℝ := if h : a < 8192 ∧ b < 7168 then (x0 (at0 a b h.1 h.2) : EReal).toReal else 0
/-- The bias's, by head. -/
def B (x1 : FVec Ideal S8 .f32) (a : ℕ) : ℝ := if h : a < 8 then (x1 (fun | ⟨0, _⟩ => (⟨a, h⟩ : Fin 8)) : EReal).toReal else 0

/-- A projection that meets the precondition holds those numbers. -/
theorem X_spec [Cert.Pre_finite.Facts] (h : (Cert.Pre_finite.fn (F := Ideal) x0 x1 x2).1 = fun _ => 1#1) (i : S8192x7168.Idx) :
    x0 i = ((X x0 (i 0).val (i 1).val : ℝ) : EReal) := by
  have e : at0 (i 0).val (i 1).val (i 0).isLt (i 1).isLt = i := by
    funext a
    match a with
    | ⟨0, _⟩ => rfl
    | ⟨1, _⟩ => rfl
  unfold X
  rw [dif_pos ⟨(i 0).isLt, (i 1).isLt⟩, e]
  exact real_of_abs _ (congrFun h i)

/-- And so does the bias. -/
theorem B_spec [Cert.Pre_finite.Facts] (h : (Cert.Pre_finite.fn (F := Ideal) x0 x1 x2).2 = fun _ => 1#1) (i : S8.Idx) :
    x1 i = ((B x1 (i 0).val : ℝ) : EReal) := by
  have e : (fun | ⟨0, _⟩ => (⟨(i 0).val, (i 0).isLt⟩ : Fin 8) : S8.Idx) = i := by
    funext a
    match a with
    | ⟨0, _⟩ => rfl
  unfold B
  rw [dif_pos (show (i 0).val < 8 from (i 0).isLt), e]
  exact real_of_abs _ (congrFun h i)

end

/-! ## The other blocks -/

variable (m : (ℓ : Loc nD τ sig) → Buf (Elt Ideal) ℓ)

/-- The queries' block at point `t`: the tile's rows of the head's columns. -/
theorem iblk1_apply (c : Dev nD) (t : Fin cfg0.N) (y : S512x128.Idx) (j : S8192x7168.Idx)
    (h0 : (j 0).val = 512 * (t.val % 16) + (y 0).val) (h1 : (j 1).val = (32 + t.val / 16) * 128 + (y 1).val) :
    (iblk m c 1 t : Vec Ideal S512x128 .f32) y = m ((c : Thread nD τ).loc main_arg0) j := by
  have ht : t.val < 128 := Nat.lt_of_lt_of_eq t.isLt N_0
  have hi0 : win0_1.index t 0 = t.val % 16 := by
    show (BitVec.ofNat 32 (grid0.coords t 1).val).toNat = _
    rw [coords1]; simp only [BitVec.toNat_ofNat]; omega
  have hi1 : win0_1.index t 1 = 32 + t.val / 16 := by
    show (Scalar.addi 32#32 (BitVec.ofNat 32 (grid0.coords t 0).val)).toNat = _
    rw [coords0]; simp only [Scalar.addi, IntOp.addi, BitVec.toNat_add, BitVec.toNat_ofNat]; omega
  unfold iblk
  rw [View.read_apply]
  refine (congrFun (V_main_arg0 m c) _).trans (congrArg _ ?_)
  funext a
  apply Fin.ext
  match a with
  | ⟨0, _⟩ => show win0_1.index t 0 * 512 + 1 * (y 0).val = (j 0).val; rw [hi0, h0]; omega
  | ⟨1, _⟩ => show win0_1.index t 1 * 128 + 1 * (y 1).val = (j 1).val; rw [hi1, h1]; omega

/-- The bias's block is the bias. -/
theorem iblk0_apply (c : Dev nD) (t : Fin cfg0.N) (y : S8.Idx) :
    (iblk m c 0 t : Vec Ideal S8 .f32) y = m ((c : Thread nD τ).loc main_arg1) y := by
  have hi0 : win0_0.index t 0 = 0 := rfl
  unfold iblk
  rw [View.read_apply]
  refine (congrFun (V_main_arg1 m c) _).trans (congrArg _ ?_)
  funext a
  apply Fin.ext
  match a with
  | ⟨0, _⟩ => show win0_0.index t 0 * 8 + 1 * (y 0).val = (y 0).val; rw [hi0]; omega

/-- The gain, as a row. -/
theorem V_main_v0 (c : Dev nD) (y : S1x1024.Idx) (j : S1024.Idx) (h : (j 0).val = (y 1).val) :
    V m c main_v0 y = m ((c : Thread nD τ).loc main_arg2) j := by
  have hv : V m c main_v0 = shapeCast S1x1024 (m ((c : Thread nD τ).loc main_arg2)) shapeCasts_S1024_S1x1024 := by
    show StableHlo.after hostOps0 _ _ = _
    after_results
    rfl
  rw [hv]
  refine shapeCast_apply _ shapeCasts_S1024_S1x1024 y j ?_
  rewrite [Shape.rowMajor_val_one, Shape.rowMajor_val_two]
  have h0 : (y 0).val < 1 := (y 0).isLt
  show (j 0).val = (y 0).val * 1024 + (y 1).val
  omega

/-- The gain's block at point `t`: the head's. -/
theorem iblk4_apply (c : Dev nD) (t : Fin cfg0.N) (y : S1x128.Idx) (j : S1024.Idx) (h : (j 0).val = 128 * (t.val / 16) + (y 1).val) :
    (iblk m c 4 t : Vec Ideal S1x128 .f32) y = m ((c : Thread nD τ).loc main_arg2) j := by
  have ht : t.val < 128 := Nat.lt_of_lt_of_eq t.isLt N_0
  have hi1 : win0_4.index t 1 = t.val / 16 := by
    show (BitVec.ofNat 32 (grid0.coords t 0).val).toNat = _
    rw [coords0]; simp only [BitVec.toNat_ofNat]; omega
  unfold iblk
  rw [View.read_apply]
  refine V_main_v0 m c _ j ?_
  show (j 0).val = win0_4.index t 1 * 128 + 1 * (y 1).val
  rw [hi1, h]; omega

/-- The bias the tile reads is its head's. -/
theorem biasAt_apply (i : grid0.Coords) (x0 : Vec Ideal S8 .f32) (j : S8.Idx) (h : (j 0).val = (i 0).val) : biasAt i x0 = x0 j := by
  have hi : ∀ a : Fin 8, (Scalar.indexCast (BitVec.ofNat 32 a.val) : Index).toNat = a.val := by decide +kernel
  show x0 _ = x0 j
  congr 1
  funext a
  apply Fin.ext
  match a with
  | ⟨0, _⟩ =>
    show k0_off1 i 0 + 1 * (0 : ℕ) = (j 0).val
    rw [h]
    exact hi (i 0)

/-! ## The arrays -/

section

variable (c : Dev nD)
  (hX : ∀ i : S8192x7168.Idx, m ((c : Thread nD τ).loc main_arg0) i = ((X (m ((c : Thread nD τ).loc main_arg0)) (i 0).val (i 1).val : ℝ) : EReal))
  (hB : ∀ i : S8.Idx, m ((c : Thread nD τ).loc main_arg1) i = ((B (m ((c : Thread nD τ).loc main_arg1)) (i 0).val : ℝ) : EReal))

include hX hB

/-- A tile's row is the reference's. -/
theorem outTile_apply (t : Fin cfg0.N) (y : S512x128.Idx) (j : S8192x1024.Idx)
    (h0 : (j 0).val = 512 * (t.val % 16) + (y 0).val) (h1 : (j 1).val = 128 * (t.val / 16) + (y 1).val) :
    outTile m c t y = Cert.ReferenceIdeal.Read.val_main_v44 (F := Ideal) (m ((c : Thread nD τ).loc main_arg0)) (m ((c : Thread nD τ).loc main_arg1)) (m ((c : Thread nD τ).loc main_arg2)) j := by
  have ht : t.val < 128 := Nat.lt_of_lt_of_eq t.isLt N_0
  have hh : t.val / 16 < 8 := by omega
  set x0 := m ((c : Thread nD τ).loc main_arg0) with hx0
  set x1 := m ((c : Thread nD τ).loc main_arg1) with hx1
  have hb : biasAt (grid0.coords t) (iblk m c 0 t) = ((B x1 (t.val / 16) : ℝ) : EReal) := by
    rw [biasAt_apply (grid0.coords t) _ (fun | ⟨0, _⟩ => (⟨t.val / 16, hh⟩ : Fin 8)) (coords0 t).symm, iblk0_apply, ← hx1, hB]
  rw [Cert.ReferenceIdeal.Hand.out_apply x0 x1 (X x0) (B x1) hX hB (m ((c : Thread nD τ).loc main_arg2)) j _ h0 ⟨t.val / 16, hh⟩ (y 1) h1
    (fun d => (iblk m c 4 t : Vec Ideal S1x128 .f32) (ix2 0 d)) (fun j d hj => (iblk4_apply m c t (ix2 0 d) j hj).symm)]
  rw [eq_ix2 y]
  refine (tile_real (grid0.coords t) (iblk m c 0 t) (iblk m c 1 t) (k0_pay38 (iblk m c 2 t)) (k0_pay39 (iblk m c 3 t))
    (fun r x => X x0 (512 * (t.val % 16) + r.val) (4096 + 128 * (t.val / 16) + x.val)) (fun j x => X x0 j (5120 + 128 * (t.val / 16) + x.val))
    (fun j x => X x0 j (6144 + 128 * (t.val / 16) + x.val)) (B x1 (t.val / 16)) ?_ ?_ ?_ _ hb (iblk m c 4 t) rfl (y 0) (y 1)).trans ?_
  · intro r x
    rw [iblk1_apply m c t (ix2 r x) (at0 (512 * (t.val % 16) + r.val) ((32 + t.val / 16) * 128 + x.val) (by have := r.isLt; omega) (by have := x.isLt; omega)) rfl rfl, ← hx0, hX]
    show ((X x0 (512 * (t.val % 16) + r.val) ((32 + t.val / 16) * 128 + x.val) : ℝ) : EReal) = _
    rw [show (32 + t.val / 16) * 128 + x.val = 4096 + 128 * (t.val / 16) + x.val by omega]
  · intro j x
    have e : k0_pay38 (F := Ideal) (iblk m c 2 t) (ix2 j x) = (iblk m c 2 t : Vec Ideal S8192x128 .f32) (ix2 j x) := by
      pointwise [k0_pay38]
    rw [e, iblk2_apply m c t (ix2 j x) (at0 j.val ((40 + t.val / 16) * 128 + x.val) j.isLt (by have := x.isLt; omega)) rfl rfl, ← hx0, hX]
    show ((X x0 j.val ((40 + t.val / 16) * 128 + x.val) : ℝ) : EReal) = _
    rw [show (40 + t.val / 16) * 128 + x.val = 5120 + 128 * (t.val / 16) + x.val by omega]
  · intro j x
    have e : k0_pay39 (F := Ideal) (iblk m c 3 t) (ix2 j x) = (iblk m c 3 t : Vec Ideal S8192x128 .f32) (ix2 j x) := by
      pointwise [k0_pay39]
    rw [e, iblk3_apply m c t (ix2 j x) (at0 j.val ((48 + t.val / 16) * 128 + x.val) j.isLt (by have := x.isLt; omega)) rfl rfl, ← hx0, hX]
    show ((X x0 j.val ((48 + t.val / 16) * 128 + x.val) : ℝ) : EReal) = _
    rw [show (48 + t.val / 16) * 128 + x.val = 6144 + 128 * (t.val / 16) + x.val by omega]
  · rw [coords1]
    rfl

/-- The first result is the reference's: every tile is written back, and the tiles cover it. -/
theorem final_out : (dats m 0 c).arrAt 5 cfg0.N
    = Cert.ReferenceIdeal.Read.val_main_v44 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  have ht : t.val < 128 := Nat.lt_of_lt_of_eq t.isLt N_0
  have hi0 : win0_5.index t 0 = t.val % 16 := by
    show (BitVec.ofNat 32 (grid0.coords t 1).val).toNat = _
    rw [coords1]; simp only [BitVec.toNat_ofNat]; omega
  have hi1 : win0_5.index t 1 = t.val / 16 := by
    show (BitVec.ofNat 32 (grid0.coords t 0).val).toNat = _
    rw [coords0]; simp only [BitVec.toNat_ofNat]; omega
  blk_simp
  rw [after0_5]
  refine outTile_apply m c hX hB t y _ ?_ ?_
  · show win0_5.index t 0 * 512 + 1 * (y 0).val = _; rw [hi0]; omega
  · show win0_5.index t 1 * 128 + 1 * (y 1).val = _; rw [hi1]; omega

end

/-- The second result is the keys' columns of the projection: every head is written back after its last tile. -/
theorem final_keys (c : Dev nD) : (dats m 0 c).arrAt 6 cfg0.N = Cert.ReferenceIdeal.Read.val_main_v2 (F := Ideal) (m ((c : Thread nD τ).loc main_arg0)) := by
  refine (dats m 0 c).arrAt_eq_of_covers 6 _ (by decide +kernel) fun t hf y => ?_
  have ht : t.val < 128 := Nat.lt_of_lt_of_eq t.isLt N_0
  have hi0 : win0_6.index t 0 = 0 := rfl
  have hi1 : win0_6.index t 1 = t.val / 16 := by
    show (BitVec.ofNat 32 (grid0.coords t 0).val).toNat = _
    rw [coords0]; simp only [BitVec.toNat_ofNat]; omega
  blk_simp
  rw [after0_6, Cert.ReferenceIdeal.Read.val_main_v2_apply, Cert.ReferenceIdeal.Read.val_main_v0_apply]
  refine iblk2_apply m c t y _ ?_ ?_
  · show win0_6.index t 0 * 8192 + 1 * (y 0).val = _; rw [hi0]; omega
  · show 4096 + (1024 + (win0_6.index t 1 * 128 + 1 * (y 1).val)) = _; rw [hi1]; omega

/-- The third is the values'. -/
theorem final_values (c : Dev nD) : (dats m 0 c).arrAt 7 cfg0.N = Cert.ReferenceIdeal.Read.val_main_v3 (F := Ideal) (m ((c : Thread nD τ).loc main_arg0)) := by
  refine (dats m 0 c).arrAt_eq_of_covers 7 _ (by decide +kernel) fun t hf y => ?_
  have ht : t.val < 128 := Nat.lt_of_lt_of_eq t.isLt N_0
  have hi0 : win0_7.index t 0 = 0 := rfl
  have hi1 : win0_7.index t 1 = t.val / 16 := by
    show (BitVec.ofNat 32 (grid0.coords t 0).val).toNat = _
    rw [coords0]; simp only [BitVec.toNat_ofNat]; omega
  blk_simp
  rw [after0_7, Cert.ReferenceIdeal.Read.val_main_v3_apply, Cert.ReferenceIdeal.Read.val_main_v0_apply]
  refine iblk3_apply m c t y _ ?_ ?_
  · show win0_7.index t 0 * 8192 + 1 * (y 0).val = _; rw [hi0]; omega
  · show 4096 + (2048 + (win0_7.index t 1 * 128 + 1 * (y 1).val)) = _; rw [hi1]; omega

end Cert.KernelIdeal.Hand
-- ==== Proof.Projection.lean ====
/- The in-projection with the norm before it: what a tile computes, and that the array of all tiles is the reference's. -/
module

public import proofs.«01_k».proof.Proof.Gen.Kernel2Ideal.Value
public import proofs.«01_k».proof.Proof.Gen.Reference2Ideal.Read
public import proofs.«01_k».proof.Defs
public import Idealize.ShloMosaic.Lib.Pointwise
public import Idealize.ShloMosaic.Lib.Pipeline.ValueKit.Geometry

@[expose] public section

set_option maxRecDepth 16384
set_option maxHeartbeats 1600000

noncomputable section

namespace Cert.Kernel2Ideal.Hand

open Cert.Kernel2Ideal Cert.Kernel2Ideal.Gen Idealize.ShloMosaic Idealize.ShloMosaic.TcCoe Idealize.SL.Sem
open Idealize.ShloMosaic.Pipeline (Dat)

/-! ## What a tile leaves -/

section

variable {F : FTy → Type} [FloatOps F]

theorem hz : (![0, 0] : Fin 2 → Nat) = fun _ => 0 := funext fun a => by fin_cases a <;> rfl

/-- At a row's first tile the scratch is filled with the normed rows, -/
theorem sout_A (c : Dev nD) (i : grid0.Coords) (a2 : Memref sig .tc .vmem S1024x2048 .f32) (h2 : a2.IsWhole) (a3 : Memref sig .tc .vmem S1x2048 .f32) (h3 : a3.IsWhole) (a4 : Memref sig .tc .vmem S2048x1024 .bf16) (h4 : a4.IsWhole) (a5 : Memref sig .tc .vmem S1024x1024 .f32) (h5 : a5.IsWhole) (a6 : Memref sig .tc .vmem S1024x2048 .bf16) (h6 : a6.IsWhole) (hc0 : cond0_0 i) (hc1 : cond0_1 i) (hc2 : ¬cond0_2 i)
    (x0 : Vec F S1024x2048 .f32) (x1 : Vec F S1x2048 .f32) (x2 : Vec F S2048x1024 .bf16) :
    sout0_A_0 c i a2 h2 a3 h3 a4 h4 a5 h5 a6 h6 hc0 hc1 hc2 x0 x1 x2 = k0_pay1 x0 x1 := by
  unfold sout0_A_0
  rw [View.read_writes_eq_canon _ _ _ (scover0_A_0 c i a2 h2 a3 h3 a4 h4 a5 h5 a6 h6 hc0 hc1 hc2 x0 x1 x2)]
  unfold kernelRun0_A
  dsimp only
  sl_unfold_words
  rw [View.canon_unit_zero (S := S1024x2048) hz]
  simp only [View.readAt_eq_ld, h2.read_unread, h3.read_unread, View.ld_unit_zero (S := S1024x2048) hz, View.ld_unit_zero (S := S1x2048) hz]

/-- and the tile is their product with the weights' block; -/
theorem out_A (c : Dev nD) (i : grid0.Coords) (a2 : Memref sig .tc .vmem S1024x2048 .f32) (h2 : a2.IsWhole) (a3 : Memref sig .tc .vmem S1x2048 .f32) (h3 : a3.IsWhole) (a4 : Memref sig .tc .vmem S2048x1024 .bf16) (h4 : a4.IsWhole) (a5 : Memref sig .tc .vmem S1024x1024 .f32) (h5 : a5.IsWhole) (a6 : Memref sig .tc .vmem S1024x2048 .bf16) (h6 : a6.IsWhole) (hc0 : cond0_0 i) (hc1 : cond0_1 i) (hc2 : ¬cond0_2 i)
    (x0 : Vec F S1024x2048 .f32) (x1 : Vec F S1x2048 .f32) (x2 : Vec F S2048x1024 .bf16) :
    out0_A_3 c i a2 h2 a3 h3 a4 h4 a5 h5 a6 h6 hc0 hc1 hc2 x0 x1 x2 = k0_pay2 (k0_pay1 x0 x1) x2 := by
  unfold out0_A_3
  rw [View.read_writes_eq_canon _ _ _ (cover0_A_3 c i a2 h2 a3 h3 a4 h4 a5 h5 a6 h6 hc0 hc1 hc2 x0 x1 x2)]
  unfold kernelRun0_A
  dsimp only
  sl_unfold_words
  rw [View.canon_unit_zero (S := S1024x1024) hz, View.readCov_unit_zero (S := S1024x2048) _ hz]
  simp only [View.readAt_eq_ld, h2.read_unread, h3.read_unread, h4.read_unread, View.ld_unit_zero (S := S1024x2048) hz, View.ld_unit_zero (S := S1x2048) hz, View.ld_unit_zero (S := S2048x1024) hz]

/-- at the row's other tiles it is the product with what the scratch holds. -/
theorem out_B (c : Dev nD) (i : grid0.Coords) (a2 : Memref sig .tc .vmem S1024x2048 .f32) (h2 : a2.IsWhole) (a3 : Memref sig .tc .vmem S1x2048 .f32) (h3 : a3.IsWhole) (a4 : Memref sig .tc .vmem S2048x1024 .bf16) (h4 : a4.IsWhole) (a5 : Memref sig .tc .vmem S1024x1024 .f32) (h5 : a5.IsWhole) (a6 : Memref sig .tc .vmem S1024x2048 .bf16) (h6 : a6.IsWhole) (hc0 : cond0_0 i) (hc1 : ¬cond0_1 i) (hc2 : ¬cond0_2 i)
    (x0 : Vec F S1024x2048 .f32) (x1 : Vec F S1x2048 .f32) (x2 : Vec F S2048x1024 .bf16) (xs : Vec F S1024x2048 .bf16) :
    out0_B_3 c i a2 h2 a3 h3 a4 h4 a5 h5 a6 h6 hc0 hc1 hc2 x0 x1 x2 xs = k0_pay2 xs x2 := by
  unfold out0_B_3
  rw [View.read_writes_eq_canon _ _ _ (cover0_B_3 c i a2 h2 a3 h3 a4 h4 a5 h5 a6 h6 hc0 hc1 hc2 x0 x1 x2 xs)]
  unfold kernelRun0_B
  dsimp only
  sl_unfold_words
  rw [View.canon_unit_zero (S := S1024x1024) hz]
  simp only [View.readAt_eq_ld, h6.read_unread, h4.read_unread, View.ld_unit_zero (S := S1024x2048) hz, View.ld_unit_zero (S := S2048x1024) hz]

end

/-! ## Read at one place -/

/-- The norm of a row, with the gain. -/
def normed (x g : Fin 2048 → EReal) (k : Fin 2048) : EReal :=
  x k * Ideal.rsqrt (Ideal.div (∑ l, x l * x l) (Ideal.ofBits FTy.f32 0x45000000#32) + Ideal.ofBits FTy.f32 0x358637BD#32) * g k

theorem pay1_apply (x : Vec Ideal S1024x2048 .f32) (g : Vec Ideal S1x2048 .f32) (r : Fin 1024) (k : Fin 2048) :
    k0_pay1 (F := Ideal) x g (ix2 r k) = normed (fun l => x (ix2 r l)) (fun l => g (ix2 0 l)) k := by
  pointwise [k0_pay1]
  rfl

theorem pay2_apply (a : Vec Ideal S1024x2048 .bf16) (w : Vec Ideal S2048x1024 .bf16) (r s : Fin 1024) :
    k0_pay2 (F := Ideal) a w (ix2 r s) = ∑ k, a (ix2 r k) * w (ix2 k s) := by
  pointwise [k0_pay2]
  try rfl

/-! ## The blocks -/

variable (m : (ℓ : Loc nD τ sig) → Buf (Elt Ideal) ℓ)

/-- The windows' places: tokens by row of tiles, the gain whole, weights by column of tiles, the result by both. -/
theorem idx_facts : ∀ t : Fin cfg0.N, win0_0.index t (0 : Fin 2) = t.val / 7 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 7
    ∧ win0_3.index t (0 : Fin 2) = t.val / 7 ∧ win0_3.index t (1 : Fin 2) = t.val % 7 :=
  (by decide +kernel : ∀ t : Fin grid0.N, _)

/-- The tokens' array in the call is the argument without its axis of one. -/
theorem V_main_v0 (c : Dev nD) (y : S8192x2048.Idx) (j : S1x8192x2048.Idx) (h1 : (j 1).val = (y 0).val) (h2 : (j 2).val = (y 1).val) :
    V m c main_v0 y = m ((c : Thread nD τ).loc main_arg0) j := by
  have hv : V m c main_v0 = shapeCast S8192x2048 (m ((c : Thread nD τ).loc main_arg0)) shapeCasts_S1x8192x2048_S8192x2048 := by
    show StableHlo.after hostOps0 _ _ = _
    after_results
    rfl
  rw [hv]
  refine shapeCast_apply _ shapeCasts_S1x8192x2048_S8192x2048 y j ?_
  rewrite [Shape.rowMajor_val_three, Shape.rowMajor_val_two]
  have h0 : (j 0).val < 1 := (j 0).isLt
  show ((j 0).val * 8192 + (j 1).val) * 2048 + (j 2).val = (y 0).val * 2048 + (y 1).val
  rw [h1, h2]; omega

/-- The weights' array is the argument without its axis of one, narrowed: at the ideal instance its numbers. -/
theorem V_main_v2 (c : Dev nD) (y : S2048x7168.Idx) (j : S1x2048x7168.Idx) (h1 : (j 1).val = (y 0).val) (h2 : (j 2).val = (y 1).val) :
    (V m c main_v2 y : EReal) = m ((c : Thread nD τ).loc main_arg2) j := by
  have hv : V m c main_v2 = truncf .bf16 (shapeCast S2048x7168 (m ((c : Thread nD τ).loc main_arg2)) shapeCasts_S1x2048x7168_S2048x7168 : FVec Ideal S2048x7168 .f32) bitsLt_bf16_f32 := by
    show StableHlo.after hostOps0 _ _ = _
    after_results
    rfl
  rw [hv]
  show shapeCast S2048x7168 (m ((c : Thread nD τ).loc main_arg2)) shapeCasts_S1x2048x7168_S2048x7168 y = _
  refine shapeCast_apply _ shapeCasts_S1x2048x7168_S2048x7168 y j ?_
  rewrite [Shape.rowMajor_val_three, Shape.rowMajor_val_two]
  have h0 : (j 0).val < 1 := (j 0).isLt
  show ((j 0).val * 2048 + (j 1).val) * 7168 + (j 2).val = (y 0).val * 7168 + (y 1).val
  rw [h1, h2]; omega

/-- The gain's array is the argument. -/
theorem V_main_v4 (c : Dev nD) (y : S1x2048.Idx) : V m c main_v4 y = m ((c : Thread nD τ).loc main_arg1) y := by
  have hv : V m c main_v4 = shapeCast S1x2048 (shapeCast S2048 (m ((c : Thread nD τ).loc main_arg1)) shapeCasts_S1x2048_S2048) shapeCasts_S2048_S1x2048 := by
    show StableHlo.after hostOps0 _ _ = _
    after_results
    rfl
  rw [hv]
  have h0 : (y 0).val < 1 := (y 0).isLt
  refine (shapeCast_apply _ shapeCasts_S2048_S1x2048 y (fun | ⟨0, _⟩ => (⟨(y 1).val, (y 1).isLt⟩ : Fin 2048)) ?_).trans
    (shapeCast_apply _ shapeCasts_S1x2048_S2048 _ y ?_)
  · rewrite [Shape.rowMajor_val_one, Shape.rowMajor_val_two]
    show (y 1).val = (y 0).val * 2048 + (y 1).val
    omega
  · rewrite [Shape.rowMajor_val_one, Shape.rowMajor_val_two]
    show (y 0).val * 2048 + (y 1).val = (y 1).val
    omega

/-- The arguments at a row and a column. -/
def tok (c : Dev nD) (r : Fin 8192) (k : Fin 2048) : EReal :=
  m ((c : Thread nD τ).loc main_arg0) (fun | ⟨0, _⟩ => (0 : Fin 1) | ⟨1, _⟩ => r | ⟨2, _⟩ => k)
def wt (c : Dev nD) (k : Fin 2048) (s : Fin 7168) : EReal :=
  m ((c : Thread nD τ).loc main_arg2) (fun | ⟨0, _⟩ => (0 : Fin 1) | ⟨1, _⟩ => k | ⟨2, _⟩ => s)
def gain (c : Dev nD) (k : Fin 2048) : EReal :=
  m ((c : Thread nD τ).loc main_arg1) (fun | ⟨0, _⟩ => (0 : Fin 1) | ⟨1, _⟩ => k)

theorem iblk0_apply (c : Dev nD) (t : Fin cfg0.N) (r : Fin 1024) (k : Fin 2048) (R : Fin 8192) (hR : R.val = t.val / 7 * 1024 + r.val) :
    ((iblk m c 0 t : Vec Ideal S1024x2048 .f32) (ix2 r k) : EReal) = tok m c R k := by
  obtain ⟨e0, e1, -⟩ := idx_facts t
  unfold iblk
  rw [View.read_apply]
  refine V_main_v0 m c _ _ ?_ ?_
  · show R.val = win0_0.index t 0 * 1024 + 1 * r.val; rw [e0, hR]; omega
  · show k.val = win0_0.index t 1 * 2048 + 1 * k.val; rw [e1]; omega

theorem iblk1_apply (c : Dev nD) (t : Fin cfg0.N) (k : Fin 2048) :
    ((iblk m c 1 t : Vec Ideal S1x2048 .f32) (ix2 0 k) : EReal) = gain m c k := by
  obtain ⟨-, -, e0, e1, -⟩ := idx_facts t
  unfold iblk
  rw [View.read_apply]
  refine (V_main_v4 m c _).trans (congrArg _ ?_)
  funext a
  apply Fin.ext
  match a with
  | ⟨0, _⟩ => show win0_1.index t 0 * 1 + 1 * 0 = 0; rw [e0]
  | ⟨1, _⟩ => show win0_1.index t 1 * 2048 + 1 * k.val = k.val; rw [e1]; omega

theorem iblk2_apply (c : Dev nD) (t : Fin cfg0.N) (k : Fin 2048) (s : Fin 1024) (S : Fin 7168) (hS : S.val = t.val % 7 * 1024 + s.val) :
    ((iblk m c 2 t : Vec Ideal S2048x1024 .bf16) (ix2 k s) : EReal) = wt m c k S := by
  obtain ⟨-, -, -, -, e0, e1, -⟩ := idx_facts t
  unfold iblk
  rw [View.read_apply]
  refine V_main_v2 m c _ _ ?_ ?_
  · show k.val = win0_2.index t 0 * 2048 + 1 * k.val; rw [e0]; omega
  · show S.val = win0_2.index t 1 * 1024 + 1 * s.val; rw [e1, hS]; omega

/-! ## The scratch and the tiles -/

/-- After any tile of a row the scratch holds the row's normed tokens. -/
theorem scratch_apply (c : Dev nD) : ∀ (n : ℕ) (hn : n < cfg0.N) (r : Fin 1024) (k : Fin 2048) (R : Fin 8192), R.val = n / 7 * 1024 + r.val →
    ((outsAt0 m c n hn).2 (ix2 r k) : EReal) = normed (tok m c R) (gain m c) k := by
  intro n
  induction n with
  | zero =>
    intro hn r k R hR
    have e := outsAt0_A m c ⟨0, hn⟩ (Nat.zero_mod _)
    dsimp only at e
    rw [e]; dsimp only; rw [sout_A, pay1_apply]
    congr 1 <;> funext l
    · exact iblk0_apply m c ⟨0, hn⟩ r l R hR
    · exact iblk1_apply m c ⟨0, hn⟩ l
  | succ n ih =>
    intro hn r k R hR
    by_cases h : (n + 1) % 7 = 0
    · have e := outsAt0_A m c ⟨n + 1, hn⟩ h
      dsimp only at e
      rw [e]; dsimp only; rw [sout_A, pay1_apply]
      congr 1 <;> funext l
      · exact iblk0_apply m c ⟨n + 1, hn⟩ r l R hR
      · exact iblk1_apply m c ⟨n + 1, hn⟩ l
    · have e := outsAt0_B m c ⟨n + 1, hn⟩ h
      dsimp only at e
      rw [e]
      unfold sout0_B_0
      exact ih _ r k R (by rw [hR]; omega)

/-- A tile of the result: the normed row times the weights' column. -/
theorem tile_apply (c : Dev nD) (t : Fin cfg0.N) (r s : Fin 1024) (R : Fin 8192) (S : Fin 7168)
    (hR : R.val = t.val / 7 * 1024 + r.val) (hS : S.val = t.val % 7 * 1024 + s.val) :
    ((outsAt0 m c t.val t.isLt).1 (ix2 r s) : EReal) = ∑ k, normed (tok m c R) (gain m c) k * wt m c k S := by
  by_cases h : t.val % 7 = 0
  · rw [outsAt0_A m c t h]; dsimp only; rw [out_A, pay2_apply]
    refine Finset.sum_congr rfl fun k _ => ?_
    rw [pay1_apply, iblk2_apply m c t k s S hS]
    congr 2 <;> funext l
    · exact iblk0_apply m c t r l R hR
    · exact iblk1_apply m c t l
  · rw [outsAt0_B m c t h]; dsimp only; rw [out_B, pay2_apply]
    refine Finset.sum_congr rfl fun k _ => ?_
    rw [iblk2_apply m c t k s S hS]
    congr 1
    exact scratch_apply m c _ _ r k R (by rw [hR]; omega)

/-! ## The reference at one place, and the array -/

section

open Cert.Reference2Ideal.Read

/-- The reference: the normed row times the weights' column. -/
theorem ref_apply (c : Dev nD) (R : Fin 8192) (S : Fin 7168) (i : S8192x7168.Idx) (h0 : (i 0).val = R.val) (h1 : (i 1).val = S.val) :
    (val_main_v16 (F := Ideal) (m ((c : Thread nD τ).loc main_arg0)) (m ((c : Thread nD τ).loc main_arg1)) (m ((c : Thread nD τ).loc main_arg2)) i : EReal)
      = ∑ k, normed (tok m c R) (gain m c) k * wt m c k S := by
  rw [val_main_v16_apply]
  refine Finset.sum_congr rfl fun k _ => ?_
  have hx : ∀ (j : S8192x2048.Idx) (l : Fin 2048), (j 0).val = R.val → (j 1).val = l.val →
      (val_main_v0 (F := Ideal) (m ((c : Thread nD τ).loc main_arg0)) j : EReal) = tok m c R l := by
    intro j l hj hl
    rw [val_main_v0_apply]
    refine congrArg _ ?_
    funext a
    apply Fin.ext
    match a with
    | ⟨0, _⟩ => rfl
    | ⟨1, _⟩ => show ((j 0).val * 2048 + (j 1).val) / 2048 % 8192 = R.val; rw [hj, hl]; omega
    | ⟨2, _⟩ => show ((j 0).val * 2048 + (j 1).val) % 2048 = l.val; rw [hj, hl]; omega
  have hw : (val_main_v15 (F := Ideal) (m ((c : Thread nD τ).loc main_arg2)) (ridx_main_v16 i k) : EReal) = wt m c k S := by
    rw [val_main_v15_apply]
    refine congrArg _ ?_
    funext a
    apply Fin.ext
    match a with
    | ⟨0, _⟩ => rfl
    | ⟨1, _⟩ => show (k.val * 7168 + (i 1).val) / 7168 % 2048 = k.val; rw [h1]; omega
    | ⟨2, _⟩ => show (k.val * 7168 + (i 1).val) % 7168 = S.val; rw [h1]; omega
  have hg : (val_main_v13 (F := Ideal) (m ((c : Thread nD τ).loc main_arg1)) (lidx_main_v16 i k) : EReal) = gain m c k := by
    rw [val_main_v13_apply, val_main_v12_apply, val_main_v1_apply]
    refine congrArg _ ?_
    funext a
    apply Fin.ext
    match a with
    | ⟨0, _⟩ => rfl
    | ⟨1, _⟩ => show k.val % 2048 = k.val; omega
  have hs : ∀ (j : Cert.Reference2Ideal.S8192.Idx), (j 0).val = R.val →
      (val_main_v3 (F := Ideal) (m ((c : Thread nD τ).loc main_arg0)) j : EReal) = ∑ l, tok m c R l * tok m c R l := by
    intro j hj
    rw [val_main_v3_apply, val_main_cst_apply]
    refine Eq.trans (b := (0 : EReal) + ∑ l, tok m c R l * tok m c R l) ?_ (zero_add _)
    congr 1
    · exact Ideal.ofBits_zero_f32
    · refine Finset.sum_congr rfl fun l _ => ?_
      rw [val_main_v2_apply, hx _ l hj rfl]
      rfl
  rw [hw, val_main_v14_apply, hg, val_main_v11_apply, hx _ k h0 rfl, val_main_v10_apply, val_main_v9_apply, val_main_v8_apply,
    val_main_v6_apply, val_main_v4_apply, hs _ h0, val_main_v5_apply, val_main_cst_0_apply, val_main_v7_apply, val_main_cst_1_apply]
  rfl

end

/-- The call's array after the run is the reference's. -/
theorem final_proj (c : Dev nD) : (dats m 0 c).arrAt 3 cfg0.N
    = Cert.Reference2Ideal.Read.val_main_v16 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 56 := Nat.lt_of_lt_of_eq t.isLt N_0
  obtain ⟨-, -, -, -, -, -, e0, e1⟩ := idx_facts t
  blk_simp
  rw [after0_3]
  have hy0 : (y 0).val < 1024 := (y 0).isLt
  have hy1 : (y 1).val < 1024 := (y 1).isLt
  have hy : y = ix2 (⟨(y 0).val, hy0⟩ : Fin 1024) (⟨(y 1).val, hy1⟩ : Fin 1024) := by
    funext a
    match a with
    | ⟨0, _⟩ => rfl
    | ⟨1, _⟩ => rfl
  refine Eq.trans ?_ (ref_apply m c ⟨t.val / 7 * 1024 + (y 0).val, by omega⟩ ⟨t.val % 7 * 1024 + (y 1).val, by omega⟩ _ ?_ ?_).symm
  · exact (congrArg _ hy).trans (tile_apply m c t _ _ _ _ rfl rfl)
  · show win0_3.index t 0 * 1024 + 1 * (y 0).val = t.val / 7 * 1024 + (y 0).val; rw [e0]; omega
  · show win0_3.index t 1 * 1024 + 1 * (y 1).val = t.val % 7 * 1024 + (y 1).val; rw [e1]; omega

end Cert.Kernel2Ideal.Hand
-- ==== Proof.MemoryKeys.lean ====
/- The keys and values of the memory, side by side, with the norm before them: what the call computes, and that it is the
   reference's array. The call has a single tile. -/
module

public import proofs.«01_k».proof.Proof.Gen.Kernel3Ideal.Value
public import proofs.«01_k».proof.Proof.Gen.Reference3Ideal.Read
public import proofs.«01_k».proof.Defs
public import Idealize.ShloMosaic.Lib.Pointwise
public import Idealize.ShloMosaic.Lib.Pipeline.ValueKit.Geometry

@[expose] public section

set_option maxRecDepth 16384
set_option maxHeartbeats 1600000

noncomputable section

namespace Cert.Kernel3Ideal.Hand

open Cert.Kernel3Ideal Cert.Kernel3Ideal.Gen Idealize.ShloMosaic Idealize.ShloMosaic.TcCoe Idealize.SL.Sem
open Idealize.ShloMosaic.Pipeline (Dat)

/-! ## What a tile leaves -/

section

variable {F : FTy → Type} [FloatOps F]

theorem hz : (![0, 0] : Fin 2 → Nat) = fun _ => 0 := funext fun a => by fin_cases a <;> rfl

/-- The tile is the product of the normed rows with the weights. -/
theorem out_A (c : Dev nD) (i : grid0.Coords) (a2 : Memref sig .tc .vmem S256x2048 .f32) (h2 : a2.IsWhole) (a3 : Memref sig .tc .vmem S1x2048 .f32) (h3 : a3.IsWhole) (a4 : Memref sig .tc .vmem S2048x1024 .bf16) (h4 : a4.IsWhole) (a5 : Memref sig .tc .vmem S256x1024 .f32) (h5 : a5.IsWhole) (a6 : Memref sig .tc .vmem S256x2048 .bf16) (h6 : a6.IsWhole) (hc0 : cond0_0 i) (hc1 : cond0_1 i) (hc2 : ¬cond0_2 i)
    (x0 : Vec F S256x2048 .f32) (x1 : Vec F S1x2048 .f32) (x2 : Vec F S2048x1024 .bf16) :
    out0_A_3 c i a2 h2 a3 h3 a4 h4 a5 h5 a6 h6 hc0 hc1 hc2 x0 x1 x2 = k0_pay2 (k0_pay1 x0 x1) x2 := by
  unfold out0_A_3
  rw [View.read_writes_eq_canon _ _ _ (cover0_A_3 c i a2 h2 a3 h3 a4 h4 a5 h5 a6 h6 hc0 hc1 hc2 x0 x1 x2)]
  unfold kernelRun0_A
  dsimp only
  sl_unfold_words
  rw [View.canon_unit_zero (S := S256x1024) hz, View.readCov_unit_zero (S := S256x2048) _ hz]
  simp only [View.readAt_eq_ld, h2.read_unread, h3.read_unread, h4.read_unread, View.ld_unit_zero (S := S256x2048) hz, View.ld_unit_zero (S := S1x2048) hz, View.ld_unit_zero (S := S2048x1024) hz]

end

/-! ## Read at one place -/

/-- The norm of a row, with the gain. -/
def normed (x g : Fin 2048 → EReal) (k : Fin 2048) : EReal :=
  x k * Ideal.rsqrt (Ideal.div (∑ l, x l * x l) (Ideal.ofBits FTy.f32 0x45000000#32) + Ideal.ofBits FTy.f32 0x358637BD#32) * g k

theorem pay1_apply (x : Vec Ideal S256x2048 .f32) (g : Vec Ideal S1x2048 .f32) (r : Fin 256) (k : Fin 2048) :
    k0_pay1 (F := Ideal) x g (ix2 r k) = normed (fun l => x (ix2 r l)) (fun l => g (ix2 0 l)) k := by
  pointwise [k0_pay1]
  rfl

theorem pay2_apply (a : Vec Ideal S256x2048 .bf16) (w : Vec Ideal S2048x1024 .bf16) (r : Fin 256) (s : Fin 1024) :
    k0_pay2 (F := Ideal) a w (ix2 r s) = ∑ k, a (ix2 r k) * w (ix2 k s) := by
  pointwise [k0_pay2]
  try rfl

/-! ## The blocks -/

variable (m : (ℓ : Loc nD τ sig) → Buf (Elt Ideal) ℓ)

/-- The windows' places: everything whole. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The memory's array in the call is the argument without its axis of one. -/
theorem V_main_v0 (c : Dev nD) (y : S256x2048.Idx) (j : S1x256x2048.Idx) (h1 : (j 1).val = (y 0).val) (h2 : (j 2).val = (y 1).val) :
    V m c main_v0 y = m ((c : Thread nD τ).loc main_arg0) j := by
  have hv : V m c main_v0 = shapeCast S256x2048 (m ((c : Thread nD τ).loc main_arg0)) shapeCasts_S1x256x2048_S256x2048 := by
    show StableHlo.after hostOps0 _ _ = _
    after_results
    rfl
  rw [hv]
  refine shapeCast_apply _ shapeCasts_S1x256x2048_S256x2048 y j ?_
  rewrite [Shape.rowMajor_val_three, Shape.rowMajor_val_two]
  have h0 : (j 0).val < 1 := (j 0).isLt
  show ((j 0).val * 256 + (j 1).val) * 2048 + (j 2).val = (y 0).val * 2048 + (y 1).val
  rw [h1, h2]; omega

/-- The arguments at a row and a column. -/
def tok (c : Dev nD) (r : Fin 256) (k : Fin 2048) : EReal :=
  m ((c : Thread nD τ).loc main_arg0) (fun | ⟨0, _⟩ => (0 : Fin 1) | ⟨1, _⟩ => r | ⟨2, _⟩ => k)
def keyWt (c : Dev nD) (k : Fin 2048) (s : Fin 512) : EReal :=
  m ((c : Thread nD τ).loc main_arg2) (fun | ⟨0, _⟩ => (0 : Fin 1) | ⟨1, _⟩ => k | ⟨2, _⟩ => s)
def valueWt (c : Dev nD) (k : Fin 2048) (s : Fin 512) : EReal :=
  m ((c : Thread nD τ).loc main_arg3) (fun | ⟨0, _⟩ => (0 : Fin 1) | ⟨1, _⟩ => k | ⟨2, _⟩ => s)
def gain (c : Dev nD) (k : Fin 2048) : EReal :=
  m ((c : Thread nD τ).loc main_arg1) (fun | ⟨0, _⟩ => (0 : Fin 1) | ⟨1, _⟩ => k)

/-- The two weights side by side. -/
def wt (c : Dev nD) (k : Fin 2048) (s : Fin 1024) : EReal :=
  if h : s.val < 512 then keyWt m c k ⟨s.val, h⟩ else valueWt m c k ⟨s.val - 512, by omega⟩

/-- A weights' argument without its axis of one. -/
theorem flat_apply (x : (⟨S1x2048x512, .f32⟩ : BufTy).Contents (Elt Ideal)) (y : S2048x512.Idx) (j : S1x2048x512.Idx) (h1 : (j 1).val = (y 0).val) (h2 : (j 2).val = (y 1).val) :
    shapeCast S2048x512 x shapeCasts_S1x2048x512_S2048x512 y = x j := by
  refine shapeCast_apply _ shapeCasts_S1x2048x512_S2048x512 _ _ ?_
  rewrite [Shape.rowMajor_val_three, Shape.rowMajor_val_two]
  have h0 : (j 0).val < 1 := (j 0).isLt
  show ((j 0).val * 2048 + (j 1).val) * 512 + (j 2).val = (y 0).val * 512 + (y 1).val
  rw [h1, h2]; omega

/-- The weights' array is the two arguments side by side, narrowed: at the ideal instance their numbers. -/
theorem V_main_v4 (c : Dev nD) (y : S2048x1024.Idx) (k : Fin 2048) (s : Fin 1024) (h1 : (y 0).val = k.val) (h2 : (y 1).val = s.val) :
    (V m c main_v4 y : EReal) = wt m c k s := by
  have hv : V m c main_v4 = truncf .bf16 (concatenate S2048x1024 1 [⟨S2048x512, shapeCast S2048x512 (m ((c : Thread nD τ).loc main_arg2)) shapeCasts_S1x2048x512_S2048x512⟩, ⟨S2048x512, shapeCast S2048x512 (m ((c : Thread nD τ).loc main_arg3)) shapeCasts_S1x2048x512_S2048x512⟩] concatenates_S2048x512_S2048x512_S2048x1024_d1 : FVec Ideal S2048x1024 .f32) bitsLt_bf16_f32 := by
    show StableHlo.after hostOps0 _ _ = _
    after_results
    rfl
  rw [hv]
  show concatenate S2048x1024 1 [⟨S2048x512, shapeCast S2048x512 (m ((c : Thread nD τ).loc main_arg2)) shapeCasts_S1x2048x512_S2048x512⟩, ⟨S2048x512, shapeCast S2048x512 (m ((c : Thread nD τ).loc main_arg3)) shapeCasts_S1x2048x512_S2048x512⟩] concatenates_S2048x512_S2048x512_S2048x1024_d1 y = _
  unfold wt keyWt valueWt
  by_cases h : s.val < 512
  · rw [dif_pos h]
    refine (concatenate_pair_apply_left (t := S2048x1024) (s₁ := S2048x512) (s₂ := S2048x512) 1 _ _ _ _ rfl (ix2 k (⟨s.val, h⟩ : Fin 512)) (fun b => ?_)).trans
      (flat_apply (m ((c : Thread nD τ).loc main_arg2)) _ _ rfl rfl)
    match b with
    | ⟨0, _⟩ => exact h1.symm
    | ⟨1, _⟩ => exact h2.symm
  · rw [dif_neg h]
    refine (concatenate_pair_apply_right (t := S2048x1024) (s₁ := S2048x512) (s₂ := S2048x512) 1 _ _ _ _ rfl rfl (ix2 k (⟨s.val - 512, by omega⟩ : Fin 512)) (fun b hb => ?_) ?_).trans
      (flat_apply (m ((c : Thread nD τ).loc main_arg3)) _ _ rfl rfl)
    · match b with
      | ⟨0, _⟩ => exact h1.symm
      | ⟨1, _⟩ => exact absurd rfl hb
    · show s.val - 512 + 512 = (y 1).val
      omega

/-- The gain's array is the argument. -/
theorem V_main_v6 (c : Dev nD) (y : S1x2048.Idx) : V m c main_v6 y = m ((c : Thread nD τ).loc main_arg1) y := by
  have hv : V m c main_v6 = shapeCast S1x2048 (shapeCast S2048 (m ((c : Thread nD τ).loc main_arg1)) shapeCasts_S1x2048_S2048) shapeCasts_S2048_S1x2048 := by
    show StableHlo.after hostOps0 _ _ = _
    after_results
    rfl
  rw [hv]
  have h0 : (y 0).val < 1 := (y 0).isLt
  refine (shapeCast_apply _ shapeCasts_S2048_S1x2048 y (fun | ⟨0, _⟩ => (⟨(y 1).val, (y 1).isLt⟩ : Fin 2048)) ?_).trans
    (shapeCast_apply _ shapeCasts_S1x2048_S2048 _ y ?_)
  · rewrite [Shape.rowMajor_val_one, Shape.rowMajor_val_two]
    show (y 1).val = (y 0).val * 2048 + (y 1).val
    omega
  · rewrite [Shape.rowMajor_val_one, Shape.rowMajor_val_two]
    show (y 0).val * 2048 + (y 1).val = (y 1).val
    omega

theorem iblk0_apply (c : Dev nD) (t : Fin cfg0.N) (r : Fin 256) (k : Fin 2048) :
    ((iblk m c 0 t : Vec Ideal S256x2048 .f32) (ix2 r k) : EReal) = tok m c r k := by
  obtain ⟨e0, e1, -⟩ := idx_facts t
  unfold iblk
  rw [View.read_apply]
  refine V_main_v0 m c _ _ ?_ ?_
  · show r.val = win0_0.index t 0 * 256 + 1 * r.val; rw [e0]; omega
  · show k.val = win0_0.index t 1 * 2048 + 1 * k.val; rw [e1]; omega

theorem iblk1_apply (c : Dev nD) (t : Fin cfg0.N) (k : Fin 2048) :
    ((iblk m c 1 t : Vec Ideal S1x2048 .f32) (ix2 0 k) : EReal) = gain m c k := by
  obtain ⟨-, -, e0, e1, -⟩ := idx_facts t
  unfold iblk
  rw [View.read_apply]
  refine (V_main_v6 m c _).trans (congrArg _ ?_)
  funext a
  apply Fin.ext
  match a with
  | ⟨0, _⟩ => show win0_1.index t 0 * 1 + 1 * 0 = 0; rw [e0]
  | ⟨1, _⟩ => show win0_1.index t 1 * 2048 + 1 * k.val = k.val; rw [e1]; omega

theorem iblk2_apply (c : Dev nD) (t : Fin cfg0.N) (k : Fin 2048) (s : Fin 1024) :
    ((iblk m c 2 t : Vec Ideal S2048x1024 .bf16) (ix2 k s) : EReal) = wt m c k s := by
  obtain ⟨-, -, -, -, e0, e1, -⟩ := idx_facts t
  unfold iblk
  rw [View.read_apply]
  refine V_main_v4 m c _ _ _ ?_ ?_
  · show win0_2.index t 0 * 2048 + 1 * k.val = k.val; rw [e0]; omega
  · show win0_2.index t 1 * 1024 + 1 * s.val = s.val; rw [e1]; omega

/-- The result: the normed row times the weights' column. -/
theorem tile_apply (c : Dev nD) (t : Fin cfg0.N) (r : Fin 256) (s : Fin 1024) :
    ((outsAt0 m c t) (ix2 r s) : EReal) = ∑ k, normed (tok m c r) (gain m c) k * wt m c k s := by
  unfold outsAt0
  rw [out_A, pay2_apply]
  refine Finset.sum_congr rfl fun k _ => ?_
  rw [pay1_apply, iblk2_apply m c t k s]
  congr 2 <;> funext l
  · exact iblk0_apply m c t r l
  · exact iblk1_apply m c t l

/-! ## The reference at one place, and the array -/

section

open Cert.Reference3Ideal.Read

/-- The reference's normed row. -/
theorem ref_normed (c : Dev nD) (R : Fin 256) (k : Fin 2048) (i : Cert.Reference3Ideal.S256x2048.Idx) (h0 : (i 0).val = R.val) (h1 : (i 1).val = k.val) :
    (val_main_v14 (F := Ideal) (m ((c : Thread nD τ).loc main_arg0)) (m ((c : Thread nD τ).loc main_arg1)) i : EReal) = normed (tok m c R) (gain m c) k := by
  have hx : ∀ (j : Cert.Reference3Ideal.S256x2048.Idx) (l : Fin 2048), (j 0).val = R.val → (j 1).val = l.val →
      (val_main_v0 (F := Ideal) (m ((c : Thread nD τ).loc main_arg0)) j : EReal) = tok m c R l := by
    intro j l hj hl
    rw [val_main_v0_apply]
    refine congrArg _ ?_
    funext a
    apply Fin.ext
    match a with
    | ⟨0, _⟩ => rfl
    | ⟨1, _⟩ => show ((j 0).val * 2048 + (j 1).val) / 2048 % 256 = R.val; rw [hj, hl]; omega
    | ⟨2, _⟩ => show ((j 0).val * 2048 + (j 1).val) % 2048 = l.val; rw [hj, hl]; omega
  have hg : (val_main_v13 (F := Ideal) (m ((c : Thread nD τ).loc main_arg1)) i : EReal) = gain m c k := by
    rw [val_main_v13_apply, val_main_v12_apply, val_main_v1_apply]
    refine congrArg _ ?_
    funext a
    apply Fin.ext
    match a with
    | ⟨0, _⟩ => rfl
    | ⟨1, _⟩ => show (i 1).val % 2048 = k.val; omega
  have hs : ∀ (j : Cert.Reference3Ideal.S256.Idx), (j 0).val = R.val →
      (val_main_v3 (F := Ideal) (m ((c : Thread nD τ).loc main_arg0)) j : EReal) = ∑ l, tok m c R l * tok m c R l := by
    intro j hj
    rw [val_main_v3_apply, val_main_cst_apply]
    refine Eq.trans (b := (0 : EReal) + ∑ l, tok m c R l * tok m c R l) ?_ (zero_add _)
    congr 1
    · exact Ideal.ofBits_zero_f32
    · refine Finset.sum_congr rfl fun l _ => ?_
      rw [val_main_v2_apply, hx _ l hj rfl]
      rfl
  rw [val_main_v14_apply, hg, val_main_v11_apply, hx _ k h0 h1, val_main_v10_apply, val_main_v9_apply, val_main_v8_apply,
    val_main_v6_apply, val_main_v4_apply, hs _ h0, val_main_v5_apply, val_main_cst_0_apply, val_main_v7_apply, val_main_cst_1_apply]
  rfl

/-- The reference: the normed row times the weights' column, keys first. -/
theorem ref_apply (c : Dev nD) (R : Fin 256) (S : Fin 1024) (i : Cert.Reference3Ideal.S256x1024.Idx) (h0 : (i 0).val = R.val) (h1 : (i 1).val = S.val) :
    (val_main_v19 (F := Ideal) (m ((c : Thread nD τ).loc main_arg0)) (m ((c : Thread nD τ).loc main_arg1)) (m ((c : Thread nD τ).loc main_arg2)) (m ((c : Thread nD τ).loc main_arg3)) i : EReal)
      = ∑ k, normed (tok m c R) (gain m c) k * wt m c k S := by
  unfold val_main_v19
  by_cases h : S.val < 512
  · refine (concatenate_pair_apply_left (t := Cert.Reference3Ideal.S256x1024) (s₁ := Cert.Reference3Ideal.S256x512) (s₂ := Cert.Reference3Ideal.S256x512) 1 _ _ _ _ rfl (ix2 R (⟨S.val, h⟩ : Fin 512)) (fun b => ?_)).trans ?_
    · match b with
      | ⟨0, _⟩ => exact h0.symm
      | ⟨1, _⟩ => exact h1.symm
    · rw [val_main_v16_apply]
      refine Finset.sum_congr rfl fun k _ => ?_
      have hw : (val_main_v15 (F := Ideal) (m ((c : Thread nD τ).loc main_arg2)) (ridx_main_v16 (ix2 R (⟨S.val, h⟩ : Fin 512)) k) : EReal) = wt m c k S := by
        unfold wt
        rw [dif_pos h, val_main_v15_apply]
        refine congrArg _ ?_
        funext a
        apply Fin.ext
        match a with
        | ⟨0, _⟩ => rfl
        | ⟨1, _⟩ => show (k.val * 512 + S.val) / 512 % 2048 = k.val; omega
        | ⟨2, _⟩ => show (k.val * 512 + S.val) % 512 = S.val; omega
      rw [hw, ref_normed m c R k _ rfl rfl]
  · refine (concatenate_pair_apply_right (t := Cert.Reference3Ideal.S256x1024) (s₁ := Cert.Reference3Ideal.S256x512) (s₂ := Cert.Reference3Ideal.S256x512) 1 _ _ _ _ rfl rfl (ix2 R (⟨S.val - 512, by omega⟩ : Fin 512)) (fun b hb => ?_) ?_).trans ?_
    · match b with
      | ⟨0, _⟩ => exact h0.symm
      | ⟨1, _⟩ => exact absurd rfl hb
    · show S.val - 512 + 512 = (i 1).val
      omega
    · rw [val_main_v18_apply]
      refine Finset.sum_congr rfl fun k _ => ?_
      have hw : (val_main_v17 (F := Ideal) (m ((c : Thread nD τ).loc main_arg3)) (ridx_main_v18 (ix2 R (⟨S.val - 512, by omega⟩ : Fin 512)) k) : EReal) = wt m c k S := by
        unfold wt
        rw [dif_neg h, val_main_v17_apply]
        refine congrArg _ ?_
        funext a
        apply Fin.ext
        match a with
        | ⟨0, _⟩ => rfl
        | ⟨1, _⟩ => show (k.val * 512 + (S.val - 512)) / 512 % 2048 = k.val; omega
        | ⟨2, _⟩ => show (k.val * 512 + (S.val - 512)) % 512 = S.val - 512; omega
      rw [hw, ref_normed m c R k _ rfl rfl]

end

/-- The call's array after the run is the reference's. -/
theorem final_proj (c : Dev nD) : (dats m 0 c).arrAt 3 cfg0.N
    = Cert.Reference3Ideal.Read.val_main_v19 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  obtain ⟨-, -, -, -, -, -, e0, e1⟩ := idx_facts t
  blk_simp
  rw [after0_3]
  have hy0 : (y 0).val < 256 := (y 0).isLt
  have hy1 : (y 1).val < 1024 := (y 1).isLt
  have hy : y = ix2 (⟨(y 0).val, hy0⟩ : Fin 256) (⟨(y 1).val, hy1⟩ : Fin 1024) := by
    funext a
    match a with
    | ⟨0, _⟩ => rfl
    | ⟨1, _⟩ => rfl
  refine Eq.trans ?_ (ref_apply m c ⟨(y 0).val, hy0⟩ ⟨(y 1).val, hy1⟩ _ ?_ ?_).symm
  · exact (congrArg _ hy).trans (tile_apply m c t _ _)
  · show win0_3.index t 0 * 256 + 1 * (y 0).val = (y 0).val; rw [e0]; omega
  · show win0_3.index t 1 * 1024 + 1 * (y 1).val = (y 1).val; rw [e1]; omega

end Cert.Kernel3Ideal.Hand
-- ==== Proof.SampleProjection.lean ====
/- The in-projection of the sample group, with the norm before it: what a tile computes, and that the array of all tiles is the reference's. -/
module

public import proofs.«01_k».proof.Proof.Gen.Kernel4Ideal.Value
public import proofs.«01_k».proof.Proof.Gen.Reference4Ideal.Read
public import proofs.«01_k».proof.Defs
public import Idealize.ShloMosaic.Lib.Pointwise
public import Idealize.ShloMosaic.Lib.Pipeline.ValueKit.Geometry

@[expose] public section

set_option maxRecDepth 16384
set_option maxHeartbeats 1600000

noncomputable section

namespace Cert.Kernel4Ideal.Hand

open Cert.Kernel4Ideal Cert.Kernel4Ideal.Gen Idealize.ShloMosaic Idealize.ShloMosaic.TcCoe Idealize.SL.Sem
open Idealize.ShloMosaic.Pipeline (Dat)

/-! ## What a tile leaves -/

section

variable {F : FTy → Type} [FloatOps F]

theorem hz : (![0, 0] : Fin 2 → Nat) = fun _ => 0 := funext fun a => by fin_cases a <;> rfl

/-- At a row's first tile the scratch is filled with the normed rows, -/
theorem sout_A (c : Dev nD) (i : grid0.Coords) (a2 : Memref sig .tc .vmem S1024x2048 .f32) (h2 : a2.IsWhole) (a3 : Memref sig .tc .vmem S1x2048 .f32) (h3 : a3.IsWhole) (a4 : Memref sig .tc .vmem S2048x1024 .bf16) (h4 : a4.IsWhole) (a5 : Memref sig .tc .vmem S1024x1024 .f32) (h5 : a5.IsWhole) (a6 : Memref sig .tc .vmem S1024x2048 .bf16) (h6 : a6.IsWhole) (hc0 : cond0_0 i) (hc1 : cond0_1 i) (hc2 : ¬cond0_2 i)
    (x0 : Vec F S1024x2048 .f32) (x1 : Vec F S1x2048 .f32) (x2 : Vec F S2048x1024 .bf16) :
    sout0_A_0 c i a2 h2 a3 h3 a4 h4 a5 h5 a6 h6 hc0 hc1 hc2 x0 x1 x2 = k0_pay1 x0 x1 := by
  unfold sout0_A_0
  rw [View.read_writes_eq_canon _ _ _ (scover0_A_0 c i a2 h2 a3 h3 a4 h4 a5 h5 a6 h6 hc0 hc1 hc2 x0 x1 x2)]
  unfold kernelRun0_A
  dsimp only
  sl_unfold_words
  rw [View.canon_unit_zero (S := S1024x2048) hz]
  simp only [View.readAt_eq_ld, h2.read_unread, h3.read_unread, View.ld_unit_zero (S := S1024x2048) hz, View.ld_unit_zero (S := S1x2048) hz]

/-- and the tile is their product with the weights' block; -/
theorem out_A (c : Dev nD) (i : grid0.Coords) (a2 : Memref sig .tc .vmem S1024x2048 .f32) (h2 : a2.IsWhole) (a3 : Memref sig .tc .vmem S1x2048 .f32) (h3 : a3.IsWhole) (a4 : Memref sig .tc .vmem S2048x1024 .bf16) (h4 : a4.IsWhole) (a5 : Memref sig .tc .vmem S1024x1024 .f32) (h5 : a5.IsWhole) (a6 : Memref sig .tc .vmem S1024x2048 .bf16) (h6 : a6.IsWhole) (hc0 : cond0_0 i) (hc1 : cond0_1 i) (hc2 : ¬cond0_2 i)
    (x0 : Vec F S1024x2048 .f32) (x1 : Vec F S1x2048 .f32) (x2 : Vec F S2048x1024 .bf16) :
    out0_A_3 c i a2 h2 a3 h3 a4 h4 a5 h5 a6 h6 hc0 hc1 hc2 x0 x1 x2 = k0_pay2 (k0_pay1 x0 x1) x2 := by
  unfold out0_A_3
  rw [View.read_writes_eq_canon _ _ _ (cover0_A_3 c i a2 h2 a3 h3 a4 h4 a5 h5 a6 h6 hc0 hc1 hc2 x0 x1 x2)]
  unfold kernelRun0_A
  dsimp only
  sl_unfold_words
  rw [View.canon_unit_zero (S := S1024x1024) hz, View.readCov_unit_zero (S := S1024x2048) _ hz]
  simp only [View.readAt_eq_ld, h2.read_unread, h3.read_unread, h4.read_unread, View.ld_unit_zero (S := S1024x2048) hz, View.ld_unit_zero (S := S1x2048) hz, View.ld_unit_zero (S := S2048x1024) hz]

/-- at the row's other tiles it is the product with what the scratch holds. -/
theorem out_B (c : Dev nD) (i : grid0.Coords) (a2 : Memref sig .tc .vmem S1024x2048 .f32) (h2 : a2.IsWhole) (a3 : Memref sig .tc .vmem S1x2048 .f32) (h3 : a3.IsWhole) (a4 : Memref sig .tc .vmem S2048x1024 .bf16) (h4 : a4.IsWhole) (a5 : Memref sig .tc .vmem S1024x1024 .f32) (h5 : a5.IsWhole) (a6 : Memref sig .tc .vmem S1024x2048 .bf16) (h6 : a6.IsWhole) (hc0 : cond0_0 i) (hc1 : ¬cond0_1 i) (hc2 : ¬cond0_2 i)
    (x0 : Vec F S1024x2048 .f32) (x1 : Vec F S1x2048 .f32) (x2 : Vec F S2048x1024 .bf16) (xs : Vec F S1024x2048 .bf16) :
    out0_B_3 c i a2 h2 a3 h3 a4 h4 a5 h5 a6 h6 hc0 hc1 hc2 x0 x1 x2 xs = k0_pay2 xs x2 := by
  unfold out0_B_3
  rw [View.read_writes_eq_canon _ _ _ (cover0_B_3 c i a2 h2 a3 h3 a4 h4 a5 h5 a6 h6 hc0 hc1 hc2 x0 x1 x2 xs)]
  unfold kernelRun0_B
  dsimp only
  sl_unfold_words
  rw [View.canon_unit_zero (S := S1024x1024) hz]
  simp only [View.readAt_eq_ld, h6.read_unread, h4.read_unread, View.ld_unit_zero (S := S1024x2048) hz, View.ld_unit_zero (S := S2048x1024) hz]

end

/-! ## Read at one place -/

/-- The norm of a row, with the gain. -/
def normed (x g : Fin 2048 → EReal) (k : Fin 2048) : EReal :=
  x k * Ideal.rsqrt (Ideal.div (∑ l, x l * x l) (Ideal.ofBits FTy.f32 0x45000000#32) + Ideal.ofBits FTy.f32 0x358637BD#32) * g k

theorem pay1_apply (x : Vec Ideal S1024x2048 .f32) (g : Vec Ideal S1x2048 .f32) (r : Fin 1024) (k : Fin 2048) :
    k0_pay1 (F := Ideal) x g (ix2 r k) = normed (fun l => x (ix2 r l)) (fun l => g (ix2 0 l)) k := by
  pointwise [k0_pay1]
  rfl

theorem pay2_apply (a : Vec Ideal S1024x2048 .bf16) (w : Vec Ideal S2048x1024 .bf16) (r s : Fin 1024) :
    k0_pay2 (F := Ideal) a w (ix2 r s) = ∑ k, a (ix2 r k) * w (ix2 k s) := by
  pointwise [k0_pay2]
  try rfl

/-! ## The blocks -/

variable (m : (ℓ : Loc nD τ sig) → Buf (Elt Ideal) ℓ)

/-- The windows' places: tokens by row of tiles, the gain whole, weights by column of tiles, the result by both. -/
theorem idx_facts : ∀ t : Fin cfg0.N, win0_0.index t (0 : Fin 2) = t.val / 7 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 7
    ∧ win0_3.index t (0 : Fin 2) = t.val / 7 ∧ win0_3.index t (1 : Fin 2) = t.val % 7 :=
  (by decide +kernel : ∀ t : Fin grid0.N, _)

/-- The tokens' array in the call is the argument, its sequences one after the other. -/
theorem V_main_v0 (c : Dev nD) (y : S1024x2048.Idx) (j : S128x8x2048.Idx) (h1 : (j 0).val * 8 + (j 1).val = (y 0).val) (h2 : (j 2).val = (y 1).val) :
    V m c main_v0 y = m ((c : Thread nD τ).loc main_arg0) j := by
  have hv : V m c main_v0 = shapeCast S1024x2048 (m ((c : Thread nD τ).loc main_arg0)) shapeCasts_S128x8x2048_S1024x2048 := by
    show StableHlo.after hostOps0 _ _ = _
    after_results
    rfl
  rw [hv]
  refine shapeCast_apply _ shapeCasts_S128x8x2048_S1024x2048 y j ?_
  rewrite [Shape.rowMajor_val_three, Shape.rowMajor_val_two]
  show ((j 0).val * 8 + (j 1).val) * 2048 + (j 2).val = (y 0).val * 2048 + (y 1).val
  rw [h1, h2]

/-- The weights' array is the argument without its axis of one, narrowed: at the ideal instance its numbers. -/
theorem V_main_v2 (c : Dev nD) (y : S2048x7168.Idx) (j : S1x2048x7168.Idx) (h1 : (j 1).val = (y 0).val) (h2 : (j 2).val = (y 1).val) :
    (V m c main_v2 y : EReal) = m ((c : Thread nD τ).loc main_arg2) j := by
  have hv : V m c main_v2 = truncf .bf16 (shapeCast S2048x7168 (m ((c : Thread nD τ).loc main_arg2)) shapeCasts_S1x2048x7168_S2048x7168 : FVec Ideal S2048x7168 .f32) bitsLt_bf16_f32 := by
    show StableHlo.after hostOps0 _ _ = _
    after_results
    rfl
  rw [hv]
  show shapeCast S2048x7168 (m ((c : Thread nD τ).loc main_arg2)) shapeCasts_S1x2048x7168_S2048x7168 y = _
  refine shapeCast_apply _ shapeCasts_S1x2048x7168_S2048x7168 y j ?_
  rewrite [Shape.rowMajor_val_three, Shape.rowMajor_val_two]
  have h0 : (j 0).val < 1 := (j 0).isLt
  show ((j 0).val * 2048 + (j 1).val) * 7168 + (j 2).val = (y 0).val * 7168 + (y 1).val
  rw [h1, h2]; omega

/-- The gain's array is the argument. -/
theorem V_main_v4 (c : Dev nD) (y : S1x2048.Idx) : V m c main_v4 y = m ((c : Thread nD τ).loc main_arg1) y := by
  have hv : V m c main_v4 = shapeCast S1x2048 (shapeCast S2048 (m ((c : Thread nD τ).loc main_arg1)) shapeCasts_S1x2048_S2048) shapeCasts_S2048_S1x2048 := by
    show StableHlo.after hostOps0 _ _ = _
    after_results
    rfl
  rw [hv]
  have h0 : (y 0).val < 1 := (y 0).isLt
  refine (shapeCast_apply _ shapeCasts_S2048_S1x2048 y (fun | ⟨0, _⟩ => (⟨(y 1).val, (y 1).isLt⟩ : Fin 2048)) ?_).trans
    (shapeCast_apply _ shapeCasts_S1x2048_S2048 _ y ?_)
  · rewrite [Shape.rowMajor_val_one, Shape.rowMajor_val_two]
    show (y 1).val = (y 0).val * 2048 + (y 1).val
    omega
  · rewrite [Shape.rowMajor_val_one, Shape.rowMajor_val_two]
    show (y 0).val * 2048 + (y 1).val = (y 1).val
    omega

/-- The arguments at a row and a column. -/
def tok (c : Dev nD) (r : Fin 1024) (k : Fin 2048) : EReal :=
  m ((c : Thread nD τ).loc main_arg0) (fun | ⟨0, _⟩ => (⟨r.val / 8, by omega⟩ : Fin 128) | ⟨1, _⟩ => (⟨r.val % 8, by omega⟩ : Fin 8) | ⟨2, _⟩ => k)
def wt (c : Dev nD) (k : Fin 2048) (s : Fin 7168) : EReal :=
  m ((c : Thread nD τ).loc main_arg2) (fun | ⟨0, _⟩ => (0 : Fin 1) | ⟨1, _⟩ => k | ⟨2, _⟩ => s)
def gain (c : Dev nD) (k : Fin 2048) : EReal :=
  m ((c : Thread nD τ).loc main_arg1) (fun | ⟨0, _⟩ => (0 : Fin 1) | ⟨1, _⟩ => k)

theorem iblk0_apply (c : Dev nD) (t : Fin cfg0.N) (r : Fin 1024) (k : Fin 2048) (R : Fin 1024) (hR : R.val = t.val / 7 * 1024 + r.val) :
    ((iblk m c 0 t : Vec Ideal S1024x2048 .f32) (ix2 r k) : EReal) = tok m c R k := by
  obtain ⟨e0, e1, -⟩ := idx_facts t
  unfold iblk
  rw [View.read_apply]
  refine V_main_v0 m c _ _ ?_ ?_
  · show R.val / 8 * 8 + R.val % 8 = win0_0.index t 0 * 1024 + 1 * r.val; rw [e0, hR]; omega
  · show k.val = win0_0.index t 1 * 2048 + 1 * k.val; rw [e1]; omega

theorem iblk1_apply (c : Dev nD) (t : Fin cfg0.N) (k : Fin 2048) :
    ((iblk m c 1 t : Vec Ideal S1x2048 .f32) (ix2 0 k) : EReal) = gain m c k := by
  obtain ⟨-, -, e0, e1, -⟩ := idx_facts t
  unfold iblk
  rw [View.read_apply]
  refine (V_main_v4 m c _).trans (congrArg _ ?_)
  funext a
  apply Fin.ext
  match a with
  | ⟨0, _⟩ => show win0_1.index t 0 * 1 + 1 * 0 = 0; rw [e0]
  | ⟨1, _⟩ => show win0_1.index t 1 * 2048 + 1 * k.val = k.val; rw [e1]; omega

theorem iblk2_apply (c : Dev nD) (t : Fin cfg0.N) (k : Fin 2048) (s : Fin 1024) (S : Fin 7168) (hS : S.val = t.val % 7 * 1024 + s.val) :
    ((iblk m c 2 t : Vec Ideal S2048x1024 .bf16) (ix2 k s) : EReal) = wt m c k S := by
  obtain ⟨-, -, -, -, e0, e1, -⟩ := idx_facts t
  unfold iblk
  rw [View.read_apply]
  refine V_main_v2 m c _ _ ?_ ?_
  · show k.val = win0_2.index t 0 * 2048 + 1 * k.val; rw [e0]; omega
  · show S.val = win0_2.index t 1 * 1024 + 1 * s.val; rw [e1, hS]; omega

/-! ## The scratch and the tiles -/

/-- After any tile of a row the scratch holds the row's normed tokens. -/
theorem scratch_apply (c : Dev nD) : ∀ (n : ℕ) (hn : n < cfg0.N) (r : Fin 1024) (k : Fin 2048) (R : Fin 1024), R.val = n / 7 * 1024 + r.val →
    ((outsAt0 m c n hn).2 (ix2 r k) : EReal) = normed (tok m c R) (gain m c) k := by
  intro n
  induction n with
  | zero =>
    intro hn r k R hR
    have e := outsAt0_A m c ⟨0, hn⟩ (Nat.zero_mod _)
    dsimp only at e
    rw [e]; dsimp only; rw [sout_A, pay1_apply]
    congr 1 <;> funext l
    · exact iblk0_apply m c ⟨0, hn⟩ r l R hR
    · exact iblk1_apply m c ⟨0, hn⟩ l
  | succ n ih =>
    intro hn r k R hR
    by_cases h : (n + 1) % 7 = 0
    · have e := outsAt0_A m c ⟨n + 1, hn⟩ h
      dsimp only at e
      rw [e]; dsimp only; rw [sout_A, pay1_apply]
      congr 1 <;> funext l
      · exact iblk0_apply m c ⟨n + 1, hn⟩ r l R hR
      · exact iblk1_apply m c ⟨n + 1, hn⟩ l
    · have e := outsAt0_B m c ⟨n + 1, hn⟩ h
      dsimp only at e
      rw [e]
      unfold sout0_B_0
      exact ih _ r k R (by rw [hR]; omega)

/-- A tile of the result: the normed row times the weights' column. -/
theorem tile_apply (c : Dev nD) (t : Fin cfg0.N) (r s : Fin 1024) (R : Fin 1024) (S : Fin 7168)
    (hR : R.val = t.val / 7 * 1024 + r.val) (hS : S.val = t.val % 7 * 1024 + s.val) :
    ((outsAt0 m c t.val t.isLt).1 (ix2 r s) : EReal) = ∑ k, normed (tok m c R) (gain m c) k * wt m c k S := by
  by_cases h : t.val % 7 = 0
  · rw [outsAt0_A m c t h]; dsimp only; rw [out_A, pay2_apply]
    refine Finset.sum_congr rfl fun k _ => ?_
    rw [pay1_apply, iblk2_apply m c t k s S hS]
    congr 2 <;> funext l
    · exact iblk0_apply m c t r l R hR
    · exact iblk1_apply m c t l
  · rw [outsAt0_B m c t h]; dsimp only; rw [out_B, pay2_apply]
    refine Finset.sum_congr rfl fun k _ => ?_
    rw [iblk2_apply m c t k s S hS]
    congr 1
    exact scratch_apply m c _ _ r k R (by rw [hR]; omega)

/-! ## The reference at one place, and the array -/

section

open Cert.Reference4Ideal.Read

/-- The reference: the normed row times the weights' column. -/
theorem ref_apply (c : Dev nD) (R : Fin 1024) (S : Fin 7168) (i : S1024x7168.Idx) (h0 : (i 0).val = R.val) (h1 : (i 1).val = S.val) :
    (val_main_v16 (F := Ideal) (m ((c : Thread nD τ).loc main_arg0)) (m ((c : Thread nD τ).loc main_arg1)) (m ((c : Thread nD τ).loc main_arg2)) i : EReal)
      = ∑ k, normed (tok m c R) (gain m c) k * wt m c k S := by
  rw [val_main_v16_apply]
  refine Finset.sum_congr rfl fun k _ => ?_
  have hx : ∀ (j : S1024x2048.Idx) (l : Fin 2048), (j 0).val = R.val → (j 1).val = l.val →
      (val_main_v0 (F := Ideal) (m ((c : Thread nD τ).loc main_arg0)) j : EReal) = tok m c R l := by
    intro j l hj hl
    rw [val_main_v0_apply]
    refine congrArg _ ?_
    funext a
    apply Fin.ext
    match a with
    | ⟨0, _⟩ => show ((j 0).val * 2048 + (j 1).val) / 16384 = R.val / 8; rw [hj, hl]; omega
    | ⟨1, _⟩ => show ((j 0).val * 2048 + (j 1).val) / 2048 % 8 = R.val % 8; rw [hj, hl]; omega
    | ⟨2, _⟩ => show ((j 0).val * 2048 + (j 1).val) % 2048 = l.val; rw [hj, hl]; omega
  have hw : (val_main_v15 (F := Ideal) (m ((c : Thread nD τ).loc main_arg2)) (ridx_main_v16 i k) : EReal) = wt m c k S := by
    rw [val_main_v15_apply]
    refine congrArg _ ?_
    funext a
    apply Fin.ext
    match a with
    | ⟨0, _⟩ => rfl
    | ⟨1, _⟩ => show (k.val * 7168 + (i 1).val) / 7168 % 2048 = k.val; rw [h1]; omega
    | ⟨2, _⟩ => show (k.val * 7168 + (i 1).val) % 7168 = S.val; rw [h1]; omega
  have hg : (val_main_v13 (F := Ideal) (m ((c : Thread nD τ).loc main_arg1)) (lidx_main_v16 i k) : EReal) = gain m c k := by
    rw [val_main_v13_apply, val_main_v12_apply, val_main_v1_apply]
    refine congrArg _ ?_
    funext a
    apply Fin.ext
    match a with
    | ⟨0, _⟩ => rfl
    | ⟨1, _⟩ => show k.val % 2048 = k.val; omega
  have hs : ∀ (j : Cert.Reference4Ideal.S1024.Idx), (j 0).val = R.val →
      (val_main_v3 (F := Ideal) (m ((c : Thread nD τ).loc main_arg0)) j : EReal) = ∑ l, tok m c R l * tok m c R l := by
    intro j hj
    rw [val_main_v3_apply, val_main_cst_apply]
    refine Eq.trans (b := (0 : EReal) + ∑ l, tok m c R l * tok m c R l) ?_ (zero_add _)
    congr 1
    · exact Ideal.ofBits_zero_f32
    · refine Finset.sum_congr rfl fun l _ => ?_
      rw [val_main_v2_apply, hx _ l hj rfl]
      rfl
  rw [hw, val_main_v14_apply, hg, val_main_v11_apply, hx _ k h0 rfl, val_main_v10_apply, val_main_v9_apply, val_main_v8_apply,
    val_main_v6_apply, val_main_v4_apply, hs _ h0, val_main_v5_apply, val_main_cst_0_apply, val_main_v7_apply, val_main_cst_1_apply]
  rfl

end

/-- The call's array after the run is the reference's. -/
theorem final_proj (c : Dev nD) : (dats m 0 c).arrAt 3 cfg0.N
    = Cert.Reference4Ideal.Read.val_main_v16 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 7 := Nat.lt_of_lt_of_eq t.isLt N_0
  obtain ⟨-, -, -, -, -, -, e0, e1⟩ := idx_facts t
  blk_simp
  rw [after0_3]
  have hy0 : (y 0).val < 1024 := (y 0).isLt
  have hy1 : (y 1).val < 1024 := (y 1).isLt
  have hy : y = ix2 (⟨(y 0).val, hy0⟩ : Fin 1024) (⟨(y 1).val, hy1⟩ : Fin 1024) := by
    funext a
    match a with
    | ⟨0, _⟩ => rfl
    | ⟨1, _⟩ => rfl
  refine Eq.trans ?_ (ref_apply m c ⟨t.val / 7 * 1024 + (y 0).val, by omega⟩ ⟨t.val % 7 * 1024 + (y 1).val, by omega⟩ _ ?_ ?_).symm
  · exact (congrArg _ hy).trans (tile_apply m c t _ _ _ _ rfl rfl)
  · show win0_3.index t 0 * 1024 + 1 * (y 0).val = t.val / 7 * 1024 + (y 0).val; rw [e0]; omega
  · show win0_3.index t 1 * 1024 + 1 * (y 1).val = t.val % 7 * 1024 + (y 1).val; rw [e1]; omega

end Cert.Kernel4Ideal.Hand
-- ==== Proof.OutProjection.lean ====
/- The out-projection with the tokens added: what a tile computes, and that the array of all tiles is the reference's. -/
module

public import proofs.«01_k».proof.Proof.Gen.Kernel5Ideal.Value
public import proofs.«01_k».proof.Proof.Gen.Reference5Ideal.Read
public import proofs.«01_k».proof.Defs
public import Idealize.ShloMosaic.Lib.Pointwise
public import Idealize.ShloMosaic.Lib.Pipeline.ValueKit.Geometry

@[expose] public section

set_option maxRecDepth 16384
set_option maxHeartbeats 1600000

noncomputable section

namespace Cert.Kernel5Ideal.Hand

open Cert.Kernel5Ideal Cert.Kernel5Ideal.Gen Idealize.ShloMosaic Idealize.ShloMosaic.TcCoe Idealize.SL.Sem
open Idealize.ShloMosaic.Pipeline (Dat)

/-! ## What a tile leaves -/

section

variable {F : FTy → Type} [FloatOps F]

theorem hz : (![0, 0] : Fin 2 → Nat) = fun _ => 0 := funext fun a => by fin_cases a <;> rfl

/-- At a row's first tile the scratch is filled with the two head groups side by side, -/
theorem sout_A (c : Dev nD) (i : grid0.Coords) (a2 : Memref sig .tc .vmem S1024x1024 .f32) (h2 : a2.IsWhole) (a3 : Memref sig .tc .vmem S1024x1024 .f32) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x2048 .bf16) (h7 : a7.IsWhole) (hc0 : cond0_0 i) (hc1 : cond0_1 i) (hc2 : ¬cond0_2 i)
    (x0 x1 : Vec F S1024x1024 .f32) (x2 : Vec F S2048x1024 .bf16) (x3 : Vec F S1024x1024 .f32) :
    sout0_A_0 c i a2 h2 a3 h3 a4 h4 a5 h5 a6 h6 a7 h7 hc0 hc1 hc2 x0 x1 x2 x3 = k0_pay1 x0 x1 := by
  unfold sout0_A_0
  rw [View.read_writes_eq_canon _ _ _ (scover0_A_0 c i a2 h2 a3 h3 a4 h4 a5 h5 a6 h6 a7 h7 hc0 hc1 hc2 x0 x1 x2 x3)]
  unfold kernelRun0_A
  dsimp only
  sl_unfold_words
  rw [View.canon_unit_zero (S := S1024x2048) hz]
  simp only [View.readAt_eq_ld, h2.read_unread, h3.read_unread, View.ld_unit_zero (S := S1024x1024) hz]

/-- and the tile is their product with the weights' block, added to the tokens' block; -/
theorem out_A (c : Dev nD) (i : grid0.Coords) (a2 : Memref sig .tc .vmem S1024x1024 .f32) (h2 : a2.IsWhole) (a3 : Memref sig .tc .vmem S1024x1024 .f32) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x2048 .bf16) (h7 : a7.IsWhole) (hc0 : cond0_0 i) (hc1 : cond0_1 i) (hc2 : ¬cond0_2 i)
    (x0 x1 : Vec F S1024x1024 .f32) (x2 : Vec F S2048x1024 .bf16) (x3 : Vec F S1024x1024 .f32) :
    out0_A_4 c i a2 h2 a3 h3 a4 h4 a5 h5 a6 h6 a7 h7 hc0 hc1 hc2 x0 x1 x2 x3 = k0_pay2 (k0_pay1 x0 x1) x2 x3 := by
  unfold out0_A_4
  rw [View.read_writes_eq_canon _ _ _ (cover0_A_4 c i a2 h2 a3 h3 a4 h4 a5 h5 a6 h6 a7 h7 hc0 hc1 hc2 x0 x1 x2 x3)]
  unfold kernelRun0_A
  dsimp only
  sl_unfold_words
  rw [View.canon_unit_zero (S := S1024x1024) hz, View.readCov_unit_zero (S := S1024x2048) _ hz]
  simp only [View.readAt_eq_ld, h2.read_unread, h3.read_unread, h4.read_unread, h5.read_unread, View.ld_unit_zero (S := S1024x1024) hz, View.ld_unit_zero (S := S2048x1024) hz]

/-- at the row's other tile it is the same with what the scratch holds. -/
theorem out_B (c : Dev nD) (i : grid0.Coords) (a2 : Memref sig .tc .vmem S1024x1024 .f32) (h2 : a2.IsWhole) (a3 : Memref sig .tc .vmem S1024x1024 .f32) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x2048 .bf16) (h7 : a7.IsWhole) (hc0 : cond0_0 i) (hc1 : ¬cond0_1 i) (hc2 : ¬cond0_2 i)
    (x0 x1 : Vec F S1024x1024 .f32) (x2 : Vec F S2048x1024 .bf16) (x3 : Vec F S1024x1024 .f32) (xs : Vec F S1024x2048 .bf16) :
    out0_B_4 c i a2 h2 a3 h3 a4 h4 a5 h5 a6 h6 a7 h7 hc0 hc1 hc2 x0 x1 x2 x3 xs = k0_pay2 xs x2 x3 := by
  unfold out0_B_4
  rw [View.read_writes_eq_canon _ _ _ (cover0_B_4 c i a2 h2 a3 h3 a4 h4 a5 h5 a6 h6 a7 h7 hc0 hc1 hc2 x0 x1 x2 x3 xs)]
  unfold kernelRun0_B
  dsimp only
  sl_unfold_words
  rw [View.canon_unit_zero (S := S1024x1024) hz]
  simp only [View.readAt_eq_ld, h7.read_unread, h4.read_unread, h5.read_unread, View.ld_unit_zero (S := S1024x2048) hz, View.ld_unit_zero (S := S1024x1024) hz, View.ld_unit_zero (S := S2048x1024) hz]

end

/-! ## Read at one place -/

/-- Two rows of 1024 side by side. -/
def side (x y : Fin 1024 → EReal) (k : Fin 2048) : EReal :=
  if h : k.val < 1024 then x ⟨k.val, h⟩ else y ⟨k.val - 1024, by omega⟩

theorem side_of_lt (x y : Fin 1024 → EReal) (k : Fin 2048) (h : k.val < 1024) : side x y k = x ⟨k.val, h⟩ := dif_pos h
theorem side_of_not_lt (x y : Fin 1024 → EReal) (k : Fin 2048) (h : ¬k.val < 1024) : side x y k = y ⟨k.val - 1024, by omega⟩ := dif_neg h

theorem pay1_apply (x y : Vec Ideal S1024x1024 .f32) (r : Fin 1024) (k : Fin 2048) :
    (k0_pay1 (F := Ideal) x y (ix2 r k) : EReal) = side (fun l => x (ix2 r l)) (fun l => y (ix2 r l)) k := by
  pointwise [k0_pay1]
  rfl

theorem pay2_apply (a : Vec Ideal S1024x2048 .bf16) (w : Vec Ideal S2048x1024 .bf16) (b : Vec Ideal S1024x1024 .f32) (r s : Fin 1024) :
    (k0_pay2 (F := Ideal) a w b (ix2 r s) : EReal) = b (ix2 r s) + ∑ k, a (ix2 r k) * w (ix2 k s) := by
  pointwise [k0_pay2]
  try rfl

/-! ## The blocks -/

variable (m : (ℓ : Loc nD τ sig) → Buf (Elt Ideal) ℓ)

/-- The windows' places: head groups by row of tiles, weights by column of tiles, tokens and result by both. -/
theorem idx_facts : ∀ t : Fin cfg0.N, win0_0.index t (0 : Fin 2) = t.val / 2 ∧ win0_0.index t (1 : Fin 2) = 0
    ∧ win0_1.index t (0 : Fin 2) = t.val / 2 ∧ win0_1.index t (1 : Fin 2) = 0
    ∧ win0_2.index t (0 : Fin 2) = 0 ∧ win0_2.index t (1 : Fin 2) = t.val % 2
    ∧ win0_3.index t (0 : Fin 2) = t.val / 2 ∧ win0_3.index t (1 : Fin 2) = t.val % 2
    ∧ win0_4.index t (0 : Fin 2) = t.val / 2 ∧ win0_4.index t (1 : Fin 2) = t.val % 2 :=
  (by decide +kernel : ∀ t : Fin grid0.N, _)

/-- The tokens' array in the call is the argument without its axis of one. -/
theorem V_main_v0 (c : Dev nD) (y : S8192x2048.Idx) (j : S1x8192x2048.Idx) (h1 : (j 1).val = (y 0).val) (h2 : (j 2).val = (y 1).val) :
    V m c main_v0 y = m ((c : Thread nD τ).loc main_arg3) j := by
  have hv : V m c main_v0 = shapeCast S8192x2048 (m ((c : Thread nD τ).loc main_arg3)) shapeCasts_S1x8192x2048_S8192x2048 := by
    show StableHlo.after hostOps0 _ _ = _
    after_results
    rfl
  rw [hv]
  refine shapeCast_apply _ shapeCasts_S1x8192x2048_S8192x2048 y j ?_
  rewrite [Shape.rowMajor_val_three, Shape.rowMajor_val_two]
  have h0 : (j 0).val < 1 := (j 0).isLt
  show ((j 0).val * 8192 + (j 1).val) * 2048 + (j 2).val = (y 0).val * 2048 + (y 1).val
  rw [h1, h2]; omega

/-- The weights' array is the argument without its axis of one, narrowed: at the ideal instance its numbers. -/
theorem V_main_v2 (c : Dev nD) (y : S2048x2048.Idx) (j : S1x2048x2048.Idx) (h1 : (j 1).val = (y 0).val) (h2 : (j 2).val = (y 1).val) :
    (V m c main_v2 y : EReal) = m ((c : Thread nD τ).loc main_arg2) j := by
  have hv : V m c main_v2 = truncf .bf16 (shapeCast S2048x2048 (m ((c : Thread nD τ).loc main_arg2)) shapeCasts_S1x2048x2048_S2048x2048 : FVec Ideal S2048x2048 .f32) bitsLt_bf16_f32 := by
    show StableHlo.after hostOps0 _ _ = _
    after_results
    rfl
  rw [hv]
  show shapeCast S2048x2048 (m ((c : Thread nD τ).loc main_arg2)) shapeCasts_S1x2048x2048_S2048x2048 y = _
  refine shapeCast_apply _ shapeCasts_S1x2048x2048_S2048x2048 y j ?_
  rewrite [Shape.rowMajor_val_three, Shape.rowMajor_val_two]
  have h0 : (j 0).val < 1 := (j 0).isLt
  show ((j 0).val * 2048 + (j 1).val) * 2048 + (j 2).val = (y 0).val * 2048 + (y 1).val
  rw [h1, h2]; omega

/-- The arguments at a row and a column. -/
def ret (c : Dev nD) (r : Fin 8192) (k : Fin 1024) : EReal :=
  m ((c : Thread nD τ).loc main_arg0) (ix2 r k)
def sb (c : Dev nD) (r : Fin 8192) (k : Fin 1024) : EReal :=
  m ((c : Thread nD τ).loc main_arg1) (ix2 r k)
def wt (c : Dev nD) (k s : Fin 2048) : EReal :=
  m ((c : Thread nD τ).loc main_arg2) (fun | ⟨0, _⟩ => (0 : Fin 1) | ⟨1, _⟩ => k | ⟨2, _⟩ => s)
def tok (c : Dev nD) (r : Fin 8192) (s : Fin 2048) : EReal :=
  m ((c : Thread nD τ).loc main_arg3) (fun | ⟨0, _⟩ => (0 : Fin 1) | ⟨1, _⟩ => r | ⟨2, _⟩ => s)

theorem iblk0_apply (c : Dev nD) (t : Fin cfg0.N) (r k : Fin 1024) (R : Fin 8192) (hR : R.val = t.val / 2 * 1024 + r.val) :
    ((iblk m c 0 t : Vec Ideal S1024x1024 .f32) (ix2 r k) : EReal) = ret m c R k := by
  obtain ⟨e0, e1, -⟩ := idx_facts t
  unfold iblk
  rw [View.read_apply]
  refine (congrFun (V_main_arg0 m c) _).trans (congrArg _ ?_)
  funext a
  apply Fin.ext
  match a with
  | ⟨0, _⟩ => show win0_0.index t 0 * 1024 + 1 * r.val = R.val; rw [e0, hR]; omega
  | ⟨1, _⟩ => show win0_0.index t 1 * 1024 + 1 * k.val = k.val; rw [e1]; omega

theorem iblk1_apply (c : Dev nD) (t : Fin cfg0.N) (r k : Fin 1024) (R : Fin 8192) (hR : R.val = t.val / 2 * 1024 + r.val) :
    ((iblk m c 1 t : Vec Ideal S1024x1024 .f32) (ix2 r k) : EReal) = sb m c R k := by
  obtain ⟨-, -, e0, e1, -⟩ := idx_facts t
  unfold iblk
  rw [View.read_apply]
  refine (congrFun (V_main_arg1 m c) _).trans (congrArg _ ?_)
  funext a
  apply Fin.ext
  match a with
  | ⟨0, _⟩ => show win0_1.index t 0 * 1024 + 1 * r.val = R.val; rw [e0, hR]; omega
  | ⟨1, _⟩ => show win0_1.index t 1 * 1024 + 1 * k.val = k.val; rw [e1]; omega

theorem iblk2_apply (c : Dev nD) (t : Fin cfg0.N) (k : Fin 2048) (s : Fin 1024) (S : Fin 2048) (hS : S.val = t.val % 2 * 1024 + s.val) :
    ((iblk m c 2 t : Vec Ideal S2048x1024 .bf16) (ix2 k s) : EReal) = wt m c k S := by
  obtain ⟨-, -, -, -, e0, e1, -⟩ := idx_facts t
  unfold iblk
  rw [View.read_apply]
  refine V_main_v2 m c _ _ ?_ ?_
  · show k.val = win0_2.index t 0 * 2048 + 1 * k.val; rw [e0]; omega
  · show S.val = win0_2.index t 1 * 1024 + 1 * s.val; rw [e1, hS]; omega

theorem iblk3_apply (c : Dev nD) (t : Fin cfg0.N) (r s : Fin 1024) (R : Fin 8192) (S : Fin 2048) (hR : R.val = t.val / 2 * 1024 + r.val) (hS : S.val = t.val % 2 * 1024 + s.val) :
    ((iblk m c 3 t : Vec Ideal S1024x1024 .f32) (ix2 r s) : EReal) = tok m c R S := by
  obtain ⟨-, -, -, -, -, -, e0, e1, -⟩ := idx_facts t
  unfold iblk
  rw [View.read_apply]
  refine V_main_v0 m c _ _ ?_ ?_
  · show R.val = win0_3.index t 0 * 1024 + 1 * r.val; rw [e0, hR]; omega
  · show S.val = win0_3.index t 1 * 1024 + 1 * s.val; rw [e1, hS]; omega

/-! ## The scratch and the tiles -/

/-- After any tile of a row the scratch holds the row's two head groups side by side. -/
theorem scratch_apply (c : Dev nD) : ∀ (n : ℕ) (hn : n < cfg0.N) (r : Fin 1024) (k : Fin 2048) (R : Fin 8192), R.val = n / 2 * 1024 + r.val →
    ((outsAt0 m c n hn).2 (ix2 r k) : EReal) = side (ret m c R) (sb m c R) k := by
  intro n
  induction n with
  | zero =>
    intro hn r k R hR
    have e := outsAt0_A m c ⟨0, hn⟩ (Nat.zero_mod _)
    dsimp only at e
    rw [e]; dsimp only; rw [sout_A, pay1_apply]
    congr 1 <;> funext l
    · exact iblk0_apply m c ⟨0, hn⟩ r l R hR
    · exact iblk1_apply m c ⟨0, hn⟩ r l R hR
  | succ n ih =>
    intro hn r k R hR
    by_cases h : (n + 1) % 2 = 0
    · have e := outsAt0_A m c ⟨n + 1, hn⟩ h
      dsimp only at e
      rw [e]; dsimp only; rw [sout_A, pay1_apply]
      congr 1 <;> funext l
      · exact iblk0_apply m c ⟨n + 1, hn⟩ r l R hR
      · exact iblk1_apply m c ⟨n + 1, hn⟩ r l R hR
    · have e := outsAt0_B m c ⟨n + 1, hn⟩ h
      dsimp only at e
      rw [e]
      unfold sout0_B_0
      exact ih _ r k R (by rw [hR]; omega)

/-- A tile of the result: the tokens and the row times the weights' column. -/
theorem tile_apply (c : Dev nD) (t : Fin cfg0.N) (r s : Fin 1024) (R : Fin 8192) (S : Fin 2048)
    (hR : R.val = t.val / 2 * 1024 + r.val) (hS : S.val = t.val % 2 * 1024 + s.val) :
    ((outsAt0 m c t.val t.isLt).1 (ix2 r s) : EReal) = tok m c R S + ∑ k, side (ret m c R) (sb m c R) k * wt m c k S := by
  by_cases h : t.val % 2 = 0
  · rw [outsAt0_A m c t h]; dsimp only; rw [out_A, pay2_apply, iblk3_apply m c t r s R S hR hS]
    refine congrArg _ (Finset.sum_congr rfl fun k _ => ?_)
    rw [pay1_apply, iblk2_apply m c t k s S hS]
    congr 2 <;> funext l
    · exact iblk0_apply m c t r l R hR
    · exact iblk1_apply m c t r l R hR
  · rw [outsAt0_B m c t h]; dsimp only; rw [out_B, pay2_apply, iblk3_apply m c t r s R S hR hS]
    refine congrArg _ (Finset.sum_congr rfl fun k _ => ?_)
    rw [iblk2_apply m c t k s S hS]
    congr 1
    exact scratch_apply m c _ _ r k R (by rw [hR]; omega)

/-! ## The reference at one place, and the array -/

section

open Cert.Reference5Ideal.Read

/-- The reference: the same. -/
theorem ref_apply (c : Dev nD) (R : Fin 8192) (S : Fin 2048) (i : S8192x2048.Idx) (h0 : (i 0).val = R.val) (h1 : (i 1).val = S.val) :
    (val_main_v4 (F := Ideal) (m ((c : Thread nD τ).loc main_arg0)) (m ((c : Thread nD τ).loc main_arg1)) (m ((c : Thread nD τ).loc main_arg2)) (m ((c : Thread nD τ).loc main_arg3)) i : EReal)
      = tok m c R S + ∑ k, side (ret m c R) (sb m c R) k * wt m c k S := by
  have ht : (val_main_v0 (F := Ideal) (m ((c : Thread nD τ).loc main_arg3)) i : EReal) = tok m c R S := by
    rw [val_main_v0_apply]
    refine congrArg _ ?_
    funext a
    apply Fin.ext
    match a with
    | ⟨0, _⟩ => rfl
    | ⟨1, _⟩ => show ((i 0).val * 2048 + (i 1).val) / 2048 % 8192 = R.val; rw [h0, h1]; omega
    | ⟨2, _⟩ => show ((i 0).val * 2048 + (i 1).val) % 2048 = S.val; rw [h0, h1]; omega
  rw [val_main_v4_apply, ht, val_main_v3_apply]
  refine congrArg (tok m c R S + ·) (Finset.sum_congr rfl fun k _ => ?_)
  have hw : (val_main_v2 (F := Ideal) (m ((c : Thread nD τ).loc main_arg2)) (ridx_main_v3 i k) : EReal) = wt m c k S := by
    rw [val_main_v2_apply]
    refine congrArg _ ?_
    funext a
    apply Fin.ext
    match a with
    | ⟨0, _⟩ => rfl
    | ⟨1, _⟩ => show (k.val * 2048 + (i 1).val) / 2048 % 2048 = k.val; rw [h1]; omega
    | ⟨2, _⟩ => show (k.val * 2048 + (i 1).val) % 2048 = S.val; rw [h1]; omega
  have hx : (val_main_v1 (F := Ideal) (m ((c : Thread nD τ).loc main_arg0)) (m ((c : Thread nD τ).loc main_arg1)) (lidx_main_v3 i k) : EReal) = side (ret m c R) (sb m c R) k := by
    unfold val_main_v1
    by_cases h : k.val < 1024
    · rw [side_of_lt _ _ _ h]
      refine concatenate_pair_apply_left (t := Cert.Reference5Ideal.S8192x2048) (s₁ := Cert.Reference5Ideal.S8192x1024) (s₂ := Cert.Reference5Ideal.S8192x1024) 1 _ _ _ _ rfl (ix2 R (⟨k.val, h⟩ : Fin 1024)) (fun b => ?_)
      match b with
      | ⟨0, _⟩ => exact h0.symm
      | ⟨1, _⟩ => rfl
    · rw [side_of_not_lt _ _ _ h]
      refine concatenate_pair_apply_right (t := Cert.Reference5Ideal.S8192x2048) (s₁ := Cert.Reference5Ideal.S8192x1024) (s₂ := Cert.Reference5Ideal.S8192x1024) 1 _ _ _ _ rfl rfl (ix2 R (⟨k.val - 1024, by omega⟩ : Fin 1024)) (fun b hb => ?_) ?_
      · match b with
        | ⟨0, _⟩ => exact h0.symm
        | ⟨1, _⟩ => exact absurd rfl hb
      · show k.val - 1024 + 1024 = k.val
        omega
  rw [hw, hx]

end

/-- The call's array after the run is the reference's. -/
theorem final_proj (c : Dev nD) : (dats m 0 c).arrAt 4 cfg0.N
    = Cert.Reference5Ideal.Read.val_main_v4 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val < 16 := Nat.lt_of_lt_of_eq t.isLt N_0
  obtain ⟨-, -, -, -, -, -, -, -, e0, e1⟩ := idx_facts t
  blk_simp
  rw [after0_4]
  have hy0 : (y 0).val < 1024 := (y 0).isLt
  have hy1 : (y 1).val < 1024 := (y 1).isLt
  have hy : y = ix2 (⟨(y 0).val, hy0⟩ : Fin 1024) (⟨(y 1).val, hy1⟩ : Fin 1024) := by
    funext a
    match a with
    | ⟨0, _⟩ => rfl
    | ⟨1, _⟩ => rfl
  refine Eq.trans ?_ (ref_apply m c ⟨t.val / 2 * 1024 + (y 0).val, by omega⟩ ⟨t.val % 2 * 1024 + (y 1).val, by omega⟩ _ ?_ ?_).symm
  · exact (congrArg _ hy).trans (tile_apply m c t _ _ _ _ rfl rfl)
  · show win0_4.index t 0 * 1024 + 1 * (y 0).val = t.val / 2 * 1024 + (y 0).val; rw [e0]; omega
  · show win0_4.index t 1 * 1024 + 1 * (y 1).val = t.val % 2 * 1024 + (y 1).val; rw [e1]; omega

end Cert.Kernel5Ideal.Hand
-- ==== Proof.SharedExpert.lean ====
/- The shared expert: what a tile of 256 tokens computes, and that the array of all tiles is the reference's. -/
module

public import proofs.«01_k».proof.Proof.Gen.Kernel6Ideal.Value
public import proofs.«01_k».proof.Proof.Gen.Reference6Ideal.Read
public import proofs.«01_k».proof.Defs
public import Idealize.ShloMosaic.Lib.Pointwise
public import Idealize.ShloMosaic.Lib.Pipeline.ValueKit.Geometry

@[expose] public section

set_option maxRecDepth 16384
set_option maxHeartbeats 1600000

noncomputable section

namespace Cert.Kernel6Ideal.Hand

open Cert.Kernel6Ideal Cert.Kernel6Ideal.Gen Idealize.ShloMosaic Idealize.ShloMosaic.TcCoe Idealize.SL.Sem
open Idealize.ShloMosaic.Pipeline (Dat)

/-! ## What a tile leaves -/

section

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- At the first tile the scratch is filled with the narrowed weights: the gate's, -/
theorem sout_A_0 (c : Dev nD) (i : grid0.Coords) (a1 : Memref sig .tc .vmem S256x2048 .f32) (h1 : a1.IsWhole) (a2 : Memref sig .tc .vmem S1x2048x512 .f32) (h2 : a2.IsWhole) (a3 : Memref sig .tc .vmem S1x2048x512 .f32) (h3 : a3.IsWhole) (a4 : Memref sig .tc .vmem S1x512x2048 .f32) (h4 : a4.IsWhole) (a5 : Memref sig .tc .vmem S256x2048 .f32) (h5 : a5.IsWhole) (a6 : Memref sig .tc .vmem S2048x512 .bf16) (h6 : a6.IsWhole) (a7 : Memref sig .tc .vmem S2048x512 .bf16) (h7 : a7.IsWhole) (a8 : Memref sig .tc .vmem S512x2048 .bf16) (h8 : a8.IsWhole) (hc0 : cond0_0 i)
    (x0 : Vec F S256x2048 .f32) (x1 x2 : Vec F S1x2048x512 .f32) (x3 : Vec F S1x512x2048 .f32) :
    sout0_A_0 c i a1 h1 a2 h2 a3 h3 a4 h4 a5 h5 a6 h6 a7 h7 a8 h8 hc0 x0 x1 x2 x3 = k0_pay1 x1 := by
  unfold sout0_A_0
  rw [View.read_writes_eq_canon _ _ _ (scover0_A_0 c i a1 h1 a2 h2 a3 h3 a4 h4 a5 h5 a6 h6 a7 h7 a8 h8 hc0 x0 x1 x2 x3)]
  unfold kernelRun0_A
  dsimp only
  sl_unfold_words
  rw [View.canon_unit_zero (S := S2048x512) hz]
  simp only [View.readAt_eq_ld, h2.read_unread, h3.read_unread, h4.read_unread, View.ld_unit_zero (S := S1x2048x512) hz3, View.ld_unit_zero (S := S1x512x2048) hz3]

/-- the up projection's, -/
theorem sout_A_1 (c : Dev nD) (i : grid0.Coords) (a1 : Memref sig .tc .vmem S256x2048 .f32) (h1 : a1.IsWhole) (a2 : Memref sig .tc .vmem S1x2048x512 .f32) (h2 : a2.IsWhole) (a3 : Memref sig .tc .vmem S1x2048x512 .f32) (h3 : a3.IsWhole) (a4 : Memref sig .tc .vmem S1x512x2048 .f32) (h4 : a4.IsWhole) (a5 : Memref sig .tc .vmem S256x2048 .f32) (h5 : a5.IsWhole) (a6 : Memref sig .tc .vmem S2048x512 .bf16) (h6 : a6.IsWhole) (a7 : Memref sig .tc .vmem S2048x512 .bf16) (h7 : a7.IsWhole) (a8 : Memref sig .tc .vmem S512x2048 .bf16) (h8 : a8.IsWhole) (hc0 : cond0_0 i)
    (x0 : Vec F S256x2048 .f32) (x1 x2 : Vec F S1x2048x512 .f32) (x3 : Vec F S1x512x2048 .f32) :
    sout0_A_1 c i a1 h1 a2 h2 a3 h3 a4 h4 a5 h5 a6 h6 a7 h7 a8 h8 hc0 x0 x1 x2 x3 = k0_pay2 x2 := by
  unfold sout0_A_1
  rw [View.read_writes_eq_canon _ _ _ (scover0_A_1 c i a1 h1 a2 h2 a3 h3 a4 h4 a5 h5 a6 h6 a7 h7 a8 h8 hc0 x0 x1 x2 x3)]
  unfold kernelRun0_A
  dsimp only
  sl_unfold_words
  rw [View.canon_unit_zero (S := S2048x512) hz]
  simp only [View.readAt_eq_ld, h2.read_unread, h3.read_unread, h4.read_unread, View.ld_unit_zero (S := S1x2048x512) hz3, View.ld_unit_zero (S := S1x512x2048) hz3]

/-- the down projection's; -/
theorem sout_A_2 (c : Dev nD) (i : grid0.Coords) (a1 : Memref sig .tc .vmem S256x2048 .f32) (h1 : a1.IsWhole) (a2 : Memref sig .tc .vmem S1x2048x512 .f32) (h2 : a2.IsWhole) (a3 : Memref sig .tc .vmem S1x2048x512 .f32) (h3 : a3.IsWhole) (a4 : Memref sig .tc .vmem S1x512x2048 .f32) (h4 : a4.IsWhole) (a5 : Memref sig .tc .vmem S256x2048 .f32) (h5 : a5.IsWhole) (a6 : Memref sig .tc .vmem S2048x512 .bf16) (h6 : a6.IsWhole) (a7 : Memref sig .tc .vmem S2048x512 .bf16) (h7 : a7.IsWhole) (a8 : Memref sig .tc .vmem S512x2048 .bf16) (h8 : a8.IsWhole) (hc0 : cond0_0 i)
    (x0 : Vec F S256x2048 .f32) (x1 x2 : Vec F S1x2048x512 .f32) (x3 : Vec F S1x512x2048 .f32) :
    sout0_A_2 c i a1 h1 a2 h2 a3 h3 a4 h4 a5 h5 a6 h6 a7 h7 a8 h8 hc0 x0 x1 x2 x3 = k0_pay3 x3 := by
  unfold sout0_A_2
  rw [View.read_writes_eq_canon _ _ _ (scover0_A_2 c i a1 h1 a2 h2 a3 h3 a4 h4 a5 h5 a6 h6 a7 h7 a8 h8 hc0 x0 x1 x2 x3)]
  unfold kernelRun0_A
  dsimp only
  sl_unfold_words
  rw [View.canon_unit_zero (S := S512x2048) hz]
  simp only [View.readAt_eq_ld, h2.read_unread, h3.read_unread, h4.read_unread, View.ld_unit_zero (S := S1x2048x512) hz3, View.ld_unit_zero (S := S1x512x2048) hz3]

/-- the tile is what the expert makes of the tokens' block with them; -/
theorem out_A (c : Dev nD) (i : grid0.Coords) (a1 : Memref sig .tc .vmem S256x2048 .f32) (h1 : a1.IsWhole) (a2 : Memref sig .tc .vmem S1x2048x512 .f32) (h2 : a2.IsWhole) (a3 : Memref sig .tc .vmem S1x2048x512 .f32) (h3 : a3.IsWhole) (a4 : Memref sig .tc .vmem S1x512x2048 .f32) (h4 : a4.IsWhole) (a5 : Memref sig .tc .vmem S256x2048 .f32) (h5 : a5.IsWhole) (a6 : Memref sig .tc .vmem S2048x512 .bf16) (h6 : a6.IsWhole) (a7 : Memref sig .tc .vmem S2048x512 .bf16) (h7 : a7.IsWhole) (a8 : Memref sig .tc .vmem S512x2048 .bf16) (h8 : a8.IsWhole) (hc0 : cond0_0 i)
    (x0 : Vec F S256x2048 .f32) (x1 x2 : Vec F S1x2048x512 .f32) (x3 : Vec F S1x512x2048 .f32) :
    out0_A_4 c i a1 h1 a2 h2 a3 h3 a4 h4 a5 h5 a6 h6 a7 h7 a8 h8 hc0 x0 x1 x2 x3 = k0_pay4 x0 (k0_pay1 x1) (k0_pay2 x2) (k0_pay3 x3) := by
  unfold out0_A_4
  rw [View.read_writes_eq_canon _ _ _ (cover0_A_4 c i a1 h1 a2 h2 a3 h3 a4 h4 a5 h5 a6 h6 a7 h7 a8 h8 hc0 x0 x1 x2 x3)]
  unfold kernelRun0_A
  dsimp only
  sl_unfold_words
  rw [View.canon_unit_zero (S := S256x2048) hz, View.readCov_unit_zero (S := S2048x512) _ hz, View.readCov_unit_zero (S := S2048x512) _ hz, View.readCov_unit_zero (S := S512x2048) _ hz]
  simp only [View.readAt_eq_ld, h1.read_unread, h2.read_unread, h3.read_unread, h4.read_unread, View.ld_unit_zero (S := S256x2048) hz, View.ld_unit_zero (S := S1x2048x512) hz3, View.ld_unit_zero (S := S1x512x2048) hz3]

/-- at the other tiles it is the same with what the scratch holds. -/
theorem out_B (c : Dev nD) (i : grid0.Coords) (a1 : Memref sig .tc .vmem S256x2048 .f32) (h1 : a1.IsWhole) (a2 : Memref sig .tc .vmem S1x2048x512 .f32) (h2 : a2.IsWhole) (a3 : Memref sig .tc .vmem S1x2048x512 .f32) (h3 : a3.IsWhole) (a4 : Memref sig .tc .vmem S1x512x2048 .f32) (h4 : a4.IsWhole) (a5 : Memref sig .tc .vmem S256x2048 .f32) (h5 : a5.IsWhole) (a6 : Memref sig .tc .vmem S2048x512 .bf16) (h6 : a6.IsWhole) (a7 : Memref sig .tc .vmem S2048x512 .bf16) (h7 : a7.IsWhole) (a8 : Memref sig .tc .vmem S512x2048 .bf16) (h8 : a8.IsWhole) (hc0 : ¬cond0_0 i)
    (x0 : Vec F S256x2048 .f32) (x1 x2 : Vec F S1x2048x512 .f32) (x3 : Vec F S1x512x2048 .f32) (s0 s1 : Vec F S2048x512 .bf16) (s2 : Vec F S512x2048 .bf16) :
    out0_B_4 c i a1 h1 a2 h2 a3 h3 a4 h4 a5 h5 a6 h6 a7 h7 a8 h8 hc0 x0 x1 x2 x3 s0 s1 s2 = k0_pay4 x0 s0 s1 s2 := by
  unfold out0_B_4
  rw [View.read_writes_eq_canon _ _ _ (cover0_B_4 c i a1 h1 a2 h2 a3 h3 a4 h4 a5 h5 a6 h6 a7 h7 a8 h8 hc0 x0 x1 x2 x3 s0 s1 s2)]
  unfold kernelRun0_B
  dsimp only
  sl_unfold_words
  rw [View.canon_unit_zero (S := S256x2048) hz]
  simp only [View.readAt_eq_ld, h1.read_unread, h6.read_unread, h7.read_unread, h8.read_unread, View.ld_unit_zero (S := S256x2048) hz, View.ld_unit_zero (S := S2048x512) hz, View.ld_unit_zero (S := S512x2048) hz]

end

/-! ## Read at one place -/

/-- A number times its sigmoid. -/
def silu (a : EReal) : EReal := a * Ideal.div 1 (1 + Ideal.exp (-a))

/-- The expert's output for a token: gate and up projection, silu, down projection. -/
def expert (x : Fin 2048 → EReal) (g u : Fin 2048 → Fin 512 → EReal) (d : Fin 512 → Fin 2048 → EReal) (s : Fin 2048) : EReal :=
  ∑ h, silu (∑ k, x k * g k h) * (∑ k, x k * u k h) * d h s

theorem pay1_apply (w : Vec Ideal S1x2048x512 .f32) (k : Fin 2048) (h : Fin 512) :
    (k0_pay1 (F := Ideal) w (ix2 k h) : EReal) = w (ix3 0 k h) := by
  pointwise [k0_pay1]
  try rfl

theorem pay2_apply (w : Vec Ideal S1x2048x512 .f32) (k : Fin 2048) (h : Fin 512) :
    (k0_pay2 (F := Ideal) w (ix2 k h) : EReal) = w (ix3 0 k h) := by
  pointwise [k0_pay2]
  try rfl

theorem pay3_apply (w : Vec Ideal S1x512x2048 .f32) (h : Fin 512) (s : Fin 2048) :
    (k0_pay3 (F := Ideal) w (ix2 h s) : EReal) = w (ix3 0 h s) := by
  pointwise [k0_pay3]
  try rfl

theorem pay4_apply (x : Vec Ideal S256x2048 .f32) (g u : Vec Ideal S2048x512 .bf16) (d : Vec Ideal S512x2048 .bf16) (r : Fin 256) (s : Fin 2048) :
    (k0_pay4 (F := Ideal) x g u d (ix2 r s) : EReal) = expert (fun k => x (ix2 r k)) (fun k h => g (ix2 k h)) (fun k h => u (ix2 k h)) (fun h s => d (ix2 h s)) s := by
  pointwise [k0_pay4]
  simp only [zero_sub]
  rfl

/-! ## The blocks -/

variable (m : (ℓ : Loc nD τ sig) → Buf (Elt Ideal) ℓ)

/-- The windows' places: tokens and result by tile, the weights whole. -/
theorem idx_facts : ∀ t : Fin cfg0.N, win0_0.index t (0 : Fin 2) = t.val ∧ win0_0.index t (1 : Fin 2) = 0
    ∧ win0_4.index t (0 : Fin 2) = t.val ∧ win0_4.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0 :=
  (by decide +kernel : ∀ t : Fin grid0.N, _)

/-- The gate's array in the call is the argument, its axis of one dropped and put back; -/
theorem V_main_v3 (c : Dev nD) (y : S1x2048x512.Idx) : V m c main_v3 y = m ((c : Thread nD τ).loc main_arg1) y := by
  have hv : V m c main_v3 = broadcastInDim S1x2048x512 ![1, 2] bcast_S2048x512_S1x2048x512_1_2 (shapeCast S2048x512 (m ((c : Thread nD τ).loc main_arg1)) shapeCasts_S1x2048x512_S2048x512) := by
    show StableHlo.after hostOps0 _ _ = _
    after_results
    rfl
  rw [hv]
  have h0 : (y 0).val < 1 := (y 0).isLt
  have h1 : (y 1).val < 2048 := (y 1).isLt
  have h2 : (y 2).val < 512 := (y 2).isLt
  refine (broadcastInDim_apply _ bcast_S2048x512_S1x2048x512_1_2 _ y (ix2 (⟨(y 1).val, h1⟩ : Fin 2048) (⟨(y 2).val, h2⟩ : Fin 512)) (fun a => ?_)).trans
    (shapeCast_apply _ shapeCasts_S1x2048x512_S2048x512 _ y ?_)
  · match a with
    | ⟨0, _⟩ => show (y 1).val = if (2048 : Nat) = 1 then 0 else (y 1).val; rw [if_neg (by decide)]
    | ⟨1, _⟩ => show (y 2).val = if (512 : Nat) = 1 then 0 else (y 2).val; rw [if_neg (by decide)]
  · rewrite [Shape.rowMajor_val_three, Shape.rowMajor_val_two]
    show ((y 0).val * 2048 + (y 1).val) * 512 + (y 2).val = (y 1).val * 512 + (y 2).val
    omega

/-- so is the up projection's, -/
theorem V_main_v4 (c : Dev nD) (y : S1x2048x512.Idx) : V m c main_v4 y = m ((c : Thread nD τ).loc main_arg2) y := by
  have hv : V m c main_v4 = broadcastInDim S1x2048x512 ![1, 2] bcast_S2048x512_S1x2048x512_1_2 (shapeCast S2048x512 (m ((c : Thread nD τ).loc main_arg2)) shapeCasts_S1x2048x512_S2048x512) := by
    show StableHlo.after hostOps0 _ _ = _
    after_results
    rfl
  rw [hv]
  have h0 : (y 0).val < 1 := (y 0).isLt
  have h1 : (y 1).val < 2048 := (y 1).isLt
  have h2 : (y 2).val < 512 := (y 2).isLt
  refine (broadcastInDim_apply _ bcast_S2048x512_S1x2048x512_1_2 _ y (ix2 (⟨(y 1).val, h1⟩ : Fin 2048) (⟨(y 2).val, h2⟩ : Fin 512)) (fun a => ?_)).trans
    (shapeCast_apply _ shapeCasts_S1x2048x512_S2048x512 _ y ?_)
  · match a with
    | ⟨0, _⟩ => show (y 1).val = if (2048 : Nat) = 1 then 0 else (y 1).val; rw [if_neg (by decide)]
    | ⟨1, _⟩ => show (y 2).val = if (512 : Nat) = 1 then 0 else (y 2).val; rw [if_neg (by decide)]
  · rewrite [Shape.rowMajor_val_three, Shape.rowMajor_val_two]
    show ((y 0).val * 2048 + (y 1).val) * 512 + (y 2).val = (y 1).val * 512 + (y 2).val
    omega

/-- and the down projection's. -/
theorem V_main_v5 (c : Dev nD) (y : S1x512x2048.Idx) : V m c main_v5 y = m ((c : Thread nD τ).loc main_arg3) y := by
  have hv : V m c main_v5 = broadcastInDim S1x512x2048 ![1, 2] bcast_S512x2048_S1x512x2048_1_2 (shapeCast S512x2048 (m ((c : Thread nD τ).loc main_arg3)) shapeCasts_S1x512x2048_S512x2048) := by
    show StableHlo.after hostOps0 _ _ = _
    after_results
    rfl
  rw [hv]
  have h0 : (y 0).val < 1 := (y 0).isLt
  have h1 : (y 1).val < 512 := (y 1).isLt
  have h2 : (y 2).val < 2048 := (y 2).isLt
  refine (broadcastInDim_apply _ bcast_S512x2048_S1x512x2048_1_2 _ y (ix2 (⟨(y 1).val, h1⟩ : Fin 512) (⟨(y 2).val, h2⟩ : Fin 2048)) (fun a => ?_)).trans
    (shapeCast_apply _ shapeCasts_S1x512x2048_S512x2048 _ y ?_)
  · match a with
    | ⟨0, _⟩ => show (y 1).val = if (512 : Nat) = 1 then 0 else (y 1).val; rw [if_neg (by decide)]
    | ⟨1, _⟩ => show (y 2).val = if (2048 : Nat) = 1 then 0 else (y 2).val; rw [if_neg (by decide)]
  · rewrite [Shape.rowMajor_val_three, Shape.rowMajor_val_two]
    show ((y 0).val * 512 + (y 1).val) * 2048 + (y 2).val = (y 1).val * 2048 + (y 2).val
    omega

/-- The arguments at a row and a column. -/
def tok (c : Dev nD) (r : Fin 9216) (k : Fin 2048) : EReal := m ((c : Thread nD τ).loc main_arg0) (ix2 r k)
def gate (c : Dev nD) (k : Fin 2048) (h : Fin 512) : EReal := m ((c : Thread nD τ).loc main_arg1) (ix3 0 k h)
def up (c : Dev nD) (k : Fin 2048) (h : Fin 512) : EReal := m ((c : Thread nD τ).loc main_arg2) (ix3 0 k h)
def down (c : Dev nD) (h : Fin 512) (s : Fin 2048) : EReal := m ((c : Thread nD τ).loc main_arg3) (ix3 0 h s)

theorem iblk0_apply (c : Dev nD) (t : Fin cfg0.N) (r : Fin 256) (k : Fin 2048) (R : Fin 9216) (hR : R.val = t.val * 256 + r.val) :
    ((iblk m c 0 t : Vec Ideal S256x2048 .f32) (ix2 r k) : EReal) = tok m c R k := by
  obtain ⟨e0, e1, -⟩ := idx_facts t
  unfold iblk
  rw [View.read_apply]
  refine (congrFun (V_main_arg0 m c) _).trans (congrArg _ ?_)
  funext a
  apply Fin.ext
  match a with
  | ⟨0, _⟩ => show win0_0.index t 0 * 256 + 1 * r.val = R.val; rw [e0, hR]; omega
  | ⟨1, _⟩ => show win0_0.index t 1 * 2048 + 1 * k.val = k.val; rw [e1]; omega

theorem iblk1_apply (c : Dev nD) (t : Fin cfg0.N) (k : Fin 2048) (h : Fin 512) :
    ((iblk m c 1 t : Vec Ideal S1x2048x512 .f32) (ix3 0 k h) : EReal) = gate m c k h := by
  obtain ⟨-, -, -, -, e0, e1, e2, -⟩ := idx_facts t
  unfold iblk
  rw [View.read_apply]
  refine (V_main_v3 m c _).trans (congrArg _ ?_)
  funext a
  apply Fin.ext
  match a with
  | ⟨0, _⟩ => show win0_1.index t 0 * 1 + 1 * 0 = 0; rw [e0]
  | ⟨1, _⟩ => show win0_1.index t 1 * 2048 + 1 * k.val = k.val; rw [e1]; omega
  | ⟨2, _⟩ => show win0_1.index t 2 * 512 + 1 * h.val = h.val; rw [e2]; omega

theorem iblk2_apply (c : Dev nD) (t : Fin cfg0.N) (k : Fin 2048) (h : Fin 512) :
    ((iblk m c 2 t : Vec Ideal S1x2048x512 .f32) (ix3 0 k h) : EReal) = up m c k h := by
  obtain ⟨-, -, -, -, -, -, -, e0, e1, e2, -⟩ := idx_facts t
  unfold iblk
  rw [View.read_apply]
  refine (V_main_v4 m c _).trans (congrArg _ ?_)
  funext a
  apply Fin.ext
  match a with
  | ⟨0, _⟩ => show win0_2.index t 0 * 1 + 1 * 0 = 0; rw [e0]
  | ⟨1, _⟩ => show win0_2.index t 1 * 2048 + 1 * k.val = k.val; rw [e1]; omega
  | ⟨2, _⟩ => show win0_2.index t 2 * 512 + 1 * h.val = h.val; rw [e2]; omega

theorem iblk3_apply (c : Dev nD) (t : Fin cfg0.N) (k : Fin 512) (h : Fin 2048) :
    ((iblk m c 3 t : Vec Ideal S1x512x2048 .f32) (ix3 0 k h) : EReal) = down m c k h := by
  obtain ⟨-, -, -, -, -, -, -, -, -, -, e0, e1, e2⟩ := idx_facts t
  unfold iblk
  rw [View.read_apply]
  refine (V_main_v5 m c _).trans (congrArg _ ?_)
  funext a
  apply Fin.ext
  match a with
  | ⟨0, _⟩ => show win0_3.index t 0 * 1 + 1 * 0 = 0; rw [e0]
  | ⟨1, _⟩ => show win0_3.index t 1 * 512 + 1 * k.val = k.val; rw [e1]; omega
  | ⟨2, _⟩ => show win0_3.index t 2 * 2048 + 1 * h.val = h.val; rw [e2]; omega

/-! ## The scratch and the tiles -/

/-- After any tile the scratch holds the weights. -/
theorem scratch_apply (c : Dev nD) : ∀ (n : ℕ) (hn : n < cfg0.N),
    (∀ k h, ((outsAt0 m c n hn).2.1 (ix2 k h) : EReal) = gate m c k h) ∧ (∀ k h, ((outsAt0 m c n hn).2.2.1 (ix2 k h) : EReal) = up m c k h)
      ∧ ∀ h s, ((outsAt0 m c n hn).2.2.2 (ix2 h s) : EReal) = down m c h s := by
  intro n
  induction n with
  | zero =>
    intro hn
    have e := outsAt0_A m c ⟨0, hn⟩ (Nat.zero_mod _)
    dsimp only at e
    rw [e]; dsimp only; rw [sout_A_0, sout_A_1, sout_A_2]
    exact ⟨fun k h => (pay1_apply _ k h).trans (iblk1_apply m c _ k h), fun k h => (pay2_apply _ k h).trans (iblk2_apply m c _ k h),
      fun h s => (pay3_apply _ h s).trans (iblk3_apply m c _ h s)⟩
  | succ n ih =>
    intro hn
    have ht : n + 1 < 36 := Nat.lt_of_lt_of_eq hn N_0
    have e := outsAt0_B m c ⟨n + 1, hn⟩ (by show ¬(n + 1) % 36 = 0; omega)
    dsimp only at e
    rw [e]
    unfold sout0_B_0 sout0_B_1 sout0_B_2
    exact ih _

/-- A tile of the result: the expert's output for its tokens. -/
theorem tile_apply (c : Dev nD) (t : Fin cfg0.N) (r : Fin 256) (s : Fin 2048) (R : Fin 9216) (hR : R.val = t.val * 256 + r.val) :
    ((outsAt0 m c t.val t.isLt).1 (ix2 r s) : EReal) = expert (tok m c R) (gate m c) (up m c) (down m c) s := by
  have hx : (fun k => ((iblk m c 0 t : Vec Ideal S256x2048 .f32) (ix2 r k) : EReal)) = tok m c R := funext fun k => iblk0_apply m c t r k R hR
  by_cases h : t.val % 36 = 0
  · rw [outsAt0_A m c t h]; dsimp only; rw [out_A, pay4_apply, hx]
    congr 1 <;> funext k h
    · exact (pay1_apply _ k h).trans (iblk1_apply m c t k h)
    · exact (pay2_apply _ k h).trans (iblk2_apply m c t k h)
    · exact (pay3_apply _ k h).trans (iblk3_apply m c t k h)
  · rw [outsAt0_B m c t h]; dsimp only; rw [out_B, pay4_apply, hx]
    obtain ⟨e1, e2, e3⟩ := scratch_apply m c (t.val - 1) (Nat.lt_of_le_of_lt (Nat.sub_le _ _) t.isLt)
    congr 1 <;> funext k h
    · exact e1 k h
    · exact e2 k h
    · exact e3 k h

/-! ## The reference at one place, and the array -/

section

open Cert.Reference6Ideal.Read

/-- The reference: the same. -/
theorem ref_apply (c : Dev nD) (R : Fin 9216) (S : Fin 2048) (i : S9216x2048.Idx) (h0 : (i 0).val = R.val) (h1 : (i 1).val = S.val) :
    (val_main_v7 (F := Ideal) (m ((c : Thread nD τ).loc main_arg0)) (m ((c : Thread nD τ).loc main_arg1)) (m ((c : Thread nD τ).loc main_arg2)) (m ((c : Thread nD τ).loc main_arg3)) i : EReal) = expert (tok m c R) (gate m c) (up m c) (down m c) S := by
  have hg : ∀ (j : Cert.Reference6Ideal.S9216x512.Idx) (h : Fin 512), (j 0).val = R.val → (j 1).val = h.val →
      (val_main_v1 (F := Ideal) (m ((c : Thread nD τ).loc main_arg0)) (m ((c : Thread nD τ).loc main_arg1)) j : EReal) = ∑ k, tok m c R k * gate m c k h := by
    intro j h hj hh
    rw [val_main_v1_apply]
    refine Finset.sum_congr rfl fun k _ => ?_
    rw [val_main_v0_apply]
    unfold tok gate
    congr 2 <;> funext a <;> apply Fin.ext
    · match a with
      | ⟨0, _⟩ => exact hj
      | ⟨1, _⟩ => rfl
    · match a with
      | ⟨0, _⟩ => rfl
      | ⟨1, _⟩ => show (k.val * 512 + (j 1).val) / 512 % 2048 = k.val; rw [hh]; omega
      | ⟨2, _⟩ => show (k.val * 512 + (j 1).val) % 512 = h.val; rw [hh]; omega
  have hu : ∀ (j : Cert.Reference6Ideal.S9216x512.Idx) (h : Fin 512), (j 0).val = R.val → (j 1).val = h.val →
      (val_main_v4 (F := Ideal) (m ((c : Thread nD τ).loc main_arg0)) (m ((c : Thread nD τ).loc main_arg2)) j : EReal) = ∑ k, tok m c R k * up m c k h := by
    intro j h hj hh
    rw [val_main_v4_apply]
    refine Finset.sum_congr rfl fun k _ => ?_
    rw [val_main_v3_apply]
    unfold tok up
    congr 2 <;> funext a <;> apply Fin.ext
    · match a with
      | ⟨0, _⟩ => exact hj
      | ⟨1, _⟩ => rfl
    · match a with
      | ⟨0, _⟩ => rfl
      | ⟨1, _⟩ => show (k.val * 512 + (j 1).val) / 512 % 2048 = k.val; rw [hh]; omega
      | ⟨2, _⟩ => show (k.val * 512 + (j 1).val) % 512 = h.val; rw [hh]; omega
  rw [val_main_v7_apply]
  refine Finset.sum_congr rfl fun h _ => ?_
  have hd : (val_main_v6 (F := Ideal) (m ((c : Thread nD τ).loc main_arg3)) (ridx_main_v7 i h) : EReal) = down m c h S := by
    rw [val_main_v6_apply]
    refine congrArg _ ?_
    funext a
    apply Fin.ext
    match a with
    | ⟨0, _⟩ => rfl
    | ⟨1, _⟩ => show (h.val * 2048 + (i 1).val) / 2048 % 512 = h.val; rw [h1]; omega
    | ⟨2, _⟩ => show (h.val * 2048 + (i 1).val) % 2048 = S.val; rw [h1]; omega
  rw [hd, val_main_v5_apply, val_main_v2_apply, hu _ h h0 rfl, val_main_call0_v5_apply, val_main_call0_v4_apply, val_main_call0_cst_0_apply,
    val_main_call0_v3_apply, val_main_call0_v2_apply, val_main_call0_cst_apply, val_main_call0_v1_apply, val_main_call0_v0_apply, hg _ h h0 rfl]
  have h1f : (FloatOps.ofBits FTy.f32 0x3F800000#32 : Ideal .f32) = (1 : EReal) := Ideal.ofBits_one_f32
  rw [h1f]
  rfl

end

/-- The call's array after the run is the reference's. -/
theorem final_expert (c : Dev nD) : (dats m 0 c).arrAt 4 cfg0.N = Cert.Reference6Ideal.Read.val_main_v7 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val < 36 := Nat.lt_of_lt_of_eq t.isLt N_0
  obtain ⟨-, -, e0, e1, -⟩ := idx_facts t
  blk_simp
  rw [after0_4]
  have hy0 : (y 0).val < 256 := (y 0).isLt
  have hy1 : (y 1).val < 2048 := (y 1).isLt
  have hy : y = ix2 (⟨(y 0).val, hy0⟩ : Fin 256) (⟨(y 1).val, hy1⟩ : Fin 2048) := by
    funext a
    match a with
    | ⟨0, _⟩ => rfl
    | ⟨1, _⟩ => rfl
  refine Eq.trans ?_ (ref_apply m c ⟨t.val * 256 + (y 0).val, by omega⟩ ⟨(y 1).val, hy1⟩ _ ?_ ?_).symm
  · exact (congrArg _ hy).trans (tile_apply m c t _ _ _ rfl)
  · show win0_4.index t 0 * 256 + 1 * (y 0).val = t.val * 256 + (y 0).val; rw [e0]; omega
  · show win0_4.index t 1 * 2048 + 1 * (y 1).val = (y 1).val; rw [e1]; omega

end Cert.Kernel6Ideal.Hand
-- ==== Proof.SampleQueries.lean ====
/- The queries of the sample group's cross-attention, with the norm before them: what a tile computes, and that the array of all
   tiles is the reference's. Every tile is the only one of its row. -/
module

public import proofs.«01_k».proof.Proof.Gen.Kernel13Ideal.Value
public import proofs.«01_k».proof.Proof.Gen.Reference13Ideal.Read
public import proofs.«01_k».proof.Defs
public import Idealize.ShloMosaic.Lib.Pointwise
public import Idealize.ShloMosaic.Lib.Pipeline.ValueKit.Geometry

@[expose] public section

set_option maxRecDepth 16384
set_option maxHeartbeats 1600000

noncomputable section

namespace Cert.Kernel13Ideal.Hand

open Cert.Kernel13Ideal Cert.Kernel13Ideal.Gen Idealize.ShloMosaic Idealize.ShloMosaic.TcCoe Idealize.SL.Sem
open Idealize.ShloMosaic.Pipeline (Dat)

/-! ## What a tile leaves -/

section

variable {F : FTy → Type} [FloatOps F]

theorem hz : (![0, 0] : Fin 2 → Nat) = fun _ => 0 := funext fun a => by fin_cases a <;> rfl

/-- A tile is the product of the normed rows with the weights. -/
theorem out_A (c : Dev nD) (i : grid0.Coords) (a2 : Memref sig .tc .vmem S1024x2048 .f32) (h2 : a2.IsWhole) (a3 : Memref sig .tc .vmem S1x2048 .f32) (h3 : a3.IsWhole) (a4 : Memref sig .tc .vmem S2048x512 .bf16) (h4 : a4.IsWhole) (a5 : Memref sig .tc .vmem S1024x512 .f32) (h5 : a5.IsWhole) (a6 : Memref sig .tc .vmem S1024x2048 .bf16) (h6 : a6.IsWhole) (hc0 : cond0_0 i) (hc1 : cond0_1 i) (hc2 : ¬cond0_2 i)
    (x0 : Vec F S1024x2048 .f32) (x1 : Vec F S1x2048 .f32) (x2 : Vec F S2048x512 .bf16) :
    out0_A_3 c i a2 h2 a3 h3 a4 h4 a5 h5 a6 h6 hc0 hc1 hc2 x0 x1 x2 = k0_pay2 (k0_pay1 x0 x1) x2 := by
  unfold out0_A_3
  rw [View.read_writes_eq_canon _ _ _ (cover0_A_3 c i a2 h2 a3 h3 a4 h4 a5 h5 a6 h6 hc0 hc1 hc2 x0 x1 x2)]
  unfold kernelRun0_A
  dsimp only
  sl_unfold_words
  rw [View.canon_unit_zero (S := S1024x512) hz, View.readCov_unit_zero (S := S1024x2048) _ hz]
  simp only [View.readAt_eq_ld, h2.read_unread, h3.read_unread, h4.read_unread, View.ld_unit_zero (S := S1024x2048) hz, View.ld_unit_zero (S := S1x2048) hz, View.ld_unit_zero (S := S2048x512) hz]

end

/-! ## Read at one place -/

/-- The norm of a row, with the gain. -/
def normed (x g : Fin 2048 → EReal) (k : Fin 2048) : EReal :=
  x k * Ideal.rsqrt (Ideal.div (∑ l, x l * x l) (Ideal.ofBits FTy.f32 0x45000000#32) + Ideal.ofBits FTy.f32 0x358637BD#32) * g k

theorem pay1_apply (x : Vec Ideal S1024x2048 .f32) (g : Vec Ideal S1x2048 .f32) (r : Fin 1024) (k : Fin 2048) :
    k0_pay1 (F := Ideal) x g (ix2 r k) = normed (fun l => x (ix2 r l)) (fun l => g (ix2 0 l)) k := by
  pointwise [k0_pay1]
  rfl

theorem pay2_apply (a : Vec Ideal S1024x2048 .bf16) (w : Vec Ideal S2048x512 .bf16) (r : Fin 1024) (s : Fin 512) :
    k0_pay2 (F := Ideal) a w (ix2 r s) = ∑ k, a (ix2 r k) * w (ix2 k s) := by
  pointwise [k0_pay2]
  try rfl

/-! ## The blocks -/

variable (m : (ℓ : Loc nD τ sig) → Buf (Elt Ideal) ℓ)

/-- The windows' places: tokens by row of tiles, gain and weights whole, the result by row of tiles. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The tokens' array in the call is the argument, its sequences one after the other. -/
theorem V_main_v0 (c : Dev nD) (y : S1024x2048.Idx) (j : S128x8x2048.Idx) (h1 : (j 0).val * 8 + (j 1).val = (y 0).val) (h2 : (j 2).val = (y 1).val) :
    V m c main_v0 y = m ((c : Thread nD τ).loc main_arg0) j := by
  have hv : V m c main_v0 = shapeCast S1024x2048 (m ((c : Thread nD τ).loc main_arg0)) shapeCasts_S128x8x2048_S1024x2048 := by
    show StableHlo.after hostOps0 _ _ = _
    after_results
    rfl
  rw [hv]
  refine shapeCast_apply _ shapeCasts_S128x8x2048_S1024x2048 y j ?_
  rewrite [Shape.rowMajor_val_three, Shape.rowMajor_val_two]
  show ((j 0).val * 8 + (j 1).val) * 2048 + (j 2).val = (y 0).val * 2048 + (y 1).val
  rw [h1, h2]

/-- The weights' array is the argument without its axis of one, narrowed: at the ideal instance its numbers. -/
theorem V_main_v2 (c : Dev nD) (y : S2048x512.Idx) (j : S1x2048x512.Idx) (h1 : (j 1).val = (y 0).val) (h2 : (j 2).val = (y 1).val) :
    (V m c main_v2 y : EReal) = m ((c : Thread nD τ).loc main_arg2) j := by
  have hv : V m c main_v2 = truncf .bf16 (shapeCast S2048x512 (m ((c : Thread nD τ).loc main_arg2)) shapeCasts_S1x2048x512_S2048x512 : FVec Ideal S2048x512 .f32) bitsLt_bf16_f32 := by
    show StableHlo.after hostOps0 _ _ = _
    after_results
    rfl
  rw [hv]
  show shapeCast S2048x512 (m ((c : Thread nD τ).loc main_arg2)) shapeCasts_S1x2048x512_S2048x512 y = _
  refine shapeCast_apply _ shapeCasts_S1x2048x512_S2048x512 y j ?_
  rewrite [Shape.rowMajor_val_three, Shape.rowMajor_val_two]
  have h0 : (j 0).val < 1 := (j 0).isLt
  show ((j 0).val * 2048 + (j 1).val) * 512 + (j 2).val = (y 0).val * 512 + (y 1).val
  rw [h1, h2]; omega

/-- The gain's array is the argument. -/
theorem V_main_v4 (c : Dev nD) (y : S1x2048.Idx) : V m c main_v4 y = m ((c : Thread nD τ).loc main_arg1) y := by
  have hv : V m c main_v4 = shapeCast S1x2048 (shapeCast S2048 (m ((c : Thread nD τ).loc main_arg1)) shapeCasts_S1x2048_S2048) shapeCasts_S2048_S1x2048 := by
    show StableHlo.after hostOps0 _ _ = _
    after_results
    rfl
  rw [hv]
  have h0 : (y 0).val < 1 := (y 0).isLt
  refine (shapeCast_apply _ shapeCasts_S2048_S1x2048 y (fun | ⟨0, _⟩ => (⟨(y 1).val, (y 1).isLt⟩ : Fin 2048)) ?_).trans
    (shapeCast_apply _ shapeCasts_S1x2048_S2048 _ y ?_)
  · rewrite [Shape.rowMajor_val_one, Shape.rowMajor_val_two]
    show (y 1).val = (y 0).val * 2048 + (y 1).val
    omega
  · rewrite [Shape.rowMajor_val_one, Shape.rowMajor_val_two]
    show (y 0).val * 2048 + (y 1).val = (y 1).val
    omega

/-- The arguments at a row and a column. -/
def tok (c : Dev nD) (r : Fin 1024) (k : Fin 2048) : EReal :=
  m ((c : Thread nD τ).loc main_arg0) (fun | ⟨0, _⟩ => (⟨r.val / 8, by omega⟩ : Fin 128) | ⟨1, _⟩ => (⟨r.val % 8, by omega⟩ : Fin 8) | ⟨2, _⟩ => k)
def wt (c : Dev nD) (k : Fin 2048) (s : Fin 512) : EReal :=
  m ((c : Thread nD τ).loc main_arg2) (fun | ⟨0, _⟩ => (0 : Fin 1) | ⟨1, _⟩ => k | ⟨2, _⟩ => s)
def gain (c : Dev nD) (k : Fin 2048) : EReal :=
  m ((c : Thread nD τ).loc main_arg1) (fun | ⟨0, _⟩ => (0 : Fin 1) | ⟨1, _⟩ => k)

theorem iblk0_apply (c : Dev nD) (t : Fin cfg0.N) (r : Fin 1024) (k : Fin 2048) (R : Fin 1024) (hR : R.val = t.val * 1024 + r.val) :
    ((iblk m c 0 t : Vec Ideal S1024x2048 .f32) (ix2 r k) : EReal) = tok m c R k := by
  obtain ⟨e0, e1, -⟩ := idx_facts t
  unfold iblk
  rw [View.read_apply]
  refine V_main_v0 m c _ _ ?_ ?_
  · show R.val / 8 * 8 + R.val % 8 = win0_0.index t 0 * 1024 + 1 * r.val; rw [e0, hR]; omega
  · show k.val = win0_0.index t 1 * 2048 + 1 * k.val; rw [e1]; omega

theorem iblk1_apply (c : Dev nD) (t : Fin cfg0.N) (k : Fin 2048) :
    ((iblk m c 1 t : Vec Ideal S1x2048 .f32) (ix2 0 k) : EReal) = gain m c k := by
  obtain ⟨-, -, e0, e1, -⟩ := idx_facts t
  unfold iblk
  rw [View.read_apply]
  refine (V_main_v4 m c _).trans (congrArg _ ?_)
  funext a
  apply Fin.ext
  match a with
  | ⟨0, _⟩ => show win0_1.index t 0 * 1 + 1 * 0 = 0; rw [e0]
  | ⟨1, _⟩ => show win0_1.index t 1 * 2048 + 1 * k.val = k.val; rw [e1]; omega

theorem iblk2_apply (c : Dev nD) (t : Fin cfg0.N) (k : Fin 2048) (s : Fin 512) :
    ((iblk m c 2 t : Vec Ideal S2048x512 .bf16) (ix2 k s) : EReal) = wt m c k s := by
  obtain ⟨-, -, -, -, e0, e1, -⟩ := idx_facts t
  unfold iblk
  rw [View.read_apply]
  refine V_main_v2 m c _ _ ?_ ?_
  · show k.val = win0_2.index t 0 * 2048 + 1 * k.val; rw [e0]; omega
  · show s.val = win0_2.index t 1 * 512 + 1 * s.val; rw [e1]; omega

/-! ## The tiles -/

/-- A tile of the result: the normed row times the weights' column. -/
theorem tile_apply (c : Dev nD) (t : Fin cfg0.N) (r : Fin 1024) (s : Fin 512) (R : Fin 1024) (hR : R.val = t.val * 1024 + r.val) :
    ((outsAt0 m c t) (ix2 r s) : EReal) = ∑ k, normed (tok m c R) (gain m c) k * wt m c k s := by
  unfold outsAt0
  rw [out_A, pay2_apply]
  refine Finset.sum_congr rfl fun k _ => ?_
  rw [pay1_apply, iblk2_apply m c t k s]
  congr 2 <;> funext l
  · exact iblk0_apply m c t r l R hR
  · exact iblk1_apply m c t l

/-! ## The reference at one place, and the array -/

section

open Cert.Reference13Ideal.Read

/-- The reference: the normed row times the weights' column. -/
theorem ref_apply (c : Dev nD) (R : Fin 1024) (S : Fin 512) (i : S1024x512.Idx) (h0 : (i 0).val = R.val) (h1 : (i 1).val = S.val) :
    (val_main_v16 (F := Ideal) (m ((c : Thread nD τ).loc main_arg0)) (m ((c : Thread nD τ).loc main_arg1)) (m ((c : Thread nD τ).loc main_arg2)) i : EReal)
      = ∑ k, normed (tok m c R) (gain m c) k * wt m c k S := by
  rw [val_main_v16_apply]
  refine Finset.sum_congr rfl fun k _ => ?_
  have hx : ∀ (j : S1024x2048.Idx) (l : Fin 2048), (j 0).val = R.val → (j 1).val = l.val →
      (val_main_v0 (F := Ideal) (m ((c : Thread nD τ).loc main_arg0)) j : EReal) = tok m c R l := by
    intro j l hj hl
    rw [val_main_v0_apply]
    refine congrArg _ ?_
    funext a
    apply Fin.ext
    match a with
    | ⟨0, _⟩ => show ((j 0).val * 2048 + (j 1).val) / 16384 = R.val / 8; rw [hj, hl]; omega
    | ⟨1, _⟩ => show ((j 0).val * 2048 + (j 1).val) / 2048 % 8 = R.val % 8; rw [hj, hl]; omega
    | ⟨2, _⟩ => show ((j 0).val * 2048 + (j 1).val) % 2048 = l.val; rw [hj, hl]; omega
  have hw : (val_main_v15 (F := Ideal) (m ((c : Thread nD τ).loc main_arg2)) (ridx_main_v16 i k) : EReal) = wt m c k S := by
    rw [val_main_v15_apply]
    refine congrArg _ ?_
    funext a
    apply Fin.ext
    match a with
    | ⟨0, _⟩ => rfl
    | ⟨1, _⟩ => show (k.val * 512 + (i 1).val) / 512 % 2048 = k.val; rw [h1]; omega
    | ⟨2, _⟩ => show (k.val * 512 + (i 1).val) % 512 = S.val; rw [h1]; omega
  have hg : (val_main_v13 (F := Ideal) (m ((c : Thread nD τ).loc main_arg1)) (lidx_main_v16 i k) : EReal) = gain m c k := by
    rw [val_main_v13_apply, val_main_v12_apply, val_main_v1_apply]
    refine congrArg _ ?_
    funext a
    apply Fin.ext
    match a with
    | ⟨0, _⟩ => rfl
    | ⟨1, _⟩ => show k.val % 2048 = k.val; omega
  have hs : ∀ (j : Cert.Reference13Ideal.S1024.Idx), (j 0).val = R.val →
      (val_main_v3 (F := Ideal) (m ((c : Thread nD τ).loc main_arg0)) j : EReal) = ∑ l, tok m c R l * tok m c R l := by
    intro j hj
    rw [val_main_v3_apply, val_main_cst_apply]
    refine Eq.trans (b := (0 : EReal) + ∑ l, tok m c R l * tok m c R l) ?_ (zero_add _)
    congr 1
    · exact Ideal.ofBits_zero_f32
    · refine Finset.sum_congr rfl fun l _ => ?_
      rw [val_main_v2_apply, hx _ l hj rfl]
      rfl
  rw [hw, val_main_v14_apply, hg, val_main_v11_apply, hx _ k h0 rfl, val_main_v10_apply, val_main_v9_apply, val_main_v8_apply,
    val_main_v6_apply, val_main_v4_apply, hs _ h0, val_main_v5_apply, val_main_cst_0_apply, val_main_v7_apply, val_main_cst_1_apply]
  rfl

end

/-- The call's array after the run is the reference's. -/
theorem final_proj (c : Dev nD) : (dats m 0 c).arrAt 3 cfg0.N
    = Cert.Reference13Ideal.Read.val_main_v16 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 1 := Nat.lt_of_lt_of_eq t.isLt N_0
  obtain ⟨-, -, -, -, -, -, e0, e1⟩ := idx_facts t
  blk_simp
  rw [after0_3]
  have hy0 : (y 0).val < 1024 := (y 0).isLt
  have hy1 : (y 1).val < 512 := (y 1).isLt
  have hy : y = ix2 (⟨(y 0).val, hy0⟩ : Fin 1024) (⟨(y 1).val, hy1⟩ : Fin 512) := by
    funext a
    match a with
    | ⟨0, _⟩ => rfl
    | ⟨1, _⟩ => rfl
  refine Eq.trans ?_ (ref_apply m c ⟨t.val * 1024 + (y 0).val, by omega⟩ ⟨(y 1).val, hy1⟩ _ ?_ ?_).symm
  · exact (congrArg _ hy).trans (tile_apply m c t _ _ _ rfl)
  · show win0_3.index t 0 * 1024 + 1 * (y 0).val = t.val * 1024 + (y 0).val; rw [e0]; omega
  · show win0_3.index t 1 * 512 + 1 * (y 1).val = (y 1).val; rw [e1]; omega

end Cert.Kernel13Ideal.Hand
-- ==== Proof.SampleOut.lean ====
/- The out-projection of the sample group with the tokens added: what a tile computes, and that the array of all tiles is the reference's. -/
module

public import proofs.«01_k».proof.Proof.Gen.Kernel12Ideal.Value
public import proofs.«01_k».proof.Proof.Gen.Reference12Ideal.Read
public import proofs.«01_k».proof.Defs
public import Idealize.ShloMosaic.Lib.Pointwise
public import Idealize.ShloMosaic.Lib.Pipeline.ValueKit.Geometry

@[expose] public section

set_option maxRecDepth 16384
set_option maxHeartbeats 1600000

noncomputable section

namespace Cert.Kernel12Ideal.Hand

open Cert.Kernel12Ideal Cert.Kernel12Ideal.Gen Idealize.ShloMosaic Idealize.ShloMosaic.TcCoe Idealize.SL.Sem
open Idealize.ShloMosaic.Pipeline (Dat)

/-! ## What a tile leaves -/

section

variable {F : FTy → Type} [FloatOps F]

theorem hz : (![0, 0] : Fin 2 → Nat) = fun _ => 0 := funext fun a => by fin_cases a <;> rfl

/-- At a row's first tile the scratch is filled with the two head groups side by side, -/
theorem sout_A (c : Dev nD) (i : grid0.Coords) (a2 : Memref sig .tc .vmem S1024x1024 .f32) (h2 : a2.IsWhole) (a3 : Memref sig .tc .vmem S1024x1024 .f32) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x2048 .bf16) (h7 : a7.IsWhole) (hc0 : cond0_0 i) (hc1 : cond0_1 i) (hc2 : ¬cond0_2 i)
    (x0 x1 : Vec F S1024x1024 .f32) (x2 : Vec F S2048x1024 .bf16) (x3 : Vec F S1024x1024 .f32) :
    sout0_A_0 c i a2 h2 a3 h3 a4 h4 a5 h5 a6 h6 a7 h7 hc0 hc1 hc2 x0 x1 x2 x3 = k0_pay1 x0 x1 := by
  unfold sout0_A_0
  rw [View.read_writes_eq_canon _ _ _ (scover0_A_0 c i a2 h2 a3 h3 a4 h4 a5 h5 a6 h6 a7 h7 hc0 hc1 hc2 x0 x1 x2 x3)]
  unfold kernelRun0_A
  dsimp only
  sl_unfold_words
  rw [View.canon_unit_zero (S := S1024x2048) hz]
  simp only [View.readAt_eq_ld, h2.read_unread, h3.read_unread, View.ld_unit_zero (S := S1024x1024) hz]

/-- and the tile is their product with the weights' block, added to the tokens' block; -/
theorem out_A (c : Dev nD) (i : grid0.Coords) (a2 : Memref sig .tc .vmem S1024x1024 .f32) (h2 : a2.IsWhole) (a3 : Memref sig .tc .vmem S1024x1024 .f32) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x2048 .bf16) (h7 : a7.IsWhole) (hc0 : cond0_0 i) (hc1 : cond0_1 i) (hc2 : ¬cond0_2 i)
    (x0 x1 : Vec F S1024x1024 .f32) (x2 : Vec F S2048x1024 .bf16) (x3 : Vec F S1024x1024 .f32) :
    out0_A_4 c i a2 h2 a3 h3 a4 h4 a5 h5 a6 h6 a7 h7 hc0 hc1 hc2 x0 x1 x2 x3 = k0_pay2 (k0_pay1 x0 x1) x2 x3 := by
  unfold out0_A_4
  rw [View.read_writes_eq_canon _ _ _ (cover0_A_4 c i a2 h2 a3 h3 a4 h4 a5 h5 a6 h6 a7 h7 hc0 hc1 hc2 x0 x1 x2 x3)]
  unfold kernelRun0_A
  dsimp only
  sl_unfold_words
  rw [View.canon_unit_zero (S := S1024x1024) hz, View.readCov_unit_zero (S := S1024x2048) _ hz]
  simp only [View.readAt_eq_ld, h2.read_unread, h3.read_unread, h4.read_unread, h5.read_unread, View.ld_unit_zero (S := S1024x1024) hz, View.ld_unit_zero (S := S2048x1024) hz]

/-- at the row's other tile it is the same with what the scratch holds. -/
theorem out_B (c : Dev nD) (i : grid0.Coords) (a2 : Memref sig .tc .vmem S1024x1024 .f32) (h2 : a2.IsWhole) (a3 : Memref sig .tc .vmem S1024x1024 .f32) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x2048 .bf16) (h7 : a7.IsWhole) (hc0 : cond0_0 i) (hc1 : ¬cond0_1 i) (hc2 : ¬cond0_2 i)
    (x0 x1 : Vec F S1024x1024 .f32) (x2 : Vec F S2048x1024 .bf16) (x3 : Vec F S1024x1024 .f32) (xs : Vec F S1024x2048 .bf16) :
    out0_B_4 c i a2 h2 a3 h3 a4 h4 a5 h5 a6 h6 a7 h7 hc0 hc1 hc2 x0 x1 x2 x3 xs = k0_pay2 xs x2 x3 := by
  unfold out0_B_4
  rw [View.read_writes_eq_canon _ _ _ (cover0_B_4 c i a2 h2 a3 h3 a4 h4 a5 h5 a6 h6 a7 h7 hc0 hc1 hc2 x0 x1 x2 x3 xs)]
  unfold kernelRun0_B
  dsimp only
  sl_unfold_words
  rw [View.canon_unit_zero (S := S1024x1024) hz]
  simp only [View.readAt_eq_ld, h7.read_unread, h4.read_unread, h5.read_unread, View.ld_unit_zero (S := S1024x2048) hz, View.ld_unit_zero (S := S1024x1024) hz, View.ld_unit_zero (S := S2048x1024) hz]

end

/-! ## Read at one place -/

/-- Two rows of 1024 side by side. -/
def side (x y : Fin 1024 → EReal) (k : Fin 2048) : EReal :=
  if h : k.val < 1024 then x ⟨k.val, h⟩ else y ⟨k.val - 1024, by omega⟩

theorem side_of_lt (x y : Fin 1024 → EReal) (k : Fin 2048) (h : k.val < 1024) : side x y k = x ⟨k.val, h⟩ := dif_pos h
theorem side_of_not_lt (x y : Fin 1024 → EReal) (k : Fin 2048) (h : ¬k.val < 1024) : side x y k = y ⟨k.val - 1024, by omega⟩ := dif_neg h

theorem pay1_apply (x y : Vec Ideal S1024x1024 .f32) (r : Fin 1024) (k : Fin 2048) :
    (k0_pay1 (F := Ideal) x y (ix2 r k) : EReal) = side (fun l => x (ix2 r l)) (fun l => y (ix2 r l)) k := by
  pointwise [k0_pay1]
  rfl

theorem pay2_apply (a : Vec Ideal S1024x2048 .bf16) (w : Vec Ideal S2048x1024 .bf16) (b : Vec Ideal S1024x1024 .f32) (r s : Fin 1024) :
    (k0_pay2 (F := Ideal) a w b (ix2 r s) : EReal) = b (ix2 r s) + ∑ k, a (ix2 r k) * w (ix2 k s) := by
  pointwise [k0_pay2]
  try rfl

/-! ## The blocks -/

variable (m : (ℓ : Loc nD τ sig) → Buf (Elt Ideal) ℓ)

/-- The windows' places: head groups by row of tiles, weights by column of tiles, tokens and result by both. -/
theorem idx_facts : ∀ t : Fin cfg0.N, win0_0.index t (0 : Fin 2) = t.val / 2 ∧ win0_0.index t (1 : Fin 2) = 0
    ∧ win0_1.index t (0 : Fin 2) = t.val / 2 ∧ win0_1.index t (1 : Fin 2) = 0
    ∧ win0_2.index t (0 : Fin 2) = 0 ∧ win0_2.index t (1 : Fin 2) = t.val % 2
    ∧ win0_3.index t (0 : Fin 2) = t.val / 2 ∧ win0_3.index t (1 : Fin 2) = t.val % 2
    ∧ win0_4.index t (0 : Fin 2) = t.val / 2 ∧ win0_4.index t (1 : Fin 2) = t.val % 2 :=
  (by decide +kernel : ∀ t : Fin grid0.N, _)

/-- The tokens' array in the call is the argument, its sequences one after the other. -/
theorem V_main_v0 (c : Dev nD) (y : S1024x2048.Idx) (j : S128x8x2048.Idx) (h1 : (j 0).val * 8 + (j 1).val = (y 0).val) (h2 : (j 2).val = (y 1).val) :
    V m c main_v0 y = m ((c : Thread nD τ).loc main_arg3) j := by
  have hv : V m c main_v0 = shapeCast S1024x2048 (m ((c : Thread nD τ).loc main_arg3)) shapeCasts_S128x8x2048_S1024x2048 := by
    show StableHlo.after hostOps0 _ _ = _
    after_results
    rfl
  rw [hv]
  refine shapeCast_apply _ shapeCasts_S128x8x2048_S1024x2048 y j ?_
  rewrite [Shape.rowMajor_val_three, Shape.rowMajor_val_two]
  show ((j 0).val * 8 + (j 1).val) * 2048 + (j 2).val = (y 0).val * 2048 + (y 1).val
  rw [h1, h2]

/-- The first head group's array likewise. -/
theorem V_main_v3 (c : Dev nD) (y : S1024x1024.Idx) (j : S128x8x1024.Idx) (h1 : (j 0).val * 8 + (j 1).val = (y 0).val) (h2 : (j 2).val = (y 1).val) :
    V m c main_v3 y = m ((c : Thread nD τ).loc main_arg0) j := by
  have hv : V m c main_v3 = shapeCast S1024x1024 (m ((c : Thread nD τ).loc main_arg0)) shapeCasts_S128x8x1024_S1024x1024 := by
    show StableHlo.after hostOps0 _ _ = _
    after_results
    rfl
  rw [hv]
  refine shapeCast_apply _ shapeCasts_S128x8x1024_S1024x1024 y j ?_
  rewrite [Shape.rowMajor_val_three, Shape.rowMajor_val_two]
  show ((j 0).val * 8 + (j 1).val) * 1024 + (j 2).val = (y 0).val * 1024 + (y 1).val
  rw [h1, h2]

/-- The second head group's array likewise. -/
theorem V_main_v4 (c : Dev nD) (y : S1024x1024.Idx) (j : S128x8x1024.Idx) (h1 : (j 0).val * 8 + (j 1).val = (y 0).val) (h2 : (j 2).val = (y 1).val) :
    V m c main_v4 y = m ((c : Thread nD τ).loc main_arg1) j := by
  have hv : V m c main_v4 = shapeCast S1024x1024 (m ((c : Thread nD τ).loc main_arg1)) shapeCasts_S128x8x1024_S1024x1024 := by
    show StableHlo.after hostOps0 _ _ = _
    after_results
    rfl
  rw [hv]
  refine shapeCast_apply _ shapeCasts_S128x8x1024_S1024x1024 y j ?_
  rewrite [Shape.rowMajor_val_three, Shape.rowMajor_val_two]
  show ((j 0).val * 8 + (j 1).val) * 1024 + (j 2).val = (y 0).val * 1024 + (y 1).val
  rw [h1, h2]

/-- The weights' array is the argument without its axis of one, narrowed: at the ideal instance its numbers. -/
theorem V_main_v2 (c : Dev nD) (y : S2048x2048.Idx) (j : S1x2048x2048.Idx) (h1 : (j 1).val = (y 0).val) (h2 : (j 2).val = (y 1).val) :
    (V m c main_v2 y : EReal) = m ((c : Thread nD τ).loc main_arg2) j := by
  have hv : V m c main_v2 = truncf .bf16 (shapeCast S2048x2048 (m ((c : Thread nD τ).loc main_arg2)) shapeCasts_S1x2048x2048_S2048x2048 : FVec Ideal S2048x2048 .f32) bitsLt_bf16_f32 := by
    show StableHlo.after hostOps0 _ _ = _
    after_results
    rfl
  rw [hv]
  show shapeCast S2048x2048 (m ((c : Thread nD τ).loc main_arg2)) shapeCasts_S1x2048x2048_S2048x2048 y = _
  refine shapeCast_apply _ shapeCasts_S1x2048x2048_S2048x2048 y j ?_
  rewrite [Shape.rowMajor_val_three, Shape.rowMajor_val_two]
  have h0 : (j 0).val < 1 := (j 0).isLt
  show ((j 0).val * 2048 + (j 1).val) * 2048 + (j 2).val = (y 0).val * 2048 + (y 1).val
  rw [h1, h2]; omega

/-- A row and a column of a head group, as the argument has them: the row is a sequence and its position. -/
def place (r k : Fin 1024) : S128x8x1024.Idx :=
  fun | ⟨0, _⟩ => (⟨r.val / 8, by omega⟩ : Fin 128) | ⟨1, _⟩ => (⟨r.val % 8, by omega⟩ : Fin 8) | ⟨2, _⟩ => k

/-- The arguments at a row and a column. -/
def ret (c : Dev nD) (r : Fin 1024) (k : Fin 1024) : EReal :=
  m ((c : Thread nD τ).loc main_arg0) (place r k)
def sb (c : Dev nD) (r : Fin 1024) (k : Fin 1024) : EReal :=
  m ((c : Thread nD τ).loc main_arg1) (place r k)
def wt (c : Dev nD) (k s : Fin 2048) : EReal :=
  m ((c : Thread nD τ).loc main_arg2) (fun | ⟨0, _⟩ => (0 : Fin 1) | ⟨1, _⟩ => k | ⟨2, _⟩ => s)
def tok (c : Dev nD) (r : Fin 1024) (s : Fin 2048) : EReal :=
  m ((c : Thread nD τ).loc main_arg3) (fun | ⟨0, _⟩ => (⟨r.val / 8, by omega⟩ : Fin 128) | ⟨1, _⟩ => (⟨r.val % 8, by omega⟩ : Fin 8) | ⟨2, _⟩ => s)

theorem iblk0_apply (c : Dev nD) (t : Fin cfg0.N) (r k : Fin 1024) (R : Fin 1024) (hR : R.val = t.val / 2 * 1024 + r.val) :
    ((iblk m c 0 t : Vec Ideal S1024x1024 .f32) (ix2 r k) : EReal) = ret m c R k := by
  obtain ⟨e0, e1, -⟩ := idx_facts t
  unfold iblk
  rw [View.read_apply]
  refine V_main_v3 m c _ _ ?_ ?_
  · show R.val / 8 * 8 + R.val % 8 = win0_0.index t 0 * 1024 + 1 * r.val; rw [e0, hR]; omega
  · show k.val = win0_0.index t 1 * 1024 + 1 * k.val; rw [e1]; omega

theorem iblk1_apply (c : Dev nD) (t : Fin cfg0.N) (r k : Fin 1024) (R : Fin 1024) (hR : R.val = t.val / 2 * 1024 + r.val) :
    ((iblk m c 1 t : Vec Ideal S1024x1024 .f32) (ix2 r k) : EReal) = sb m c R k := by
  obtain ⟨-, -, e0, e1, -⟩ := idx_facts t
  unfold iblk
  rw [View.read_apply]
  refine V_main_v4 m c _ _ ?_ ?_
  · show R.val / 8 * 8 + R.val % 8 = win0_1.index t 0 * 1024 + 1 * r.val; rw [e0, hR]; omega
  · show k.val = win0_1.index t 1 * 1024 + 1 * k.val; rw [e1]; omega

theorem iblk2_apply (c : Dev nD) (t : Fin cfg0.N) (k : Fin 2048) (s : Fin 1024) (S : Fin 2048) (hS : S.val = t.val % 2 * 1024 + s.val) :
    ((iblk m c 2 t : Vec Ideal S2048x1024 .bf16) (ix2 k s) : EReal) = wt m c k S := by
  obtain ⟨-, -, -, -, e0, e1, -⟩ := idx_facts t
  unfold iblk
  rw [View.read_apply]
  refine V_main_v2 m c _ _ ?_ ?_
  · show k.val = win0_2.index t 0 * 2048 + 1 * k.val; rw [e0]; omega
  · show S.val = win0_2.index t 1 * 1024 + 1 * s.val; rw [e1, hS]; omega

theorem iblk3_apply (c : Dev nD) (t : Fin cfg0.N) (r s : Fin 1024) (R : Fin 1024) (S : Fin 2048) (hR : R.val = t.val / 2 * 1024 + r.val) (hS : S.val = t.val % 2 * 1024 + s.val) :
    ((iblk m c 3 t : Vec Ideal S1024x1024 .f32) (ix2 r s) : EReal) = tok m c R S := by
  obtain ⟨-, -, -, -, -, -, e0, e1, -⟩ := idx_facts t
  unfold iblk
  rw [View.read_apply]
  refine V_main_v0 m c _ _ ?_ ?_
  · show R.val / 8 * 8 + R.val % 8 = win0_3.index t 0 * 1024 + 1 * r.val; rw [e0, hR]; omega
  · show S.val = win0_3.index t 1 * 1024 + 1 * s.val; rw [e1, hS]; omega

/-! ## The scratch and the tiles -/

/-- After any tile of a row the scratch holds the row's two head groups side by side. -/
theorem scratch_apply (c : Dev nD) : ∀ (n : ℕ) (hn : n < cfg0.N) (r : Fin 1024) (k : Fin 2048) (R : Fin 1024), R.val = n / 2 * 1024 + r.val →
    ((outsAt0 m c n hn).2 (ix2 r k) : EReal) = side (ret m c R) (sb m c R) k := by
  intro n
  induction n with
  | zero =>
    intro hn r k R hR
    have e := outsAt0_A m c ⟨0, hn⟩ (Nat.zero_mod _)
    dsimp only at e
    rw [e]; dsimp only; rw [sout_A, pay1_apply]
    congr 1 <;> funext l
    · exact iblk0_apply m c ⟨0, hn⟩ r l R hR
    · exact iblk1_apply m c ⟨0, hn⟩ r l R hR
  | succ n ih =>
    intro hn r k R hR
    by_cases h : (n + 1) % 2 = 0
    · have e := outsAt0_A m c ⟨n + 1, hn⟩ h
      dsimp only at e
      rw [e]; dsimp only; rw [sout_A, pay1_apply]
      congr 1 <;> funext l
      · exact iblk0_apply m c ⟨n + 1, hn⟩ r l R hR
      · exact iblk1_apply m c ⟨n + 1, hn⟩ r l R hR
    · have e := outsAt0_B m c ⟨n + 1, hn⟩ h
      dsimp only at e
      rw [e]
      unfold sout0_B_0
      exact ih _ r k R (by rw [hR]; omega)

/-- A tile of the result: the tokens and the row times the weights' column. -/
theorem tile_apply (c : Dev nD) (t : Fin cfg0.N) (r s : Fin 1024) (R : Fin 1024) (S : Fin 2048)
    (hR : R.val = t.val / 2 * 1024 + r.val) (hS : S.val = t.val % 2 * 1024 + s.val) :
    ((outsAt0 m c t.val t.isLt).1 (ix2 r s) : EReal) = tok m c R S + ∑ k, side (ret m c R) (sb m c R) k * wt m c k S := by
  by_cases h : t.val % 2 = 0
  · rw [outsAt0_A m c t h]; dsimp only; rw [out_A, pay2_apply, iblk3_apply m c t r s R S hR hS]
    refine congrArg _ (Finset.sum_congr rfl fun k _ => ?_)
    rw [pay1_apply, iblk2_apply m c t k s S hS]
    congr 2 <;> funext l
    · exact iblk0_apply m c t r l R hR
    · exact iblk1_apply m c t r l R hR
  · rw [outsAt0_B m c t h]; dsimp only; rw [out_B, pay2_apply, iblk3_apply m c t r s R S hR hS]
    refine congrArg _ (Finset.sum_congr rfl fun k _ => ?_)
    rw [iblk2_apply m c t k s S hS]
    congr 1
    exact scratch_apply m c _ _ r k R (by rw [hR]; omega)

/-! ## The reference at one place, and the array -/

section

open Cert.Reference12Ideal.Read

/-- The reference: the same. -/
theorem ref_apply (c : Dev nD) (R : Fin 1024) (S : Fin 2048) (i : S1024x2048.Idx) (h0 : (i 0).val = R.val) (h1 : (i 1).val = S.val) :
    (val_main_v4 (F := Ideal) (m ((c : Thread nD τ).loc main_arg0)) (m ((c : Thread nD τ).loc main_arg1)) (m ((c : Thread nD τ).loc main_arg2)) (m ((c : Thread nD τ).loc main_arg3)) i : EReal)
      = tok m c R S + ∑ k, side (ret m c R) (sb m c R) k * wt m c k S := by
  have ht : (m ((c : Thread nD τ).loc main_arg3) (idx_main_v4 i) : EReal) = tok m c R S := by
    refine congrArg _ ?_
    funext a
    apply Fin.ext
    match a with
    | ⟨0, _⟩ => show ((i 0).val * 2048 + (i 1).val) / 16384 = R.val / 8; rw [h0, h1]; omega
    | ⟨1, _⟩ => show ((i 0).val * 2048 + (i 1).val) / 2048 % 8 = R.val % 8; rw [h0, h1]; omega
    | ⟨2, _⟩ => show ((i 0).val * 2048 + (i 1).val) % 2048 = S.val; rw [h0, h1]; omega
  rw [val_main_v4_apply, val_main_v3_apply, ht, val_main_v2_apply]
  refine congrArg (tok m c R S + ·) (Finset.sum_congr rfl fun k _ => ?_)
  have hw : (val_main_v1 (F := Ideal) (m ((c : Thread nD τ).loc main_arg2)) (ridx_main_v2 (idx_main_v4 i) k) : EReal) = wt m c k S := by
    rw [val_main_v1_apply]
    refine congrArg _ ?_
    funext a
    apply Fin.ext
    match a with
    | ⟨0, _⟩ => rfl
    | ⟨1, _⟩ => show (k.val * 2048 + ((i 0).val * 2048 + (i 1).val) % 2048) / 2048 % 2048 = k.val; omega
    | ⟨2, _⟩ => show (k.val * 2048 + ((i 0).val * 2048 + (i 1).val) % 2048) % 2048 = S.val; rw [h1]; omega
  have hx : (val_main_v0 (F := Ideal) (m ((c : Thread nD τ).loc main_arg0)) (m ((c : Thread nD τ).loc main_arg1)) (lidx_main_v2 (idx_main_v4 i) k) : EReal) = side (ret m c R) (sb m c R) k := by
    unfold val_main_v0
    by_cases h : k.val < 1024
    · rw [side_of_lt _ _ _ h]
      refine concatenate_pair_apply_left (t := Cert.Reference12Ideal.S128x8x2048) (s₁ := Cert.Reference12Ideal.S128x8x1024) (s₂ := Cert.Reference12Ideal.S128x8x1024) 2 _ _ _ _ rfl (place R (⟨k.val, h⟩ : Fin 1024)) (fun b => ?_)
      match b with
      | ⟨0, _⟩ => show R.val / 8 = ((i 0).val * 2048 + (i 1).val) / 16384; rw [h0, h1]; omega
      | ⟨1, _⟩ => show R.val % 8 = ((i 0).val * 2048 + (i 1).val) / 2048 % 8; rw [h0, h1]; omega
      | ⟨2, _⟩ => rfl
    · rw [side_of_not_lt _ _ _ h]
      refine concatenate_pair_apply_right (t := Cert.Reference12Ideal.S128x8x2048) (s₁ := Cert.Reference12Ideal.S128x8x1024) (s₂ := Cert.Reference12Ideal.S128x8x1024) 2 _ _ _ _ rfl rfl (place R (⟨k.val - 1024, by omega⟩ : Fin 1024)) (fun b hb => ?_) ?_
      · match b with
        | ⟨0, _⟩ => show R.val / 8 = ((i 0).val * 2048 + (i 1).val) / 16384; rw [h0, h1]; omega
        | ⟨1, _⟩ => show R.val % 8 = ((i 0).val * 2048 + (i 1).val) / 2048 % 8; rw [h0, h1]; omega
        | ⟨2, _⟩ => exact absurd rfl hb
      · show k.val - 1024 + 1024 = k.val
        omega
  rw [hw, hx]

end

/-- The call's array after the run is the reference's. -/
theorem final_proj (c : Dev nD) : (dats m 0 c).arrAt 4 cfg0.N
    = Cert.Reference12Ideal.Read.val_main_v4 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val < 2 := Nat.lt_of_lt_of_eq t.isLt N_0
  obtain ⟨-, -, -, -, -, -, -, -, e0, e1⟩ := idx_facts t
  blk_simp
  rw [after0_4]
  have hy0 : (y 0).val < 1024 := (y 0).isLt
  have hy1 : (y 1).val < 1024 := (y 1).isLt
  have hy : y = ix2 (⟨(y 0).val, hy0⟩ : Fin 1024) (⟨(y 1).val, hy1⟩ : Fin 1024) := by
    funext a
    match a with
    | ⟨0, _⟩ => rfl
    | ⟨1, _⟩ => rfl
  refine Eq.trans ?_ (ref_apply m c ⟨t.val / 2 * 1024 + (y 0).val, by omega⟩ ⟨t.val % 2 * 1024 + (y 1).val, by omega⟩ _ ?_ ?_).symm
  · exact (congrArg _ hy).trans (tile_apply m c t _ _ _ _ rfl rfl)
  · show win0_4.index t 0 * 1024 + 1 * (y 0).val = t.val / 2 * 1024 + (y 0).val; rw [e0]; omega
  · show win0_4.index t 1 * 1024 + 1 * (y 1).val = t.val % 2 * 1024 + (y 1).val; rw [e1]; omega

end Cert.Kernel12Ideal.Hand
-- ==== Proof.RouterProduct.lean ====
/- The norm before the experts and the router's product: what a tile computes, and that the two arrays of all tiles are the
   reference's. Every tile is the only one of its row. -/
module

public import proofs.«01_k».proof.Proof.Gen.Kernel11Ideal.Value
public import proofs.«01_k».proof.Proof.Gen.Reference11Ideal.Read
public import proofs.«01_k».proof.Defs
public import Idealize.ShloMosaic.Lib.Pointwise
public import Idealize.ShloMosaic.Lib.Pipeline.ValueKit.Geometry

@[expose] public section

set_option maxRecDepth 16384
set_option maxHeartbeats 1600000

noncomputable section

namespace Cert.Kernel11Ideal.Hand

open Cert.Kernel11Ideal Cert.Kernel11Ideal.Gen Idealize.ShloMosaic Idealize.ShloMosaic.TcCoe Idealize.SL.Sem
open Idealize.ShloMosaic.Pipeline (Dat)

/-! ## What a tile leaves -/

section

variable {F : FTy → Type} [FloatOps F]

theorem hz : (![0, 0] : Fin 2 → Nat) = fun _ => 0 := funext fun a => by fin_cases a <;> rfl

/-- A tile of the logits is the product of the normed rows with the weights, -/
theorem out_A (c : Dev nD) (i : grid0.Coords) (a2 : Memref sig .tc .vmem S1024x2048 .f32) (h2 : a2.IsWhole) (a3 : Memref sig .tc .vmem S1x2048 .f32) (h3 : a3.IsWhole) (a4 : Memref sig .tc .vmem S2048x64 .bf16) (h4 : a4.IsWhole) (a5 : Memref sig .tc .vmem S1024x64 .f32) (h5 : a5.IsWhole) (a6 : Memref sig .tc .vmem S1024x2048 .f32) (h6 : a6.IsWhole) (a7 : Memref sig .tc .vmem S1024x2048 .bf16) (h7 : a7.IsWhole) (hc0 : cond0_0 i) (hc1 : cond0_1 i) (hc2 : ¬cond0_2 i)
    (x0 : Vec F S1024x2048 .f32) (x1 : Vec F S1x2048 .f32) (x2 : Vec F S2048x64 .bf16) :
    out0_A_3 c i a2 h2 a3 h3 a4 h4 a5 h5 a6 h6 a7 h7 hc0 hc1 hc2 x0 x1 x2 = k0_pay3 (k0_pay2 x0 x1) x2 := by
  unfold out0_A_3
  rw [View.read_writes_eq_canon _ _ _ (cover0_A_3 c i a2 h2 a3 h3 a4 h4 a5 h5 a6 h6 a7 h7 hc0 hc1 hc2 x0 x1 x2)]
  unfold kernelRun0_A
  dsimp only
  sl_unfold_words
  rw [View.canon_unit_zero (S := S1024x64) hz, View.readCov_unit_zero (S := S1024x2048) _ hz]
  simp only [View.readAt_eq_ld, h2.read_unread, h3.read_unread, h4.read_unread, View.ld_unit_zero (S := S1024x2048) hz, View.ld_unit_zero (S := S1x2048) hz, View.ld_unit_zero (S := S2048x64) hz]

/-- and a tile of the normed tokens the normed rows. -/
theorem norm_A (c : Dev nD) (i : grid0.Coords) (a2 : Memref sig .tc .vmem S1024x2048 .f32) (h2 : a2.IsWhole) (a3 : Memref sig .tc .vmem S1x2048 .f32) (h3 : a3.IsWhole) (a4 : Memref sig .tc .vmem S2048x64 .bf16) (h4 : a4.IsWhole) (a5 : Memref sig .tc .vmem S1024x64 .f32) (h5 : a5.IsWhole) (a6 : Memref sig .tc .vmem S1024x2048 .f32) (h6 : a6.IsWhole) (a7 : Memref sig .tc .vmem S1024x2048 .bf16) (h7 : a7.IsWhole) (hc0 : cond0_0 i) (hc1 : cond0_1 i) (hc2 : ¬cond0_2 i)
    (x0 : Vec F S1024x2048 .f32) (x1 : Vec F S1x2048 .f32) (x2 : Vec F S2048x64 .bf16) :
    out0_A_4 c i a2 h2 a3 h3 a4 h4 a5 h5 a6 h6 a7 h7 hc0 hc1 hc2 x0 x1 x2 = k0_pay1 x0 x1 := by
  unfold out0_A_4
  rw [View.read_writes_eq_canon _ _ _ (cover0_A_4 c i a2 h2 a3 h3 a4 h4 a5 h5 a6 h6 a7 h7 hc0 hc1 hc2 x0 x1 x2)]
  unfold kernelRun0_A
  dsimp only
  sl_unfold_words
  rw [View.canon_unit_zero (S := S1024x2048) hz]
  simp only [View.readAt_eq_ld, h2.read_unread, h3.read_unread, View.ld_unit_zero (S := S1024x2048) hz, View.ld_unit_zero (S := S1x2048) hz]

end

/-! ## Read at one place -/

/-- The norm of a row, with the gain. -/
def normed (x g : Fin 2048 → EReal) (k : Fin 2048) : EReal :=
  x k * Ideal.rsqrt (Ideal.div (∑ l, x l * x l) (Ideal.ofBits FTy.f32 0x45000000#32) + Ideal.ofBits FTy.f32 0x358637BD#32) * g k

theorem pay1_apply (x : Vec Ideal S1024x2048 .f32) (g : Vec Ideal S1x2048 .f32) (r : Fin 1024) (k : Fin 2048) :
    k0_pay1 (F := Ideal) x g (ix2 r k) = normed (fun l => x (ix2 r l)) (fun l => g (ix2 0 l)) k := by
  pointwise [k0_pay1]
  rfl

theorem pay2_apply (x : Vec Ideal S1024x2048 .f32) (g : Vec Ideal S1x2048 .f32) (r : Fin 1024) (k : Fin 2048) :
    (k0_pay2 (F := Ideal) x g (ix2 r k) : EReal) = normed (fun l => x (ix2 r l)) (fun l => g (ix2 0 l)) k := by
  pointwise [k0_pay2]
  exact pay1_apply x g r k

theorem pay3_apply (a : Vec Ideal S1024x2048 .bf16) (w : Vec Ideal S2048x64 .bf16) (r : Fin 1024) (s : Fin 64) :
    k0_pay3 (F := Ideal) a w (ix2 r s) = ∑ k, a (ix2 r k) * w (ix2 k s) := by
  pointwise [k0_pay3]
  try rfl

/-! ## The blocks -/

variable (m : (ℓ : Loc nD τ sig) → Buf (Elt Ideal) ℓ)

/-- The windows' places: tokens by row of tiles, gain and weights whole, the two results by row of tiles. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The weights' array is the argument without its axis of one, narrowed: at the ideal instance its numbers. -/
theorem V_main_v1 (c : Dev nD) (y : S2048x64.Idx) (j : S1x2048x64.Idx) (h1 : (j 1).val = (y 0).val) (h2 : (j 2).val = (y 1).val) :
    (V m c main_v1 y : EReal) = m ((c : Thread nD τ).loc main_arg2) j := by
  have hv : V m c main_v1 = truncf .bf16 (shapeCast S2048x64 (m ((c : Thread nD τ).loc main_arg2)) shapeCasts_S1x2048x64_S2048x64 : FVec Ideal S2048x64 .f32) bitsLt_bf16_f32 := by
    show StableHlo.after hostOps0 _ _ = _
    after_results
    rfl
  rw [hv]
  show shapeCast S2048x64 (m ((c : Thread nD τ).loc main_arg2)) shapeCasts_S1x2048x64_S2048x64 y = _
  refine shapeCast_apply _ shapeCasts_S1x2048x64_S2048x64 y j ?_
  rewrite [Shape.rowMajor_val_three, Shape.rowMajor_val_two]
  have h0 : (j 0).val < 1 := (j 0).isLt
  show ((j 0).val * 2048 + (j 1).val) * 64 + (j 2).val = (y 0).val * 64 + (y 1).val
  rw [h1, h2]; omega

/-- The gain's array is the argument. -/
theorem V_main_v3 (c : Dev nD) (y : S1x2048.Idx) : V m c main_v3 y = m ((c : Thread nD τ).loc main_arg1) y := by
  have hv : V m c main_v3 = shapeCast S1x2048 (shapeCast S2048 (m ((c : Thread nD τ).loc main_arg1)) shapeCasts_S1x2048_S2048) shapeCasts_S2048_S1x2048 := by
    show StableHlo.after hostOps0 _ _ = _
    after_results
    rfl
  rw [hv]
  have h0 : (y 0).val < 1 := (y 0).isLt
  refine (shapeCast_apply _ shapeCasts_S2048_S1x2048 y (fun | ⟨0, _⟩ => (⟨(y 1).val, (y 1).isLt⟩ : Fin 2048)) ?_).trans
    (shapeCast_apply _ shapeCasts_S1x2048_S2048 _ y ?_)
  · rewrite [Shape.rowMajor_val_one, Shape.rowMajor_val_two]
    show (y 1).val = (y 0).val * 2048 + (y 1).val
    omega
  · rewrite [Shape.rowMajor_val_one, Shape.rowMajor_val_two]
    show (y 0).val * 2048 + (y 1).val = (y 1).val
    omega

/-- The arguments at a row and a column. -/
def tok (c : Dev nD) (r : Fin 9216) (k : Fin 2048) : EReal :=
  m ((c : Thread nD τ).loc main_arg0) (ix2 r k)
def wt (c : Dev nD) (k : Fin 2048) (s : Fin 64) : EReal :=
  m ((c : Thread nD τ).loc main_arg2) (fun | ⟨0, _⟩ => (0 : Fin 1) | ⟨1, _⟩ => k | ⟨2, _⟩ => s)
def gain (c : Dev nD) (k : Fin 2048) : EReal :=
  m ((c : Thread nD τ).loc main_arg1) (fun | ⟨0, _⟩ => (0 : Fin 1) | ⟨1, _⟩ => k)

theorem iblk0_apply (c : Dev nD) (t : Fin cfg0.N) (r : Fin 1024) (k : Fin 2048) (R : Fin 9216) (hR : R.val = t.val * 1024 + r.val) :
    ((iblk m c 0 t : Vec Ideal S1024x2048 .f32) (ix2 r k) : EReal) = tok m c R k := by
  obtain ⟨e0, e1, -⟩ := idx_facts t
  unfold iblk
  rw [View.read_apply]
  refine (congrFun (V_main_arg0 m c) _).trans (congrArg _ ?_)
  funext a
  apply Fin.ext
  match a with
  | ⟨0, _⟩ => show win0_0.index t 0 * 1024 + 1 * r.val = R.val; rw [e0, hR]; omega
  | ⟨1, _⟩ => show win0_0.index t 1 * 2048 + 1 * k.val = k.val; rw [e1]; omega

theorem iblk1_apply (c : Dev nD) (t : Fin cfg0.N) (k : Fin 2048) :
    ((iblk m c 1 t : Vec Ideal S1x2048 .f32) (ix2 0 k) : EReal) = gain m c k := by
  obtain ⟨-, -, e0, e1, -⟩ := idx_facts t
  unfold iblk
  rw [View.read_apply]
  refine (V_main_v3 m c _).trans (congrArg _ ?_)
  funext a
  apply Fin.ext
  match a with
  | ⟨0, _⟩ => show win0_1.index t 0 * 1 + 1 * 0 = 0; rw [e0]
  | ⟨1, _⟩ => show win0_1.index t 1 * 2048 + 1 * k.val = k.val; rw [e1]; omega

theorem iblk2_apply (c : Dev nD) (t : Fin cfg0.N) (k : Fin 2048) (s : Fin 64) :
    ((iblk m c 2 t : Vec Ideal S2048x64 .bf16) (ix2 k s) : EReal) = wt m c k s := by
  obtain ⟨-, -, -, -, e0, e1, -⟩ := idx_facts t
  unfold iblk
  rw [View.read_apply]
  refine V_main_v1 m c _ _ ?_ ?_
  · show k.val = win0_2.index t 0 * 2048 + 1 * k.val; rw [e0]; omega
  · show s.val = win0_2.index t 1 * 64 + 1 * s.val; rw [e1]; omega

/-! ## The tiles -/

/-- A tile of the logits: the normed row times the weights' column, -/
theorem tile_apply (c : Dev nD) (t : Fin cfg0.N) (r : Fin 1024) (s : Fin 64) (R : Fin 9216) (hR : R.val = t.val * 1024 + r.val) :
    ((outsAt0 m c t).1 (ix2 r s) : EReal) = ∑ k, normed (tok m c R) (gain m c) k * wt m c k s := by
  unfold outsAt0
  dsimp only
  rw [out_A, pay3_apply]
  refine Finset.sum_congr rfl fun k _ => ?_
  rw [pay2_apply, iblk2_apply m c t k s]
  congr 2 <;> funext l
  · exact iblk0_apply m c t r l R hR
  · exact iblk1_apply m c t l

/-- and one of the normed tokens: the normed row. -/
theorem norm_apply (c : Dev nD) (t : Fin cfg0.N) (r : Fin 1024) (k : Fin 2048) (R : Fin 9216) (hR : R.val = t.val * 1024 + r.val) :
    ((outsAt0 m c t).2 (ix2 r k) : EReal) = normed (tok m c R) (gain m c) k := by
  unfold outsAt0
  dsimp only
  rw [norm_A, pay1_apply]
  congr 1 <;> funext l
  · exact iblk0_apply m c t r l R hR
  · exact iblk1_apply m c t l

/-! ## The reference at one place, and the array -/

section

open Cert.Reference11Ideal.Read

/-- The reference's normed tokens: the normed row, -/
theorem ref_norm (c : Dev nD) (R : Fin 9216) (k : Fin 2048) (j : S9216x2048.Idx) (h0 : (j 0).val = R.val) (h1 : (j 1).val = k.val) :
    (val_main_v13 (F := Ideal) (m ((c : Thread nD τ).loc main_arg0)) (m ((c : Thread nD τ).loc main_arg1)) j : EReal) = normed (tok m c R) (gain m c) k := by
  have hx : ∀ (j : S9216x2048.Idx) (l : Fin 2048), (j 0).val = R.val → (j 1).val = l.val →
      (m ((c : Thread nD τ).loc main_arg0) j : EReal) = tok m c R l := by
    intro j l hj hl
    refine congrArg _ ?_
    funext a
    apply Fin.ext
    match a with
    | ⟨0, _⟩ => exact hj
    | ⟨1, _⟩ => exact hl
  have hg : (val_main_v12 (F := Ideal) (m ((c : Thread nD τ).loc main_arg1)) j : EReal) = gain m c k := by
    rw [val_main_v12_apply, val_main_v11_apply, val_main_v10_apply]
    refine congrArg _ ?_
    funext a
    apply Fin.ext
    have hk := k.isLt
    match a with
    | ⟨0, _⟩ => rfl
    | ⟨1, _⟩ => show (j 1).val % 2048 = k.val; omega
  have hs : ∀ (y : Cert.Reference11Ideal.S9216.Idx), (y 0).val = R.val →
      (val_main_v1 (F := Ideal) (m ((c : Thread nD τ).loc main_arg0)) y : EReal) = ∑ l, tok m c R l * tok m c R l := by
    intro y hy
    rw [val_main_v1_apply, val_main_cst_apply]
    refine Eq.trans (b := (0 : EReal) + ∑ l, tok m c R l * tok m c R l) ?_ (zero_add _)
    congr 1
    · exact Ideal.ofBits_zero_f32
    · refine Finset.sum_congr rfl fun l _ => ?_
      rw [val_main_v0_apply, hx _ l hy rfl]
      rfl
  rw [val_main_v13_apply, hg, val_main_v9_apply, hx _ k h0 h1, val_main_v8_apply, val_main_v7_apply, val_main_v6_apply,
    val_main_v4_apply, val_main_v2_apply, hs _ h0, val_main_v3_apply, val_main_cst_0_apply, val_main_v5_apply, val_main_cst_1_apply]
  rfl

/-- and its logits: the normed row times the weights' column. -/
theorem ref_apply (c : Dev nD) (R : Fin 9216) (S : Fin 64) (i : S9216x64.Idx) (h0 : (i 0).val = R.val) (h1 : (i 1).val = S.val) :
    (val_main_v15 (F := Ideal) (m ((c : Thread nD τ).loc main_arg0)) (m ((c : Thread nD τ).loc main_arg1)) (m ((c : Thread nD τ).loc main_arg2)) i : EReal)
      = ∑ k, normed (tok m c R) (gain m c) k * wt m c k S := by
  rw [val_main_v15_apply]
  refine Finset.sum_congr rfl fun k _ => ?_
  have hw : (val_main_v14 (F := Ideal) (m ((c : Thread nD τ).loc main_arg2)) (ridx_main_v15 i k) : EReal) = wt m c k S := by
    rw [val_main_v14_apply]
    refine congrArg _ ?_
    funext a
    apply Fin.ext
    match a with
    | ⟨0, _⟩ => rfl
    | ⟨1, _⟩ => show (k.val * 64 + (i 1).val) / 64 % 2048 = k.val; rw [h1]; omega
    | ⟨2, _⟩ => show (k.val * 64 + (i 1).val) % 64 = S.val; rw [h1]; omega
  rw [hw, ref_norm m c R k _ h0 rfl]

end

/-- The call's logits after the run are the reference's, -/
theorem final_logits (c : Dev nD) : (dats m 0 c).arrAt 3 cfg0.N
    = Cert.Reference11Ideal.Read.val_main_v15 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 9 := Nat.lt_of_lt_of_eq t.isLt N_0
  obtain ⟨-, -, -, -, -, -, e0, e1, -⟩ := idx_facts t
  blk_simp
  rw [after0_3]
  have hy0 : (y 0).val < 1024 := (y 0).isLt
  have hy1 : (y 1).val < 64 := (y 1).isLt
  have hy : y = ix2 (⟨(y 0).val, hy0⟩ : Fin 1024) (⟨(y 1).val, hy1⟩ : Fin 64) := by
    funext a
    match a with
    | ⟨0, _⟩ => rfl
    | ⟨1, _⟩ => rfl
  refine Eq.trans ?_ (ref_apply m c ⟨t.val * 1024 + (y 0).val, by omega⟩ ⟨(y 1).val, hy1⟩ _ ?_ ?_).symm
  · exact (congrArg _ hy).trans (tile_apply m c t _ _ _ rfl)
  · show win0_3.index t 0 * 1024 + 1 * (y 0).val = t.val * 1024 + (y 0).val; rw [e0]; omega
  · show win0_3.index t 1 * 64 + 1 * (y 1).val = (y 1).val; rw [e1]; omega

/-- and its normed tokens the reference's. -/
theorem final_norm (c : Dev nD) : (dats m 0 c).arrAt 4 cfg0.N
    = Cert.Reference11Ideal.Read.val_main_v13 (F := Ideal) (m ((c : Thread nD τ).loc main_arg0)) (m ((c : Thread nD τ).loc main_arg1)) := by
  refine (dats m 0 c).arrAt_eq_of_covers 4 _ (by decide +kernel) fun t hf y => ?_
  have ht : t.val < 9 := Nat.lt_of_lt_of_eq t.isLt N_0
  obtain ⟨-, -, -, -, -, -, -, -, e0, e1⟩ := idx_facts t
  blk_simp
  rw [after0_4]
  have hy0 : (y 0).val < 1024 := (y 0).isLt
  have hy1 : (y 1).val < 2048 := (y 1).isLt
  have hy : y = ix2 (⟨(y 0).val, hy0⟩ : Fin 1024) (⟨(y 1).val, hy1⟩ : Fin 2048) := by
    funext a
    match a with
    | ⟨0, _⟩ => rfl
    | ⟨1, _⟩ => rfl
  refine Eq.trans ?_ (ref_norm m c ⟨t.val * 1024 + (y 0).val, by omega⟩ ⟨(y 1).val, hy1⟩ _ ?_ ?_).symm
  · exact (congrArg _ hy).trans (norm_apply m c t _ _ _ rfl)
  · show win0_4.index t 0 * 1024 + 1 * (y 0).val = t.val * 1024 + (y 0).val; rw [e0]; omega
  · show win0_4.index t 1 * 2048 + 1 * (y 1).val = (y 1).val; rw [e1]; omega

end Cert.Kernel11Ideal.Hand
-- ==== Proof.CrossOutputSample.lean ====
/- The output projection of the sample group's cross-attention, added to its tokens: what a tile computes, and that the
   array, whose rows above the group's keep what they held, is the reference's. -/
module

public import proofs.«01_k».proof.Proof.Gen.Kernel10Ideal.Value
public import proofs.«01_k».proof.Proof.Gen.Reference10Ideal.Read
public import proofs.«01_k».proof.Defs
public import Idealize.ShloMosaic.Lib.Pointwise
public import Idealize.ShloMosaic.Lib.Pipeline.ValueKit.Geometry

@[expose] public section

set_option maxRecDepth 16384
set_option maxHeartbeats 1600000

noncomputable section

namespace Cert.Kernel10Ideal.Hand

open Cert.Kernel10Ideal Cert.Kernel10Ideal.Gen Idealize.ShloMosaic Idealize.ShloMosaic.TcCoe Idealize.SL.Sem
open Idealize.ShloMosaic.Pipeline (Dat)

/-! ## What a tile leaves -/

section

variable {F : FTy → Type} [FloatOps F]

theorem hz : (![0, 0] : Fin 2 → Nat) = fun _ => 0 := funext fun a => by fin_cases a <;> rfl

/-- At a row's first tile the scratch is filled with the attention's rows, -/
theorem sout_A (c : Dev nD) (i : grid0.Coords) (a2 : Memref sig .tc .vmem S1024x512 .f32) (h2 : a2.IsWhole) (a3 : Memref sig .tc .vmem S512x1024 .bf16) (h3 : a3.IsWhole) (a4 : Memref sig .tc .vmem S1024x1024 .f32) (h4 : a4.IsWhole) (a5 : Memref sig .tc .vmem S1024x1024 .f32) (h5 : a5.IsWhole) (a6 : Memref sig .tc .vmem S1024x512 .bf16) (h6 : a6.IsWhole) (hc0 : cond0_0 i) (hc1 : cond0_1 i) (hc2 : ¬cond0_2 i)
    (x0 : Vec F S1024x512 .f32) (x1 : Vec F S512x1024 .bf16) (x2 : Vec F S1024x1024 .f32) :
    sout0_A_0 c i a2 h2 a3 h3 a4 h4 a5 h5 a6 h6 hc0 hc1 hc2 x0 x1 x2 = k0_pay1 x0 := by
  unfold sout0_A_0
  rw [View.read_writes_eq_canon _ _ _ (scover0_A_0 c i a2 h2 a3 h3 a4 h4 a5 h5 a6 h6 hc0 hc1 hc2 x0 x1 x2)]
  unfold kernelRun0_A
  dsimp only
  sl_unfold_words
  rw [View.canon_unit_zero (S := S1024x512) hz]
  simp only [View.readAt_eq_ld, h2.read_unread, View.ld_unit_zero (S := S1024x512) hz]

/-- and the tile is their product with the weights' block, added to the tokens' block; -/
theorem out_A (c : Dev nD) (i : grid0.Coords) (a2 : Memref sig .tc .vmem S1024x512 .f32) (h2 : a2.IsWhole) (a3 : Memref sig .tc .vmem S512x1024 .bf16) (h3 : a3.IsWhole) (a4 : Memref sig .tc .vmem S1024x1024 .f32) (h4 : a4.IsWhole) (a5 : Memref sig .tc .vmem S1024x1024 .f32) (h5 : a5.IsWhole) (a6 : Memref sig .tc .vmem S1024x512 .bf16) (h6 : a6.IsWhole) (hc0 : cond0_0 i) (hc1 : cond0_1 i) (hc2 : ¬cond0_2 i)
    (x0 : Vec F S1024x512 .f32) (x1 : Vec F S512x1024 .bf16) (x2 : Vec F S1024x1024 .f32) :
    out0_A_3 c i a2 h2 a3 h3 a4 h4 a5 h5 a6 h6 hc0 hc1 hc2 x0 x1 x2 = k0_pay2 (k0_pay1 x0) x1 x2 := by
  unfold out0_A_3
  rw [View.read_writes_eq_canon _ _ _ (cover0_A_3 c i a2 h2 a3 h3 a4 h4 a5 h5 a6 h6 hc0 hc1 hc2 x0 x1 x2)]
  unfold kernelRun0_A
  dsimp only
  sl_unfold_words
  rw [View.canon_unit_zero (S := S1024x1024) hz, View.readCov_unit_zero (S := S1024x512) _ hz]
  simp only [View.readAt_eq_ld, h2.read_unread, h3.read_unread, h4.read_unread, View.ld_unit_zero (S := S1024x512) hz, View.ld_unit_zero (S := S512x1024) hz, View.ld_unit_zero (S := S1024x1024) hz]

/-- at the row's other tile it is the same with what the scratch holds. -/
theorem out_B (c : Dev nD) (i : grid0.Coords) (a2 : Memref sig .tc .vmem S1024x512 .f32) (h2 : a2.IsWhole) (a3 : Memref sig .tc .vmem S512x1024 .bf16) (h3 : a3.IsWhole) (a4 : Memref sig .tc .vmem S1024x1024 .f32) (h4 : a4.IsWhole) (a5 : Memref sig .tc .vmem S1024x1024 .f32) (h5 : a5.IsWhole) (a6 : Memref sig .tc .vmem S1024x512 .bf16) (h6 : a6.IsWhole) (hc0 : cond0_0 i) (hc1 : ¬cond0_1 i) (hc2 : ¬cond0_2 i)
    (x0 : Vec F S1024x512 .f32) (x1 : Vec F S512x1024 .bf16) (x2 : Vec F S1024x1024 .f32) (xs : Vec F S1024x512 .bf16) :
    out0_B_3 c i a2 h2 a3 h3 a4 h4 a5 h5 a6 h6 hc0 hc1 hc2 x0 x1 x2 xs = k0_pay2 xs x1 x2 := by
  unfold out0_B_3
  rw [View.read_writes_eq_canon _ _ _ (cover0_B_3 c i a2 h2 a3 h3 a4 h4 a5 h5 a6 h6 hc0 hc1 hc2 x0 x1 x2 xs)]
  unfold kernelRun0_B
  dsimp only
  sl_unfold_words
  rw [View.canon_unit_zero (S := S1024x1024) hz]
  simp only [View.readAt_eq_ld, h6.read_unread, h3.read_unread, h4.read_unread, View.ld_unit_zero (S := S1024x512) hz, View.ld_unit_zero (S := S1024x1024) hz, View.ld_unit_zero (S := S512x1024) hz]

end

/-! ## Read at one place -/

theorem pay1_apply (x : Vec Ideal S1024x512 .f32) (r : Fin 1024) (k : Fin 512) :
    (k0_pay1 (F := Ideal) x (ix2 r k) : EReal) = x (ix2 r k) := by
  pointwise [k0_pay1]
  try rfl

theorem pay2_apply (a : Vec Ideal S1024x512 .bf16) (w : Vec Ideal S512x1024 .bf16) (b : Vec Ideal S1024x1024 .f32) (r s : Fin 1024) :
    (k0_pay2 (F := Ideal) a w b (ix2 r s) : EReal) = b (ix2 r s) + ∑ k, a (ix2 r k) * w (ix2 k s) := by
  pointwise [k0_pay2]
  try rfl

/-! ## The blocks -/

variable (m : (ℓ : Loc nD τ sig) → Buf (Elt Ideal) ℓ)

/-- The windows' places: one row of tiles; weights, tokens and result by column of tiles, the result below the 8192 rows of
    the prompt group. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 8 ∧ win0_3.index t (1 : Fin 2) = t.val :=
  (by decide +kernel : ∀ t : Fin grid0.N, _)

/-- The tokens' array in the call is the argument with batch and positions as one axis; -/
theorem V_main_v0 (c : Dev nD) (y : S1024x2048.Idx) (j : S128x8x2048.Idx) (h : (j 0).val * 8 + (j 1).val = (y 0).val) (h2 : (j 2).val = (y 1).val) :
    V m c main_v0 y = m ((c : Thread nD τ).loc main_arg2) j := by
  have hv : V m c main_v0 = shapeCast S1024x2048 (m ((c : Thread nD τ).loc main_arg2)) shapeCasts_S128x8x2048_S1024x2048 := by
    show StableHlo.after hostOps0 _ _ = _
    after_results
    rfl
  rw [hv]
  refine shapeCast_apply _ shapeCasts_S128x8x2048_S1024x2048 y j ?_
  rewrite [Shape.rowMajor_val_three, Shape.rowMajor_val_two]
  show ((j 0).val * 8 + (j 1).val) * 2048 + (j 2).val = (y 0).val * 2048 + (y 1).val
  rw [h, h2]

/-- so is the attention's; -/
theorem V_main_v3 (c : Dev nD) (y : S1024x512.Idx) (j : S128x8x512.Idx) (h : (j 0).val * 8 + (j 1).val = (y 0).val) (h2 : (j 2).val = (y 1).val) :
    V m c main_v3 y = m ((c : Thread nD τ).loc main_arg0) j := by
  have hv : V m c main_v3 = shapeCast S1024x512 (m ((c : Thread nD τ).loc main_arg0)) shapeCasts_S128x8x512_S1024x512 := by
    show StableHlo.after hostOps0 _ _ = _
    after_results
    rfl
  rw [hv]
  refine shapeCast_apply _ shapeCasts_S128x8x512_S1024x512 y j ?_
  rewrite [Shape.rowMajor_val_three, Shape.rowMajor_val_two]
  show ((j 0).val * 8 + (j 1).val) * 512 + (j 2).val = (y 0).val * 512 + (y 1).val
  rw [h, h2]

/-- the weights' array is the argument without its axis of one, narrowed: at the ideal instance its numbers; -/
theorem V_main_v2 (c : Dev nD) (y : S512x2048.Idx) (j : S1x512x2048.Idx) (h1 : (j 1).val = (y 0).val) (h2 : (j 2).val = (y 1).val) :
    (V m c main_v2 y : EReal) = m ((c : Thread nD τ).loc main_arg1) j := by
  have hv : V m c main_v2 = truncf .bf16 (shapeCast S512x2048 (m ((c : Thread nD τ).loc main_arg1)) shapeCasts_S1x512x2048_S512x2048 : FVec Ideal S512x2048 .f32) bitsLt_bf16_f32 := by
    show StableHlo.after hostOps0 _ _ = _
    after_results
    rfl
  rw [hv]
  show shapeCast S512x2048 (m ((c : Thread nD τ).loc main_arg1)) shapeCasts_S1x512x2048_S512x2048 y = _
  refine shapeCast_apply _ shapeCasts_S1x512x2048_S512x2048 y j ?_
  rewrite [Shape.rowMajor_val_three, Shape.rowMajor_val_two]
  have h0 : (j 0).val < 1 := (j 0).isLt
  show ((j 0).val * 512 + (j 1).val) * 2048 + (j 2).val = (y 0).val * 2048 + (y 1).val
  rw [h1, h2]; omega

/-- and the result's array starts as the array of all tokens. -/
theorem V_main_v4 (c : Dev nD) : V m c main_v4 = m ((c : Thread nD τ).loc main_arg3) := by
  show StableHlo.after hostOps0 _ _ = _
  after_results
  rfl

/-- The arguments at a row and a column. -/
def att (c : Dev nD) (r : Fin 1024) (k : Fin 512) : EReal :=
  m ((c : Thread nD τ).loc main_arg0) (fun | ⟨0, _⟩ => (⟨r.val / 8, by omega⟩ : Fin 128) | ⟨1, _⟩ => (⟨r.val % 8, by omega⟩ : Fin 8) | ⟨2, _⟩ => k)
def wt (c : Dev nD) (k : Fin 512) (s : Fin 2048) : EReal :=
  m ((c : Thread nD τ).loc main_arg1) (fun | ⟨0, _⟩ => (0 : Fin 1) | ⟨1, _⟩ => k | ⟨2, _⟩ => s)
def tok (c : Dev nD) (r : Fin 1024) (s : Fin 2048) : EReal :=
  m ((c : Thread nD τ).loc main_arg2) (fun | ⟨0, _⟩ => (⟨r.val / 8, by omega⟩ : Fin 128) | ⟨1, _⟩ => (⟨r.val % 8, by omega⟩ : Fin 8) | ⟨2, _⟩ => s)

theorem iblk0_apply (c : Dev nD) (t : Fin cfg0.N) (r : Fin 1024) (k : Fin 512) :
    ((iblk m c 0 t : Vec Ideal S1024x512 .f32) (ix2 r k) : EReal) = att m c r k := by
  obtain ⟨e0, e1, -⟩ := idx_facts t
  unfold iblk
  rw [View.read_apply]
  refine V_main_v3 m c _ _ ?_ ?_
  · show r.val / 8 * 8 + r.val % 8 = win0_0.index t 0 * 1024 + 1 * r.val; rw [e0]; omega
  · show k.val = win0_0.index t 1 * 512 + 1 * k.val; rw [e1]; omega

theorem iblk1_apply (c : Dev nD) (t : Fin cfg0.N) (k : Fin 512) (s : Fin 1024) (S : Fin 2048) (hS : S.val = t.val * 1024 + s.val) :
    ((iblk m c 1 t : Vec Ideal S512x1024 .bf16) (ix2 k s) : EReal) = wt m c k S := by
  obtain ⟨-, -, e0, e1, -⟩ := idx_facts t
  unfold iblk
  rw [View.read_apply]
  refine V_main_v2 m c _ _ ?_ ?_
  · show k.val = win0_1.index t 0 * 512 + 1 * k.val; rw [e0]; omega
  · show S.val = win0_1.index t 1 * 1024 + 1 * s.val; rw [e1, hS]; omega

theorem iblk2_apply (c : Dev nD) (t : Fin cfg0.N) (r s : Fin 1024) (S : Fin 2048) (hS : S.val = t.val * 1024 + s.val) :
    ((iblk m c 2 t : Vec Ideal S1024x1024 .f32) (ix2 r s) : EReal) = tok m c r S := by
  obtain ⟨-, -, -, -, e0, e1, -⟩ := idx_facts t
  unfold iblk
  rw [View.read_apply]
  refine V_main_v0 m c _ _ ?_ ?_
  · show r.val / 8 * 8 + r.val % 8 = win0_2.index t 0 * 1024 + 1 * r.val; rw [e0]; omega
  · show S.val = win0_2.index t 1 * 1024 + 1 * s.val; rw [e1, hS]; omega

/-! ## The tiles -/

/-- After the first tile the scratch holds the attention. -/
theorem scratch_apply (c : Dev nD) (t : Fin cfg0.N) (h : t.val % 2 = 0) (r : Fin 1024) (k : Fin 512) :
    ((outsAt0 m c t.val t.isLt).2 (ix2 r k) : EReal) = att m c r k := by
  rw [outsAt0_A m c t h]; dsimp only; rw [sout_A, pay1_apply]
  exact iblk0_apply m c t r k

/-- A tile: the tokens and the row times the weights' column. -/
theorem tile_apply (c : Dev nD) (t : Fin cfg0.N) (r s : Fin 1024) (S : Fin 2048) (hS : S.val = t.val * 1024 + s.val) :
    ((outsAt0 m c t.val t.isLt).1 (ix2 r s) : EReal) = tok m c r S + ∑ k, att m c r k * wt m c k S := by
  have ht : t.val < 2 := Nat.lt_of_lt_of_eq t.isLt N_0
  by_cases h : t.val % 2 = 0
  · rw [outsAt0_A m c t h]; dsimp only; rw [out_A, pay2_apply, iblk2_apply m c t r s S hS]
    refine congrArg _ (Finset.sum_congr rfl fun k _ => ?_)
    rw [pay1_apply, iblk1_apply m c t k s S hS, iblk0_apply m c t r k]
  · rw [outsAt0_B m c t h]; dsimp only; rw [out_B, pay2_apply, iblk2_apply m c t r s S hS]
    refine congrArg _ (Finset.sum_congr rfl fun k _ => ?_)
    rw [iblk1_apply m c t k s S hS]
    congr 1
    exact scratch_apply m c ⟨t.val - 1, Nat.lt_of_le_of_lt (Nat.sub_le _ _) t.isLt⟩ (by dsimp only; omega) r k

/-! ## The reference at one place, and the array -/

section

open Cert.Reference10Ideal.Read

/-- The reference on the group's rows: the same, -/
theorem ref_apply (c : Dev nD) (R : Fin 1024) (S : Fin 2048) (i : S9216x2048.Idx) (h0 : (i 0).val = 8192 + R.val) (h1 : (i 1).val = S.val) :
    (val_main_v5 (F := Ideal) (m ((c : Thread nD τ).loc main_arg0)) (m ((c : Thread nD τ).loc main_arg1)) (m ((c : Thread nD τ).loc main_arg2)) (m ((c : Thread nD τ).loc main_arg3)) i : EReal)
      = tok m c R S + ∑ k, att m c R k * wt m c k S := by
  have hcat : val_main_v5 (F := Ideal) (m ((c : Thread nD τ).loc main_arg0)) (m ((c : Thread nD τ).loc main_arg1)) (m ((c : Thread nD τ).loc main_arg2)) (m ((c : Thread nD τ).loc main_arg3)) i
      = val_main_v4 (F := Ideal) (m ((c : Thread nD τ).loc main_arg0)) (m ((c : Thread nD τ).loc main_arg1)) (m ((c : Thread nD τ).loc main_arg2)) (ix2 R S) := by
    unfold val_main_v5
    refine concatenate_pair_apply_right (t := Cert.Reference10Ideal.S9216x2048) (s₁ := Cert.Reference10Ideal.S8192x2048) (s₂ := Cert.Reference10Ideal.S1024x2048) 0 _ _ _ _ rfl rfl (ix2 R S) (fun b hb => ?_) ?_
    · match b with
      | ⟨0, _⟩ => exact absurd rfl hb
      | ⟨1, _⟩ => exact h1.symm
    · show R.val + 8192 = (i 0).val
      omega
  rw [hcat]
  have hR := R.isLt
  have hS := S.isLt
  rw [val_main_v4_apply, val_main_v3_apply, val_main_v2_apply]
  have ht : (m ((c : Thread nD τ).loc main_arg2) (idx_main_v4 (ix2 R S)) : EReal) = tok m c R S := by
    refine congrArg _ ?_
    funext a
    apply Fin.ext
    match a with
    | ⟨0, _⟩ => show (R.val * 2048 + S.val) / 16384 = R.val / 8; omega
    | ⟨1, _⟩ => show (R.val * 2048 + S.val) / 2048 % 8 = R.val % 8; omega
    | ⟨2, _⟩ => show (R.val * 2048 + S.val) % 2048 = S.val; omega
  refine congrArg₂ (fun a b : EReal => a + b) ht (Finset.sum_congr rfl fun k _ => ?_)
  have hw : (val_main_v1 (F := Ideal) (m ((c : Thread nD τ).loc main_arg1)) (ridx_main_v2 (idx_main_v4 (ix2 R S)) k) : EReal) = wt m c k S := by
    rw [val_main_v1_apply]
    refine congrArg _ ?_
    funext a
    apply Fin.ext
    match a with
    | ⟨0, _⟩ => rfl
    | ⟨1, _⟩ => show (k.val * 2048 + (R.val * 2048 + S.val) % 2048) / 2048 % 512 = k.val; omega
    | ⟨2, _⟩ => show (k.val * 2048 + (R.val * 2048 + S.val) % 2048) % 2048 = S.val; omega
  have hx : (m ((c : Thread nD τ).loc main_arg0) (lidx_main_v2 (idx_main_v4 (ix2 R S)) k) : EReal) = att m c R k := by
    refine congrArg _ ?_
    funext a
    apply Fin.ext
    match a with
    | ⟨0, _⟩ => show (R.val * 2048 + S.val) / 16384 = R.val / 8; omega
    | ⟨1, _⟩ => show (R.val * 2048 + S.val) / 2048 % 8 = R.val % 8; omega
    | ⟨2, _⟩ => rfl
  rw [hw, hx]

/-- and above them the array of all tokens as it was. -/
theorem ref_head (c : Dev nD) (i : S9216x2048.Idx) (h0 : (i 0).val < 8192) :
    val_main_v5 (F := Ideal) (m ((c : Thread nD τ).loc main_arg0)) (m ((c : Thread nD τ).loc main_arg1)) (m ((c : Thread nD τ).loc main_arg2)) (m ((c : Thread nD τ).loc main_arg3)) i
      = m ((c : Thread nD τ).loc main_arg3) i := by
  have hcat : val_main_v5 (F := Ideal) (m ((c : Thread nD τ).loc main_arg0)) (m ((c : Thread nD τ).loc main_arg1)) (m ((c : Thread nD τ).loc main_arg2)) (m ((c : Thread nD τ).loc main_arg3)) i
      = val_main_v0 (F := Ideal) (m ((c : Thread nD τ).loc main_arg3)) (ix2 (⟨(i 0).val, h0⟩ : Fin 8192) (⟨(i 1).val, (i 1).isLt⟩ : Fin 2048)) := by
    unfold val_main_v5
    refine concatenate_pair_apply_left (t := Cert.Reference10Ideal.S9216x2048) (s₁ := Cert.Reference10Ideal.S8192x2048) (s₂ := Cert.Reference10Ideal.S1024x2048) 0 _ _ _ _ rfl (ix2 (⟨(i 0).val, h0⟩ : Fin 8192) (⟨(i 1).val, (i 1).isLt⟩ : Fin 2048)) (fun b => ?_)
    match b with
    | ⟨0, _⟩ => rfl
    | ⟨1, _⟩ => rfl
  rw [hcat, val_main_v0_apply]
  refine congrArg _ ?_
  funext a
  match a with
  | ⟨0, _⟩ => rfl
  | ⟨1, _⟩ => rfl

end

/-- A place is in a tile's block when its row and its column are. -/
theorem mem_tile (t : Fin cfg0.N) (i : S9216x2048.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v4).slice (win0_3.rect t)).set ↔ _
  rw [View.set_slice_whole, Rect.mem_set_unit]
  exact Iff.rfl

theorem flush_all : ∀ t : Fin cfg0.N, (cfg0.win 3).flush t = true :=
  (by decide +kernel : ∀ t : Fin grid0.N, win0_3.flush t = true)

/-- A tile's block of an array, read at a place of the tile. -/
theorem read_tile (A : (⟨S9216x2048, .f32⟩ : BufTy).Contents (Elt Ideal)) (t : Fin cfg0.N) (r s : Fin 1024) (i : S9216x2048.Idx)
    (h0 : (i 0).val = 8192 + r.val) (h1 : (i 1).val = t.val * 1024 + s.val) :
    ((cfg0.win 3).blk t).view.read (Elt Ideal) A (ix2 r s) = A i := by
  obtain ⟨-, -, -, -, -, -, e0, e1⟩ := idx_facts t
  rw [View.read_apply]
  refine congrArg A ?_
  funext a
  apply Fin.ext
  match a with
  | ⟨0, _⟩ => show win0_3.index t 0 * 1024 + 1 * r.val = (i 0).val; rw [e0]; omega
  | ⟨1, _⟩ => show win0_3.index t 1 * 1024 + 1 * s.val = (i 1).val; rw [e1]; omega

/-- The call's array after the run is the reference's. -/
theorem final_cross (c : Dev nD) : (dats m 0 c).arrAt 3 cfg0.N
    = Cert.Reference10Ideal.Read.val_main_v5 (F := Ideal) (m ((c : Thread nD τ).loc main_arg0)) (m ((c : Thread nD τ).loc main_arg1)) (m ((c : Thread nD τ).loc main_arg2)) (m ((c : Thread nD τ).loc main_arg3)) := by
  funext i
  have hi0 : (i 0).val < 9216 := (i 0).isLt
  have hi1 : (i 1).val < 2048 := (i 1).isLt
  by_cases h : (i 0).val < 8192
  · refine (Value.entry3 m c i fun t _ hm => ?_).trans ((congrFun (V_main_v4 m c) i).trans (ref_head m c i h).symm)
    have h8 : win0_3.index t (0 : Fin 2) * 1024 ≤ (i 0).val := ((mem_tile t i).mp hm 0).1
    obtain ⟨-, -, -, -, -, -, e0, -⟩ := idx_facts t
    rw [e0] at h8
    omega
  · have hlt : (i 1).val / 1024 < cfg0.N := Nat.lt_of_lt_of_eq (show (i 1).val / 1024 < 2 by omega) N_0.symm
    obtain ⟨t, ht⟩ : ∃ t : Fin cfg0.N, t.val = (i 1).val / 1024 := ⟨⟨_, hlt⟩, rfl⟩
    refine (read_tile ((dats m 0 c).arrAt 3 cfg0.N) t ⟨(i 0).val - 8192, by omega⟩ ⟨(i 1).val % 1024, by omega⟩ i
      (by show (i 0).val = 8192 + ((i 0).val - 8192); omega) (by show (i 1).val = t.val * 1024 + (i 1).val % 1024; rw [ht]; omega)).symm.trans
      ((congrFun (Value.blocks3 m c t (flush_all t)) _).trans ?_)
    refine Eq.trans ?_ (ref_apply m c ⟨(i 0).val - 8192, by omega⟩ ⟨(i 1).val, hi1⟩ i (by show (i 0).val = 8192 + ((i 0).val - 8192); omega) rfl).symm
    rw [Value.flushed3]
    exact tile_apply m c t _ _ _ (by show (i 1).val = t.val * 1024 + (i 1).val % 1024; rw [ht]; omega)

end Cert.Kernel10Ideal.Hand
-- ==== Proof.CrossOutput.lean ====
/- The output projection of the prompt group's cross-attention, added to the tokens: what a tile computes, and that the
   array of all tiles is the reference's. -/
module

public import proofs.«01_k».proof.Proof.Gen.Kernel9Ideal.Value
public import proofs.«01_k».proof.Proof.Gen.Reference9Ideal.Read
public import proofs.«01_k».proof.Defs
public import Idealize.ShloMosaic.Lib.Pointwise
public import Idealize.ShloMosaic.Lib.Pipeline.ValueKit.Geometry

@[expose] public section

set_option maxRecDepth 16384
set_option maxHeartbeats 1600000

noncomputable section

namespace Cert.Kernel9Ideal.Hand

open Cert.Kernel9Ideal Cert.Kernel9Ideal.Gen Idealize.ShloMosaic Idealize.ShloMosaic.TcCoe Idealize.SL.Sem
open Idealize.ShloMosaic.Pipeline (Dat)

/-! ## What a tile leaves -/

section

variable {F : FTy → Type} [FloatOps F]

theorem hz : (![0, 0] : Fin 2 → Nat) = fun _ => 0 := funext fun a => by fin_cases a <;> rfl

/-- At a row's first tile the scratch is filled with the attention's rows, -/
theorem sout_A (c : Dev nD) (i : grid0.Coords) (a2 : Memref sig .tc .vmem S1024x512 .f32) (h2 : a2.IsWhole) (a3 : Memref sig .tc .vmem S512x1024 .bf16) (h3 : a3.IsWhole) (a4 : Memref sig .tc .vmem S1024x1024 .f32) (h4 : a4.IsWhole) (a5 : Memref sig .tc .vmem S1024x1024 .f32) (h5 : a5.IsWhole) (a6 : Memref sig .tc .vmem S1024x512 .bf16) (h6 : a6.IsWhole) (hc0 : cond0_0 i) (hc1 : cond0_1 i) (hc2 : ¬cond0_2 i)
    (x0 : Vec F S1024x512 .f32) (x1 : Vec F S512x1024 .bf16) (x2 : Vec F S1024x1024 .f32) :
    sout0_A_0 c i a2 h2 a3 h3 a4 h4 a5 h5 a6 h6 hc0 hc1 hc2 x0 x1 x2 = k0_pay1 x0 := by
  unfold sout0_A_0
  rw [View.read_writes_eq_canon _ _ _ (scover0_A_0 c i a2 h2 a3 h3 a4 h4 a5 h5 a6 h6 hc0 hc1 hc2 x0 x1 x2)]
  unfold kernelRun0_A
  dsimp only
  sl_unfold_words
  rw [View.canon_unit_zero (S := S1024x512) hz]
  simp only [View.readAt_eq_ld, h2.read_unread, View.ld_unit_zero (S := S1024x512) hz]

/-- and the tile is their product with the weights' block, added to the tokens' block; -/
theorem out_A (c : Dev nD) (i : grid0.Coords) (a2 : Memref sig .tc .vmem S1024x512 .f32) (h2 : a2.IsWhole) (a3 : Memref sig .tc .vmem S512x1024 .bf16) (h3 : a3.IsWhole) (a4 : Memref sig .tc .vmem S1024x1024 .f32) (h4 : a4.IsWhole) (a5 : Memref sig .tc .vmem S1024x1024 .f32) (h5 : a5.IsWhole) (a6 : Memref sig .tc .vmem S1024x512 .bf16) (h6 : a6.IsWhole) (hc0 : cond0_0 i) (hc1 : cond0_1 i) (hc2 : ¬cond0_2 i)
    (x0 : Vec F S1024x512 .f32) (x1 : Vec F S512x1024 .bf16) (x2 : Vec F S1024x1024 .f32) :
    out0_A_3 c i a2 h2 a3 h3 a4 h4 a5 h5 a6 h6 hc0 hc1 hc2 x0 x1 x2 = k0_pay2 (k0_pay1 x0) x1 x2 := by
  unfold out0_A_3
  rw [View.read_writes_eq_canon _ _ _ (cover0_A_3 c i a2 h2 a3 h3 a4 h4 a5 h5 a6 h6 hc0 hc1 hc2 x0 x1 x2)]
  unfold kernelRun0_A
  dsimp only
  sl_unfold_words
  rw [View.canon_unit_zero (S := S1024x1024) hz, View.readCov_unit_zero (S := S1024x512) _ hz]
  simp only [View.readAt_eq_ld, h2.read_unread, h3.read_unread, h4.read_unread, View.ld_unit_zero (S := S1024x512) hz, View.ld_unit_zero (S := S512x1024) hz, View.ld_unit_zero (S := S1024x1024) hz]

/-- at the row's other tile it is the same with what the scratch holds; -/
theorem out_B (c : Dev nD) (i : grid0.Coords) (a2 : Memref sig .tc .vmem S1024x512 .f32) (h2 : a2.IsWhole) (a3 : Memref sig .tc .vmem S512x1024 .bf16) (h3 : a3.IsWhole) (a4 : Memref sig .tc .vmem S1024x1024 .f32) (h4 : a4.IsWhole) (a5 : Memref sig .tc .vmem S1024x1024 .f32) (h5 : a5.IsWhole) (a6 : Memref sig .tc .vmem S1024x512 .bf16) (h6 : a6.IsWhole) (hc0 : cond0_0 i) (hc1 : ¬cond0_1 i) (hc2 : ¬cond0_2 i)
    (x0 : Vec F S1024x512 .f32) (x1 : Vec F S512x1024 .bf16) (x2 : Vec F S1024x1024 .f32) (xs : Vec F S1024x512 .bf16) :
    out0_B_3 c i a2 h2 a3 h3 a4 h4 a5 h5 a6 h6 hc0 hc1 hc2 x0 x1 x2 xs = k0_pay2 xs x1 x2 := by
  unfold out0_B_3
  rw [View.read_writes_eq_canon _ _ _ (cover0_B_3 c i a2 h2 a3 h3 a4 h4 a5 h5 a6 h6 hc0 hc1 hc2 x0 x1 x2 xs)]
  unfold kernelRun0_B
  dsimp only
  sl_unfold_words
  rw [View.canon_unit_zero (S := S1024x1024) hz]
  simp only [View.readAt_eq_ld, h6.read_unread, h3.read_unread, h4.read_unread, View.ld_unit_zero (S := S1024x512) hz, View.ld_unit_zero (S := S1024x1024) hz, View.ld_unit_zero (S := S512x1024) hz]

/-- and below the group's rows it is zeros. -/
theorem out_C (c : Dev nD) (i : grid0.Coords) (a2 : Memref sig .tc .vmem S1024x512 .f32) (h2 : a2.IsWhole) (a3 : Memref sig .tc .vmem S512x1024 .bf16) (h3 : a3.IsWhole) (a4 : Memref sig .tc .vmem S1024x1024 .f32) (h4 : a4.IsWhole) (a5 : Memref sig .tc .vmem S1024x1024 .f32) (h5 : a5.IsWhole) (a6 : Memref sig .tc .vmem S1024x512 .bf16) (h6 : a6.IsWhole) (hc0 : ¬cond0_0 i) (hc2 : cond0_2 i)
    (x0 : Vec F S1024x512 .f32) (x1 : Vec F S512x1024 .bf16) (x2 : Vec F S1024x1024 .f32) (xs : Vec F S1024x512 .bf16) :
    out0_C_3 c i a2 h2 a3 h3 a4 h4 a5 h5 a6 h6 hc0 hc2 x0 x1 x2 xs = k0_pay3 := by
  unfold out0_C_3
  rw [View.read_writes_eq_canon _ _ _ (cover0_C_3 c i a2 h2 a3 h3 a4 h4 a5 h5 a6 h6 hc0 hc2 x0 x1 x2 xs)]
  unfold kernelRun0_C
  dsimp only
  sl_unfold_words
  rw [View.canon_unit_zero (S := S1024x1024) hz]

end

/-! ## Read at one place -/

theorem pay1_apply (x : Vec Ideal S1024x512 .f32) (r : Fin 1024) (k : Fin 512) :
    (k0_pay1 (F := Ideal) x (ix2 r k) : EReal) = x (ix2 r k) := by
  pointwise [k0_pay1]
  try rfl

theorem pay2_apply (a : Vec Ideal S1024x512 .bf16) (w : Vec Ideal S512x1024 .bf16) (b : Vec Ideal S1024x1024 .f32) (r s : Fin 1024) :
    (k0_pay2 (F := Ideal) a w b (ix2 r s) : EReal) = b (ix2 r s) + ∑ k, a (ix2 r k) * w (ix2 k s) := by
  pointwise [k0_pay2]
  try rfl

theorem pay3_apply (r s : Fin 1024) : (k0_pay3 (F := Ideal) (ix2 r s) : EReal) = 0 := by
  pointwise [k0_pay3]
  try rfl

/-! ## The blocks -/

variable (m : (ℓ : Loc nD τ sig) → Buf (Elt Ideal) ℓ)

/-- The windows' places: attention by row of tiles, weights by column of tiles, tokens and result by both; below the group's
    rows the attention's and the tokens' windows stay at the last of them. -/
theorem idx_facts : ∀ t : Fin cfg0.N, win0_0.index t (0 : Fin 2) = min (t.val / 2) 7 ∧ win0_0.index t (1 : Fin 2) = 0
    ∧ win0_1.index t (0 : Fin 2) = 0 ∧ win0_1.index t (1 : Fin 2) = t.val % 2
    ∧ win0_2.index t (0 : Fin 2) = min (t.val / 2) 7 ∧ win0_2.index t (1 : Fin 2) = t.val % 2
    ∧ win0_3.index t (0 : Fin 2) = t.val / 2 ∧ win0_3.index t (1 : Fin 2) = t.val % 2 :=
  (by decide +kernel : ∀ t : Fin grid0.N, _)

/-- The tokens' array in the call is the argument without its axis of one; -/
theorem V_main_v0 (c : Dev nD) (y : S8192x2048.Idx) (j : S1x8192x2048.Idx) (h1 : (j 1).val = (y 0).val) (h2 : (j 2).val = (y 1).val) :
    V m c main_v0 y = m ((c : Thread nD τ).loc main_arg2) j := by
  have hv : V m c main_v0 = shapeCast S8192x2048 (m ((c : Thread nD τ).loc main_arg2)) shapeCasts_S1x8192x2048_S8192x2048 := by
    show StableHlo.after hostOps0 _ _ = _
    after_results
    rfl
  rw [hv]
  refine shapeCast_apply _ shapeCasts_S1x8192x2048_S8192x2048 y j ?_
  rewrite [Shape.rowMajor_val_three, Shape.rowMajor_val_two]
  have h0 : (j 0).val < 1 := (j 0).isLt
  show ((j 0).val * 8192 + (j 1).val) * 2048 + (j 2).val = (y 0).val * 2048 + (y 1).val
  rw [h1, h2]; omega

/-- so is the attention's; -/
theorem V_main_v3 (c : Dev nD) (y : S8192x512.Idx) (j : S1x8192x512.Idx) (h1 : (j 1).val = (y 0).val) (h2 : (j 2).val = (y 1).val) :
    V m c main_v3 y = m ((c : Thread nD τ).loc main_arg0) j := by
  have hv : V m c main_v3 = shapeCast S8192x512 (m ((c : Thread nD τ).loc main_arg0)) shapeCasts_S1x8192x512_S8192x512 := by
    show StableHlo.after hostOps0 _ _ = _
    after_results
    rfl
  rw [hv]
  refine shapeCast_apply _ shapeCasts_S1x8192x512_S8192x512 y j ?_
  rewrite [Shape.rowMajor_val_three, Shape.rowMajor_val_two]
  have h0 : (j 0).val < 1 := (j 0).isLt
  show ((j 0).val * 8192 + (j 1).val) * 512 + (j 2).val = (y 0).val * 512 + (y 1).val
  rw [h1, h2]; omega

/-- the weights' array is the argument without its axis of one, narrowed: at the ideal instance its numbers. -/
theorem V_main_v2 (c : Dev nD) (y : S512x2048.Idx) (j : S1x512x2048.Idx) (h1 : (j 1).val = (y 0).val) (h2 : (j 2).val = (y 1).val) :
    (V m c main_v2 y : EReal) = m ((c : Thread nD τ).loc main_arg1) j := by
  have hv : V m c main_v2 = truncf .bf16 (shapeCast S512x2048 (m ((c : Thread nD τ).loc main_arg1)) shapeCasts_S1x512x2048_S512x2048 : FVec Ideal S512x2048 .f32) bitsLt_bf16_f32 := by
    show StableHlo.after hostOps0 _ _ = _
    after_results
    rfl
  rw [hv]
  show shapeCast S512x2048 (m ((c : Thread nD τ).loc main_arg1)) shapeCasts_S1x512x2048_S512x2048 y = _
  refine shapeCast_apply _ shapeCasts_S1x512x2048_S512x2048 y j ?_
  rewrite [Shape.rowMajor_val_three, Shape.rowMajor_val_two]
  have h0 : (j 0).val < 1 := (j 0).isLt
  show ((j 0).val * 512 + (j 1).val) * 2048 + (j 2).val = (y 0).val * 2048 + (y 1).val
  rw [h1, h2]; omega

/-- The arguments at a row and a column. -/
def att (c : Dev nD) (r : Fin 8192) (k : Fin 512) : EReal :=
  m ((c : Thread nD τ).loc main_arg0) (fun | ⟨0, _⟩ => (0 : Fin 1) | ⟨1, _⟩ => r | ⟨2, _⟩ => k)
def wt (c : Dev nD) (k : Fin 512) (s : Fin 2048) : EReal :=
  m ((c : Thread nD τ).loc main_arg1) (fun | ⟨0, _⟩ => (0 : Fin 1) | ⟨1, _⟩ => k | ⟨2, _⟩ => s)
def tok (c : Dev nD) (r : Fin 8192) (s : Fin 2048) : EReal :=
  m ((c : Thread nD τ).loc main_arg2) (fun | ⟨0, _⟩ => (0 : Fin 1) | ⟨1, _⟩ => r | ⟨2, _⟩ => s)

theorem iblk0_apply (c : Dev nD) (t : Fin cfg0.N) (ht : t.val < 16) (r : Fin 1024) (k : Fin 512) (R : Fin 8192) (hR : R.val = t.val / 2 * 1024 + r.val) :
    ((iblk m c 0 t : Vec Ideal S1024x512 .f32) (ix2 r k) : EReal) = att m c R k := by
  obtain ⟨e0, e1, -⟩ := idx_facts t
  unfold iblk
  rw [View.read_apply]
  refine V_main_v3 m c _ _ ?_ ?_
  · show R.val = win0_0.index t 0 * 1024 + 1 * r.val; rw [e0, hR]; omega
  · show k.val = win0_0.index t 1 * 512 + 1 * k.val; rw [e1]; omega

theorem iblk1_apply (c : Dev nD) (t : Fin cfg0.N) (k : Fin 512) (s : Fin 1024) (S : Fin 2048) (hS : S.val = t.val % 2 * 1024 + s.val) :
    ((iblk m c 1 t : Vec Ideal S512x1024 .bf16) (ix2 k s) : EReal) = wt m c k S := by
  obtain ⟨-, -, e0, e1, -⟩ := idx_facts t
  unfold iblk
  rw [View.read_apply]
  refine V_main_v2 m c _ _ ?_ ?_
  · show k.val = win0_1.index t 0 * 512 + 1 * k.val; rw [e0]; omega
  · show S.val = win0_1.index t 1 * 1024 + 1 * s.val; rw [e1, hS]; omega

theorem iblk2_apply (c : Dev nD) (t : Fin cfg0.N) (ht : t.val < 16) (r s : Fin 1024) (R : Fin 8192) (S : Fin 2048) (hR : R.val = t.val / 2 * 1024 + r.val) (hS : S.val = t.val % 2 * 1024 + s.val) :
    ((iblk m c 2 t : Vec Ideal S1024x1024 .f32) (ix2 r s) : EReal) = tok m c R S := by
  obtain ⟨-, -, -, -, e0, e1, -⟩ := idx_facts t
  unfold iblk
  rw [View.read_apply]
  refine V_main_v0 m c _ _ ?_ ?_
  · show R.val = win0_2.index t 0 * 1024 + 1 * r.val; rw [e0, hR]; omega
  · show S.val = win0_2.index t 1 * 1024 + 1 * s.val; rw [e1, hS]; omega

/-! ## The tiles -/

/-- After a row's first tile the scratch holds the row's attention. -/
theorem scratch_apply (c : Dev nD) (t : Fin cfg0.N) (ht : t.val < 16) (h : t.val % 2 = 0) (r : Fin 1024) (k : Fin 512) (R : Fin 8192) (hR : R.val = t.val / 2 * 1024 + r.val) :
    ((outsAt0 m c t.val t.isLt).2 (ix2 r k) : EReal) = att m c R k := by
  rw [outsAt0_A m c t ht h (by omega)]; dsimp only; rw [sout_A, pay1_apply]
  exact iblk0_apply m c t ht r k R hR

/-- A tile of the group's rows: the tokens and the row times the weights' column. -/
theorem tile_apply (c : Dev nD) (t : Fin cfg0.N) (ht : t.val < 16) (r s : Fin 1024) (R : Fin 8192) (S : Fin 2048)
    (hR : R.val = t.val / 2 * 1024 + r.val) (hS : S.val = t.val % 2 * 1024 + s.val) :
    ((outsAt0 m c t.val t.isLt).1 (ix2 r s) : EReal) = tok m c R S + ∑ k, att m c R k * wt m c k S := by
  by_cases h : t.val % 2 = 0
  · rw [outsAt0_A m c t ht h (by omega)]; dsimp only; rw [out_A, pay2_apply, iblk2_apply m c t ht r s R S hR hS]
    refine congrArg _ (Finset.sum_congr rfl fun k _ => ?_)
    rw [pay1_apply, iblk1_apply m c t k s S hS, iblk0_apply m c t ht r k R hR]
  · rw [outsAt0_B m c t ht h (by omega)]; dsimp only; rw [out_B, pay2_apply, iblk2_apply m c t ht r s R S hR hS]
    refine congrArg _ (Finset.sum_congr rfl fun k _ => ?_)
    rw [iblk1_apply m c t k s S hS]
    congr 1
    exact scratch_apply m c ⟨t.val - 1, Nat.lt_of_le_of_lt (Nat.sub_le _ _) t.isLt⟩ (by dsimp only; omega) (by dsimp only; omega) r k R (by dsimp only; rw [hR]; omega)

/-- A tile below them: zeros. -/
theorem tail_apply (c : Dev nD) (t : Fin cfg0.N) (ht : ¬t.val < 16) (r s : Fin 1024) :
    ((outsAt0 m c t.val t.isLt).1 (ix2 r s) : EReal) = 0 := by
  rw [outsAt0_C m c t ht (by omega)]; dsimp only; rw [out_C, pay3_apply]

/-! ## The reference at one place, and the array -/

section

open Cert.Reference9Ideal.Read

/-- The reference on the group's rows: the same, -/
theorem ref_apply (c : Dev nD) (R : Fin 8192) (S : Fin 2048) (i : S9216x2048.Idx) (h0 : (i 0).val = R.val) (h1 : (i 1).val = S.val) :
    (val_main_v7 (F := Ideal) (m ((c : Thread nD τ).loc main_arg0)) (m ((c : Thread nD τ).loc main_arg1)) (m ((c : Thread nD τ).loc main_arg2)) i : EReal)
      = tok m c R S + ∑ k, att m c R k * wt m c k S := by
  have hcat : val_main_v7 (F := Ideal) (m ((c : Thread nD τ).loc main_arg0)) (m ((c : Thread nD τ).loc main_arg1)) (m ((c : Thread nD τ).loc main_arg2)) i
      = val_main_v4 (F := Ideal) (m ((c : Thread nD τ).loc main_arg0)) (m ((c : Thread nD τ).loc main_arg1)) (m ((c : Thread nD τ).loc main_arg2)) (ix2 R S) := by
    unfold val_main_v7
    refine concatenate_pair_apply_left (t := Cert.Reference9Ideal.S9216x2048) (s₁ := Cert.Reference9Ideal.S8192x2048) (s₂ := Cert.Reference9Ideal.S1024x2048) 0 _ _ _ _ rfl (ix2 R S) (fun b => ?_)
    match b with
    | ⟨0, _⟩ => exact h0.symm
    | ⟨1, _⟩ => exact h1.symm
  rw [hcat]
  have hR := R.isLt
  have hS := S.isLt
  have ht : (val_main_v0 (F := Ideal) (m ((c : Thread nD τ).loc main_arg2)) (ix2 R S) : EReal) = tok m c R S := by
    rw [val_main_v0_apply]
    refine congrArg _ ?_
    funext a
    apply Fin.ext
    match a with
    | ⟨0, _⟩ => rfl
    | ⟨1, _⟩ => show (R.val * 2048 + S.val) / 2048 % 8192 = R.val; omega
    | ⟨2, _⟩ => show (R.val * 2048 + S.val) % 2048 = S.val; omega
  rw [val_main_v4_apply, ht, val_main_v3_apply]
  refine congrArg (tok m c R S + ·) (Finset.sum_congr rfl fun k _ => ?_)
  have hw : (val_main_v2 (F := Ideal) (m ((c : Thread nD τ).loc main_arg1)) (ridx_main_v3 (ix2 R S) k) : EReal) = wt m c k S := by
    rw [val_main_v2_apply]
    refine congrArg _ ?_
    funext a
    apply Fin.ext
    match a with
    | ⟨0, _⟩ => rfl
    | ⟨1, _⟩ => show (k.val * 2048 + S.val) / 2048 % 512 = k.val; omega
    | ⟨2, _⟩ => show (k.val * 2048 + S.val) % 2048 = S.val; omega
  have hx : (val_main_v1 (F := Ideal) (m ((c : Thread nD τ).loc main_arg0)) (lidx_main_v3 (ix2 R S) k) : EReal) = att m c R k := by
    rw [val_main_v1_apply]
    refine congrArg _ ?_
    funext a
    apply Fin.ext
    match a with
    | ⟨0, _⟩ => rfl
    | ⟨1, _⟩ => show (R.val * 512 + k.val) / 512 % 8192 = R.val; omega
    | ⟨2, _⟩ => show (R.val * 512 + k.val) % 512 = k.val; omega
  rw [hw, hx]

/-- and zeros below them. -/
theorem ref_tail (c : Dev nD) (i : S9216x2048.Idx) (h0 : ¬(i 0).val < 8192) :
    (val_main_v7 (F := Ideal) (m ((c : Thread nD τ).loc main_arg0)) (m ((c : Thread nD τ).loc main_arg1)) (m ((c : Thread nD τ).loc main_arg2)) i : EReal) = 0 := by
  have hi : (i 0).val < 9216 := (i 0).isLt
  have hcat : val_main_v7 (F := Ideal) (m ((c : Thread nD τ).loc main_arg0)) (m ((c : Thread nD τ).loc main_arg1)) (m ((c : Thread nD τ).loc main_arg2)) i
      = val_main_v6 (F := Ideal) (ix2 (⟨(i 0).val - 8192, by omega⟩ : Fin 1024) (⟨(i 1).val, (i 1).isLt⟩ : Fin 2048)) := by
    unfold val_main_v7
    refine concatenate_pair_apply_right (t := Cert.Reference9Ideal.S9216x2048) (s₁ := Cert.Reference9Ideal.S8192x2048) (s₂ := Cert.Reference9Ideal.S1024x2048) 0 _ _ _ _ rfl rfl (ix2 (⟨(i 0).val - 8192, by omega⟩ : Fin 1024) (⟨(i 1).val, (i 1).isLt⟩ : Fin 2048)) (fun b hb => ?_) ?_
    · match b with
      | ⟨0, _⟩ => exact absurd rfl hb
      | ⟨1, _⟩ => rfl
    · show (i 0).val - 8192 + 8192 = (i 0).val
      omega
  rw [hcat, val_main_v6_apply, val_main_cst_apply]
  exact Ideal.ofBits_zero _

end

/-- The call's array after the run is the reference's. -/
theorem final_cross (c : Dev nD) : (dats m 0 c).arrAt 3 cfg0.N
    = Cert.Reference9Ideal.Read.val_main_v7 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 18 := Nat.lt_of_lt_of_eq t.isLt N_0
  obtain ⟨-, -, -, -, -, -, e0, e1⟩ := idx_facts t
  blk_simp
  rw [after0_3]
  have hy0 : (y 0).val < 1024 := (y 0).isLt
  have hy1 : (y 1).val < 1024 := (y 1).isLt
  have hy : y = ix2 (⟨(y 0).val, hy0⟩ : Fin 1024) (⟨(y 1).val, hy1⟩ : Fin 1024) := by
    funext a
    match a with
    | ⟨0, _⟩ => rfl
    | ⟨1, _⟩ => rfl
  by_cases h : t.val < 16
  · refine Eq.trans ?_ (ref_apply m c ⟨t.val / 2 * 1024 + (y 0).val, by omega⟩ ⟨t.val % 2 * 1024 + (y 1).val, by omega⟩ _ ?_ ?_).symm
    · exact (congrArg _ hy).trans (tile_apply m c t h _ _ _ _ rfl rfl)
    · show win0_3.index t 0 * 1024 + 1 * (y 0).val = t.val / 2 * 1024 + (y 0).val; rw [e0]; omega
    · show win0_3.index t 1 * 1024 + 1 * (y 1).val = t.val % 2 * 1024 + (y 1).val; rw [e1]; omega
  · refine Eq.trans ?_ (ref_tail m c _ ?_).symm
    · exact (congrArg _ hy).trans (tail_apply m c t h _ _)
    · show ¬(win0_3.index t 0 * 1024 + 1 * (y 0).val < 8192); rw [e0]; omega

end Cert.Kernel9Ideal.Hand
-- ==== Proof.MemoryAttention.lean ====
/- The prompt group's attention to the memory: what a tile computes, and that the array of all tiles is the reference's. -/
module

public import proofs.«01_k».proof.Proof.Gen.Kernel8Ideal.Value
public import proofs.«01_k».proof.Proof.Gen.Reference8Ideal.Read
public import proofs.«01_k».proof.Defs
public import Idealize.ShloMosaic.Lib.Pointwise
public import Idealize.ShloMosaic.Lib.KernelVsHost
public import Idealize.ShloMosaic.Lib.WholeRead
public import Idealize.ShloMosaic.Lib.Pipeline.ValueKit.Geometry

@[expose] public section

set_option maxRecDepth 16384
set_option maxHeartbeats 1600000

noncomputable section

namespace Cert.Kernel8Ideal.Hand

open Cert.Kernel8Ideal Cert.Kernel8Ideal.Gen Idealize.ShloMosaic Idealize.ShloMosaic.TcCoe Idealize.SL.Sem
open Idealize.ShloMosaic.Pipeline (Dat)

/-! ## The attention of one head, as numbers -/

/-- A query's products with the memory's keys, scaled. -/
def logit (a : Fin 128 → EReal) (K : Fin 256 → Fin 128 → EReal) (j : Fin 256) : EReal :=
  (∑ d, a d * K j d) * Ideal.ofBits FTy.f32 0x3DB504F3#32

/-- The largest of a row. -/
def top (L : Fin 256 → EReal) : EReal := (Finset.univ : Finset (Fin 256)).fold max (Ideal.ofBits FTy.f32 0xFF800000#32) L

/-- A row's softmax. -/
def weight (L : Fin 256 → EReal) (j : Fin 256) : EReal :=
  Ideal.div (Ideal.exp (L j - top L)) (∑ i, Ideal.exp (L i - top L))

/-- The memory's values, weighted. -/
def attend (a : Fin 128 → EReal) (K : Fin 256 → Fin 128 → EReal) (V : Fin 256 → EReal) : EReal :=
  ∑ j, weight (logit a K) j * V j

theorem attend_congr {a b : Fin 128 → EReal} {K L : Fin 256 → Fin 128 → EReal} {V W : Fin 256 → EReal} (ha : ∀ d, a d = b d)
    (hK : ∀ j d, K j d = L j d) (hV : ∀ j, V j = W j) : attend a K V = attend b L W := by
  rw [show a = b from funext ha, show K = L from funext fun j => funext (hK j), show V = W from funext hV]

/-! ## The payloads at one place -/

theorem pay4_apply (v : Vec Ideal S2048x256 .f32) (cst : EReal) (R : Fin 2048) (j : Fin 256) :
    k0_pay4 (F := Ideal) v cst (ix2 R j) = weight (fun i => v (ix2 R i) * cst) j := by
  pointwise [k0_pay4]
  rfl

/-- The four heads' products are one above the other. -/
theorem pay3_apply (q0 q1 q2 q3 : Vec Ideal S1x512x128 .f32) (k0 k1 k2 k3 : Vec Ideal S1x256x128 .f32) (R : Fin 2048) (j : Fin 256) :
    k0_pay3 (F := Ideal) q0 k0 q1 k1 q2 k2 q3 k3 (ix2 R j)
      = if h : R.val < 512 then ∑ d, q0 (ix3 0 ⟨R.val, h⟩ d) * k0 (ix3 0 j d)
        else if h : R.val - 512 < 512 then ∑ d, q1 (ix3 0 ⟨R.val - 512, h⟩ d) * k1 (ix3 0 j d)
        else if h : R.val - 512 - 512 < 512 then ∑ d, q2 (ix3 0 ⟨R.val - 512 - 512, h⟩ d) * k2 (ix3 0 j d)
        else ∑ d, q3 (ix3 0 ⟨R.val - 512 - 512 - 512, by have := R.isLt; omega⟩ d) * k3 (ix3 0 j d) := by
  pointwise [k0_pay3]

theorem weight_at0 (q0 q1 q2 q3 : Vec Ideal S1x512x128 .f32) (k0 k1 k2 k3 : Vec Ideal S1x256x128 .f32) (r : Fin 512) (R : Fin 2048)
    (hR : R.val = 0 + r.val) (j : Fin 256) :
    k0_pay4 (F := Ideal) (k0_pay3 (F := Ideal) q0 k0 q1 k1 q2 k2 q3 k3) (Ideal.ofBits FTy.f32 0x3DB504F3#32) (ix2 R j)
      = weight (logit (fun d => q0 (ix3 0 r d)) (fun i d => k0 (ix3 0 i d))) j := by
  rw [pay4_apply]
  refine congrFun (congrArg weight (funext fun i => ?_)) j
  rw [pay3_apply]
  rw [dif_pos (by have := r.isLt; omega)]
  have e : (⟨R.val, by have := r.isLt; omega⟩ : Fin 512) = r := Fin.ext (by show R.val = r.val; omega)
  rw [e]
  rfl

theorem weight_at1 (q0 q1 q2 q3 : Vec Ideal S1x512x128 .f32) (k0 k1 k2 k3 : Vec Ideal S1x256x128 .f32) (r : Fin 512) (R : Fin 2048)
    (hR : R.val = 512 + r.val) (j : Fin 256) :
    k0_pay4 (F := Ideal) (k0_pay3 (F := Ideal) q0 k0 q1 k1 q2 k2 q3 k3) (Ideal.ofBits FTy.f32 0x3DB504F3#32) (ix2 R j)
      = weight (logit (fun d => q1 (ix3 0 r d)) (fun i d => k1 (ix3 0 i d))) j := by
  rw [pay4_apply]
  refine congrFun (congrArg weight (funext fun i => ?_)) j
  rw [pay3_apply]
  rw [dif_neg (by have := r.isLt; omega)]
  rw [dif_pos (by have := r.isLt; omega)]
  have e : (⟨R.val - 512, by have := r.isLt; omega⟩ : Fin 512) = r := Fin.ext (by show R.val - 512 = r.val; omega)
  rw [e]
  rfl

theorem weight_at2 (q0 q1 q2 q3 : Vec Ideal S1x512x128 .f32) (k0 k1 k2 k3 : Vec Ideal S1x256x128 .f32) (r : Fin 512) (R : Fin 2048)
    (hR : R.val = 1024 + r.val) (j : Fin 256) :
    k0_pay4 (F := Ideal) (k0_pay3 (F := Ideal) q0 k0 q1 k1 q2 k2 q3 k3) (Ideal.ofBits FTy.f32 0x3DB504F3#32) (ix2 R j)
      = weight (logit (fun d => q2 (ix3 0 r d)) (fun i d => k2 (ix3 0 i d))) j := by
  rw [pay4_apply]
  refine congrFun (congrArg weight (funext fun i => ?_)) j
  rw [pay3_apply]
  rw [dif_neg (by have := r.isLt; omega)]
  rw [dif_neg (by have := r.isLt; omega)]
  rw [dif_pos (by have := r.isLt; omega)]
  have e : (⟨R.val - 512 - 512, by have := r.isLt; omega⟩ : Fin 512) = r := Fin.ext (by show R.val - 512 - 512 = r.val; omega)
  rw [e]
  rfl

theorem weight_at3 (q0 q1 q2 q3 : Vec Ideal S1x512x128 .f32) (k0 k1 k2 k3 : Vec Ideal S1x256x128 .f32) (r : Fin 512) (R : Fin 2048)
    (hR : R.val = 1536 + r.val) (j : Fin 256) :
    k0_pay4 (F := Ideal) (k0_pay3 (F := Ideal) q0 k0 q1 k1 q2 k2 q3 k3) (Ideal.ofBits FTy.f32 0x3DB504F3#32) (ix2 R j)
      = weight (logit (fun d => q3 (ix3 0 r d)) (fun i d => k3 (ix3 0 i d))) j := by
  rw [pay4_apply]
  refine congrFun (congrArg weight (funext fun i => ?_)) j
  rw [pay3_apply]
  rw [dif_neg (by have := r.isLt; omega)]
  rw [dif_neg (by have := r.isLt; omega)]
  rw [dif_neg (by have := r.isLt; omega)]
  have e : (⟨R.val - 512 - 512 - 512, by have := r.isLt; omega⟩ : Fin 512) = r := Fin.ext (by show R.val - 512 - 512 - 512 = r.val; omega)
  rw [e]
  rfl

/-- What the block's place holds: the attention of its row for the head of its column. -/
def blk (x0 : Vec Ideal S1x512x512 .f32) (x1 x2 : Vec Ideal S1x1024x128 .f32) (r : Fin 512) (h : Fin 4) (s : Fin 128) : EReal :=
  attend (fun d => x0 (ix3 0 r ⟨128 * h.val + d.val, by omega⟩)) (fun j d => x1 (ix3 0 ⟨4 * j.val + h.val, by omega⟩ d))
    (fun j => x2 (ix3 0 ⟨4 * j.val + h.val, by omega⟩ s))

/-- The columns of one head. -/
def IsCols (x0 : Vec Ideal S1x512x512 .f32) (h : Fin 4) (q : Vec Ideal S1x512x128 .f32) : Prop :=
  ∀ (r : Fin 512) (d : Fin 128), q (ix3 0 r d) = x0 (ix3 0 r ⟨128 * h.val + d.val, by omega⟩)

/-- Every fourth row, from the head's. -/
def IsRows (x : Vec Ideal S1x1024x128 .f32) (h : Fin 4) (k : Vec Ideal S1x256x128 .f32) : Prop :=
  ∀ (j : Fin 256) (d : Fin 128), k (ix3 0 j d) = x (ix3 0 ⟨4 * j.val + h.val, by omega⟩ d)

theorem attend_blk {x0 : Vec Ideal S1x512x512 .f32} {x1 x2 : Vec Ideal S1x1024x128 .f32} {h : Fin 4} {q : Vec Ideal S1x512x128 .f32} {k v : Vec Ideal S1x256x128 .f32}
    (hq : IsCols x0 h q) (hk : IsRows x1 h k) (hv : IsRows x2 h v) (r : Fin 512) (s : Fin 128) :
    attend (fun d => q (ix3 0 r d)) (fun j d => k (ix3 0 j d)) (fun j => v (ix3 0 j s)) = blk x0 x1 x2 r h s :=
  attend_congr (fun d => hq r d) (fun j d => hk j d) (fun j => hv j s)

theorem slab0 (w : Vec Ideal S2048x256 .f32) (C : EReal) (v : Vec Ideal S1x256x128 .f32) (r : Fin 512) (s : Fin 128) :
    k0_pay5 (F := Ideal) w C v (ix3 0 r s) = ∑ j, (k0_pay4 (F := Ideal) w C) (ix2 (⟨0 + r.val, by omega⟩ : Fin 2048) j) * v (ix3 0 j s) := by
  pointwise [k0_pay5]
  try rfl

theorem piece0 {x0 : Vec Ideal S1x512x512 .f32} {x1 x2 : Vec Ideal S1x1024x128 .f32} {q0 q1 q2 q3 : Vec Ideal S1x512x128 .f32} {k0 k1 k2 k3 v : Vec Ideal S1x256x128 .f32}
    (hq : IsCols x0 0 q0) (hk : IsRows x1 0 k0) (hv : IsRows x2 0 v) (r : Fin 512) (s : Fin 128) :
    k0_pay5 (F := Ideal) (k0_pay3 (F := Ideal) q0 k0 q1 k1 q2 k2 q3 k3) (Ideal.ofBits FTy.f32 0x3DB504F3#32) v (ix3 0 r s) = blk x0 x1 x2 r 0 s := by
  rw [slab0]
  refine Eq.trans (Finset.sum_congr rfl fun j _ => ?_) (attend_blk hq hk hv r s)
  rw [weight_at0 q0 q1 q2 q3 k0 k1 k2 k3 r _ rfl j]

theorem slab1 (w : Vec Ideal S2048x256 .f32) (C : EReal) (v : Vec Ideal S1x256x128 .f32) (r : Fin 512) (s : Fin 128) :
    k0_pay6 (F := Ideal) w C v (ix3 0 r s) = ∑ j, (k0_pay4 (F := Ideal) w C) (ix2 (⟨512 + r.val, by omega⟩ : Fin 2048) j) * v (ix3 0 j s) := by
  pointwise [k0_pay6]
  try rfl

theorem piece1 {x0 : Vec Ideal S1x512x512 .f32} {x1 x2 : Vec Ideal S1x1024x128 .f32} {q0 q1 q2 q3 : Vec Ideal S1x512x128 .f32} {k0 k1 k2 k3 v : Vec Ideal S1x256x128 .f32}
    (hq : IsCols x0 1 q1) (hk : IsRows x1 1 k1) (hv : IsRows x2 1 v) (r : Fin 512) (s : Fin 128) :
    k0_pay6 (F := Ideal) (k0_pay3 (F := Ideal) q0 k0 q1 k1 q2 k2 q3 k3) (Ideal.ofBits FTy.f32 0x3DB504F3#32) v (ix3 0 r s) = blk x0 x1 x2 r 1 s := by
  rw [slab1]
  refine Eq.trans (Finset.sum_congr rfl fun j _ => ?_) (attend_blk hq hk hv r s)
  rw [weight_at1 q0 q1 q2 q3 k0 k1 k2 k3 r _ rfl j]

theorem slab2 (w : Vec Ideal S2048x256 .f32) (C : EReal) (v : Vec Ideal S1x256x128 .f32) (r : Fin 512) (s : Fin 128) :
    k0_pay1 (F := Ideal) (k0_pay7 (F := Ideal) w C v) (ix3 0 r s) = ∑ j, (k0_pay4 (F := Ideal) w C) (ix2 (⟨1024 + r.val, by omega⟩ : Fin 2048) j) * v (ix3 0 j s) := by
  pointwise [k0_pay1, k0_pay7]
  try rfl

theorem piece2 {x0 : Vec Ideal S1x512x512 .f32} {x1 x2 : Vec Ideal S1x1024x128 .f32} {q0 q1 q2 q3 : Vec Ideal S1x512x128 .f32} {k0 k1 k2 k3 v : Vec Ideal S1x256x128 .f32}
    (hq : IsCols x0 2 q2) (hk : IsRows x1 2 k2) (hv : IsRows x2 2 v) (r : Fin 512) (s : Fin 128) :
    k0_pay1 (F := Ideal) (k0_pay7 (F := Ideal) (k0_pay3 (F := Ideal) q0 k0 q1 k1 q2 k2 q3 k3) (Ideal.ofBits FTy.f32 0x3DB504F3#32) v) (ix3 0 r s) = blk x0 x1 x2 r 2 s := by
  rw [slab2]
  refine Eq.trans (Finset.sum_congr rfl fun j _ => ?_) (attend_blk hq hk hv r s)
  rw [weight_at2 q0 q1 q2 q3 k0 k1 k2 k3 r _ rfl j]

theorem slab3 (w : Vec Ideal S2048x256 .f32) (v : Vec Ideal S1x256x128 .f32) (r : Fin 512) (s : Fin 128) :
    k0_pay2 (F := Ideal) w v (ix3 0 r s) = ∑ j, (w) (ix2 (⟨1536 + r.val, by omega⟩ : Fin 2048) j) * v (ix3 0 j s) := by
  pointwise [k0_pay2]
  try rfl

theorem piece3 {x0 : Vec Ideal S1x512x512 .f32} {x1 x2 : Vec Ideal S1x1024x128 .f32} {q0 q1 q2 q3 : Vec Ideal S1x512x128 .f32} {k0 k1 k2 k3 v : Vec Ideal S1x256x128 .f32}
    (hq : IsCols x0 3 q3) (hk : IsRows x1 3 k3) (hv : IsRows x2 3 v) (r : Fin 512) (s : Fin 128) :
    k0_pay2 (F := Ideal) (k0_pay4 (F := Ideal) (k0_pay3 (F := Ideal) q0 k0 q1 k1 q2 k2 q3 k3) (Ideal.ofBits FTy.f32 0x3DB504F3#32)) v (ix3 0 r s) = blk x0 x1 x2 r 3 s := by
  rw [slab3]
  refine Eq.trans (Finset.sum_congr rfl fun j _ => ?_) (attend_blk hq hk hv r s)
  rw [weight_at3 q0 q1 q2 q3 k0 k1 k2 k3 r _ rfl j]

/-- A load of 128 columns of the queries' block is a head's columns. -/
theorem isCols_load {a : Memref sig .tc .vmem S1x512x512 .f32} (ha : a.IsWhole) (x0 : Vec Ideal S1x512x512 .f32) (h : Fin 4) (o : Nat)
    (ho : o = 128 * h.val) (inb : ∀ b, (![0, 0, o] : Fin 3 → Nat) b + S1x512x128.size b ≤ S1x512x512.size b) :
    IsCols x0 h (a.view.readAt (Elt Ideal) (Rect.unit (s := S1x512x512) ![0, 0, o] S1x512x128.size inb).toLoadRect (ha.unread x0)) := by
  intro r d
  refine (ha.readAt_unread x0 _ _).trans (congrArg x0 (funext fun b => Fin.ext ?_))
  match b with
  | ⟨0, _⟩ => rfl
  | ⟨1, _⟩ => show 0 + 1 * r.val = r.val; omega
  | ⟨2, _⟩ => show o + 1 * d.val = 128 * h.val + d.val; omega

/-- A load of every fourth row of the memory's is a head's rows. -/
theorem isRows_load {a : Memref sig .tc .vmem S1x1024x128 .f32} (ha : a.IsWhole) (x : Vec Ideal S1x1024x128 .f32) (h : Fin 4) (o : Nat)
    (ho : o = h.val) (inb : ∀ b, S1x256x128.size b = 0 ∨ (![0, o, 0] : Fin 3 → Nat) b + (![1, 4, 1] : Fin 3 → Nat) b * (S1x256x128.size b - 1) < S1x1024x128.size b) :
    IsRows x h (a.view.readAt (Elt Ideal) (⟨![0, o, 0], S1x256x128.size, ![1, 4, 1], inb⟩ : LoadRect S1x1024x128) (ha.unread x)) := by
  intro j d
  refine (ha.readAt_unread x _ _).trans (congrArg x (funext fun b => Fin.ext ?_))
  match b with
  | ⟨0, _⟩ => rfl
  | ⟨1, _⟩ => show o + 4 * j.val = 4 * j.val + h.val; omega
  | ⟨2, _⟩ => show 0 + 1 * d.val = d.val; omega

/-- The place a store of a head's columns has in the block. -/
theorem blk_at (x0 : Vec Ideal S1x512x512 .f32) (x1 x2 : Vec Ideal S1x1024x128 .f32) (w : Vec Ideal S1x512x128 .f32) (h : Fin 4) (o : Nat)
    (ho : o = 128 * h.val) (inb : ∀ b, (![0, 0, o] : Fin 3 → Nat) b + S1x512x128.size b ≤ S1x512x512.size b)
    (hw : ∀ r s, w (ix3 0 r s) = blk x0 x1 x2 r h s) (x : S1x512x128.Idx) (z : S1x512x512.Idx)
    (hz : z = (Rect.unit (s := S1x512x512) ![0, 0, o] S1x512x128.size inb).emb x) :
    w x = blk x0 x1 x2 ⟨(z 1).val, (z 1).isLt⟩ ⟨(z 2).val / 128, by have h : (z 2).val < 512 := (z 2).isLt; omega⟩ ⟨(z 2).val % 128, Nat.mod_lt _ (by decide)⟩ := by
  have l1 : (x 1).val < 512 := (x 1).isLt
  have l2 : (x 2).val < 128 := (x 2).isLt
  have hx : x = ix3 0 (⟨(x 1).val, l1⟩ : Fin 512) (⟨(x 2).val, l2⟩ : Fin 128) := by
    funext b
    match b with
    | ⟨0, _⟩ => exact Fin.ext (by have h0 : (x 0).val < 1 := (x 0).isLt; show (x 0).val = 0; omega)
    | ⟨1, _⟩ => rfl
    | ⟨2, _⟩ => rfl
  have z1 : (z 1).val = (x 1).val := by rw [hz]; show 0 + 1 * (x 1).val = _; omega
  have z2 : (z 2).val = 128 * h.val + (x 2).val := by rw [hz]; show o + 1 * (x 2).val = _; omega
  have e1 : (⟨(z 1).val, (z 1).isLt⟩ : Fin 512) = ⟨(x 1).val, l1⟩ := Fin.ext z1
  have e2 : (⟨(z 2).val / 128, by have h : (z 2).val < 512 := (z 2).isLt; omega⟩ : Fin 4) = h := Fin.ext (by show (z 2).val / 128 = h.val; omega)
  have e3 : (⟨(z 2).val % 128, Nat.mod_lt _ (by decide)⟩ : Fin 128) = ⟨(x 2).val, l2⟩ := Fin.ext (by show (z 2).val % 128 = (x 2).val; omega)
  rw [e1, e2, e3]
  exact (congrArg w hx).trans (hw _ _)

/-- What a tile leaves, at a place of its block. -/
theorem out_A (c : Dev nD) (i : grid0.Coords) (a2 : Memref sig .tc .vmem S1x512x512 .f32) (h2 : a2.IsWhole) (a3 : Memref sig .tc .vmem S1x1024x128 .f32) (h3 : a3.IsWhole) (a4 : Memref sig .tc .vmem S1x1024x128 .f32) (h4 : a4.IsWhole) (a5 : Memref sig .tc .vmem S1x512x512 .f32) (h5 : a5.IsWhole)
    (x0 : Vec Ideal S1x512x512 .f32) (x1 : Vec Ideal S1x1024x128 .f32) (x2 : Vec Ideal S1x1024x128 .f32) (y : S1x512x512.Idx)
    (r : Fin 512) (h : Fin 4) (s : Fin 128) (hr : (y 1).val = r.val) (hs : (y 2).val = 128 * h.val + s.val) :
    out0_A_3 (F := Ideal) c i a2 h2 a3 h3 a4 h4 a5 h5 x0 x1 x2 y = blk x0 x1 x2 r h s := by
  unfold out0_A_3
  rw [View.read_writes_eq_canon _ _ _ (cover0_A_3 c i a2 h2 a3 h3 a4 h4 a5 h5 x0 x1 x2)]
  have key := View.canon_apply_of_pieces (Val := Elt Ideal) (e := .f32) (S := S1x512x512)
    (fun z : S1x512x512.Idx => (blk x0 x1 x2 ⟨(z 1).val, (z 1).isLt⟩ ⟨(z 2).val / 128, by have h : (z 2).val < 512 := (z 2).isLt; omega⟩ ⟨(z 2).val % 128, Nat.mod_lt _ (by decide)⟩ : EReal))
    (kernelRun0_A c i a2 h2 a3 h3 a4 h4 a5 h5 x0 x1 x2).1 ?_ y (cover0_A_3 c i a2 h2 a3 h3 a4 h4 a5 h5 x0 x1 x2 y)
  · rw [key]
    have e1 : (⟨(y 1).val, (y 1).isLt⟩ : Fin 512) = r := Fin.ext hr
    have e2 : (⟨(y 2).val / 128, by have h : (y 2).val < 512 := (y 2).isLt; omega⟩ : Fin 4) = h := Fin.ext (by show (y 2).val / 128 = h.val; omega)
    have e3 : (⟨(y 2).val % 128, Nat.mod_lt _ (by decide)⟩ : Fin 128) = s := Fin.ext (by show (y 2).val % 128 = s.val; omega)
    show blk x0 x1 x2 _ _ _ = _
    rw [e1, e2, e3]
  · unfold kernelRun0_A
    dsimp only
    sl_unfold_words
    simp only [List.mem_cons, List.not_mem_nil, or_false]
    rintro p (rfl | rfl | rfl | rfl) x
    · exact blk_at x0 x1 x2 _ 3 384 rfl inb_S1x512x512_S1x512x128_0_0_384 (fun r s => piece3 (isCols_load h2 x0 3 384 rfl inb_S1x512x512_S1x512x128_0_0_384)
        (isRows_load h3 x1 3 3 rfl inb_S1x1024x128_S1x256x128_0_3_0_s_1_4_1) (isRows_load h4 x2 3 3 rfl inb_S1x1024x128_S1x256x128_0_3_0_s_1_4_1) r s) x _ rfl
    · exact blk_at x0 x1 x2 _ 2 256 rfl inb_S1x512x512_S1x512x128_0_0_256 (fun r s => piece2 (isCols_load h2 x0 2 256 rfl inb_S1x512x512_S1x512x128_0_0_256)
        (isRows_load h3 x1 2 2 rfl inb_S1x1024x128_S1x256x128_0_2_0_s_1_4_1) (isRows_load h4 x2 2 2 rfl inb_S1x1024x128_S1x256x128_0_2_0_s_1_4_1) r s) x _ rfl
    · exact blk_at x0 x1 x2 _ 1 128 rfl inb_S1x512x512_S1x512x128_0_0_128 (fun r s => piece1 (isCols_load h2 x0 1 128 rfl inb_S1x512x512_S1x512x128_0_0_128)
        (isRows_load h3 x1 1 1 rfl inb_S1x1024x128_S1x256x128_0_1_0_s_1_4_1) (isRows_load h4 x2 1 1 rfl inb_S1x1024x128_S1x256x128_0_1_0_s_1_4_1) r s) x _ rfl
    · exact blk_at x0 x1 x2 _ 0 0 rfl inb_S1x512x512_S1x512x128_0_0_0 (fun r s => piece0 (isCols_load h2 x0 0 0 rfl inb_S1x512x512_S1x512x128_0_0_0)
        (isRows_load h3 x1 0 0 rfl inb_S1x1024x128_S1x256x128_0_0_0_s_1_4_1) (isRows_load h4 x2 0 0 rfl inb_S1x1024x128_S1x256x128_0_0_0_s_1_4_1) r s) x _ rfl

/-! ## The blocks -/

variable (m : (ℓ : Loc nD τ sig) → Buf (Elt Ideal) ℓ)

/-- The windows' places: queries and result by row of tiles, the memory whole. -/
theorem idx_facts : ∀ t : Fin cfg0.N, win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = t.val ∧ win0_3.index t (2 : Fin 3) = 0 :=
  (by decide +kernel : ∀ t : Fin grid0.N, _)

/-- The queries in the call are the argument with an axis of one. -/
theorem V_main_v0 (c : Dev nD) (y : S1x8192x512.Idx) (R : Fin 8192) (S : Fin 512) (h1 : (y 1).val = R.val) (h2 : (y 2).val = S.val) :
    V m c main_v0 y = m ((c : Thread nD τ).loc main_arg0) (ix2 R S) := by
  have hv : V m c main_v0 = broadcastInDim S1x8192x512 ![1, 2] bcast_S8192x512_S1x8192x512_1_2 (m ((c : Thread nD τ).loc main_arg0)) := by
    show StableHlo.after hostOps0 _ _ = _
    after_results
  rw [hv]
  refine broadcastInDim_apply _ bcast_S8192x512_S1x8192x512_1_2 _ y (ix2 R S) (fun a => ?_)
  match a with
  | ⟨0, _⟩ => show R.val = if (8192 : Nat) = 1 then 0 else (y 1).val; rw [if_neg (by decide), h1]
  | ⟨1, _⟩ => show S.val = if (512 : Nat) = 1 then 0 else (y 2).val; rw [if_neg (by decide), h2]

/-- The keys in the call: the memory's row and head make one row of 128. -/
theorem V_main_v1 (c : Dev nD) (y : S1x1024x128.Idx) (j : Fin 256) (S : Fin 512) (h : (y 1).val * 128 + (y 2).val = j.val * 512 + S.val) :
    V m c main_v1 y = m ((c : Thread nD τ).loc main_arg1) (ix2 j S) := by
  have hv : V m c main_v1 = shapeCast S1x1024x128 (m ((c : Thread nD τ).loc main_arg1)) shapeCasts_S256x512_S1x1024x128 := by
    show StableHlo.after hostOps0 _ _ = _
    after_results
    rfl
  rw [hv]
  refine shapeCast_apply _ shapeCasts_S256x512_S1x1024x128 y (ix2 j S) ?_
  rewrite [Shape.rowMajor_val_three, Shape.rowMajor_val_two]
  have h0 : (y 0).val < 1 := (y 0).isLt
  show j.val * 512 + S.val = ((y 0).val * 1024 + (y 1).val) * 128 + (y 2).val
  omega

/-- The values likewise. -/
theorem V_main_v2 (c : Dev nD) (y : S1x1024x128.Idx) (j : Fin 256) (S : Fin 512) (h : (y 1).val * 128 + (y 2).val = j.val * 512 + S.val) :
    V m c main_v2 y = m ((c : Thread nD τ).loc main_arg2) (ix2 j S) := by
  have hv : V m c main_v2 = shapeCast S1x1024x128 (m ((c : Thread nD τ).loc main_arg2)) shapeCasts_S256x512_S1x1024x128 := by
    show StableHlo.after hostOps0 _ _ = _
    after_results
    rfl
  rw [hv]
  refine shapeCast_apply _ shapeCasts_S256x512_S1x1024x128 y (ix2 j S) ?_
  rewrite [Shape.rowMajor_val_three, Shape.rowMajor_val_two]
  have h0 : (y 0).val < 1 := (y 0).isLt
  show j.val * 512 + S.val = ((y 0).val * 1024 + (y 1).val) * 128 + (y 2).val
  omega

theorem iblk0_apply (c : Dev nD) (t : Fin cfg0.N) (r : Fin 512) (S : Fin 512) (R : Fin 8192) (hR : R.val = t.val * 512 + r.val) :
    (iblk m c 0 t : Vec Ideal S1x512x512 .f32) (ix3 0 r S) = m ((c : Thread nD τ).loc main_arg0) (ix2 R S) := by
  obtain ⟨-, e1, e2, -⟩ := idx_facts t
  unfold iblk
  rw [View.read_apply]
  refine V_main_v0 m c _ _ _ ?_ ?_
  · show win0_0.index t 1 * 512 + 1 * r.val = R.val; rw [e1]; omega
  · show win0_0.index t 2 * 512 + 1 * S.val = S.val; rw [e2]; omega

theorem iblk1_apply (c : Dev nD) (t : Fin cfg0.N) (k : Fin 1024) (d : Fin 128) (j : Fin 256) (S : Fin 512) (h : k.val * 128 + d.val = j.val * 512 + S.val) :
    (iblk m c 1 t : Vec Ideal S1x1024x128 .f32) (ix3 0 k d) = m ((c : Thread nD τ).loc main_arg1) (ix2 j S) := by
  obtain ⟨-, -, -, -, e1, e2, -⟩ := idx_facts t
  unfold iblk
  rw [View.read_apply]
  refine V_main_v1 m c _ _ _ ?_
  show (win0_1.index t 1 * 1024 + 1 * k.val) * 128 + (win0_1.index t 2 * 128 + 1 * d.val) = _
  rw [e1, e2]; omega

theorem iblk2_apply (c : Dev nD) (t : Fin cfg0.N) (k : Fin 1024) (d : Fin 128) (j : Fin 256) (S : Fin 512) (h : k.val * 128 + d.val = j.val * 512 + S.val) :
    (iblk m c 2 t : Vec Ideal S1x1024x128 .f32) (ix3 0 k d) = m ((c : Thread nD τ).loc main_arg2) (ix2 j S) := by
  obtain ⟨-, -, -, -, -, -, -, e1, e2, -⟩ := idx_facts t
  unfold iblk
  rw [View.read_apply]
  refine V_main_v2 m c _ _ _ ?_
  show (win0_2.index t 1 * 1024 + 1 * k.val) * 128 + (win0_2.index t 2 * 128 + 1 * d.val) = _
  rw [e1, e2]; omega

/-- The attention of a row for a head, of queries, keys and values given whole. -/
def att (q : S8192x512.Idx → EReal) (k v : S256x512.Idx → EReal) (R : Fin 8192) (h : Fin 4) (s : Fin 128) : EReal :=
  attend (fun d => q (ix2 R ⟨128 * h.val + d.val, by omega⟩)) (fun j d => k (ix2 j ⟨128 * h.val + d.val, by omega⟩))
    (fun j => v (ix2 j ⟨128 * h.val + s.val, by omega⟩))

theorem tile_apply (c : Dev nD) (t : Fin cfg0.N) (y : S1x512x512.Idx) (r : Fin 512) (h : Fin 4) (s : Fin 128) (hr : (y 1).val = r.val)
    (hs : (y 2).val = 128 * h.val + s.val) (R : Fin 8192) (hR : R.val = t.val * 512 + r.val) :
    (outsAt0 m c t y : EReal) = att (m ((c : Thread nD τ).loc main_arg0)) (m ((c : Thread nD τ).loc main_arg1)) (m ((c : Thread nD τ).loc main_arg2)) R h s := by
  unfold outsAt0
  refine (out_A c _ _ _ _ _ _ _ _ _ _ _ _ y r h s hr hs).trans ?_
  refine attend_congr ?_ ?_ ?_
  · intro d; exact iblk0_apply m c t r _ R hR
  · intro j d; exact iblk1_apply m c t _ d j _ (by show (4 * j.val + h.val) * 128 + d.val = j.val * 512 + (128 * h.val + d.val); omega)
  · intro j; exact iblk2_apply m c t _ s j _ (by show (4 * j.val + h.val) * 128 + s.val = j.val * 512 + (128 * h.val + s.val); omega)

/-! ## The reference at one place, and the array -/

section

open Cert.Reference8Ideal.Read

variable (q : (⟨S8192x512, .f32⟩ : BufTy).Contents (Elt Ideal)) (k v : (⟨S256x512, .f32⟩ : BufTy).Contents (Elt Ideal))

/-- The reference's scaled products. -/
theorem ref_logit (R : Fin 8192) (h : Fin 4) (j : Fin 256) (i : Cert.Reference8Ideal.S1x4x8192x256.Idx) (h1 : (i 1).val = h.val) (h2 : (i 2).val = R.val) (h3 : (i 3).val = j.val) :
    (val_main_v5 (F := Ideal) q k i : EReal) = logit (fun d => q (ix2 R ⟨128 * h.val + d.val, by omega⟩)) (fun j d => k (ix2 j ⟨128 * h.val + d.val, by omega⟩)) j := by
  have h0 : (i 0).val < 1 := (i 0).isLt
  rw [val_main_v5_apply, val_main_v4_apply, val_main_cst_apply, val_main_v3_apply]
  refine congrArg (· * Ideal.ofBits FTy.f32 0x3DB504F3#32) (Finset.sum_congr rfl fun d _ => ?_)
  rw [val_main_v0_apply, val_main_v1_apply]
  refine congr (congrArg HMul.hMul (congrArg q ?_)) (congrArg k ?_)
  · funext a
    apply Fin.ext
    match a with
    | ⟨0, _⟩ => show ((((i 0).val * 8192 + (i 2).val) * 4 + (i 1).val) * 128 + d.val) / 512 = R.val; omega
    | ⟨1, _⟩ => show ((((i 0).val * 8192 + (i 2).val) * 4 + (i 1).val) * 128 + d.val) % 512 = 128 * h.val + d.val; omega
  · funext a
    apply Fin.ext
    match a with
    | ⟨0, _⟩ => show ((((i 0).val * 256 + (i 3).val) * 4 + (i 1).val) * 128 + d.val) / 512 = j.val; omega
    | ⟨1, _⟩ => show ((((i 0).val * 256 + (i 3).val) * 4 + (i 1).val) * 128 + d.val) % 512 = 128 * h.val + d.val; omega

/-- A maximum over the last axis is the largest of the row. -/
theorem ref_max (x : FVec Ideal Cert.Reference8Ideal.S1x4x8192x256 .f32) (hred : Cert.Reference8Ideal.S1x4x8192x256.Reduces [3] Cert.Reference8Ideal.S1x4x8192)
    (i : Cert.Reference8Ideal.S1x4x8192.Idx) :
    (Host.reduce (FloatOps.maximumf (F := Ideal) (φ := .f32)) x (constant (F := Ideal) Cert.Reference8Ideal.S_ .f32 0xFF800000#32) Cert.Reference8Ideal.Gen.reducesTo_S1x4x8192x256_S1x4x8192_d3 Cert.Reference8Ideal.Gen.h_S_ i : Ideal .f32)
      = top (fun j => x (hred.lift i j)) := by
  have e := hostReduce_maximumf_eq_multiReduction (F := Ideal) (φ := .f32) x 0xFF800000#32 Cert.Reference8Ideal.Gen.reducesTo_S1x4x8192x256_S1x4x8192_d3 Cert.Reference8Ideal.Gen.h_S_ hred (.inl rfl) rfl
  exact (congrFun e i).trans (Ideal.multiReduction_maximumf_single (φ := .f32) x 0xFF800000#32 hred (.inl rfl) rfl i)

/-- The reference's largest of a row. -/
theorem ref_top (R : Fin 8192) (h : Fin 4) (i : Cert.Reference8Ideal.S1x4x8192.Idx) (h1 : (i 1).val = h.val) (h2 : (i 2).val = R.val) :
    (val_main_v8 (F := Ideal) q k i : EReal) = top (logit (fun d => q (ix2 R ⟨128 * h.val + d.val, by omega⟩)) (fun j d => k (ix2 j ⟨128 * h.val + d.val, by omega⟩))) := by
  have e6 : (val_main_v6 (F := Ideal) q k i : EReal) = top (logit (fun d => q (ix2 R ⟨128 * h.val + d.val, by omega⟩)) (fun j d => k (ix2 j ⟨128 * h.val + d.val, by omega⟩))) := by
    unfold val_main_v6 val_main_cst_0
    refine (ref_max (val_main_v5 (F := Ideal) q k) (by decide) i).trans (congrArg top ?_)
    funext j
    exact ref_logit q k R h j _ h1 h2 rfl
  rw [val_main_v8_apply, e6, val_main_v7_apply, val_main_cst_1_apply]
  exact max_eq_right ((Finset.le_fold_max _).2 (Or.inl le_rfl))

/-- The reference's softmax. -/
theorem ref_weight (R : Fin 8192) (h : Fin 4) (j : Fin 256) (i : Cert.Reference8Ideal.S1x4x8192x256.Idx) (h1 : (i 1).val = h.val) (h2 : (i 2).val = R.val) (h3 : (i 3).val = j.val) :
    (val_main_v16 (F := Ideal) q k i : EReal) = weight (logit (fun d => q (ix2 R ⟨128 * h.val + d.val, by omega⟩)) (fun j d => k (ix2 j ⟨128 * h.val + d.val, by omega⟩))) j := by
  have e12 : ∀ (j : Fin 256) (i : Cert.Reference8Ideal.S1x4x8192x256.Idx), (i 1).val = h.val → (i 2).val = R.val → (i 3).val = j.val →
      (val_main_v12 (F := Ideal) q k i : EReal)
        = Ideal.exp (logit (fun d => q (ix2 R ⟨128 * h.val + d.val, by omega⟩)) (fun j d => k (ix2 j ⟨128 * h.val + d.val, by omega⟩)) j - top (logit (fun d => q (ix2 R ⟨128 * h.val + d.val, by omega⟩)) (fun j d => k (ix2 j ⟨128 * h.val + d.val, by omega⟩)))) := by
    intro j i h1 h2 h3
    rw [val_main_v12_apply, val_main_v11_apply, ref_logit q k R h j i h1 h2 h3, val_main_v10_apply, val_main_v9_apply, ref_top q k R h _ h1 h2]
    rfl
  have e13 : ∀ (i : Cert.Reference8Ideal.S1x4x8192.Idx), (i 1).val = h.val → (i 2).val = R.val →
      (val_main_v13 (F := Ideal) q k i : EReal)
        = ∑ j, Ideal.exp (logit (fun d => q (ix2 R ⟨128 * h.val + d.val, by omega⟩)) (fun j d => k (ix2 j ⟨128 * h.val + d.val, by omega⟩)) j - top (logit (fun d => q (ix2 R ⟨128 * h.val + d.val, by omega⟩)) (fun j d => k (ix2 j ⟨128 * h.val + d.val, by omega⟩)))) := by
    intro i h1 h2
    rw [val_main_v13_apply, val_main_cst_2_apply]
    refine Eq.trans (congr (congrArg HAdd.hAdd Ideal.ofBits_zero_f32) (Finset.sum_congr rfl fun j _ => e12 j _ h1 h2 rfl)) (zero_add _)
  rw [val_main_v16_apply, e12 j i h1 h2 h3, val_main_v15_apply, val_main_v14_apply, e13 _ h1 h2]
  rfl

/-- The reference: the attention of the row for the column's head. -/
theorem ref_apply (R : Fin 8192) (h : Fin 4) (s : Fin 128) (i : S1x8192x512.Idx) (h1 : (i 1).val = R.val) (h2 : (i 2).val = 128 * h.val + s.val) :
    (val_main_v19 (F := Ideal) q k v i : EReal) = att q k v R h s := by
  have h0 : (i 0).val < 1 := (i 0).isLt
  rw [val_main_v19_apply, val_main_v18_apply, val_main_v17_apply]
  unfold att attend
  refine Finset.sum_congr rfl fun j _ => ?_
  rw [ref_weight q k R h j _ (by show (((i 0).val * 8192 + (i 1).val) * 512 + (i 2).val) / 128 % 4 = h.val; omega)
    (by show (((i 0).val * 8192 + (i 1).val) * 512 + (i 2).val) / 512 % 8192 = R.val; omega) rfl, val_main_v2_apply, mul_comm]
  refine congrArg (_ * ·) (congrArg v ?_)
  funext a
  apply Fin.ext
  match a with
  | ⟨0, _⟩ => show (((0 * 256 + j.val) * 4 + (((i 0).val * 8192 + (i 1).val) * 512 + (i 2).val) / 128 % 4) * 128 + (((i 0).val * 8192 + (i 1).val) * 512 + (i 2).val) % 128) / 512 = j.val; omega
  | ⟨1, _⟩ => show (((0 * 256 + j.val) * 4 + (((i 0).val * 8192 + (i 1).val) * 512 + (i 2).val) / 128 % 4) * 128 + (((i 0).val * 8192 + (i 1).val) * 512 + (i 2).val) % 128) % 512 = 128 * h.val + s.val; omega

end

/-- The call's array after the run is the reference's. -/
theorem final_attention (c : Dev nD) : (dats m 0 c).arrAt 3 cfg0.N
    = Cert.Reference8Ideal.Read.val_main_v19 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 16 := Nat.lt_of_lt_of_eq t.isLt N_0
  obtain ⟨-, -, -, -, -, -, -, -, -, -, e1, e2⟩ := idx_facts t
  blk_simp
  rw [after0_3]
  have hy1 : (y 1).val < 512 := (y 1).isLt
  have hy2 : (y 2).val < 512 := (y 2).isLt
  refine Eq.trans ?_ (ref_apply _ _ _ ⟨t.val * 512 + (y 1).val, by omega⟩ ⟨(y 2).val / 128, by omega⟩ ⟨(y 2).val % 128, by omega⟩ _ ?_ ?_).symm
  · exact tile_apply m c t y ⟨(y 1).val, hy1⟩ _ _ rfl (by show (y 2).val = 128 * ((y 2).val / 128) + (y 2).val % 128; omega) _ rfl
  · show win0_3.index t 1 * 512 + 1 * (y 1).val = t.val * 512 + (y 1).val; rw [e1]; omega
  · show win0_3.index t 2 * 512 + 1 * (y 2).val = 128 * ((y 2).val / 128) + (y 2).val % 128; rw [e2]; omega

end Cert.Kernel8Ideal.Hand
-- ==== Proof.QueryProjection.lean ====
/- The queries of the prompt group's cross-attention, with the norm before them: what a tile computes, and that the array of all
   tiles is the reference's. Every tile is the only one of its row. -/
module

public import proofs.«01_k».proof.Proof.Gen.Kernel7Ideal.Value
public import proofs.«01_k».proof.Proof.Gen.Reference7Ideal.Read
public import proofs.«01_k».proof.Defs
public import Idealize.ShloMosaic.Lib.Pointwise
public import Idealize.ShloMosaic.Lib.Pipeline.ValueKit.Geometry

@[expose] public section

set_option maxRecDepth 16384
set_option maxHeartbeats 1600000

noncomputable section

namespace Cert.Kernel7Ideal.Hand

open Cert.Kernel7Ideal Cert.Kernel7Ideal.Gen Idealize.ShloMosaic Idealize.ShloMosaic.TcCoe Idealize.SL.Sem
open Idealize.ShloMosaic.Pipeline (Dat)

/-! ## What a tile leaves -/

section

variable {F : FTy → Type} [FloatOps F]

theorem hz : (![0, 0] : Fin 2 → Nat) = fun _ => 0 := funext fun a => by fin_cases a <;> rfl

/-- A tile is the product of the normed rows with the weights. -/
theorem out_A (c : Dev nD) (i : grid0.Coords) (a2 : Memref sig .tc .vmem S1024x2048 .f32) (h2 : a2.IsWhole) (a3 : Memref sig .tc .vmem S1x2048 .f32) (h3 : a3.IsWhole) (a4 : Memref sig .tc .vmem S2048x512 .bf16) (h4 : a4.IsWhole) (a5 : Memref sig .tc .vmem S1024x512 .f32) (h5 : a5.IsWhole) (a6 : Memref sig .tc .vmem S1024x2048 .bf16) (h6 : a6.IsWhole) (hc0 : cond0_0 i) (hc1 : cond0_1 i) (hc2 : ¬cond0_2 i)
    (x0 : Vec F S1024x2048 .f32) (x1 : Vec F S1x2048 .f32) (x2 : Vec F S2048x512 .bf16) :
    out0_A_3 c i a2 h2 a3 h3 a4 h4 a5 h5 a6 h6 hc0 hc1 hc2 x0 x1 x2 = k0_pay2 (k0_pay1 x0 x1) x2 := by
  unfold out0_A_3
  rw [View.read_writes_eq_canon _ _ _ (cover0_A_3 c i a2 h2 a3 h3 a4 h4 a5 h5 a6 h6 hc0 hc1 hc2 x0 x1 x2)]
  unfold kernelRun0_A
  dsimp only
  sl_unfold_words
  rw [View.canon_unit_zero (S := S1024x512) hz, View.readCov_unit_zero (S := S1024x2048) _ hz]
  simp only [View.readAt_eq_ld, h2.read_unread, h3.read_unread, h4.read_unread, View.ld_unit_zero (S := S1024x2048) hz, View.ld_unit_zero (S := S1x2048) hz, View.ld_unit_zero (S := S2048x512) hz]

end

/-! ## Read at one place -/

/-- The norm of a row, with the gain. -/
def normed (x g : Fin 2048 → EReal) (k : Fin 2048) : EReal :=
  x k * Ideal.rsqrt (Ideal.div (∑ l, x l * x l) (Ideal.ofBits FTy.f32 0x45000000#32) + Ideal.ofBits FTy.f32 0x358637BD#32) * g k

theorem pay1_apply (x : Vec Ideal S1024x2048 .f32) (g : Vec Ideal S1x2048 .f32) (r : Fin 1024) (k : Fin 2048) :
    k0_pay1 (F := Ideal) x g (ix2 r k) = normed (fun l => x (ix2 r l)) (fun l => g (ix2 0 l)) k := by
  pointwise [k0_pay1]
  rfl

theorem pay2_apply (a : Vec Ideal S1024x2048 .bf16) (w : Vec Ideal S2048x512 .bf16) (r : Fin 1024) (s : Fin 512) :
    k0_pay2 (F := Ideal) a w (ix2 r s) = ∑ k, a (ix2 r k) * w (ix2 k s) := by
  pointwise [k0_pay2]
  try rfl

/-! ## The blocks -/

variable (m : (ℓ : Loc nD τ sig) → Buf (Elt Ideal) ℓ)

/-- The windows' places: tokens by row of tiles, gain and weights whole, the result by row of tiles. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The tokens' array in the call is the argument without its axis of one. -/
theorem V_main_v0 (c : Dev nD) (y : S8192x2048.Idx) (j : S1x8192x2048.Idx) (h1 : (j 1).val = (y 0).val) (h2 : (j 2).val = (y 1).val) :
    V m c main_v0 y = m ((c : Thread nD τ).loc main_arg0) j := by
  have hv : V m c main_v0 = shapeCast S8192x2048 (m ((c : Thread nD τ).loc main_arg0)) shapeCasts_S1x8192x2048_S8192x2048 := by
    show StableHlo.after hostOps0 _ _ = _
    after_results
    rfl
  rw [hv]
  refine shapeCast_apply _ shapeCasts_S1x8192x2048_S8192x2048 y j ?_
  rewrite [Shape.rowMajor_val_three, Shape.rowMajor_val_two]
  have h0 : (j 0).val < 1 := (j 0).isLt
  show ((j 0).val * 8192 + (j 1).val) * 2048 + (j 2).val = (y 0).val * 2048 + (y 1).val
  rw [h1, h2]; omega

/-- The weights' array is the argument without its axis of one, narrowed: at the ideal instance its numbers. -/
theorem V_main_v2 (c : Dev nD) (y : S2048x512.Idx) (j : S1x2048x512.Idx) (h1 : (j 1).val = (y 0).val) (h2 : (j 2).val = (y 1).val) :
    (V m c main_v2 y : EReal) = m ((c : Thread nD τ).loc main_arg2) j := by
  have hv : V m c main_v2 = truncf .bf16 (shapeCast S2048x512 (m ((c : Thread nD τ).loc main_arg2)) shapeCasts_S1x2048x512_S2048x512 : FVec Ideal S2048x512 .f32) bitsLt_bf16_f32 := by
    show StableHlo.after hostOps0 _ _ = _
    after_results
    rfl
  rw [hv]
  show shapeCast S2048x512 (m ((c : Thread nD τ).loc main_arg2)) shapeCasts_S1x2048x512_S2048x512 y = _
  refine shapeCast_apply _ shapeCasts_S1x2048x512_S2048x512 y j ?_
  rewrite [Shape.rowMajor_val_three, Shape.rowMajor_val_two]
  have h0 : (j 0).val < 1 := (j 0).isLt
  show ((j 0).val * 2048 + (j 1).val) * 512 + (j 2).val = (y 0).val * 512 + (y 1).val
  rw [h1, h2]; omega

/-- The gain's array is the argument. -/
theorem V_main_v4 (c : Dev nD) (y : S1x2048.Idx) : V m c main_v4 y = m ((c : Thread nD τ).loc main_arg1) y := by
  have hv : V m c main_v4 = shapeCast S1x2048 (shapeCast S2048 (m ((c : Thread nD τ).loc main_arg1)) shapeCasts_S1x2048_S2048) shapeCasts_S2048_S1x2048 := by
    show StableHlo.after hostOps0 _ _ = _
    after_results
    rfl
  rw [hv]
  have h0 : (y 0).val < 1 := (y 0).isLt
  refine (shapeCast_apply _ shapeCasts_S2048_S1x2048 y (fun | ⟨0, _⟩ => (⟨(y 1).val, (y 1).isLt⟩ : Fin 2048)) ?_).trans
    (shapeCast_apply _ shapeCasts_S1x2048_S2048 _ y ?_)
  · rewrite [Shape.rowMajor_val_one, Shape.rowMajor_val_two]
    show (y 1).val = (y 0).val * 2048 + (y 1).val
    omega
  · rewrite [Shape.rowMajor_val_one, Shape.rowMajor_val_two]
    show (y 0).val * 2048 + (y 1).val = (y 1).val
    omega

/-- The arguments at a row and a column. -/
def tok (c : Dev nD) (r : Fin 8192) (k : Fin 2048) : EReal :=
  m ((c : Thread nD τ).loc main_arg0) (fun | ⟨0, _⟩ => (0 : Fin 1) | ⟨1, _⟩ => r | ⟨2, _⟩ => k)
def wt (c : Dev nD) (k : Fin 2048) (s : Fin 512) : EReal :=
  m ((c : Thread nD τ).loc main_arg2) (fun | ⟨0, _⟩ => (0 : Fin 1) | ⟨1, _⟩ => k | ⟨2, _⟩ => s)
def gain (c : Dev nD) (k : Fin 2048) : EReal :=
  m ((c : Thread nD τ).loc main_arg1) (fun | ⟨0, _⟩ => (0 : Fin 1) | ⟨1, _⟩ => k)

theorem iblk0_apply (c : Dev nD) (t : Fin cfg0.N) (r : Fin 1024) (k : Fin 2048) (R : Fin 8192) (hR : R.val = t.val * 1024 + r.val) :
    ((iblk m c 0 t : Vec Ideal S1024x2048 .f32) (ix2 r k) : EReal) = tok m c R k := by
  obtain ⟨e0, e1, -⟩ := idx_facts t
  unfold iblk
  rw [View.read_apply]
  refine V_main_v0 m c _ _ ?_ ?_
  · show R.val = win0_0.index t 0 * 1024 + 1 * r.val; rw [e0, hR]; omega
  · show k.val = win0_0.index t 1 * 2048 + 1 * k.val; rw [e1]; omega

theorem iblk1_apply (c : Dev nD) (t : Fin cfg0.N) (k : Fin 2048) :
    ((iblk m c 1 t : Vec Ideal S1x2048 .f32) (ix2 0 k) : EReal) = gain m c k := by
  obtain ⟨-, -, e0, e1, -⟩ := idx_facts t
  unfold iblk
  rw [View.read_apply]
  refine (V_main_v4 m c _).trans (congrArg _ ?_)
  funext a
  apply Fin.ext
  match a with
  | ⟨0, _⟩ => show win0_1.index t 0 * 1 + 1 * 0 = 0; rw [e0]
  | ⟨1, _⟩ => show win0_1.index t 1 * 2048 + 1 * k.val = k.val; rw [e1]; omega

theorem iblk2_apply (c : Dev nD) (t : Fin cfg0.N) (k : Fin 2048) (s : Fin 512) :
    ((iblk m c 2 t : Vec Ideal S2048x512 .bf16) (ix2 k s) : EReal) = wt m c k s := by
  obtain ⟨-, -, -, -, e0, e1, -⟩ := idx_facts t
  unfold iblk
  rw [View.read_apply]
  refine V_main_v2 m c _ _ ?_ ?_
  · show k.val = win0_2.index t 0 * 2048 + 1 * k.val; rw [e0]; omega
  · show s.val = win0_2.index t 1 * 512 + 1 * s.val; rw [e1]; omega

/-! ## The tiles -/

/-- A tile of the result: the normed row times the weights' column. -/
theorem tile_apply (c : Dev nD) (t : Fin cfg0.N) (r : Fin 1024) (s : Fin 512) (R : Fin 8192) (hR : R.val = t.val * 1024 + r.val) :
    ((outsAt0 m c t) (ix2 r s) : EReal) = ∑ k, normed (tok m c R) (gain m c) k * wt m c k s := by
  unfold outsAt0
  rw [out_A, pay2_apply]
  refine Finset.sum_congr rfl fun k _ => ?_
  rw [pay1_apply, iblk2_apply m c t k s]
  congr 2 <;> funext l
  · exact iblk0_apply m c t r l R hR
  · exact iblk1_apply m c t l

/-! ## The reference at one place, and the array -/

section

open Cert.Reference7Ideal.Read

/-- The reference: the normed row times the weights' column. -/
theorem ref_apply (c : Dev nD) (R : Fin 8192) (S : Fin 512) (i : S8192x512.Idx) (h0 : (i 0).val = R.val) (h1 : (i 1).val = S.val) :
    (val_main_v16 (F := Ideal) (m ((c : Thread nD τ).loc main_arg0)) (m ((c : Thread nD τ).loc main_arg1)) (m ((c : Thread nD τ).loc main_arg2)) i : EReal)
      = ∑ k, normed (tok m c R) (gain m c) k * wt m c k S := by
  rw [val_main_v16_apply]
  refine Finset.sum_congr rfl fun k _ => ?_
  have hx : ∀ (j : S8192x2048.Idx) (l : Fin 2048), (j 0).val = R.val → (j 1).val = l.val →
      (val_main_v0 (F := Ideal) (m ((c : Thread nD τ).loc main_arg0)) j : EReal) = tok m c R l := by
    intro j l hj hl
    rw [val_main_v0_apply]
    refine congrArg _ ?_
    funext a
    apply Fin.ext
    match a with
    | ⟨0, _⟩ => rfl
    | ⟨1, _⟩ => show ((j 0).val * 2048 + (j 1).val) / 2048 % 8192 = R.val; rw [hj, hl]; omega
    | ⟨2, _⟩ => show ((j 0).val * 2048 + (j 1).val) % 2048 = l.val; rw [hj, hl]; omega
  have hw : (val_main_v15 (F := Ideal) (m ((c : Thread nD τ).loc main_arg2)) (ridx_main_v16 i k) : EReal) = wt m c k S := by
    rw [val_main_v15_apply]
    refine congrArg _ ?_
    funext a
    apply Fin.ext
    match a with
    | ⟨0, _⟩ => rfl
    | ⟨1, _⟩ => show (k.val * 512 + (i 1).val) / 512 % 2048 = k.val; rw [h1]; omega
    | ⟨2, _⟩ => show (k.val * 512 + (i 1).val) % 512 = S.val; rw [h1]; omega
  have hg : (val_main_v13 (F := Ideal) (m ((c : Thread nD τ).loc main_arg1)) (lidx_main_v16 i k) : EReal) = gain m c k := by
    rw [val_main_v13_apply, val_main_v12_apply, val_main_v1_apply]
    refine congrArg _ ?_
    funext a
    apply Fin.ext
    match a with
    | ⟨0, _⟩ => rfl
    | ⟨1, _⟩ => show k.val % 2048 = k.val; omega
  have hs : ∀ (j : Cert.Reference7Ideal.S8192.Idx), (j 0).val = R.val →
      (val_main_v3 (F := Ideal) (m ((c : Thread nD τ).loc main_arg0)) j : EReal) = ∑ l, tok m c R l * tok m c R l := by
    intro j hj
    rw [val_main_v3_apply, val_main_cst_apply]
    refine Eq.trans (b := (0 : EReal) + ∑ l, tok m c R l * tok m c R l) ?_ (zero_add _)
    congr 1
    · exact Ideal.ofBits_zero_f32
    · refine Finset.sum_congr rfl fun l _ => ?_
      rw [val_main_v2_apply, hx _ l hj rfl]
      rfl
  rw [hw, val_main_v14_apply, hg, val_main_v11_apply, hx _ k h0 rfl, val_main_v10_apply, val_main_v9_apply, val_main_v8_apply,
    val_main_v6_apply, val_main_v4_apply, hs _ h0, val_main_v5_apply, val_main_cst_0_apply, val_main_v7_apply, val_main_cst_1_apply]
  rfl

end

/-- The call's array after the run is the reference's. -/
theorem final_proj (c : Dev nD) : (dats m 0 c).arrAt 3 cfg0.N
    = Cert.Reference7Ideal.Read.val_main_v16 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 8 := Nat.lt_of_lt_of_eq t.isLt N_0
  obtain ⟨-, -, -, -, -, -, e0, e1⟩ := idx_facts t
  blk_simp
  rw [after0_3]
  have hy0 : (y 0).val < 1024 := (y 0).isLt
  have hy1 : (y 1).val < 512 := (y 1).isLt
  have hy : y = ix2 (⟨(y 0).val, hy0⟩ : Fin 1024) (⟨(y 1).val, hy1⟩ : Fin 512) := by
    funext a
    match a with
    | ⟨0, _⟩ => rfl
    | ⟨1, _⟩ => rfl
  refine Eq.trans ?_ (ref_apply m c ⟨t.val * 1024 + (y 0).val, by omega⟩ ⟨(y 1).val, hy1⟩ _ ?_ ?_).symm
  · exact (congrArg _ hy).trans (tile_apply m c t _ _ _ rfl)
  · show win0_3.index t 0 * 1024 + 1 * (y 0).val = t.val * 1024 + (y 0).val; rw [e0]; omega
  · show win0_3.index t 1 * 512 + 1 * (y 1).val = (y 1).val; rw [e1]; omega

end Cert.Kernel7Ideal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.KernelIdealFrame
public import proofs.«01_k».proof.Proof.Results
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Projection
public import proofs.«01_k».proof.Proof.MemoryKeys
public import proofs.«01_k».proof.Proof.SampleProjection
public import proofs.«01_k».proof.Proof.OutProjection
public import proofs.«01_k».proof.Proof.SharedExpert
public import proofs.«01_k».proof.Proof.SampleQueries
public import proofs.«01_k».proof.Proof.SampleOut
public import proofs.«01_k».proof.Proof.RouterProduct
public import proofs.«01_k».proof.Proof.CrossOutputSample
public import proofs.«01_k».proof.Proof.CrossOutput
public import proofs.«01_k».proof.Proof.MemoryAttention
public import proofs.«01_k».proof.Proof.QueryProjection
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments as they were, and has no semaphores to leave at anything but zero. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => ⟨(h c).2.2.2.1, (h c).2.2.2.2.1, (h c).2.2.2.2.2⟩, Idealize.ShloMosaic.sem_eq_zero_of_no_sems (by decide) r.2⟩)
    (Cert.ReferenceIdeal.Value.run m g)

/-- The ideal program's named constants are the kernel's words: the logits' scale in base two, the logarithm's change of
    base, and the logarithm that stands for no weight at all. -/
theorem preserves : Cert.preserves_Kernel_KernelIdeal :=
  ⟨IdealRules.named_const.statement Cert.KernelIdeal.κ "q_scale" .f32 0x3E0293EE#32 _ rfl,
    IdealRules.named_const.statement Cert.KernelIdeal.κ "log2e" .f32 0x3FB8AA3B#32 _ rfl,
    IdealRules.named_const.statement Cert.KernelIdeal.κ "idle" .f32 0xF149F2CA#32 _ rfl⟩

/-- At a finite projection and a finite bias, kernel and reference end with the same three arrays. -/
theorem algebraic [Cert.KernelIdeal.Facts] [Cert.ReferenceIdeal.Facts] [Cert.Pre_finite.Facts] : Cert.algebraic_KernelIdeal_ReferenceIdeal_pre_finite := by
  intro m g m' g' hpre hargs
  refine ⟨fun c => Cert.ReferenceIdeal.Read.val_main_v44 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.ReferenceIdeal.Read.val_main_v2 (F := Ideal) (m ((c.tc : Thread Cert.KernelIdeal.nD Cert.KernelIdeal.τ).loc Cert.KernelIdeal.main_arg0)),
    fun c => Cert.ReferenceIdeal.Read.val_main_v3 (F := Ideal) (m ((c.tc : Thread Cert.KernelIdeal.nD Cert.KernelIdeal.τ).loc Cert.KernelIdeal.main_arg0)), ?_, ?_⟩
  · refine (θ_run Cert.KernelIdeal.defs _ _).mono (fun r h c => ?_)
      (θ_run_and (Cert.KernelIdeal.Hand.unchanged m g) ((θ_run Cert.KernelIdeal.defs _ _).mono (fun _ h => h.1) (Cert.KernelIdeal.Hand.run_main_quiescent m g)))
    obtain ⟨hu, hf⟩ := h
    have hX := Cert.KernelIdeal.Hand.X_spec _ _ _ (hpre c).1
    have hB := Cert.KernelIdeal.Hand.B_spec _ _ _ (hpre c).2
    exact ⟨((hf c).1 5).trans (Cert.KernelIdeal.Hand.final_out m c hX hB), ((hf c).1 6).trans (Cert.KernelIdeal.Hand.final_keys m c),
      ((hf c).1 7).trans (Cert.KernelIdeal.Hand.final_values m c), (hu c).1, (hu c).2.1, (hu c).2.2⟩
  · refine (θ_run Cert.ReferenceIdeal.defs _ _).mono (fun r h c => ?_) (Cert.ReferenceIdeal.Value.run m' g')
    obtain ⟨h0, h1, h2, ha⟩ := h c
    obtain ⟨e0, e1, e2⟩ := hargs c
    refine ⟨h0.trans ((Cert.ReferenceIdeal.Read.val_main_v44_eq m' c).trans ?_), h1.trans ((Cert.ReferenceIdeal.Read.val_main_v2_eq _).trans ?_),
      h2.trans ((Cert.ReferenceIdeal.Read.val_main_v3_eq _).trans ?_), ha⟩
    · rw [e0, e1, e2]
    · rw [e0]
    · rw [e0]

/-- The in-projection's reference runs, leaves its arguments as they were, and has no semaphores to leave at anything but zero. -/
theorem frame_reference2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0) :=
  (θ_run Cert.Reference2Ideal.defs _ _).mono
    (fun r h => ⟨fun c => (h c).2, Idealize.ShloMosaic.sem_eq_zero_of_no_sems (by decide) r.2⟩)
    (Cert.Reference2Ideal.Value.run m g)

/-- The in-projection's array is the reference's, whatever the arguments hold. -/
theorem algebraic2 [Cert.Kernel2Ideal.Facts] [Cert.Reference2Ideal.Facts] : Cert.algebraic_Kernel2Ideal_Reference2Ideal := by
  intro m g m' g' hpre hargs
  refine ⟨fun c => Cert.Reference2Ideal.Read.val_main_v16 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), ?_, ?_⟩
  · refine (θ_run Cert.Kernel2Ideal.defs _ _).mono (fun r h c => ?_) (Cert.Kernel2Ideal.Value.run m g)
    obtain ⟨h0, ha⟩ := h c
    exact ⟨h0.trans ((Cert.Kernel2Ideal.Value.final3 m c).symm.trans (Cert.Kernel2Ideal.Hand.final_proj m c)), ha⟩
  · refine (θ_run Cert.Reference2Ideal.defs _ _).mono (fun r h c => ?_) (Cert.Reference2Ideal.Value.run m' g')
    obtain ⟨h0, ha⟩ := h c
    obtain ⟨e0, e1, e2⟩ := hargs c
    refine ⟨h0.trans ((Cert.Reference2Ideal.Read.val_main_v16_eq _ _ _).trans ?_), ha⟩
    rw [e0, e1, e2]

/-- The reference of the memory's keys and values runs, leaves its arguments as they were, and has no semaphores to leave at anything but zero. -/
theorem frame_reference3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0) :=
  (θ_run Cert.Reference3Ideal.defs _ _).mono
    (fun r h => ⟨fun c => (h c).2, Idealize.ShloMosaic.sem_eq_zero_of_no_sems (by decide) r.2⟩)
    (Cert.Reference3Ideal.Value.run m g)

/-- The array of the memory's keys and values is the reference's, whatever the arguments hold. -/
theorem algebraic3 [Cert.Kernel3Ideal.Facts] [Cert.Reference3Ideal.Facts] : Cert.algebraic_Kernel3Ideal_Reference3Ideal := by
  intro m g m' g' hpre hargs
  refine ⟨fun c => Cert.Reference3Ideal.Read.val_main_v19 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)), ?_, ?_⟩
  · refine (θ_run Cert.Kernel3Ideal.defs _ _).mono (fun r h c => ?_) (Cert.Kernel3Ideal.Value.run_blocks m g)
    obtain ⟨h0, ha⟩ := h c
    exact ⟨h0.trans (Cert.Kernel3Ideal.Hand.final_proj m c), ha⟩
  · refine (θ_run Cert.Reference3Ideal.defs _ _).mono (fun r h c => ?_) (Cert.Reference3Ideal.Value.run m' g')
    obtain ⟨h0, ha⟩ := h c
    obtain ⟨e0, e1, e2, e3⟩ := hargs c
    refine ⟨h0.trans ((Cert.Reference3Ideal.Read.val_main_v19_eq _ _ _ _).trans ?_), ha⟩
    rw [e0, e1, e2, e3]

/-- The reference of the sample group's in-projection runs, leaves its arguments as they were, and has no semaphores to leave at anything but zero. -/
theorem frame_reference4 (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0) :=
  (θ_run Cert.Reference4Ideal.defs _ _).mono
    (fun r h => ⟨fun c => (h c).2, Idealize.ShloMosaic.sem_eq_zero_of_no_sems (by decide) r.2⟩)
    (Cert.Reference4Ideal.Value.run m g)

/-- The array of the sample group's in-projection is the reference's, whatever the arguments hold. -/
theorem algebraic4 [Cert.Kernel4Ideal.Facts] [Cert.Reference4Ideal.Facts] : Cert.algebraic_Kernel4Ideal_Reference4Ideal := by
  intro m g m' g' hpre hargs
  refine ⟨fun c => Cert.Reference4Ideal.Read.val_main_v16 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)), ?_, ?_⟩
  · refine (θ_run Cert.Kernel4Ideal.defs _ _).mono (fun r h c => ?_) (Cert.Kernel4Ideal.Value.run_blocks m g)
    obtain ⟨h0, ha⟩ := h c
    exact ⟨h0.trans (Cert.Kernel4Ideal.Hand.final_proj m c), ha⟩
  · refine (θ_run Cert.Reference4Ideal.defs _ _).mono (fun r h c => ?_) (Cert.Reference4Ideal.Value.run m' g')
    obtain ⟨h0, ha⟩ := h c
    obtain ⟨e0, e1, e2⟩ := hargs c
    refine ⟨h0.trans ((Cert.Reference4Ideal.Read.val_main_v16_eq _ _ _).trans ?_), ha⟩
    rw [e0, e1, e2]

/-- The reference of the out-projection runs, leaves its arguments as they were, and has no semaphores to leave at anything but zero. -/
theorem frame_reference5 (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0) :=
  (θ_run Cert.Reference5Ideal.defs _ _).mono
    (fun r h => ⟨fun c => (h c).2, Idealize.ShloMosaic.sem_eq_zero_of_no_sems (by decide) r.2⟩)
    (Cert.Reference5Ideal.Value.run m g)

/-- The array of the out-projection is the reference's, whatever the arguments hold. -/
theorem algebraic5 [Cert.Kernel5Ideal.Facts] [Cert.Reference5Ideal.Facts] : Cert.algebraic_Kernel5Ideal_Reference5Ideal := by
  intro m g m' g' hpre hargs
  refine ⟨fun c => Cert.Reference5Ideal.Read.val_main_v4 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)), ?_, ?_⟩
  · refine (θ_run Cert.Kernel5Ideal.defs _ _).mono (fun r h c => ?_) (Cert.Kernel5Ideal.Value.run_blocks m g)
    obtain ⟨h0, ha⟩ := h c
    exact ⟨h0.trans (Cert.Kernel5Ideal.Hand.final_proj m c), ha⟩
  · refine (θ_run Cert.Reference5Ideal.defs _ _).mono (fun r h c => ?_) (Cert.Reference5Ideal.Value.run m' g')
    obtain ⟨h0, ha⟩ := h c
    obtain ⟨e0, e1, e2, e3⟩ := hargs c
    refine ⟨h0.trans ((Cert.Reference5Ideal.Read.val_main_v4_eq _ _ _ _).trans ?_), ha⟩
    rw [e0, e1, e2, e3]

/-- The reference of the shared expert runs, leaves its arguments as they were, and has no semaphores to leave at anything but zero. -/
theorem frame_reference6 (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0) :=
  (θ_run Cert.Reference6Ideal.defs _ _).mono
    (fun r h => ⟨fun c => (h c).2, Idealize.ShloMosaic.sem_eq_zero_of_no_sems (by decide) r.2⟩)
    (Cert.Reference6Ideal.Value.run m g)

/-- The array of the shared expert is the reference's, whatever the arguments hold. -/
theorem algebraic6 [Cert.Kernel6Ideal.Facts] [Cert.Reference6Ideal.Facts] : Cert.algebraic_Kernel6Ideal_Reference6Ideal := by
  intro m g m' g' hpre hargs
  refine ⟨fun c => Cert.Reference6Ideal.Read.val_main_v7 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)), ?_, ?_⟩
  · refine (θ_run Cert.Kernel6Ideal.defs _ _).mono (fun r h c => ?_) (Cert.Kernel6Ideal.Value.run_blocks m g)
    obtain ⟨h0, ha⟩ := h c
    exact ⟨h0.trans (Cert.Kernel6Ideal.Hand.final_expert m c), ha⟩
  · refine (θ_run Cert.Reference6Ideal.defs _ _).mono (fun r h c => ?_) (Cert.Reference6Ideal.Value.run m' g')
    obtain ⟨h0, ha⟩ := h c
    obtain ⟨e0, e1, e2, e3⟩ := hargs c
    refine ⟨h0.trans ((Cert.Reference6Ideal.Read.val_main_v7_eq _ _ _ _).trans ?_), ha⟩
    rw [e0, e1, e2, e3]

/-- The reference of the cross-attention's queries runs, leaves its arguments as they were, and has no semaphores to leave at anything but zero. -/
theorem frame_reference7 (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0) :=
  (θ_run Cert.Reference7Ideal.defs _ _).mono
    (fun r h => ⟨fun c => (h c).2, Idealize.ShloMosaic.sem_eq_zero_of_no_sems (by decide) r.2⟩)
    (Cert.Reference7Ideal.Value.run m g)

/-- The array of the cross-attention's queries is the reference's, whatever the arguments hold. -/
theorem algebraic7 [Cert.Kernel7Ideal.Facts] [Cert.Reference7Ideal.Facts] : Cert.algebraic_Kernel7Ideal_Reference7Ideal := by
  intro m g m' g' hpre hargs
  refine ⟨fun c => Cert.Reference7Ideal.Read.val_main_v16 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)), ?_, ?_⟩
  · refine (θ_run Cert.Kernel7Ideal.defs _ _).mono (fun r h c => ?_) (Cert.Kernel7Ideal.Value.run_blocks m g)
    obtain ⟨h0, ha⟩ := h c
    exact ⟨h0.trans (Cert.Kernel7Ideal.Hand.final_proj m c), ha⟩
  · refine (θ_run Cert.Reference7Ideal.defs _ _).mono (fun r h c => ?_) (Cert.Reference7Ideal.Value.run m' g')
    obtain ⟨h0, ha⟩ := h c
    obtain ⟨e0, e1, e2⟩ := hargs c
    refine ⟨h0.trans ((Cert.Reference7Ideal.Read.val_main_v16_eq _ _ _).trans ?_), ha⟩
    rw [e0, e1, e2]

/-- The reference of the cross-attention runs, leaves its arguments as they were, and has no semaphores to leave at anything but zero. -/
theorem frame_reference8 (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0) :=
  (θ_run Cert.Reference8Ideal.defs _ _).mono
    (fun r h => ⟨fun c => (h c).2, Idealize.ShloMosaic.sem_eq_zero_of_no_sems (by decide) r.2⟩)
    (Cert.Reference8Ideal.Value.run m g)

/-- The array of the cross-attention is the reference's, whatever the arguments hold. -/
theorem algebraic8 [Cert.Kernel8Ideal.Facts] [Cert.Reference8Ideal.Facts] : Cert.algebraic_Kernel8Ideal_Reference8Ideal := by
  intro m g m' g' hpre hargs
  refine ⟨fun c => Cert.Reference8Ideal.Read.val_main_v19 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)), ?_, ?_⟩
  · refine (θ_run Cert.Kernel8Ideal.defs _ _).mono (fun r h c => ?_) (Cert.Kernel8Ideal.Value.run_blocks m g)
    obtain ⟨h0, ha⟩ := h c
    exact ⟨h0.trans (Cert.Kernel8Ideal.Hand.final_attention m c), ha⟩
  · refine (θ_run Cert.Reference8Ideal.defs _ _).mono (fun r h c => ?_) (Cert.Reference8Ideal.Value.run m' g')
    obtain ⟨h0, ha⟩ := h c
    obtain ⟨e0, e1, e2⟩ := hargs c
    refine ⟨h0.trans ((Cert.Reference8Ideal.Read.val_main_v19_eq _ _ _).trans ?_), ha⟩
    rw [e0, e1, e2]

/-- The reference of the output projection of the prompt group's cross-attention runs, leaves its arguments as they were, and has no semaphores to leave at anything but zero. -/
theorem frame_reference9 (m : (ℓ : Loc Cert.Reference9Ideal.nD Cert.Reference9Ideal.τ Cert.Reference9Ideal.sig) → Buf (Elt Ideal) ℓ) (g : Dev Cert.Reference9Ideal.nD → PrngReg) :
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0) :=
  (θ_run Cert.Reference9Ideal.defs _ _).mono
    (fun r h => ⟨fun c => (h c).2, Idealize.ShloMosaic.sem_eq_zero_of_no_sems (by decide) r.2⟩)
    (Cert.Reference9Ideal.Value.run m g)

/-- The array of the output projection of the prompt group's cross-attention is the reference's, whatever the arguments hold. -/
theorem algebraic9 [Cert.Kernel9Ideal.Facts] [Cert.Reference9Ideal.Facts] : Cert.algebraic_Kernel9Ideal_Reference9Ideal := by
  intro m g m' g' hpre hargs
  refine ⟨fun c => Cert.Reference9Ideal.Read.val_main_v7 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)), ?_, ?_⟩
  · refine (θ_run Cert.Kernel9Ideal.defs _ _).mono (fun r h c => ?_) (Cert.Kernel9Ideal.Value.run_blocks m g)
    obtain ⟨h0, ha⟩ := h c
    exact ⟨h0.trans (Cert.Kernel9Ideal.Hand.final_cross m c), ha⟩
  · refine (θ_run Cert.Reference9Ideal.defs _ _).mono (fun r h c => ?_) (Cert.Reference9Ideal.Value.run m' g')
    obtain ⟨h0, ha⟩ := h c
    obtain ⟨e0, e1, e2, -⟩ := hargs c
    refine ⟨h0.trans ((Cert.Reference9Ideal.Read.val_main_v7_eq _ _ _).trans ?_), ha⟩
    rw [e0, e1, e2]

/-- The reference of the output projection of the sample group's cross-attention runs, leaves its arguments as they were, and has no semaphores to leave at anything but zero. -/
theorem frame_reference10 (m : (ℓ : Loc Cert.Reference10Ideal.nD Cert.Reference10Ideal.τ Cert.Reference10Ideal.sig) → Buf (Elt Ideal) ℓ) (g : Dev Cert.Reference10Ideal.nD → PrngReg) :
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0) :=
  (θ_run Cert.Reference10Ideal.defs _ _).mono
    (fun r h => ⟨fun c => (h c).2, Idealize.ShloMosaic.sem_eq_zero_of_no_sems (by decide) r.2⟩)
    (Cert.Reference10Ideal.Value.run m g)

/-- The array of the output projection of the sample group's cross-attention is the reference's, whatever the arguments hold. -/
theorem algebraic10 [Cert.Kernel10Ideal.Facts] [Cert.Reference10Ideal.Facts] : Cert.algebraic_Kernel10Ideal_Reference10Ideal := by
  intro m g m' g' hpre hargs
  refine ⟨fun c => Cert.Reference10Ideal.Read.val_main_v5 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)), ?_, ?_⟩
  · refine (θ_run Cert.Kernel10Ideal.defs _ _).mono (fun r h c => ?_) (Cert.Kernel10Ideal.Value.run_blocks m g)
    obtain ⟨h0, ha⟩ := h c
    exact ⟨h0.trans (Cert.Kernel10Ideal.Hand.final_cross m c), ha⟩
  · refine (θ_run Cert.Reference10Ideal.defs _ _).mono (fun r h c => ?_) (Cert.Reference10Ideal.Value.run m' g')
    obtain ⟨h0, ha⟩ := h c
    obtain ⟨e0, e1, e2, e3⟩ := hargs c
    refine ⟨h0.trans ((Cert.Reference10Ideal.Read.val_main_v5_eq _ _ _ _).trans ?_), ha⟩
    rw [e0, e1, e2, e3]

/-- The reference of the router's product runs, leaves its arguments as they were, and has no semaphores to leave at anything but zero. -/
theorem frame_reference11 (m : (ℓ : Loc Cert.Reference11Ideal.nD Cert.Reference11Ideal.τ Cert.Reference11Ideal.sig) → Buf (Elt Ideal) ℓ) (g : Dev Cert.Reference11Ideal.nD → PrngReg) :
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0) :=
  (θ_run Cert.Reference11Ideal.defs _ _).mono
    (fun r h => ⟨fun c => (h c).2.2, Idealize.ShloMosaic.sem_eq_zero_of_no_sems (by decide) r.2⟩)
    (Cert.Reference11Ideal.Value.run m g)

/-- The logits and the normed tokens of the router's product are the reference's, whatever the arguments hold. -/
theorem algebraic11 [Cert.Kernel11Ideal.Facts] [Cert.Reference11Ideal.Facts] : Cert.algebraic_Kernel11Ideal_Reference11Ideal := by
  intro m g m' g' hpre hargs
  refine ⟨fun c => Cert.Reference11Ideal.Read.val_main_v15 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)),
    fun c => Cert.Reference11Ideal.Read.val_main_v13 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)), ?_, ?_⟩
  · refine (θ_run Cert.Kernel11Ideal.defs _ _).mono (fun r h c => ?_) (Cert.Kernel11Ideal.Value.run_blocks m g)
    obtain ⟨h0, h1, ha⟩ := h c
    exact ⟨h0.trans (Cert.Kernel11Ideal.Hand.final_logits m c), h1.trans (Cert.Kernel11Ideal.Hand.final_norm m c), ha⟩
  · refine (θ_run Cert.Reference11Ideal.defs _ _).mono (fun r h c => ?_) (Cert.Reference11Ideal.Value.run m' g')
    obtain ⟨h0, h1, ha⟩ := h c
    obtain ⟨e0, e1, e2⟩ := hargs c
    refine ⟨h0.trans ((Cert.Reference11Ideal.Read.val_main_v15_eq _ _ _).trans ?_), h1.trans ((Cert.Reference11Ideal.Read.val_main_v13_eq _ _).trans ?_), ha⟩
    · rw [e0, e1, e2]
    · rw [e0, e1]

/-- The reference of the sample group's out-projection runs, leaves its arguments as they were, and has no semaphores to leave at anything but zero. -/
theorem frame_reference12 (m : (ℓ : Loc Cert.Reference12Ideal.nD Cert.Reference12Ideal.τ Cert.Reference12Ideal.sig) → Buf (Elt Ideal) ℓ) (g : Dev Cert.Reference12Ideal.nD → PrngReg) :
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0) :=
  (θ_run Cert.Reference12Ideal.defs _ _).mono
    (fun r h => ⟨fun c => (h c).2, Idealize.ShloMosaic.sem_eq_zero_of_no_sems (by decide) r.2⟩)
    (Cert.Reference12Ideal.Value.run m g)

/-- The array of the sample group's out-projection is the reference's, whatever the arguments hold. -/
theorem algebraic12 [Cert.Kernel12Ideal.Facts] [Cert.Reference12Ideal.Facts] : Cert.algebraic_Kernel12Ideal_Reference12Ideal := by
  intro m g m' g' hpre hargs
  refine ⟨fun c => Cert.Reference12Ideal.Read.val_main_v4 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)), ?_, ?_⟩
  · refine (θ_run Cert.Kernel12Ideal.defs _ _).mono (fun r h c => ?_) (Cert.Kernel12Ideal.Value.run_blocks m g)
    obtain ⟨h0, ha⟩ := h c
    exact ⟨h0.trans (Cert.Kernel12Ideal.Hand.final_proj m c), ha⟩
  · refine (θ_run Cert.Reference12Ideal.defs _ _).mono (fun r h c => ?_) (Cert.Reference12Ideal.Value.run m' g')
    obtain ⟨h0, ha⟩ := h c
    obtain ⟨e0, e1, e2, e3⟩ := hargs c
    refine ⟨h0.trans ((Cert.Reference12Ideal.Read.val_main_v4_eq _ _ _ _).trans ?_), ha⟩
    rw [e0, e1, e2, e3]

/-- The reference of the sample group's queries runs, leaves its arguments as they were, and has no semaphores to leave at anything but zero. -/
theorem frame_reference13 (m : (ℓ : Loc Cert.Reference13Ideal.nD Cert.Reference13Ideal.τ Cert.Reference13Ideal.sig) → Buf (Elt Ideal) ℓ) (g : Dev Cert.Reference13Ideal.nD → PrngReg) :
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0) :=
  (θ_run Cert.Reference13Ideal.defs _ _).mono
    (fun r h => ⟨fun c => (h c).2, Idealize.ShloMosaic.sem_eq_zero_of_no_sems (by decide) r.2⟩)
    (Cert.Reference13Ideal.Value.run m g)

/-- The array of the sample group's queries is the reference's, whatever the arguments hold. -/
theorem algebraic13 [Cert.Kernel13Ideal.Facts] [Cert.Reference13Ideal.Facts] : Cert.algebraic_Kernel13Ideal_Reference13Ideal := by
  intro m g m' g' hpre hargs
  refine ⟨fun c => Cert.Reference13Ideal.Read.val_main_v16 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)), ?_, ?_⟩
  · refine (θ_run Cert.Kernel13Ideal.defs _ _).mono (fun r h c => ?_) (Cert.Kernel13Ideal.Value.run_blocks m g)
    obtain ⟨h0, ha⟩ := h c
    exact ⟨h0.trans (Cert.Kernel13Ideal.Hand.final_proj m c), ha⟩
  · refine (θ_run Cert.Reference13Ideal.defs _ _).mono (fun r h c => ?_) (Cert.Reference13Ideal.Value.run m' g')
    obtain ⟨h0, ha⟩ := h c
    obtain ⟨e0, e1, e2⟩ := hargs c
    refine ⟨h0.trans ((Cert.Reference13Ideal.Read.val_main_v16_eq _ _ _).trans ?_), ha⟩
    rw [e0, e1, e2]

/-- The whole claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Pre_finite.Gen.facts,
  fun m g _ => Cert.Kernel.Hand.frame m g, fun m g _ => Cert.KernelIdeal.Hand.frame m g, fun m g _ => Cert.KernelIdeal.Hand.frame m g,
  fun m g _ => frame_reference m g, fun m g _ => frame_reference m g,
  fun m g _ => Cert.Kernel2.Gen.frame m g, fun m g _ => Cert.Kernel2Ideal.Gen.frame m g, fun m g _ => frame_reference2 m g,
  fun m g _ => Cert.Kernel3.Gen.frame m g, fun m g _ => Cert.Kernel3Ideal.Gen.frame m g, fun m g _ => frame_reference3 m g,
  fun m g _ => Cert.Kernel4.Gen.frame m g, fun m g _ => Cert.Kernel4Ideal.Gen.frame m g, fun m g _ => frame_reference4 m g,
  fun m g _ => Cert.Kernel5.Gen.frame m g, fun m g _ => Cert.Kernel5Ideal.Gen.frame m g, fun m g _ => frame_reference5 m g,
  fun m g _ => Cert.Kernel6.Gen.frame m g, fun m g _ => Cert.Kernel6Ideal.Gen.frame m g, fun m g _ => frame_reference6 m g,
  fun m g _ => Cert.Kernel7.Gen.frame m g, fun m g _ => Cert.Kernel7Ideal.Gen.frame m g, fun m g _ => frame_reference7 m g,
  fun m g _ => Cert.Kernel8.Gen.frame m g, fun m g _ => Cert.Kernel8Ideal.Gen.frame m g, fun m g _ => frame_reference8 m g,
  fun m g _ => Cert.Kernel9.Gen.frame m g, fun m g _ => Cert.Kernel9Ideal.Gen.frame m g, fun m g _ => frame_reference9 m g,
  fun m g _ => Cert.Kernel10.Gen.frame m g, fun m g _ => Cert.Kernel10Ideal.Gen.frame m g, fun m g _ => frame_reference10 m g,
  fun m g _ => Cert.Kernel11.Gen.frame m g, fun m g _ => Cert.Kernel11Ideal.Gen.frame m g, fun m g _ => frame_reference11 m g,
  fun m g _ => Cert.Kernel12.Gen.frame m g, fun m g _ => Cert.Kernel12Ideal.Gen.frame m g, fun m g _ => frame_reference12 m g,
  fun m g _ => Cert.Kernel13.Gen.frame m g, fun m g _ => Cert.Kernel13Ideal.Gen.frame m g, fun m g _ => frame_reference13 m g,
  preserves, algebraic, trivial, algebraic2, trivial, algebraic3, trivial, algebraic4, trivial, algebraic5, trivial, algebraic6, trivial, algebraic7, trivial, algebraic8, trivial, algebraic9, trivial, algebraic10, trivial, algebraic11, trivial, algebraic12, trivial, algebraic13⟩

end Cert.Proof

end
